-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_tiles_named : Cert.Pre_tiles_named.Facts] (m : (ℓ : Loc Cert.Experts.nD Cert.Experts.τ Cert.Experts.sig) → Buf (Elt Bits) ℓ) : Prop :=
  ∀ c : Dev Cert.Experts.nD,
    (Cert.Pre_tiles_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_tiles_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_tiles_named : Cert.Pre_tiles_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_tiles_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tiles_named [hPre_tiles_named : Cert.Pre_tiles_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tiles_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_tiles_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Combine [hPre_slots_named : Cert.Pre_slots_named.Facts] (m : (ℓ : Loc Cert.Combine.nD Cert.Combine.τ Cert.Combine.sig) → Buf (Elt Bits) ℓ) : Prop :=
  ∀ c : Dev Cert.Combine.nD,
    (Cert.Pre_slots_named.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_slots_named : Cert.Pre_slots_named.Facts] (m : (ℓ : Loc Cert.CombineIdeal.nD Cert.CombineIdeal.τ Cert.CombineIdeal.sig) → Buf (Elt Ideal) ℓ) : Prop :=
  ∀ c : Dev Cert.CombineIdeal.nD,
    (Cert.Pre_slots_named.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_slots_named [hPre_slots_named : Cert.Pre_slots_named.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_slots_named.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Experts [hExperts : Cert.Experts.Facts] [hPre_tiles_named : Cert.Pre_tiles_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_named : Cert.Pre_tiles_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tiles_named [hExpertsRefIdeal : Cert.ExpertsRefIdeal.Facts] [hPre_tiles_named : Cert.Pre_tiles_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tiles_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Combine [hCombine : Cert.Combine.Facts] [hPre_slots_named : Cert.Pre_slots_named.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_slots_named : Cert.Pre_slots_named.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_CombineRefIdeal_pre_slots_named [hCombineRefIdeal : Cert.CombineRefIdeal.Facts] [hPre_slots_named : Cert.Pre_slots_named.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_slots_named m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7)
      ∧ r.2.mem ((c.tc : Thread Cert.Mixout.nD Cert.Mixout.τ).loc Cert.Mixout.main_arg8) = m ((c.tc : Thread Cert.Mixout.nD Cert.Mixout.τ).loc Cert.Mixout.main_arg8)
      ∧ r.2.mem ((c.tc : Thread Cert.Mixout.nD Cert.Mixout.τ).loc Cert.Mixout.main_arg9) = m ((c.tc : Thread Cert.Mixout.nD Cert.Mixout.τ).loc Cert.Mixout.main_arg9)
      ∧ r.2.mem ((c.tc : Thread Cert.Mixout.nD Cert.Mixout.τ).loc Cert.Mixout.main_arg10) = m ((c.tc : Thread Cert.Mixout.nD Cert.Mixout.τ).loc Cert.Mixout.main_arg10))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
      ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9)
      ∧ r.2.mem ((c.tc : Thread Cert.MixoutIdeal.nD Cert.MixoutIdeal.τ).loc Cert.MixoutIdeal.main_arg10) = m ((c.tc : Thread Cert.MixoutIdeal.nD Cert.MixoutIdeal.τ).loc Cert.MixoutIdeal.main_arg10))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8)
      ∧ r.2.mem ((c.tc : Thread Cert.MixoutRefIdeal.nD Cert.MixoutRefIdeal.τ).loc Cert.MixoutRefIdeal.main_arg9) = m ((c.tc : Thread Cert.MixoutRefIdeal.nD Cert.MixoutRefIdeal.τ).loc Cert.MixoutRefIdeal.main_arg9)
      ∧ r.2.mem ((c.tc : Thread Cert.MixoutRefIdeal.nD Cert.MixoutRefIdeal.τ).loc Cert.MixoutRefIdeal.main_arg10) = m ((c.tc : Thread Cert.MixoutRefIdeal.nD Cert.MixoutRefIdeal.τ).loc Cert.MixoutRefIdeal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tiles_named : Cert.Pre_tiles_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v204) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v23_0)) (v1 : (c : Dev Cert.ProjIdeal.nD) → Buf (Elt Ideal) ((c.tc : Thread Cert.ProjIdeal.nD Cert.ProjIdeal.τ).loc Cert.ProjIdeal.main_v23_1)) (v2 : (c : Dev Cert.ProjIdeal.nD) → Buf (Elt Ideal) ((c.tc : Thread Cert.ProjIdeal.nD Cert.ProjIdeal.τ).loc Cert.ProjIdeal.main_v23_2)) (v3 : (c : Dev Cert.ProjIdeal.nD) → Buf (Elt Ideal) ((c.tc : Thread Cert.ProjIdeal.nD Cert.ProjIdeal.τ).loc Cert.ProjIdeal.main_v23_3)) (v4 : (c : Dev Cert.ProjIdeal.nD) → Buf (Elt Ideal) ((c.tc : Thread Cert.ProjIdeal.nD Cert.ProjIdeal.τ).loc Cert.ProjIdeal.main_v23_4)) (v5 : (c : Dev Cert.ProjIdeal.nD) → Buf (Elt Ideal) ((c.tc : Thread Cert.ProjIdeal.nD Cert.ProjIdeal.τ).loc Cert.ProjIdeal.main_v23_5)) (v6 : (c : Dev Cert.ProjIdeal.nD) → Buf (Elt Ideal) ((c.tc : Thread Cert.ProjIdeal.nD Cert.ProjIdeal.τ).loc Cert.ProjIdeal.main_v23_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23_0) = v0 c
          ∧ r.2.mem ((c.tc : Thread Cert.ProjIdeal.nD Cert.ProjIdeal.τ).loc Cert.ProjIdeal.main_v23_1) = v1 c
          ∧ r.2.mem ((c.tc : Thread Cert.ProjIdeal.nD Cert.ProjIdeal.τ).loc Cert.ProjIdeal.main_v23_2) = v2 c
          ∧ r.2.mem ((c.tc : Thread Cert.ProjIdeal.nD Cert.ProjIdeal.τ).loc Cert.ProjIdeal.main_v23_3) = v3 c
          ∧ r.2.mem ((c.tc : Thread Cert.ProjIdeal.nD Cert.ProjIdeal.τ).loc Cert.ProjIdeal.main_v23_4) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_v23_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v23) = v1 c
          ∧ r.2.mem ((c.tc : Thread Cert.ProjRefIdeal.nD Cert.ProjRefIdeal.τ).loc Cert.ProjRefIdeal.main_v24) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v29) = v5 c
          ∧ r.2.mem ((c.tc : Thread Cert.ProjRefIdeal.nD Cert.ProjRefIdeal.τ).loc Cert.ProjRefIdeal.main_v36) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Combine_CombineIdeal : Prop :=
  True

def algebraic_CombineIdeal_CombineRefIdeal [hCombineIdeal : Cert.CombineIdeal.Facts] [hCombineRefIdeal : Cert.CombineRefIdeal.Facts] [hPre_slots_named : Cert.Pre_slots_named.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v9) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v43) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)
      ∧ m' ((c.tc : Thread Cert.MixoutRefIdeal.nD Cert.MixoutRefIdeal.τ).loc Cert.MixoutRefIdeal.main_arg8) = m ((c.tc : Thread Cert.MixoutIdeal.nD Cert.MixoutIdeal.τ).loc Cert.MixoutIdeal.main_arg8)
      ∧ m' ((c.tc : Thread Cert.MixoutRefIdeal.nD Cert.MixoutRefIdeal.τ).loc Cert.MixoutRefIdeal.main_arg9) = m ((c.tc : Thread Cert.MixoutIdeal.nD Cert.MixoutIdeal.τ).loc Cert.MixoutIdeal.main_arg9)
      ∧ m' ((c.tc : Thread Cert.MixoutRefIdeal.nD Cert.MixoutRefIdeal.τ).loc Cert.MixoutRefIdeal.main_arg10) = m ((c.tc : Thread Cert.MixoutIdeal.nD Cert.MixoutIdeal.τ).loc Cert.MixoutIdeal.main_arg10)) →
    ∃ (v0 : (c : Dev Cert.MixoutIdeal.nD) → Buf (Elt Ideal) ((c.tc : Thread Cert.MixoutIdeal.nD Cert.MixoutIdeal.τ).loc Cert.MixoutIdeal.main_v24)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v24) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
          ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
          ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9)
          ∧ r.2.mem ((c.tc : Thread Cert.MixoutIdeal.nD Cert.MixoutIdeal.τ).loc Cert.MixoutIdeal.main_arg10) = m ((c.tc : Thread Cert.MixoutIdeal.nD Cert.MixoutIdeal.τ).loc Cert.MixoutIdeal.main_arg10))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v301) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7)
          ∧ r.2.mem ((c.tc : Thread Cert.MixoutRefIdeal.nD Cert.MixoutRefIdeal.τ).loc Cert.MixoutRefIdeal.main_arg8) = m' ((c.tc : Thread Cert.MixoutRefIdeal.nD Cert.MixoutRefIdeal.τ).loc Cert.MixoutRefIdeal.main_arg8)
          ∧ r.2.mem ((c.tc : Thread Cert.MixoutRefIdeal.nD Cert.MixoutRefIdeal.τ).loc Cert.MixoutRefIdeal.main_arg9) = m' ((c.tc : Thread Cert.MixoutRefIdeal.nD Cert.MixoutRefIdeal.τ).loc Cert.MixoutRefIdeal.main_arg9)
          ∧ r.2.mem ((c.tc : Thread Cert.MixoutRefIdeal.nD Cert.MixoutRefIdeal.τ).loc Cert.MixoutRefIdeal.main_arg10) = m' ((c.tc : Thread Cert.MixoutRefIdeal.nD Cert.MixoutRefIdeal.τ).loc Cert.MixoutRefIdeal.main_arg10))

def Claim : Prop :=
  ∃ (hKernel : Cert.Kernel.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hProj : Cert.Proj.Facts) (hProjIdeal : Cert.ProjIdeal.Facts) (hProjRefIdeal : Cert.ProjRefIdeal.Facts) (hCombine : Cert.Combine.Facts) (hCombineIdeal : Cert.CombineIdeal.Facts) (hCombineRefIdeal : Cert.CombineRefIdeal.Facts) (hMixout : Cert.Mixout.Facts) (hMixoutIdeal : Cert.MixoutIdeal.Facts) (hMixoutRefIdeal : Cert.MixoutRefIdeal.Facts) (hPre_tiles_named : Cert.Pre_tiles_named.Facts) (hPre_slots_named : Cert.Pre_slots_named.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_tiles_named := hPre_tiles_named)
    ∧ quiescent_ExpertsIdeal (hExpertsIdeal := hExpertsIdeal) (hPre_tiles_named := hPre_tiles_named)
    ∧ quiescent_ExpertsRefIdeal (hExpertsRefIdeal := hExpertsRefIdeal)
    ∧ quiescent_ExpertsRefIdeal_pre_tiles_named (hExpertsRefIdeal := hExpertsRefIdeal) (hPre_tiles_named := hPre_tiles_named)
    ∧ quiescent_Proj (hProj := hProj)
    ∧ quiescent_ProjIdeal (hProjIdeal := hProjIdeal)
    ∧ quiescent_ProjRefIdeal (hProjRefIdeal := hProjRefIdeal)
    ∧ quiescent_Combine (hCombine := hCombine) (hPre_slots_named := hPre_slots_named)
    ∧ quiescent_CombineIdeal (hCombineIdeal := hCombineIdeal) (hPre_slots_named := hPre_slots_named)
    ∧ quiescent_CombineRefIdeal (hCombineRefIdeal := hCombineRefIdeal)
    ∧ quiescent_CombineRefIdeal_pre_slots_named (hCombineRefIdeal := hCombineRefIdeal) (hPre_slots_named := hPre_slots_named)
    ∧ quiescent_Mixout (hMixout := hMixout)
    ∧ quiescent_MixoutIdeal (hMixoutIdeal := hMixoutIdeal)
    ∧ quiescent_MixoutRefIdeal (hMixoutRefIdeal := hMixoutRefIdeal)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_tiles_named := hPre_tiles_named)
    ∧ preserves_Proj_ProjIdeal
    ∧ algebraic_ProjIdeal_ProjRefIdeal (hProjIdeal := hProjIdeal) (hProjRefIdeal := hProjRefIdeal)
    ∧ preserves_Combine_CombineIdeal
    ∧ algebraic_CombineIdeal_CombineRefIdeal (hCombineIdeal := hCombineIdeal) (hCombineRefIdeal := hCombineRefIdeal) (hPre_slots_named := hPre_slots_named)
    ∧ preserves_Mixout_MixoutIdeal
    ∧ algebraic_MixoutIdeal_MixoutRefIdeal (hMixoutIdeal := hMixoutIdeal) (hMixoutRefIdeal := hMixoutRefIdeal)
-- ==== Pre_slots_named.lean ====
abbrev S32768x1024 : Shape := ⟨2, ![32768, 1024]⟩
abbrev S32768x2 : Shape := ⟨2, ![32768, 2]⟩
abbrev S32768x8 : Shape := ⟨2, ![32768, 8]⟩
abbrev S67584x1024 : Shape := ⟨2, ![67584, 1024]⟩
abbrev S4x1024 : Shape := ⟨2, ![4, 1024]⟩
abbrev S_ : Shape := ⟨0, ![]⟩

class Facts : Prop where
  bcast_S_S32768x2 : S_.BroadcastsInDim S32768x2 (![] : Fin 0 → Fin S32768x2.rank)

variable [Facts]

def fn {F : FTy → Type} [FloatOps F] (main_arg0 : FVec F S32768x1024 .f32) (main_arg1 : IVec S32768x2 32) (main_arg2 : FVec F S32768x8 .f32) (main_arg3 : FVec F S67584x1024 .f32) (main_arg4 : FVec F S4x1024 .f32) (main_arg5 : FVec F S4x1024 .f32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg1 main_v0
  let main_c_0 : IVec S_ 32 := constantI S_ 32 67584#32
  let main_v2 : IVec S32768x2 32 := broadcastInDim S32768x2 ![] bcast_S_S32768x2 main_c_0
  let main_v3 : IVec S32768x2 1 := cmpi .slt main_arg1 main_v2
  let main_v4 : IVec S32768x2 1 := andi main_v1 main_v3
  main_v4
-- ==== Pre_tiles_named.lean ====
abbrev S67584x1024 : Shape := ⟨2, ![67584, 1024]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S264 : S_.BroadcastsInDim S264 (![] : Fin 0 → Fin S264.rank)
  bcast_S_S1 : S_.BroadcastsInDim S1 (![] : Fin 0 → Fin S1.rank)

variable [Facts]

def fn {F : FTy → Type} [FloatOps F] (main_arg0 : FVec F S67584x1024 .f32) (main_arg1 : IVec S264 32) (main_arg2 : IVec S1 32) (main_arg3 : FVec F S2x8x1024x3584 .f32) (main_arg4 : FVec F S2x8x1024x3584 .f32) (main_arg5 : FVec F S2x8x3584x1024 .f32) : IVec S264 1 × IVec S1 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S512x32768 : Shape := ⟨2, ![512, 32768]⟩
abbrev S64x640x512 : Shape := ⟨3, ![64, 640, 512]⟩
abbrev S8x32768 : Shape := ⟨2, ![8, 32768]⟩
abbrev S32768x512 : Shape := ⟨2, ![32768, 512]⟩
abbrev S32768x64 : Shape := ⟨2, ![32768, 64]⟩
abbrev S2x8x128x512 : Shape := ⟨4, ![2, 8, 128, 512]⟩
abbrev S512x128 : Shape := ⟨2, ![512, 128]⟩
abbrev S8x128 : Shape := ⟨2, ![8, 128]⟩
abbrev S4096x64 : Shape := ⟨2, ![4096, 64]⟩
abbrev S4096x512 : Shape := ⟨2, ![4096, 512]⟩
abbrev S8x640x512 : Shape := ⟨3, ![8, 640, 512]⟩
abbrev S128x512 : Shape := ⟨2, ![128, 512]⟩
abbrev S4096x128 : Shape := ⟨2, ![4096, 128]⟩
abbrev S32x128x128 : Shape := ⟨3, ![32, 128, 128]⟩
abbrev S4096x1024 : Shape := ⟨2, ![4096, 1024]⟩
abbrev S8x80x128 : Shape := ⟨3, ![8, 80, 128]⟩
abbrev S2x64x512 : Shape := ⟨3, ![2, 64, 512]⟩
abbrev S2x256x512 : Shape := ⟨3, ![2, 256, 512]⟩
abbrev S2x1x512 : Shape := ⟨3, ![2, 1, 512]⟩
abbrev S1x128 : Shape := ⟨2, ![1, 128]⟩
abbrev S64x128 : Shape := ⟨2, ![64, 128]⟩
abbrev S64x512 : Shape := ⟨2, ![64, 512]⟩
abbrev S1x64x512 : Shape := ⟨3, ![1, 64, 512]⟩
abbrev S256x512 : Shape := ⟨2, ![256, 512]⟩
abbrev S1x256x512 : Shape := ⟨3, ![1, 256, 512]⟩
abbrev S1x512 : Shape := ⟨2, ![1, 512]⟩
abbrev S1x1x512 : Shape := ⟨3, ![1, 1, 512]⟩
abbrev S512x64 : Shape := ⟨2, ![512, 64]⟩
abbrev S512x512 : Shape := ⟨2, ![512, 512]⟩
abbrev S1x8x128 : Shape := ⟨3, ![1, 8, 128]⟩
abbrev S128x128 : Shape := ⟨2, ![128, 128]⟩
abbrev S1x128x128 : Shape := ⟨3, ![1, 128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8x512 : Shape := ⟨2, ![8, 512]⟩
abbrev S512x256 : Shape := ⟨2, ![512, 256]⟩
abbrev S64x8x512 : Shape := ⟨3, ![64, 8, 512]⟩
abbrev S1x4x128x512 : Shape := ⟨4, ![1, 4, 128, 512]⟩
abbrev S4x128x512 : Shape := ⟨3, ![4, 128, 512]⟩
abbrev S512 : Shape := ⟨1, ![512]⟩
abbrev S1x80x512 : Shape := ⟨3, ![1, 80, 512]⟩
abbrev S80x512 : Shape := ⟨2, ![80, 512]⟩
abbrev S1x80x128 : Shape := ⟨3, ![1, 80, 128]⟩
abbrev S80x128 : Shape := ⟨2, ![80, 128]⟩
abbrev S1x64x128 : Shape := ⟨3, ![1, 64, 128]⟩

abbrev nBuf : Space → Nat
  | .hbm => 8
  | .vmem => 22
  | .smem => 0
  | _ => 0

abbrev bufTy : (tb : Table) → Fin (tcTables nBuf tb) → BufTy
  | .hbm, ⟨0, _⟩ => ⟨S512x32768, .bf16⟩
  | .hbm, ⟨1, _⟩ => ⟨S512x32768, .bf16⟩
  | .hbm, ⟨2, _⟩ => ⟨S64x640x512, .bf16⟩
  | .hbm, ⟨3, _⟩ => ⟨S8x32768, .f32⟩
  | .hbm, ⟨4, _⟩ => ⟨S32768x512, .bf16⟩
  | .hbm, ⟨5, _⟩ => ⟨S32768x64, .bf16⟩
  | .hbm, ⟨6, _⟩ => ⟨S2x8x128x512, .f32⟩
  | .hbm, ⟨7, _⟩ => ⟨S32768x512, .f32⟩
  | .local _ .vmem, ⟨0, _⟩ => ⟨S512x128, .bf16⟩
  | .local _ .vmem, ⟨1, _⟩ => ⟨S512x128, .bf16⟩
  | .local _ .vmem, ⟨2, _⟩ => ⟨S8x128, .f32⟩
  | .local _ .vmem, ⟨3, _⟩ => ⟨S8x128, .f32⟩
  | .local _ .vmem, ⟨4, _⟩ => ⟨S512x128, .bf16⟩
  | .local _ .vmem, ⟨5, _⟩ => ⟨S512x128, .bf16⟩
  | .local _ .vmem, ⟨6, _⟩ => ⟨S4096x64, .bf16⟩
  | .local _ .vmem, ⟨7, _⟩ => ⟨S4096x64, .bf16⟩
  | .local _ .vmem, ⟨8, _⟩ => ⟨S4096x512, .bf16⟩
  | .local _ .vmem, ⟨9, _⟩ => ⟨S4096x512, .bf16⟩
  | .local _ .vmem, ⟨10, _⟩ => ⟨S8x640x512, .bf16⟩
  | .local _ .vmem, ⟨11, _⟩ => ⟨S8x640x512, .bf16⟩
  | .local _ .vmem, ⟨12, _⟩ => ⟨S2x8x128x512, .f32⟩
  | .local _ .vmem, ⟨13, _⟩ => ⟨S128x512, .f32⟩
  | .local _ .vmem, ⟨14, _⟩ => ⟨S128x512, .f32⟩
  | .local _ .vmem, ⟨15, _⟩ => ⟨S4096x128, .i32⟩
  | .local _ .vmem, ⟨16, _⟩ => ⟨S32x128x128, .i32⟩
  | .local _ .vmem, ⟨17, _⟩ => ⟨S4096x1024, .f32⟩
  | .local _ .vmem, ⟨18, _⟩ => ⟨S8x80x128, .f32⟩
  | .local _ .vmem, ⟨19, _⟩ => ⟨S2x64x512, .bf16⟩
  | .local _ .vmem, ⟨20, _⟩ => ⟨S2x256x512, .bf16⟩
  | .local _ .vmem, ⟨21, _⟩ => ⟨S2x1x512, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_78 : BitVec 32 := 1#32
  ⟨c0_i32_75, v128, c1_i32_78⟩
def k0_mult1 (i : grid0.Coords) (k0_t1 : Fin (k0_t1_loop i).trips) : BitVec 32 :=
  let c0_i32_264 : BitVec 32 := 0#32
  let c4_i32_263 : BitVec 32 := 4#32
  let c0_i32_75 : BitVec 32 := 0#32
  let c1_i32_78 : BitVec 32 := 1#32
  let arg17 : BitVec 32 := Scf.iv c0_i32_75 c1_i32_78 k0_t1
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off1 (i : grid0.Coords) (k0_t1 : Fin (k0_t1_loop i).trips) (c0_i32_265 : BitVec 32) : Fin 2 → Nat :=
  let c0_i32_264 : BitVec 32 := 0#32
  let c4_i32_263 : BitVec 32 := 4#32
  let c0_i32_75 : BitVec 32 := 0#32
  let c1_i32_78 : BitVec 32 := 1#32
  let arg17 : BitVec 32 := Scf.iv c0_i32_75 c1_i32_78 k0_t1
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off2 (i : grid0.Coords) (k0_t1 : Fin (k0_t1_loop i).trips) (c0_i32_265 : BitVec 32) : Fin 2 → Nat :=
  let c0_i32_264 : BitVec 32 := 0#32
  let c4_i32_263 : BitVec 32 := 4#32
  let c0_i32_75 : BitVec 32 := 0#32
  let c1_i32_78 : BitVec 32 := 1#32
  let arg17 : BitVec 32 := Scf.iv c0_i32_75 c1_i32_78 k0_t1
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v501 : Index := Scalar.indexCast v450
  let c0_286 : Index := 0#32
  ![v501.toNat, 0]
def k0_mult2 (i : grid0.Coords) (k0_t1 : Fin (k0_t1_loop i).trips) : BitVec 32 :=
  let c0_i32_288 : BitVec 32 := 0#32
  let c4_i32_287 : BitVec 32 := 4#32
  let c0_i32_75 : BitVec 32 := 0#32
  let c1_i32_78 : BitVec 32 := 1#32
  let arg17 : BitVec 32 := Scf.iv c0_i32_75 c1_i32_78 k0_t1
  let v505 : BitVec 32 := Scalar.muli c4_i32_287 arg17
  let v506 : BitVec 32 := Scalar.addi c0_i32_288 v505
  let c1_i32_289 : BitVec 32 := 1#32
  let v507 : BitVec 32 := Scalar.addi v506 c1_i32_289
  let c512_i32_290 : BitVec 32 := 512#32
  let v508 : BitVec 32 := Scalar.muli v507 c512_i32_290
  v508
def k0_mult3 (i : grid0.Coords) (k0_t1 : Fin (k0_t1_loop i).trips) : BitVec 32 :=
  let c0_i32_314 : BitVec 32 := 0#32
  let c4_i32_313 : BitVec 32 := 4#32
  let c0_i32_75 : BitVec 32 := 0#32
  let c1_i32_78 : BitVec 32 := 1#32
  let arg17 : BitVec 32 := Scf.iv c0_i32_75 c1_i32_78 k0_t1
  let v564 : BitVec 32 := Scalar.muli c4_i32_313 arg17
  let v565 : BitVec 32 := Scalar.addi c0_i32_314 v564
  let c2_i32_315 : BitVec 32 := 2#32
  let v566 : BitVec 32 := Scalar.addi v565 c2_i32_315
  let c512_i32_316 : BitVec 32 := 512#32
  let v567 : BitVec 32 := Scalar.muli v566 c512_i32_316
  v567
def k0_mult4 (i : grid0.Coords) (k0_t1 : Fin (k0_t1_loop i).trips) : BitVec 32 :=
  let c0_i32_340 : BitVec 32 := 0#32
  let c4_i32_339 : BitVec 32 := 4#32
  let c0_i32_75 : BitVec 32 := 0#32
  let c1_i32_78 : BitVec 32 := 1#32
  let arg17 : BitVec 32 := Scf.iv c0_i32_75 c1_i32_78 k0_t1
  let v623 : BitVec 32 := Scalar.muli c4_i32_339 arg17
  let v624 : BitVec 32 := Scalar.addi c0_i32_340 v623
  let c3_i32 : BitVec 32 := 3#32
  let v625 : BitVec 32 := Scalar.addi v624 c3_i32
  let c512_i32_341 : BitVec 32 := 512#32
  let v626 : BitVec 32 := Scalar.muli v625 c512_i32_341
  v626
@[reducible] def k0_t2_loop (i : grid0.Coords) : Scf.Loop 32 :=
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let v125 : BitVec 32 := Scalar.addi c0_i32_75 v124
  let c1_i32_79 : BitVec 32 := 1#32
  ⟨v128, v125, c1_i32_79⟩
def k0_mult5 (i : grid0.Coords) (k0_t2 : Fin (k0_t2_loop i).trips) : BitVec 32 :=
  let c0_i32_264 : BitVec 32 := 0#32
  let c4_i32_263 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off3 (i : grid0.Coords) (k0_t2 : Fin (k0_t2_loop i).trips) (c0_i32_265 : BitVec 32) : Fin 2 → Nat :=
  let c0_i32_264 : BitVec 32 := 0#32
  let c4_i32_263 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off4 (i : grid0.Coords) (k0_t2 : Fin (k0_t2_loop i).trips) (c0_i32_265 : BitVec 32) : Fin 2 → Nat :=
  let c0_i32_264 : BitVec 32 := 0#32
  let c4_i32_263 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v501 : Index := Scalar.indexCast v450
  let c0_286 : Index := 0#32
  ![v501.toNat, 0]
def k0_mult6 (i : grid0.Coords) (k0_t2 : Fin (k0_t2_loop i).trips) : BitVec 32 :=
  let c0_i32_288 : BitVec 32 := 0#32
  let c4_i32_287 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v505 : BitVec 32 := Scalar.muli c4_i32_287 arg17
  let v506 : BitVec 32 := Scalar.addi c0_i32_288 v505
  let c1_i32_289 : BitVec 32 := 1#32
  let v507 : BitVec 32 := Scalar.addi v506 c1_i32_289
  let c512_i32_290 : BitVec 32 := 512#32
  let v508 : BitVec 32 := Scalar.muli v507 c512_i32_290
  v508
def k0_mult7 (i : grid0.Coords) (k0_t2 : Fin (k0_t2_loop i).trips) : BitVec 32 :=
  let c0_i32_314 : BitVec 32 := 0#32
  let c4_i32_313 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v564 : BitVec 32 := Scalar.muli c4_i32_313 arg17
  let v565 : BitVec 32 := Scalar.addi c0_i32_314 v564
  let c2_i32_315 : BitVec 32 := 2#32
  let v566 : BitVec 32 := Scalar.addi v565 c2_i32_315
  let c512_i32_316 : BitVec 32 := 512#32
  let v567 : BitVec 32 := Scalar.muli v566 c512_i32_316
  v567
def k0_mult8 (i : grid0.Coords) (k0_t2 : Fin (k0_t2_loop i).trips) : BitVec 32 :=
  let c0_i32_340 : BitVec 32 := 0#32
  let c4_i32_339 : BitVec 32 := 4#32
  let c0_i32_75 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v124 : BitVec 32 := Scalar.subi v123 c0_i32_75
  let c1_i32_77 : BitVec 32 := 1#32
  let v126 : BitVec 32 := Scalar.divsi v124 c1_i32_77
  let v127 : BitVec 32 := Scalar.muli v126 c1_i32_77
  let v128 : BitVec 32 := Scalar.addi c0_i32_75 v127
  let c1_i32_79 : BitVec 32 := 1#32
  let arg17 : BitVec 32 := Scf.iv v128 c1_i32_79 k0_t2
  let v623 : BitVec 32 := Scalar.muli c4_i32_339 arg17
  let v624 : BitVec 32 := Scalar.addi c0_i32_340 v623
  let c3_i32 : BitVec 32 := 3#32
  let v625 : BitVec 32 := Scalar.addi v624 c3_i32
  let c512_i32_341 : BitVec 32 := 512#32
  let v626 : BitVec 32 := Scalar.muli v625 c512_i32_341
  v626
@[reducible] def k0_t3_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_81 : BitVec 32 := 0#32
  let c4_i32_80 : BitVec 32 := 4#32
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let c1_i32_90 : BitVec 32 := 1#32
  ⟨c0_i32_88, v155, c1_i32_90⟩
def k0_mult9 (i : grid0.Coords) (k0_t3 : Fin (k0_t3_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let c1_i32_90 : BitVec 32 := 1#32
  let arg17 : BitVec 32 := Scf.iv c0_i32_88 c1_i32_90 k0_t3
  let v446 : BitVec 32 := Scalar.muli c2_i32_263 arg17
  let v447 : BitVec 32 := Scalar.addi v132 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off5 (i : grid0.Coords) (k0_t3 : Fin (k0_t3_loop i).trips) (c0_i32_264 : BitVec 32) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let c1_i32_90 : BitVec 32 := 1#32
  let arg17 : BitVec 32 := Scf.iv c0_i32_88 c1_i32_90 k0_t3
  let v446 : BitVec 32 := Scalar.muli c2_i32_263 arg17
  let v447 : BitVec 32 := Scalar.addi v132 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off6 (i : grid0.Coords) (k0_t3 : Fin (k0_t3_loop i).trips) (c0_i32_264 : BitVec 32) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let c1_i32_90 : BitVec 32 := 1#32
  let arg17 : BitVec 32 := Scf.iv c0_i32_88 c1_i32_90 k0_t3
  let v446 : BitVec 32 := Scalar.muli c2_i32_263 arg17
  let v447 : BitVec 32 := Scalar.addi v132 v446
  let v448 : BitVec 32 := Scalar.addi v447 c0_i32_264
  let c512_i32_265 : BitVec 32 := 512#32
  let v449 : BitVec 32 := Scalar.muli v448 c512_i32_265
  let v450 : BitVec 32 := v449
  let v501 : Index := Scalar.indexCast v450
  let c0_285 : Index := 0#32
  ![v501.toNat, 0]
def k0_mult10 (i : grid0.Coords) (k0_t3 : Fin (k0_t3_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_286 : BitVec 32 := 2#32
  let c0_i32_88 : BitVec 32 := 0#32
  let c1_i32_90 : BitVec 32 := 1#32
  let arg17 : BitVec 32 := Scf.iv c0_i32_88 c1_i32_90 k0_t3
  let v505 : BitVec 32 := Scalar.muli c2_i32_286 arg17
  let v506 : BitVec 32 := Scalar.addi v132 v505
  let c1_i32_287 : BitVec 32 := 1#32
  let v507 : BitVec 32 := Scalar.addi v506 c1_i32_287
  let c512_i32_288 : BitVec 32 := 512#32
  let v508 : BitVec 32 := Scalar.muli v507 c512_i32_288
  v508
@[reducible] def k0_t4_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_81 : BitVec 32 := 0#32
  let c4_i32_80 : BitVec 32 := 4#32
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let v152 : BitVec 32 := Scalar.addi c0_i32_88 v151
  let c1_i32_91 : BitVec 32 := 1#32
  ⟨v155, v152, c1_i32_91⟩
def k0_mult11 (i : grid0.Coords) (k0_t4 : Fin (k0_t4_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let c1_i32_91 : BitVec 32 := 1#32
  let arg17 : BitVec 32 := Scf.iv v155 c1_i32_91 k0_t4
  let v446 : BitVec 32 := Scalar.muli c2_i32_263 arg17
  let v447 : BitVec 32 := Scalar.addi v132 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off7 (i : grid0.Coords) (k0_t4 : Fin (k0_t4_loop i).trips) (c0_i32_264 : BitVec 32) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let c1_i32_91 : BitVec 32 := 1#32
  let arg17 : BitVec 32 := Scf.iv v155 c1_i32_91 k0_t4
  let v446 : BitVec 32 := Scalar.muli c2_i32_263 arg17
  let v447 : BitVec 32 := Scalar.addi v132 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off8 (i : grid0.Coords) (k0_t4 : Fin (k0_t4_loop i).trips) (c0_i32_264 : BitVec 32) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_263 : BitVec 32 := 2#32
  let c0_i32_88 : BitVec 32 := 0#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let c1_i32_91 : BitVec 32 := 1#32
  let arg17 : BitVec 32 := Scf.iv v155 c1_i32_91 k0_t4
  let v446 : BitVec 32 := Scalar.muli c2_i32_263 arg17
  let v447 : BitVec 32 := Scalar.addi v132 v446
  let v448 : BitVec 32 := Scalar.addi v447 c0_i32_264
  let c512_i32_265 : BitVec 32 := 512#32
  let v449 : BitVec 32 := Scalar.muli v448 c512_i32_265
  let v450 : BitVec 32 := v449
  let v501 : Index := Scalar.indexCast v450
  let c0_285 : Index := 0#32
  ![v501.toNat, 0]
def k0_mult12 (i : grid0.Coords) (k0_t4 : Fin (k0_t4_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_286 : BitVec 32 := 2#32
  let c0_i32_88 : BitVec 32 := 0#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v151 : BitVec 32 := Scalar.subi v150 c0_i32_88
  let c1_i32_89 : BitVec 32 := 1#32
  let v153 : BitVec 32 := Scalar.divsi v151 c1_i32_89
  let v154 : BitVec 32 := Scalar.muli v153 c1_i32_89
  let v155 : BitVec 32 := Scalar.addi c0_i32_88 v154
  let c1_i32_91 : BitVec 32 := 1#32
  let arg17 : BitVec 32 := Scf.iv v155 c1_i32_91 k0_t4
  let v505 : BitVec 32 := Scalar.muli c2_i32_286 arg17
  let v506 : BitVec 32 := Scalar.addi v132 v505
  let c1_i32_287 : BitVec 32 := 1#32
  let v507 : BitVec 32 := Scalar.addi v506 c1_i32_287
  let c512_i32_288 : BitVec 32 := 512#32
  let v508 : BitVec 32 := Scalar.muli v507 c512_i32_288
  v508
@[reducible] def k0_t5_loop (i : grid0.Coords) : Scf.Loop 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let v160 : BitVec 32 := Scalar.subi v20 v159
  let c1_i32_93 : BitVec 32 := 1#32
  let v162 : BitVec 32 := Scalar.divsi v160 c1_i32_93
  let v163 : BitVec 32 := Scalar.muli v162 c1_i32_93
  let v164 : BitVec 32 := Scalar.addi v159 v163
  let c1_i32_94 : BitVec 32 := 1#32
  ⟨v159, v164, c1_i32_94⟩
def k0_mult13 (i : grid0.Coords) (k0_t5 : Fin (k0_t5_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let c1_i32_94 : BitVec 32 := 1#32
  let arg17 : BitVec 32 := Scf.iv v159 c1_i32_94 k0_t5
  let c512_i32_263 : BitVec 32 := 512#32
  let v446 : BitVec 32 := Scalar.muli arg17 c512_i32_263
  v446
def k0_off9 (i : grid0.Coords) (k0_t5 : Fin (k0_t5_loop i).trips) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let c1_i32_94 : BitVec 32 := 1#32
  let arg17 : BitVec 32 := Scf.iv v159 c1_i32_94 k0_t5
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off10 (i : grid0.Coords) (k0_t5 : Fin (k0_t5_loop i).trips) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let c1_i32_94 : BitVec 32 := 1#32
  let arg17 : BitVec 32 := Scf.iv v159 c1_i32_94 k0_t5
  let c512_i32_263 : BitVec 32 := 512#32
  let v446 : BitVec 32 := Scalar.muli arg17 c512_i32_263
  let v447 : BitVec 32 := v446
  let v498 : Index := Scalar.indexCast v447
  let c0_283 : Index := 0#32
  ![v498.toNat, 0]
@[reducible] def k0_t6_loop (i : grid0.Coords) : Scf.Loop 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let v160 : BitVec 32 := Scalar.subi v20 v159
  let c1_i32_93 : BitVec 32 := 1#32
  let v162 : BitVec 32 := Scalar.divsi v160 c1_i32_93
  let v163 : BitVec 32 := Scalar.muli v162 c1_i32_93
  let v164 : BitVec 32 := Scalar.addi v159 v163
  let v161 : BitVec 32 := Scalar.addi v159 v160
  let c1_i32_95 : BitVec 32 := 1#32
  ⟨v164, v161, c1_i32_95⟩
def k0_mult14 (i : grid0.Coords) (k0_t6 : Fin (k0_t6_loop i).trips) : BitVec 32 :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let v160 : BitVec 32 := Scalar.subi v20 v159
  let c1_i32_93 : BitVec 32 := 1#32
  let v162 : BitVec 32 := Scalar.divsi v160 c1_i32_93
  let v163 : BitVec 32 := Scalar.muli v162 c1_i32_93
  let v164 : BitVec 32 := Scalar.addi v159 v163
  let c1_i32_95 : BitVec 32 := 1#32
  let arg17 : BitVec 32 := Scf.iv v164 c1_i32_95 k0_t6
  let c512_i32_263 : BitVec 32 := 512#32
  let v446 : BitVec 32 := Scalar.muli arg17 c512_i32_263
  v446
def k0_off11 (i : grid0.Coords) (k0_t6 : Fin (k0_t6_loop i).trips) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let v160 : BitVec 32 := Scalar.subi v20 v159
  let c1_i32_93 : BitVec 32 := 1#32
  let v162 : BitVec 32 := Scalar.divsi v160 c1_i32_93
  let v163 : BitVec 32 := Scalar.muli v162 c1_i32_93
  let v164 : BitVec 32 := Scalar.addi v159 v163
  let c1_i32_95 : BitVec 32 := 1#32
  let arg17 : BitVec 32 := Scf.iv v164 c1_i32_95 k0_t6
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off12 (i : grid0.Coords) (k0_t6 : Fin (k0_t6_loop i).trips) : Fin 2 → Nat :=
  let c0_i32_81 : BitVec 32 := 0#32
  let c4_i32_80 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_67 : BitVec 32 := 0#32
  let v106 : BitVec 32 := Scalar.subi v20 c0_i32_67
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c4_i32_68 : BitVec 32 := 4#32
  let c0_i32_71 : BitVec 32 := 0#32
  let v113 : BitVec 1 := Scalar.cmpi .sgt c4_i32_68 c0_i32_71
  let v114 : BitVec 32 := Scalar.extui v113
  let c0_i32_72 : BitVec 32 := 0#32
  let v115 : BitVec 1 := Scalar.cmpi .slt c4_i32_68 c0_i32_72
  let v116 : BitVec 32 := Scalar.extui v115
  let v117 : BitVec 32 := Scalar.subi v114 v116
  let v118 : BitVec 1 := Scalar.cmpi .ne v112 v117
  let v119 : BitVec 32 := Scalar.remsi v106 c4_i32_68
  let c0_i32_73 : BitVec 32 := 0#32
  let v120 : BitVec 1 := Scalar.cmpi .ne v119 c0_i32_73
  let v121 : BitVec 1 := Scalar.andi v118 v120
  let v107 : BitVec 32 := Scalar.divsi v106 c4_i32_68
  let c1_i32_74 : BitVec 32 := 1#32
  let v122 : BitVec 32 := Scalar.subi v107 c1_i32_74
  let v123 : BitVec 32 := Scalar.select v121 v122 v107
  let v131 : BitVec 32 := Scalar.muli c4_i32_80 v123
  let v132 : BitVec 32 := Scalar.addi c0_i32_81 v131
  let c2_i32_92 : BitVec 32 := 2#32
  let v133 : BitVec 32 := Scalar.subi v20 v132
  let c0_i32_82 : BitVec 32 := 0#32
  let v135 : BitVec 1 := Scalar.cmpi .sgt v133 c0_i32_82
  let v136 : BitVec 32 := Scalar.extui v135
  let c0_i32_83 : BitVec 32 := 0#32
  let v137 : BitVec 1 := Scalar.cmpi .slt v133 c0_i32_83
  let v138 : BitVec 32 := Scalar.extui v137
  let v139 : BitVec 32 := Scalar.subi v136 v138
  let c2_i32 : BitVec 32 := 2#32
  let c0_i32_84 : BitVec 32 := 0#32
  let v140 : BitVec 1 := Scalar.cmpi .sgt c2_i32 c0_i32_84
  let v141 : BitVec 32 := Scalar.extui v140
  let c0_i32_85 : BitVec 32 := 0#32
  let v142 : BitVec 1 := Scalar.cmpi .slt c2_i32 c0_i32_85
  let v143 : BitVec 32 := Scalar.extui v142
  let v144 : BitVec 32 := Scalar.subi v141 v143
  let v145 : BitVec 1 := Scalar.cmpi .ne v139 v144
  let v146 : BitVec 32 := Scalar.remsi v133 c2_i32
  let c0_i32_86 : BitVec 32 := 0#32
  let v147 : BitVec 1 := Scalar.cmpi .ne v146 c0_i32_86
  let v148 : BitVec 1 := Scalar.andi v145 v147
  let v134 : BitVec 32 := Scalar.divsi v133 c2_i32
  let c1_i32_87 : BitVec 32 := 1#32
  let v149 : BitVec 32 := Scalar.subi v134 c1_i32_87
  let v150 : BitVec 32 := Scalar.select v148 v149 v134
  let v158 : BitVec 32 := Scalar.muli c2_i32_92 v150
  let v159 : BitVec 32 := Scalar.addi v132 v158
  let v160 : BitVec 32 := Scalar.subi v20 v159
  let c1_i32_93 : BitVec 32 := 1#32
  let v162 : BitVec 32 := Scalar.divsi v160 c1_i32_93
  let v163 : BitVec 32 := Scalar.muli v162 c1_i32_93
  let v164 : BitVec 32 := Scalar.addi v159 v163
  let c1_i32_95 : BitVec 32 := 1#32
  let arg17 : BitVec 32 := Scf.iv v164 c1_i32_95 k0_t6
  let c512_i32_263 : BitVec 32 := 512#32
  let v446 : BitVec 32 := Scalar.muli arg17 c512_i32_263
  let v447 : BitVec 32 := v446
  let v498 : Index := Scalar.indexCast v447
  let c0_283 : Index := 0#32
  ![v498.toNat, 0]
@[reducible] def k0_t7_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c1_i32_96 : BitVec 32 := 1#32
  let v167 : BitVec 32 := Scalar.muli v39 c1_i32_96
  let v168 : BitVec 32 := Scalar.subi v167 v20
  let c1_i32_98 : BitVec 32 := 1#32
  let v170 : BitVec 32 := Scalar.divsi v168 c1_i32_98
  let v171 : BitVec 32 := Scalar.muli v170 c1_i32_98
  let v172 : BitVec 32 := Scalar.addi v20 v171
  let c1_i32_99 : BitVec 32 := 1#32
  ⟨v20, v172, c1_i32_99⟩
def k0_mult15 (i : grid0.Coords) (k0_t7 : Fin (k0_t7_loop i).trips) : BitVec 32 :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_99 : BitVec 32 := 1#32
  let arg17 : BitVec 32 := Scf.iv v20 c1_i32_99 k0_t7
  let c512_i32_263 : BitVec 32 := 512#32
  let v446 : BitVec 32 := Scalar.muli arg17 c512_i32_263
  v446
def k0_off13 (i : grid0.Coords) (k0_t7 : Fin (k0_t7_loop i).trips) : Fin 2 → Nat :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_99 : BitVec 32 := 1#32
  let arg17 : BitVec 32 := Scf.iv v20 c1_i32_99 k0_t7
  let c512_i32_263 : BitVec 32 := 512#32
  let v446 : BitVec 32 := Scalar.muli arg17 c512_i32_263
  let v447 : BitVec 32 := v446
  let v449 : Index := Scalar.indexCast v447
  let c0_265 : Index := 0#32
  ![v449.toNat, 0]
@[reducible] def k0_t8_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c1_i32_96 : BitVec 32 := 1#32
  let v167 : BitVec 32 := Scalar.muli v39 c1_i32_96
  let v168 : BitVec 32 := Scalar.subi v167 v20
  let c1_i32_98 : BitVec 32 := 1#32
  let v170 : BitVec 32 := Scalar.divsi v168 c1_i32_98
  let v171 : BitVec 32 := Scalar.muli v170 c1_i32_98
  let v172 : BitVec 32 := Scalar.addi v20 v171
  let v169 : BitVec 32 := Scalar.addi v20 v168
  let c1_i32_100 : BitVec 32 := 1#32
  ⟨v172, v169, c1_i32_100⟩
def k0_mult16 (i : grid0.Coords) (k0_t8 : Fin (k0_t8_loop i).trips) : BitVec 32 :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c1_i32_96 : BitVec 32 := 1#32
  let v167 : BitVec 32 := Scalar.muli v39 c1_i32_96
  let v168 : BitVec 32 := Scalar.subi v167 v20
  let c1_i32_98 : BitVec 32 := 1#32
  let v170 : BitVec 32 := Scalar.divsi v168 c1_i32_98
  let v171 : BitVec 32 := Scalar.muli v170 c1_i32_98
  let v172 : BitVec 32 := Scalar.addi v20 v171
  let c1_i32_100 : BitVec 32 := 1#32
  let arg17 : BitVec 32 := Scf.iv v172 c1_i32_100 k0_t8
  let c512_i32_263 : BitVec 32 := 512#32
  let v446 : BitVec 32 := Scalar.muli arg17 c512_i32_263
  v446
def k0_off14 (i : grid0.Coords) (k0_t8 : Fin (k0_t8_loop i).trips) : Fin 2 → Nat :=
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c1_i32_96 : BitVec 32 := 1#32
  let v167 : BitVec 32 := Scalar.muli v39 c1_i32_96
  let v168 : BitVec 32 := Scalar.subi v167 v20
  let c1_i32_98 : BitVec 32 := 1#32
  let v170 : BitVec 32 := Scalar.divsi v168 c1_i32_98
  let v171 : BitVec 32 := Scalar.muli v170 c1_i32_98
  let v172 : BitVec 32 := Scalar.addi v20 v171
  let c1_i32_100 : BitVec 32 := 1#32
  let arg17 : BitVec 32 := Scf.iv v172 c1_i32_100 k0_t8
  let c512_i32_263 : BitVec 32 := 512#32
  let v446 : BitVec 32 := Scalar.muli arg17 c512_i32_263
  let v447 : BitVec 32 := v446
  let v449 : Index := Scalar.indexCast v447
  let c0_265 : Index := 0#32
  ![v449.toNat, 0]
@[reducible] def k0_t9_loop (i : grid0.Coords) : Scf.Loop 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_108 : BitVec 32 := 1#32
  ⟨c0_i32_105, v185, c1_i32_108⟩
def k0_mult17 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c256_i32_263 : BitVec 32 := 256#32
  let v446 : BitVec 32 := Scalar.muli arg17 c256_i32_263
  v446
def k0_off15 (i : grid0.Coords) (k0_t9 : Fin (k0_t9_loop i).trips) (c0_i32_264 : BitVec 32) : Fin 2 → Nat :=
  let c0_i32_105 : BitVec 32 := 0#32
  let c1_i32_108 : BitVec 32 := 1#32
  let arg17 : BitVec 32 := Scf.iv c0_i32_105 c1_i32_108 k0_t9
  let c256_i32_263 : BitVec 32 := 256#32
  let v446 : BitVec 32 := Scalar.muli arg17 c256_i32_263
  let v447 : BitVec 32 := v446
  let v448 : BitVec 32 := Scalar.addi v447 c0_i32_264
  let v449 : Index := Scalar.indexCast v448
  let c0_265 : Index := 0#32
  ![v449.toNat, 0]
def k0_mult18 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_537 : BitVec 32 := 8#32
  let v1265 : BitVec 32 := Scalar.muli arg17 c8_i32_537
  v1265
def k0_off16 (i : grid0.Coords) (k0_t9 : Fin (k0_t9_loop i).trips) : Fin 3 → Nat :=
  let c0_538 : Index := 0#32
  let c0_i32_105 : BitVec 32 := 0#32
  let c1_i32_108 : BitVec 32 := 1#32
  let arg17 : BitVec 32 := Scf.iv c0_i32_105 c1_i32_108 k0_t9
  let c8_i32_537 : BitVec 32 := 8#32
  let v1265 : BitVec 32 := Scalar.muli arg17 c8_i32_537
  let v1266 : BitVec 32 := v1265
  let v1267 : Index := Scalar.indexCast v1266
  let c0_539 : Index := 0#32
  ![0, v1267.toNat, 0]
def k0_mult19 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_540 : BitVec 32 := 8#32
  let v1271 : BitVec 32 := Scalar.muli arg17 c8_i32_540
  v1271
def k0_off17 (i : grid0.Coords) (k0_t9 : Fin (k0_t9_loop i).trips) : Fin 3 → Nat :=
  let c1_541 : Index := 1#32
  let c0_i32_105 : BitVec 32 := 0#32
  let c1_i32_108 : BitVec 32 := 1#32
  let arg17 : BitVec 32 := Scf.iv c0_i32_105 c1_i32_108 k0_t9
  let c8_i32_540 : BitVec 32 := 8#32
  let v1271 : BitVec 32 := Scalar.muli arg17 c8_i32_540
  let v1272 : BitVec 32 := v1271
  let v1273 : Index := Scalar.indexCast v1272
  let c0_542 : Index := 0#32
  ![1, v1273.toNat, 0]
def k0_mult20 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_543 : BitVec 32 := 8#32
  let v1277 : BitVec 32 := Scalar.muli arg17 c8_i32_543
  v1277
def k0_off18 (i : grid0.Coords) (k0_t9 : Fin (k0_t9_loop i).trips) : Fin 3 → Nat :=
  let c2_544 : Index := 2#32
  let c0_i32_105 : BitVec 32 := 0#32
  let c1_i32_108 : BitVec 32 := 1#32
  let arg17 : BitVec 32 := Scf.iv c0_i32_105 c1_i32_108 k0_t9
  let c8_i32_543 : BitVec 32 := 8#32
  let v1277 : BitVec 32 := Scalar.muli arg17 c8_i32_543
  let v1278 : BitVec 32 := v1277
  let v1279 : Index := Scalar.indexCast v1278
  let c0_545 : Index := 0#32
  ![2, v1279.toNat, 0]
def k0_mult21 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_546 : BitVec 32 := 8#32
  let v1283 : BitVec 32 := Scalar.muli arg17 c8_i32_546
  v1283
def k0_off19 (i : grid0.Coords) (k0_t9 : Fin (k0_t9_loop i).trips) : Fin 3 → Nat :=
  let c3_547 : Index := 3#32
  let c0_i32_105 : BitVec 32 := 0#32
  let c1_i32_108 : BitVec 32 := 1#32
  let arg17 : BitVec 32 := Scf.iv c0_i32_105 c1_i32_108 k0_t9
  let c8_i32_546 : BitVec 32 := 8#32
  let v1283 : BitVec 32 := Scalar.muli arg17 c8_i32_546
  let v1284 : BitVec 32 := v1283
  let v1285 : Index := Scalar.indexCast v1284
  let c0_548 : Index := 0#32
  ![3, v1285.toNat, 0]
def k0_mult22 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_549 : BitVec 32 := 8#32
  let v1289 : BitVec 32 := Scalar.muli arg17 c8_i32_549
  v1289
def k0_off20 (i : grid0.Coords) (k0_t9 : Fin (k0_t9_loop i).trips) : Fin 3 → Nat :=
  let c4_550 : Index := 4#32
  let c0_i32_105 : BitVec 32 := 0#32
  let c1_i32_108 : BitVec 32 := 1#32
  let arg17 : BitVec 32 := Scf.iv c0_i32_105 c1_i32_108 k0_t9
  let c8_i32_549 : BitVec 32 := 8#32
  let v1289 : BitVec 32 := Scalar.muli arg17 c8_i32_549
  let v1290 : BitVec 32 := v1289
  let v1291 : Index := Scalar.indexCast v1290
  let c0_551 : Index := 0#32
  ![4, v1291.toNat, 0]
def k0_mult23 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_552 : BitVec 32 := 8#32
  let v1295 : BitVec 32 := Scalar.muli arg17 c8_i32_552
  v1295
def k0_off21 (i : grid0.Coords) (k0_t9 : Fin (k0_t9_loop i).trips) : Fin 3 → Nat :=
  let c5_553 : Index := 5#32
  let c0_i32_105 : BitVec 32 := 0#32
  let c1_i32_108 : BitVec 32 := 1#32
  let arg17 : BitVec 32 := Scf.iv c0_i32_105 c1_i32_108 k0_t9
  let c8_i32_552 : BitVec 32 := 8#32
  let v1295 : BitVec 32 := Scalar.muli arg17 c8_i32_552
  let v1296 : BitVec 32 := v1295
  let v1297 : Index := Scalar.indexCast v1296
  let c0_554 : Index := 0#32
  ![5, v1297.toNat, 0]
def k0_mult24 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_555 : BitVec 32 := 8#32
  let v1301 : BitVec 32 := Scalar.muli arg17 c8_i32_555
  v1301
def k0_off22 (i : grid0.Coords) (k0_t9 : Fin (k0_t9_loop i).trips) : Fin 3 → Nat :=
  let c6_556 : Index := 6#32
  let c0_i32_105 : BitVec 32 := 0#32
  let c1_i32_108 : BitVec 32 := 1#32
  let arg17 : BitVec 32 := Scf.iv c0_i32_105 c1_i32_108 k0_t9
  let c8_i32_555 : BitVec 32 := 8#32
  let v1301 : BitVec 32 := Scalar.muli arg17 c8_i32_555
  let v1302 : BitVec 32 := v1301
  let v1303 : Index := Scalar.indexCast v1302
  let c0_557 : Index := 0#32
  ![6, v1303.toNat, 0]
def k0_mult25 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_558 : BitVec 32 := 8#32
  let v1307 : BitVec 32 := Scalar.muli arg17 c8_i32_558
  v1307
def k0_off23 (i : grid0.Coords) (k0_t9 : Fin (k0_t9_loop i).trips) : Fin 3 → Nat :=
  let c7_559 : Index := 7#32
  let c0_i32_105 : BitVec 32 := 0#32
  let c1_i32_108 : BitVec 32 := 1#32
  let arg17 : BitVec 32 := Scf.iv c0_i32_105 c1_i32_108 k0_t9
  let c8_i32_558 : BitVec 32 := 8#32
  let v1307 : BitVec 32 := Scalar.muli arg17 c8_i32_558
  let v1308 : BitVec 32 := v1307
  let v1309 : Index := Scalar.indexCast v1308
  let c0_560 : Index := 0#32
  ![7, v1309.toNat, 0]
def k0_mult26 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_561 : BitVec 32 := 8#32
  let v1313 : BitVec 32 := Scalar.muli arg17 c8_i32_561
  v1313
def k0_off24 (i : grid0.Coords) (k0_t9 : Fin (k0_t9_loop i).trips) : Fin 3 → Nat :=
  let c8 : Index := 8#32
  let c0_i32_105 : BitVec 32 := 0#32
  let c1_i32_108 : BitVec 32 := 1#32
  let arg17 : BitVec 32 := Scf.iv c0_i32_105 c1_i32_108 k0_t9
  let c8_i32_561 : BitVec 32 := 8#32
  let v1313 : BitVec 32 := Scalar.muli arg17 c8_i32_561
  let v1314 : BitVec 32 := v1313
  let v1315 : Index := Scalar.indexCast v1314
  let c0_562 : Index := 0#32
  ![8, v1315.toNat, 0]
def k0_mult27 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_563 : BitVec 32 := 8#32
  let v1319 : BitVec 32 := Scalar.muli arg17 c8_i32_563
  v1319
def k0_off25 (i : grid0.Coords) (k0_t9 : Fin (k0_t9_loop i).trips) : Fin 3 → Nat :=
  let c9 : Index := 9#32
  let c0_i32_105 : BitVec 32 := 0#32
  let c1_i32_108 : BitVec 32 := 1#32
  let arg17 : BitVec 32 := Scf.iv c0_i32_105 c1_i32_108 k0_t9
  let c8_i32_563 : BitVec 32 := 8#32
  let v1319 : BitVec 32 := Scalar.muli arg17 c8_i32_563
  let v1320 : BitVec 32 := v1319
  let v1321 : Index := Scalar.indexCast v1320
  let c0_564 : Index := 0#32
  ![9, v1321.toNat, 0]
def k0_mult28 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_565 : BitVec 32 := 8#32
  let v1325 : BitVec 32 := Scalar.muli arg17 c8_i32_565
  v1325
def k0_off26 (i : grid0.Coords) (k0_t9 : Fin (k0_t9_loop i).trips) : Fin 3 → Nat :=
  let c10 : Index := 10#32
  let c0_i32_105 : BitVec 32 := 0#32
  let c1_i32_108 : BitVec 32 := 1#32
  let arg17 : BitVec 32 := Scf.iv c0_i32_105 c1_i32_108 k0_t9
  let c8_i32_565 : BitVec 32 := 8#32
  let v1325 : BitVec 32 := Scalar.muli arg17 c8_i32_565
  let v1326 : BitVec 32 := v1325
  let v1327 : Index := Scalar.indexCast v1326
  let c0_566 : Index := 0#32
  ![10, v1327.toNat, 0]
def k0_mult29 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_567 : BitVec 32 := 8#32
  let v1331 : BitVec 32 := Scalar.muli arg17 c8_i32_567
  v1331
def k0_off27 (i : grid0.Coords) (k0_t9 : Fin (k0_t9_loop i).trips) : Fin 3 → Nat :=
  let c11 : Index := 11#32
  let c0_i32_105 : BitVec 32 := 0#32
  let c1_i32_108 : BitVec 32 := 1#32
  let arg17 : BitVec 32 := Scf.iv c0_i32_105 c1_i32_108 k0_t9
  let c8_i32_567 : BitVec 32 := 8#32
  let v1331 : BitVec 32 := Scalar.muli arg17 c8_i32_567
  let v1332 : BitVec 32 := v1331
  let v1333 : Index := Scalar.indexCast v1332
  let c0_568 : Index := 0#32
  ![11, v1333.toNat, 0]
def k0_mult30 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_569 : BitVec 32 := 8#32
  let v1337 : BitVec 32 := Scalar.muli arg17 c8_i32_569
  v1337
def k0_off28 (i : grid0.Coords) (k0_t9 : Fin (k0_t9_loop i).trips) : Fin 3 → Nat :=
  let c12 : Index := 12#32
  let c0_i32_105 : BitVec 32 := 0#32
  let c1_i32_108 : BitVec 32 := 1#32
  let arg17 : BitVec 32 := Scf.iv c0_i32_105 c1_i32_108 k0_t9
  let c8_i32_569 : BitVec 32 := 8#32
  let v1337 : BitVec 32 := Scalar.muli arg17 c8_i32_569
  let v1338 : BitVec 32 := v1337
  let v1339 : Index := Scalar.indexCast v1338
  let c0_570 : Index := 0#32
  ![12, v1339.toNat, 0]
def k0_mult31 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_571 : BitVec 32 := 8#32
  let v1343 : BitVec 32 := Scalar.muli arg17 c8_i32_571
  v1343
def k0_off29 (i : grid0.Coords) (k0_t9 : Fin (k0_t9_loop i).trips) : Fin 3 → Nat :=
  let c13 : Index := 13#32
  let c0_i32_105 : BitVec 32 := 0#32
  let c1_i32_108 : BitVec 32 := 1#32
  let arg17 : BitVec 32 := Scf.iv c0_i32_105 c1_i32_108 k0_t9
  let c8_i32_571 : BitVec 32 := 8#32
  let v1343 : BitVec 32 := Scalar.muli arg17 c8_i32_571
  let v1344 : BitVec 32 := v1343
  let v1345 : Index := Scalar.indexCast v1344
  let c0_572 : Index := 0#32
  ![13, v1345.toNat, 0]
def k0_mult32 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_573 : BitVec 32 := 8#32
  let v1349 : BitVec 32 := Scalar.muli arg17 c8_i32_573
  v1349
def k0_off30 (i : grid0.Coords) (k0_t9 : Fin (k0_t9_loop i).trips) : Fin 3 → Nat :=
  let c14 : Index := 14#32
  let c0_i32_105 : BitVec 32 := 0#32
  let c1_i32_108 : BitVec 32 := 1#32
  let arg17 : BitVec 32 := Scf.iv c0_i32_105 c1_i32_108 k0_t9
  let c8_i32_573 : BitVec 32 := 8#32
  let v1349 : BitVec 32 := Scalar.muli arg17 c8_i32_573
  let v1350 : BitVec 32 := v1349
  let v1351 : Index := Scalar.indexCast v1350
  let c0_574 : Index := 0#32
  ![14, v1351.toNat, 0]
def k0_mult33 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_575 : BitVec 32 := 8#32
  let v1355 : BitVec 32 := Scalar.muli arg17 c8_i32_575
  v1355
def k0_off31 (i : grid0.Coords) (k0_t9 : Fin (k0_t9_loop i).trips) : Fin 3 → Nat :=
  let c15 : Index := 15#32
  let c0_i32_105 : BitVec 32 := 0#32
  let c1_i32_108 : BitVec 32 := 1#32
  let arg17 : BitVec 32 := Scf.iv c0_i32_105 c1_i32_108 k0_t9
  let c8_i32_575 : BitVec 32 := 8#32
  let v1355 : BitVec 32 := Scalar.muli arg17 c8_i32_575
  let v1356 : BitVec 32 := v1355
  let v1357 : Index := Scalar.indexCast v1356
  let c0_576 : Index := 0#32
  ![15, v1357.toNat, 0]
def k0_mult34 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_577 : BitVec 32 := 8#32
  let v1361 : BitVec 32 := Scalar.muli arg17 c8_i32_577
  v1361
def k0_off32 (i : grid0.Coords) (k0_t9 : Fin (k0_t9_loop i).trips) : Fin 3 → Nat :=
  let c16 : Index := 16#32
  let c0_i32_105 : BitVec 32 := 0#32
  let c1_i32_108 : BitVec 32 := 1#32
  let arg17 : BitVec 32 := Scf.iv c0_i32_105 c1_i32_108 k0_t9
  let c8_i32_577 : BitVec 32 := 8#32
  let v1361 : BitVec 32 := Scalar.muli arg17 c8_i32_577
  let v1362 : BitVec 32 := v1361
  let v1363 : Index := Scalar.indexCast v1362
  let c0_578 : Index := 0#32
  ![16, v1363.toNat, 0]
def k0_mult35 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_579 : BitVec 32 := 8#32
  let v1367 : BitVec 32 := Scalar.muli arg17 c8_i32_579
  v1367
def k0_off33 (i : grid0.Coords) (k0_t9 : Fin (k0_t9_loop i).trips) : Fin 3 → Nat :=
  let c17 : Index := 17#32
  let c0_i32_105 : BitVec 32 := 0#32
  let c1_i32_108 : BitVec 32 := 1#32
  let arg17 : BitVec 32 := Scf.iv c0_i32_105 c1_i32_108 k0_t9
  let c8_i32_579 : BitVec 32 := 8#32
  let v1367 : BitVec 32 := Scalar.muli arg17 c8_i32_579
  let v1368 : BitVec 32 := v1367
  let v1369 : Index := Scalar.indexCast v1368
  let c0_580 : Index := 0#32
  ![17, v1369.toNat, 0]
def k0_mult36 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_581 : BitVec 32 := 8#32
  let v1373 : BitVec 32 := Scalar.muli arg17 c8_i32_581
  v1373
def k0_off34 (i : grid0.Coords) (k0_t9 : Fin (k0_t9_loop i).trips) : Fin 3 → Nat :=
  let c18 : Index := 18#32
  let c0_i32_105 : BitVec 32 := 0#32
  let c1_i32_108 : BitVec 32 := 1#32
  let arg17 : BitVec 32 := Scf.iv c0_i32_105 c1_i32_108 k0_t9
  let c8_i32_581 : BitVec 32 := 8#32
  let v1373 : BitVec 32 := Scalar.muli arg17 c8_i32_581
  let v1374 : BitVec 32 := v1373
  let v1375 : Index := Scalar.indexCast v1374
  let c0_582 : Index := 0#32
  ![18, v1375.toNat, 0]
def k0_mult37 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_583 : BitVec 32 := 8#32
  let v1379 : BitVec 32 := Scalar.muli arg17 c8_i32_583
  v1379
def k0_off35 (i : grid0.Coords) (k0_t9 : Fin (k0_t9_loop i).trips) : Fin 3 → Nat :=
  let c19 : Index := 19#32
  let c0_i32_105 : BitVec 32 := 0#32
  let c1_i32_108 : BitVec 32 := 1#32
  let arg17 : BitVec 32 := Scf.iv c0_i32_105 c1_i32_108 k0_t9
  let c8_i32_583 : BitVec 32 := 8#32
  let v1379 : BitVec 32 := Scalar.muli arg17 c8_i32_583
  let v1380 : BitVec 32 := v1379
  let v1381 : Index := Scalar.indexCast v1380
  let c0_584 : Index := 0#32
  ![19, v1381.toNat, 0]
def k0_mult38 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_585 : BitVec 32 := 8#32
  let v1385 : BitVec 32 := Scalar.muli arg17 c8_i32_585
  v1385
def k0_off36 (i : grid0.Coords) (k0_t9 : Fin (k0_t9_loop i).trips) : Fin 3 → Nat :=
  let c20 : Index := 20#32
  let c0_i32_105 : BitVec 32 := 0#32
  let c1_i32_108 : BitVec 32 := 1#32
  let arg17 : BitVec 32 := Scf.iv c0_i32_105 c1_i32_108 k0_t9
  let c8_i32_585 : BitVec 32 := 8#32
  let v1385 : BitVec 32 := Scalar.muli arg17 c8_i32_585
  let v1386 : BitVec 32 := v1385
  let v1387 : Index := Scalar.indexCast v1386
  let c0_586 : Index := 0#32
  ![20, v1387.toNat, 0]
def k0_mult39 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_587 : BitVec 32 := 8#32
  let v1391 : BitVec 32 := Scalar.muli arg17 c8_i32_587
  v1391
def k0_off37 (i : grid0.Coords) (k0_t9 : Fin (k0_t9_loop i).trips) : Fin 3 → Nat :=
  let c21 : Index := 21#32
  let c0_i32_105 : BitVec 32 := 0#32
  let c1_i32_108 : BitVec 32 := 1#32
  let arg17 : BitVec 32 := Scf.iv c0_i32_105 c1_i32_108 k0_t9
  let c8_i32_587 : BitVec 32 := 8#32
  let v1391 : BitVec 32 := Scalar.muli arg17 c8_i32_587
  let v1392 : BitVec 32 := v1391
  let v1393 : Index := Scalar.indexCast v1392
  let c0_588 : Index := 0#32
  ![21, v1393.toNat, 0]
def k0_mult40 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_589 : BitVec 32 := 8#32
  let v1397 : BitVec 32 := Scalar.muli arg17 c8_i32_589
  v1397
def k0_off38 (i : grid0.Coords) (k0_t9 : Fin (k0_t9_loop i).trips) : Fin 3 → Nat :=
  let c22 : Index := 22#32
  let c0_i32_105 : BitVec 32 := 0#32
  let c1_i32_108 : BitVec 32 := 1#32
  let arg17 : BitVec 32 := Scf.iv c0_i32_105 c1_i32_108 k0_t9
  let c8_i32_589 : BitVec 32 := 8#32
  let v1397 : BitVec 32 := Scalar.muli arg17 c8_i32_589
  let v1398 : BitVec 32 := v1397
  let v1399 : Index := Scalar.indexCast v1398
  let c0_590 : Index := 0#32
  ![22, v1399.toNat, 0]
def k0_mult41 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_591 : BitVec 32 := 8#32
  let v1403 : BitVec 32 := Scalar.muli arg17 c8_i32_591
  v1403
def k0_off39 (i : grid0.Coords) (k0_t9 : Fin (k0_t9_loop i).trips) : Fin 3 → Nat :=
  let c23 : Index := 23#32
  let c0_i32_105 : BitVec 32 := 0#32
  let c1_i32_108 : BitVec 32 := 1#32
  let arg17 : BitVec 32 := Scf.iv c0_i32_105 c1_i32_108 k0_t9
  let c8_i32_591 : BitVec 32 := 8#32
  let v1403 : BitVec 32 := Scalar.muli arg17 c8_i32_591
  let v1404 : BitVec 32 := v1403
  let v1405 : Index := Scalar.indexCast v1404
  let c0_592 : Index := 0#32
  ![23, v1405.toNat, 0]
def k0_mult42 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_593 : BitVec 32 := 8#32
  let v1409 : BitVec 32 := Scalar.muli arg17 c8_i32_593
  v1409
def k0_off40 (i : grid0.Coords) (k0_t9 : Fin (k0_t9_loop i).trips) : Fin 3 → Nat :=
  let c24 : Index := 24#32
  let c0_i32_105 : BitVec 32 := 0#32
  let c1_i32_108 : BitVec 32 := 1#32
  let arg17 : BitVec 32 := Scf.iv c0_i32_105 c1_i32_108 k0_t9
  let c8_i32_593 : BitVec 32 := 8#32
  let v1409 : BitVec 32 := Scalar.muli arg17 c8_i32_593
  let v1410 : BitVec 32 := v1409
  let v1411 : Index := Scalar.indexCast v1410
  let c0_594 : Index := 0#32
  ![24, v1411.toNat, 0]
def k0_mult43 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_595 : BitVec 32 := 8#32
  let v1415 : BitVec 32 := Scalar.muli arg17 c8_i32_595
  v1415
def k0_off41 (i : grid0.Coords) (k0_t9 : Fin (k0_t9_loop i).trips) : Fin 3 → Nat :=
  let c25 : Index := 25#32
  let c0_i32_105 : BitVec 32 := 0#32
  let c1_i32_108 : BitVec 32 := 1#32
  let arg17 : BitVec 32 := Scf.iv c0_i32_105 c1_i32_108 k0_t9
  let c8_i32_595 : BitVec 32 := 8#32
  let v1415 : BitVec 32 := Scalar.muli arg17 c8_i32_595
  let v1416 : BitVec 32 := v1415
  let v1417 : Index := Scalar.indexCast v1416
  let c0_596 : Index := 0#32
  ![25, v1417.toNat, 0]
def k0_mult44 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_597 : BitVec 32 := 8#32
  let v1421 : BitVec 32 := Scalar.muli arg17 c8_i32_597
  v1421
def k0_off42 (i : grid0.Coords) (k0_t9 : Fin (k0_t9_loop i).trips) : Fin 3 → Nat :=
  let c26 : Index := 26#32
  let c0_i32_105 : BitVec 32 := 0#32
  let c1_i32_108 : BitVec 32 := 1#32
  let arg17 : BitVec 32 := Scf.iv c0_i32_105 c1_i32_108 k0_t9
  let c8_i32_597 : BitVec 32 := 8#32
  let v1421 : BitVec 32 := Scalar.muli arg17 c8_i32_597
  let v1422 : BitVec 32 := v1421
  let v1423 : Index := Scalar.indexCast v1422
  let c0_598 : Index := 0#32
  ![26, v1423.toNat, 0]
def k0_mult45 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_599 : BitVec 32 := 8#32
  let v1427 : BitVec 32 := Scalar.muli arg17 c8_i32_599
  v1427
def k0_off43 (i : grid0.Coords) (k0_t9 : Fin (k0_t9_loop i).trips) : Fin 3 → Nat :=
  let c27 : Index := 27#32
  let c0_i32_105 : BitVec 32 := 0#32
  let c1_i32_108 : BitVec 32 := 1#32
  let arg17 : BitVec 32 := Scf.iv c0_i32_105 c1_i32_108 k0_t9
  let c8_i32_599 : BitVec 32 := 8#32
  let v1427 : BitVec 32 := Scalar.muli arg17 c8_i32_599
  let v1428 : BitVec 32 := v1427
  let v1429 : Index := Scalar.indexCast v1428
  let c0_600 : Index := 0#32
  ![27, v1429.toNat, 0]
def k0_mult46 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_601 : BitVec 32 := 8#32
  let v1433 : BitVec 32 := Scalar.muli arg17 c8_i32_601
  v1433
def k0_off44 (i : grid0.Coords) (k0_t9 : Fin (k0_t9_loop i).trips) : Fin 3 → Nat :=
  let c28 : Index := 28#32
  let c0_i32_105 : BitVec 32 := 0#32
  let c1_i32_108 : BitVec 32 := 1#32
  let arg17 : BitVec 32 := Scf.iv c0_i32_105 c1_i32_108 k0_t9
  let c8_i32_601 : BitVec 32 := 8#32
  let v1433 : BitVec 32 := Scalar.muli arg17 c8_i32_601
  let v1434 : BitVec 32 := v1433
  let v1435 : Index := Scalar.indexCast v1434
  let c0_602 : Index := 0#32
  ![28, v1435.toNat, 0]
def k0_mult47 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_603 : BitVec 32 := 8#32
  let v1439 : BitVec 32 := Scalar.muli arg17 c8_i32_603
  v1439
def k0_off45 (i : grid0.Coords) (k0_t9 : Fin (k0_t9_loop i).trips) : Fin 3 → Nat :=
  let c29 : Index := 29#32
  let c0_i32_105 : BitVec 32 := 0#32
  let c1_i32_108 : BitVec 32 := 1#32
  let arg17 : BitVec 32 := Scf.iv c0_i32_105 c1_i32_108 k0_t9
  let c8_i32_603 : BitVec 32 := 8#32
  let v1439 : BitVec 32 := Scalar.muli arg17 c8_i32_603
  let v1440 : BitVec 32 := v1439
  let v1441 : Index := Scalar.indexCast v1440
  let c0_604 : Index := 0#32
  ![29, v1441.toNat, 0]
def k0_mult48 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_605 : BitVec 32 := 8#32
  let v1445 : BitVec 32 := Scalar.muli arg17 c8_i32_605
  v1445
def k0_off46 (i : grid0.Coords) (k0_t9 : Fin (k0_t9_loop i).trips) : Fin 3 → Nat :=
  let c30 : Index := 30#32
  let c0_i32_105 : BitVec 32 := 0#32
  let c1_i32_108 : BitVec 32 := 1#32
  let arg17 : BitVec 32 := Scf.iv c0_i32_105 c1_i32_108 k0_t9
  let c8_i32_605 : BitVec 32 := 8#32
  let v1445 : BitVec 32 := Scalar.muli arg17 c8_i32_605
  let v1446 : BitVec 32 := v1445
  let v1447 : Index := Scalar.indexCast v1446
  let c0_606 : Index := 0#32
  ![30, v1447.toNat, 0]
def k0_mult49 (i : grid0.Coords) (k0_t9 : Fin (k0_t9_loop i).trips) : BitVec 32 :=
  let c0_i32_105 : BitVec 32 := 0#32
  let c1_i32_108 : BitVec 32 := 1#32
  let arg17 : BitVec 32 := Scf.iv c0_i32_105 c1_i32_108 k0_t9
  let c8_i32_607 : BitVec 32 := 8#32
  let v1451 : BitVec 32 := Scalar.muli arg17 c8_i32_607
  v1451
def k0_off47 (i : grid0.Coords) (k0_t9 : Fin (k0_t9_loop i).trips) : Fin 3 → Nat :=
  let c31 : Index := 31#32
  let c0_i32_105 : BitVec 32 := 0#32
  let c1_i32_108 : BitVec 32 := 1#32
  let arg17 : BitVec 32 := Scf.iv c0_i32_105 c1_i32_108 k0_t9
  let c8_i32_607 : BitVec 32 := 8#32
  let v1451 : BitVec 32 := Scalar.muli arg17 c8_i32_607
  let v1452 : BitVec 32 := v1451
  let v1453 : Index := Scalar.indexCast v1452
  let c0_608 : Index := 0#32
  ![31, v1453.toNat, 0]
@[reducible] def k0_t10_loop (i : grid0.Coords) : Scf.Loop 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let v182 : BitVec 32 := Scalar.addi c0_i32_105 v181
  let c1_i32_109 : BitVec 32 := 1#32
  ⟨v185, v182, c1_i32_109⟩
def k0_mult50 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c256_i32_263 : BitVec 32 := 256#32
  let v446 : BitVec 32 := Scalar.muli arg17 c256_i32_263
  v446
def k0_off48 (i : grid0.Coords) (k0_t10 : Fin (k0_t10_loop i).trips) (c0_i32_264 : BitVec 32) : Fin 2 → Nat :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c256_i32_263 : BitVec 32 := 256#32
  let v446 : BitVec 32 := Scalar.muli arg17 c256_i32_263
  let v447 : BitVec 32 := v446
  let v448 : BitVec 32 := Scalar.addi v447 c0_i32_264
  let v449 : Index := Scalar.indexCast v448
  let c0_265 : Index := 0#32
  ![v449.toNat, 0]
def k0_mult51 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_537 : BitVec 32 := 8#32
  let v1265 : BitVec 32 := Scalar.muli arg17 c8_i32_537
  v1265
def k0_off49 (i : grid0.Coords) (k0_t10 : Fin (k0_t10_loop i).trips) : Fin 3 → Nat :=
  let c0_538 : Index := 0#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_537 : BitVec 32 := 8#32
  let v1265 : BitVec 32 := Scalar.muli arg17 c8_i32_537
  let v1266 : BitVec 32 := v1265
  let v1267 : Index := Scalar.indexCast v1266
  let c0_539 : Index := 0#32
  ![0, v1267.toNat, 0]
def k0_mult52 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_540 : BitVec 32 := 8#32
  let v1271 : BitVec 32 := Scalar.muli arg17 c8_i32_540
  v1271
def k0_off50 (i : grid0.Coords) (k0_t10 : Fin (k0_t10_loop i).trips) : Fin 3 → Nat :=
  let c1_541 : Index := 1#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_540 : BitVec 32 := 8#32
  let v1271 : BitVec 32 := Scalar.muli arg17 c8_i32_540
  let v1272 : BitVec 32 := v1271
  let v1273 : Index := Scalar.indexCast v1272
  let c0_542 : Index := 0#32
  ![1, v1273.toNat, 0]
def k0_mult53 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_543 : BitVec 32 := 8#32
  let v1277 : BitVec 32 := Scalar.muli arg17 c8_i32_543
  v1277
def k0_off51 (i : grid0.Coords) (k0_t10 : Fin (k0_t10_loop i).trips) : Fin 3 → Nat :=
  let c2_544 : Index := 2#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_543 : BitVec 32 := 8#32
  let v1277 : BitVec 32 := Scalar.muli arg17 c8_i32_543
  let v1278 : BitVec 32 := v1277
  let v1279 : Index := Scalar.indexCast v1278
  let c0_545 : Index := 0#32
  ![2, v1279.toNat, 0]
def k0_mult54 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_546 : BitVec 32 := 8#32
  let v1283 : BitVec 32 := Scalar.muli arg17 c8_i32_546
  v1283
def k0_off52 (i : grid0.Coords) (k0_t10 : Fin (k0_t10_loop i).trips) : Fin 3 → Nat :=
  let c3_547 : Index := 3#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_546 : BitVec 32 := 8#32
  let v1283 : BitVec 32 := Scalar.muli arg17 c8_i32_546
  let v1284 : BitVec 32 := v1283
  let v1285 : Index := Scalar.indexCast v1284
  let c0_548 : Index := 0#32
  ![3, v1285.toNat, 0]
def k0_mult55 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_549 : BitVec 32 := 8#32
  let v1289 : BitVec 32 := Scalar.muli arg17 c8_i32_549
  v1289
def k0_off53 (i : grid0.Coords) (k0_t10 : Fin (k0_t10_loop i).trips) : Fin 3 → Nat :=
  let c4_550 : Index := 4#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_549 : BitVec 32 := 8#32
  let v1289 : BitVec 32 := Scalar.muli arg17 c8_i32_549
  let v1290 : BitVec 32 := v1289
  let v1291 : Index := Scalar.indexCast v1290
  let c0_551 : Index := 0#32
  ![4, v1291.toNat, 0]
def k0_mult56 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_552 : BitVec 32 := 8#32
  let v1295 : BitVec 32 := Scalar.muli arg17 c8_i32_552
  v1295
def k0_off54 (i : grid0.Coords) (k0_t10 : Fin (k0_t10_loop i).trips) : Fin 3 → Nat :=
  let c5_553 : Index := 5#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_552 : BitVec 32 := 8#32
  let v1295 : BitVec 32 := Scalar.muli arg17 c8_i32_552
  let v1296 : BitVec 32 := v1295
  let v1297 : Index := Scalar.indexCast v1296
  let c0_554 : Index := 0#32
  ![5, v1297.toNat, 0]
def k0_mult57 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_555 : BitVec 32 := 8#32
  let v1301 : BitVec 32 := Scalar.muli arg17 c8_i32_555
  v1301
def k0_off55 (i : grid0.Coords) (k0_t10 : Fin (k0_t10_loop i).trips) : Fin 3 → Nat :=
  let c6_556 : Index := 6#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_555 : BitVec 32 := 8#32
  let v1301 : BitVec 32 := Scalar.muli arg17 c8_i32_555
  let v1302 : BitVec 32 := v1301
  let v1303 : Index := Scalar.indexCast v1302
  let c0_557 : Index := 0#32
  ![6, v1303.toNat, 0]
def k0_mult58 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_558 : BitVec 32 := 8#32
  let v1307 : BitVec 32 := Scalar.muli arg17 c8_i32_558
  v1307
def k0_off56 (i : grid0.Coords) (k0_t10 : Fin (k0_t10_loop i).trips) : Fin 3 → Nat :=
  let c7_559 : Index := 7#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_558 : BitVec 32 := 8#32
  let v1307 : BitVec 32 := Scalar.muli arg17 c8_i32_558
  let v1308 : BitVec 32 := v1307
  let v1309 : Index := Scalar.indexCast v1308
  let c0_560 : Index := 0#32
  ![7, v1309.toNat, 0]
def k0_mult59 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_561 : BitVec 32 := 8#32
  let v1313 : BitVec 32 := Scalar.muli arg17 c8_i32_561
  v1313
def k0_off57 (i : grid0.Coords) (k0_t10 : Fin (k0_t10_loop i).trips) : Fin 3 → Nat :=
  let c8 : Index := 8#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_561 : BitVec 32 := 8#32
  let v1313 : BitVec 32 := Scalar.muli arg17 c8_i32_561
  let v1314 : BitVec 32 := v1313
  let v1315 : Index := Scalar.indexCast v1314
  let c0_562 : Index := 0#32
  ![8, v1315.toNat, 0]
def k0_mult60 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_563 : BitVec 32 := 8#32
  let v1319 : BitVec 32 := Scalar.muli arg17 c8_i32_563
  v1319
def k0_off58 (i : grid0.Coords) (k0_t10 : Fin (k0_t10_loop i).trips) : Fin 3 → Nat :=
  let c9 : Index := 9#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_563 : BitVec 32 := 8#32
  let v1319 : BitVec 32 := Scalar.muli arg17 c8_i32_563
  let v1320 : BitVec 32 := v1319
  let v1321 : Index := Scalar.indexCast v1320
  let c0_564 : Index := 0#32
  ![9, v1321.toNat, 0]
def k0_mult61 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_565 : BitVec 32 := 8#32
  let v1325 : BitVec 32 := Scalar.muli arg17 c8_i32_565
  v1325
def k0_off59 (i : grid0.Coords) (k0_t10 : Fin (k0_t10_loop i).trips) : Fin 3 → Nat :=
  let c10 : Index := 10#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_565 : BitVec 32 := 8#32
  let v1325 : BitVec 32 := Scalar.muli arg17 c8_i32_565
  let v1326 : BitVec 32 := v1325
  let v1327 : Index := Scalar.indexCast v1326
  let c0_566 : Index := 0#32
  ![10, v1327.toNat, 0]
def k0_mult62 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_567 : BitVec 32 := 8#32
  let v1331 : BitVec 32 := Scalar.muli arg17 c8_i32_567
  v1331
def k0_off60 (i : grid0.Coords) (k0_t10 : Fin (k0_t10_loop i).trips) : Fin 3 → Nat :=
  let c11 : Index := 11#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_567 : BitVec 32 := 8#32
  let v1331 : BitVec 32 := Scalar.muli arg17 c8_i32_567
  let v1332 : BitVec 32 := v1331
  let v1333 : Index := Scalar.indexCast v1332
  let c0_568 : Index := 0#32
  ![11, v1333.toNat, 0]
def k0_mult63 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_569 : BitVec 32 := 8#32
  let v1337 : BitVec 32 := Scalar.muli arg17 c8_i32_569
  v1337
def k0_off61 (i : grid0.Coords) (k0_t10 : Fin (k0_t10_loop i).trips) : Fin 3 → Nat :=
  let c12 : Index := 12#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_569 : BitVec 32 := 8#32
  let v1337 : BitVec 32 := Scalar.muli arg17 c8_i32_569
  let v1338 : BitVec 32 := v1337
  let v1339 : Index := Scalar.indexCast v1338
  let c0_570 : Index := 0#32
  ![12, v1339.toNat, 0]
def k0_mult64 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_571 : BitVec 32 := 8#32
  let v1343 : BitVec 32 := Scalar.muli arg17 c8_i32_571
  v1343
def k0_off62 (i : grid0.Coords) (k0_t10 : Fin (k0_t10_loop i).trips) : Fin 3 → Nat :=
  let c13 : Index := 13#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_571 : BitVec 32 := 8#32
  let v1343 : BitVec 32 := Scalar.muli arg17 c8_i32_571
  let v1344 : BitVec 32 := v1343
  let v1345 : Index := Scalar.indexCast v1344
  let c0_572 : Index := 0#32
  ![13, v1345.toNat, 0]
def k0_mult65 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_573 : BitVec 32 := 8#32
  let v1349 : BitVec 32 := Scalar.muli arg17 c8_i32_573
  v1349
def k0_off63 (i : grid0.Coords) (k0_t10 : Fin (k0_t10_loop i).trips) : Fin 3 → Nat :=
  let c14 : Index := 14#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_573 : BitVec 32 := 8#32
  let v1349 : BitVec 32 := Scalar.muli arg17 c8_i32_573
  let v1350 : BitVec 32 := v1349
  let v1351 : Index := Scalar.indexCast v1350
  let c0_574 : Index := 0#32
  ![14, v1351.toNat, 0]
def k0_mult66 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_575 : BitVec 32 := 8#32
  let v1355 : BitVec 32 := Scalar.muli arg17 c8_i32_575
  v1355
def k0_off64 (i : grid0.Coords) (k0_t10 : Fin (k0_t10_loop i).trips) : Fin 3 → Nat :=
  let c15 : Index := 15#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_575 : BitVec 32 := 8#32
  let v1355 : BitVec 32 := Scalar.muli arg17 c8_i32_575
  let v1356 : BitVec 32 := v1355
  let v1357 : Index := Scalar.indexCast v1356
  let c0_576 : Index := 0#32
  ![15, v1357.toNat, 0]
def k0_mult67 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_577 : BitVec 32 := 8#32
  let v1361 : BitVec 32 := Scalar.muli arg17 c8_i32_577
  v1361
def k0_off65 (i : grid0.Coords) (k0_t10 : Fin (k0_t10_loop i).trips) : Fin 3 → Nat :=
  let c16 : Index := 16#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_577 : BitVec 32 := 8#32
  let v1361 : BitVec 32 := Scalar.muli arg17 c8_i32_577
  let v1362 : BitVec 32 := v1361
  let v1363 : Index := Scalar.indexCast v1362
  let c0_578 : Index := 0#32
  ![16, v1363.toNat, 0]
def k0_mult68 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_579 : BitVec 32 := 8#32
  let v1367 : BitVec 32 := Scalar.muli arg17 c8_i32_579
  v1367
def k0_off66 (i : grid0.Coords) (k0_t10 : Fin (k0_t10_loop i).trips) : Fin 3 → Nat :=
  let c17 : Index := 17#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_579 : BitVec 32 := 8#32
  let v1367 : BitVec 32 := Scalar.muli arg17 c8_i32_579
  let v1368 : BitVec 32 := v1367
  let v1369 : Index := Scalar.indexCast v1368
  let c0_580 : Index := 0#32
  ![17, v1369.toNat, 0]
def k0_mult69 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_581 : BitVec 32 := 8#32
  let v1373 : BitVec 32 := Scalar.muli arg17 c8_i32_581
  v1373
def k0_off67 (i : grid0.Coords) (k0_t10 : Fin (k0_t10_loop i).trips) : Fin 3 → Nat :=
  let c18 : Index := 18#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_581 : BitVec 32 := 8#32
  let v1373 : BitVec 32 := Scalar.muli arg17 c8_i32_581
  let v1374 : BitVec 32 := v1373
  let v1375 : Index := Scalar.indexCast v1374
  let c0_582 : Index := 0#32
  ![18, v1375.toNat, 0]
def k0_mult70 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_583 : BitVec 32 := 8#32
  let v1379 : BitVec 32 := Scalar.muli arg17 c8_i32_583
  v1379
def k0_off68 (i : grid0.Coords) (k0_t10 : Fin (k0_t10_loop i).trips) : Fin 3 → Nat :=
  let c19 : Index := 19#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_583 : BitVec 32 := 8#32
  let v1379 : BitVec 32 := Scalar.muli arg17 c8_i32_583
  let v1380 : BitVec 32 := v1379
  let v1381 : Index := Scalar.indexCast v1380
  let c0_584 : Index := 0#32
  ![19, v1381.toNat, 0]
def k0_mult71 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_585 : BitVec 32 := 8#32
  let v1385 : BitVec 32 := Scalar.muli arg17 c8_i32_585
  v1385
def k0_off69 (i : grid0.Coords) (k0_t10 : Fin (k0_t10_loop i).trips) : Fin 3 → Nat :=
  let c20 : Index := 20#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_585 : BitVec 32 := 8#32
  let v1385 : BitVec 32 := Scalar.muli arg17 c8_i32_585
  let v1386 : BitVec 32 := v1385
  let v1387 : Index := Scalar.indexCast v1386
  let c0_586 : Index := 0#32
  ![20, v1387.toNat, 0]
def k0_mult72 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_587 : BitVec 32 := 8#32
  let v1391 : BitVec 32 := Scalar.muli arg17 c8_i32_587
  v1391
def k0_off70 (i : grid0.Coords) (k0_t10 : Fin (k0_t10_loop i).trips) : Fin 3 → Nat :=
  let c21 : Index := 21#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_587 : BitVec 32 := 8#32
  let v1391 : BitVec 32 := Scalar.muli arg17 c8_i32_587
  let v1392 : BitVec 32 := v1391
  let v1393 : Index := Scalar.indexCast v1392
  let c0_588 : Index := 0#32
  ![21, v1393.toNat, 0]
def k0_mult73 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_589 : BitVec 32 := 8#32
  let v1397 : BitVec 32 := Scalar.muli arg17 c8_i32_589
  v1397
def k0_off71 (i : grid0.Coords) (k0_t10 : Fin (k0_t10_loop i).trips) : Fin 3 → Nat :=
  let c22 : Index := 22#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_589 : BitVec 32 := 8#32
  let v1397 : BitVec 32 := Scalar.muli arg17 c8_i32_589
  let v1398 : BitVec 32 := v1397
  let v1399 : Index := Scalar.indexCast v1398
  let c0_590 : Index := 0#32
  ![22, v1399.toNat, 0]
def k0_mult74 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_591 : BitVec 32 := 8#32
  let v1403 : BitVec 32 := Scalar.muli arg17 c8_i32_591
  v1403
def k0_off72 (i : grid0.Coords) (k0_t10 : Fin (k0_t10_loop i).trips) : Fin 3 → Nat :=
  let c23 : Index := 23#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_591 : BitVec 32 := 8#32
  let v1403 : BitVec 32 := Scalar.muli arg17 c8_i32_591
  let v1404 : BitVec 32 := v1403
  let v1405 : Index := Scalar.indexCast v1404
  let c0_592 : Index := 0#32
  ![23, v1405.toNat, 0]
def k0_mult75 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_593 : BitVec 32 := 8#32
  let v1409 : BitVec 32 := Scalar.muli arg17 c8_i32_593
  v1409
def k0_off73 (i : grid0.Coords) (k0_t10 : Fin (k0_t10_loop i).trips) : Fin 3 → Nat :=
  let c24 : Index := 24#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_593 : BitVec 32 := 8#32
  let v1409 : BitVec 32 := Scalar.muli arg17 c8_i32_593
  let v1410 : BitVec 32 := v1409
  let v1411 : Index := Scalar.indexCast v1410
  let c0_594 : Index := 0#32
  ![24, v1411.toNat, 0]
def k0_mult76 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_595 : BitVec 32 := 8#32
  let v1415 : BitVec 32 := Scalar.muli arg17 c8_i32_595
  v1415
def k0_off74 (i : grid0.Coords) (k0_t10 : Fin (k0_t10_loop i).trips) : Fin 3 → Nat :=
  let c25 : Index := 25#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_595 : BitVec 32 := 8#32
  let v1415 : BitVec 32 := Scalar.muli arg17 c8_i32_595
  let v1416 : BitVec 32 := v1415
  let v1417 : Index := Scalar.indexCast v1416
  let c0_596 : Index := 0#32
  ![25, v1417.toNat, 0]
def k0_mult77 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_597 : BitVec 32 := 8#32
  let v1421 : BitVec 32 := Scalar.muli arg17 c8_i32_597
  v1421
def k0_off75 (i : grid0.Coords) (k0_t10 : Fin (k0_t10_loop i).trips) : Fin 3 → Nat :=
  let c26 : Index := 26#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_597 : BitVec 32 := 8#32
  let v1421 : BitVec 32 := Scalar.muli arg17 c8_i32_597
  let v1422 : BitVec 32 := v1421
  let v1423 : Index := Scalar.indexCast v1422
  let c0_598 : Index := 0#32
  ![26, v1423.toNat, 0]
def k0_mult78 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_599 : BitVec 32 := 8#32
  let v1427 : BitVec 32 := Scalar.muli arg17 c8_i32_599
  v1427
def k0_off76 (i : grid0.Coords) (k0_t10 : Fin (k0_t10_loop i).trips) : Fin 3 → Nat :=
  let c27 : Index := 27#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_599 : BitVec 32 := 8#32
  let v1427 : BitVec 32 := Scalar.muli arg17 c8_i32_599
  let v1428 : BitVec 32 := v1427
  let v1429 : Index := Scalar.indexCast v1428
  let c0_600 : Index := 0#32
  ![27, v1429.toNat, 0]
def k0_mult79 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_601 : BitVec 32 := 8#32
  let v1433 : BitVec 32 := Scalar.muli arg17 c8_i32_601
  v1433
def k0_off77 (i : grid0.Coords) (k0_t10 : Fin (k0_t10_loop i).trips) : Fin 3 → Nat :=
  let c28 : Index := 28#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_601 : BitVec 32 := 8#32
  let v1433 : BitVec 32 := Scalar.muli arg17 c8_i32_601
  let v1434 : BitVec 32 := v1433
  let v1435 : Index := Scalar.indexCast v1434
  let c0_602 : Index := 0#32
  ![28, v1435.toNat, 0]
def k0_mult80 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_603 : BitVec 32 := 8#32
  let v1439 : BitVec 32 := Scalar.muli arg17 c8_i32_603
  v1439
def k0_off78 (i : grid0.Coords) (k0_t10 : Fin (k0_t10_loop i).trips) : Fin 3 → Nat :=
  let c29 : Index := 29#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_603 : BitVec 32 := 8#32
  let v1439 : BitVec 32 := Scalar.muli arg17 c8_i32_603
  let v1440 : BitVec 32 := v1439
  let v1441 : Index := Scalar.indexCast v1440
  let c0_604 : Index := 0#32
  ![29, v1441.toNat, 0]
def k0_mult81 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_605 : BitVec 32 := 8#32
  let v1445 : BitVec 32 := Scalar.muli arg17 c8_i32_605
  v1445
def k0_off79 (i : grid0.Coords) (k0_t10 : Fin (k0_t10_loop i).trips) : Fin 3 → Nat :=
  let c30 : Index := 30#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_605 : BitVec 32 := 8#32
  let v1445 : BitVec 32 := Scalar.muli arg17 c8_i32_605
  let v1446 : BitVec 32 := v1445
  let v1447 : Index := Scalar.indexCast v1446
  let c0_606 : Index := 0#32
  ![30, v1447.toNat, 0]
def k0_mult82 (i : grid0.Coords) (k0_t10 : Fin (k0_t10_loop i).trips) : BitVec 32 :=
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_607 : BitVec 32 := 8#32
  let v1451 : BitVec 32 := Scalar.muli arg17 c8_i32_607
  v1451
def k0_off80 (i : grid0.Coords) (k0_t10 : Fin (k0_t10_loop i).trips) : Fin 3 → Nat :=
  let c31 : Index := 31#32
  let c0_i32_105 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v21 : BitVec 32 := Scalar.addi v1 c512_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let c2_i32_104 : BitVec 32 := 2#32
  let v180 : BitVec 32 := Scalar.muli v39 c2_i32_104
  let v181 : BitVec 32 := Scalar.subi v180 c0_i32_105
  let c1_i32_107 : BitVec 32 := 1#32
  let v183 : BitVec 32 := Scalar.divsi v181 c1_i32_107
  let v184 : BitVec 32 := Scalar.muli v183 c1_i32_107
  let v185 : BitVec 32 := Scalar.addi c0_i32_105 v184
  let c1_i32_109 : BitVec 32 := 1#32
  let arg17 : BitVec 32 := Scf.iv v185 c1_i32_109 k0_t10
  let c8_i32_607 : BitVec 32 := 8#32
  let v1451 : BitVec 32 := Scalar.muli arg17 c8_i32_607
  let v1452 : BitVec 32 := v1451
  let v1453 : Index := Scalar.indexCast v1452
  let c0_608 : Index := 0#32
  ![31, v1453.toNat, 0]
@[reducible] def k0_t11_loop : Scf.Loop 32 :=
  let c0_i32_113 : BitVec 32 := 0#32
  let c32_i32 : BitVec 32 := 32#32
  let v198 : BitVec 32 := Scalar.addi c0_i32_113 c32_i32
  let c1_i32_114 : BitVec 32 := 1#32
  ⟨c0_i32_113, v198, c1_i32_114⟩
def k0_off81 (k0_t11 : Fin k0_t11_loop.trips) : Fin 3 → Nat :=
  let c0_i32_113 : BitVec 32 := 0#32
  let c1_i32_114 : BitVec 32 := 1#32
  let arg17 : BitVec 32 := Scf.iv c0_i32_113 c1_i32_114 k0_t11
  let v446 : Index := Scalar.indexCast arg17
  let c0_263 : Index := 0#32
  let c0_264 : Index := 0#32
  ![v446.toNat, 0, 0]
@[reducible] def k0_t12_loop (i : grid0.Coords) : Scf.Loop 32 :=
  let c0_i32_266 : BitVec 32 := 0#32
  let arg1 : BitVec 32 := BitVec.ofNat 32 (i 1).val
  let c1_i32 : BitVec 32 := 1#32
  let v0 : BitVec 32 := Scalar.addi arg1 c1_i32
  let v455 : BitVec 32 := Scalar.subi v0 c0_i32_266
  let c1_i32_267 : BitVec 32 := 1#32
  let v457 : BitVec 32 := Scalar.divsi v455 c1_i32_267
  let v458 : BitVec 32 := Scalar.muli v457 c1_i32_267
  let v459 : BitVec 32 := Scalar.addi c0_i32_266 v458
  let c1_i32_268 : BitVec 32 := 1#32
  ⟨c0_i32_266, v459, c1_i32_268⟩
def k0_mult83 (i : grid0.Coords) (k0_t12 : Fin (k0_t12_loop i).trips) : BitVec 32 :=
  let c0_i32_266 : BitVec 32 := 0#32
  let c1_i32_268 : BitVec 32 := 1#32
  let arg17 : BitVec 32 := Scf.iv c0_i32_266 c1_i32_268 k0_t12
  let c128_i32_270 : BitVec 32 := 128#32
  let v462 : BitVec 32 := Scalar.muli arg17 c128_i32_270
  v462
def k0_off82 (i : grid0.Coords) (k0_t12 : Fin (k0_t12_loop i).trips) : Fin 2 → Nat :=
  let c0_i32_266 : BitVec 32 := 0#32
  let c1_i32_268 : BitVec 32 := 1#32
  let arg17 : BitVec 32 := Scf.iv c0_i32_266 c1_i32_268 k0_t12
  let c128_i32_270 : BitVec 32 := 128#32
  let v462 : BitVec 32 := Scalar.muli arg17 c128_i32_270
  let v463 : BitVec 32 := v462
  let v464 : Index := Scalar.indexCast v463
  let c0_271 : Index := 0#32
  ![v464.toNat, 0]
@[reducible] def k0_t13_loop (i : grid0.Coords) : Scf.Loop 32 :=
  let c0_i32_266 : BitVec 32 := 0#32
  let arg1 : BitVec 32 := BitVec.ofNat 32 (i 1).val
  let c1_i32 : BitVec 32 := 1#32
  let v0 : BitVec 32 := Scalar.addi arg1 c1_i32
  let v455 : BitVec 32 := Scalar.subi v0 c0_i32_266
  let c1_i32_267 : BitVec 32 := 1#32
  let v457 : BitVec 32 := Scalar.divsi v455 c1_i32_267
  let v458 : BitVec 32 := Scalar.muli v457 c1_i32_267
  let v459 : BitVec 32 := Scalar.addi c0_i32_266 v458
  let v456 : BitVec 32 := Scalar.addi c0_i32_266 v455
  let c1_i32_269 : BitVec 32 := 1#32
  ⟨v459, v456, c1_i32_269⟩
def k0_mult84 (i : grid0.Coords) (k0_t13 : Fin (k0_t13_loop i).trips) : BitVec 32 :=
  let c0_i32_266 : BitVec 32 := 0#32
  let arg1 : BitVec 32 := BitVec.ofNat 32 (i 1).val
  let c1_i32 : BitVec 32 := 1#32
  let v0 : BitVec 32 := Scalar.addi arg1 c1_i32
  let v455 : BitVec 32 := Scalar.subi v0 c0_i32_266
  let c1_i32_267 : BitVec 32 := 1#32
  let v457 : BitVec 32 := Scalar.divsi v455 c1_i32_267
  let v458 : BitVec 32 := Scalar.muli v457 c1_i32_267
  let v459 : BitVec 32 := Scalar.addi c0_i32_266 v458
  let c1_i32_269 : BitVec 32 := 1#32
  let arg17 : BitVec 32 := Scf.iv v459 c1_i32_269 k0_t13
  let c128_i32_270 : BitVec 32 := 128#32
  let v462 : BitVec 32 := Scalar.muli arg17 c128_i32_270
  v462
def k0_off83 (i : grid0.Coords) (k0_t13 : Fin (k0_t13_loop i).trips) : Fin 2 → Nat :=
  let c0_i32_266 : BitVec 32 := 0#32
  let arg1 : BitVec 32 := BitVec.ofNat 32 (i 1).val
  let c1_i32 : BitVec 32 := 1#32
  let v0 : BitVec 32 := Scalar.addi arg1 c1_i32
  let v455 : BitVec 32 := Scalar.subi v0 c0_i32_266
  let c1_i32_267 : BitVec 32 := 1#32
  let v457 : BitVec 32 := Scalar.divsi v455 c1_i32_267
  let v458 : BitVec 32 := Scalar.muli v457 c1_i32_267
  let v459 : BitVec 32 := Scalar.addi c0_i32_266 v458
  let c1_i32_269 : BitVec 32 := 1#32
  let arg17 : BitVec 32 := Scf.iv v459 c1_i32_269 k0_t13
  let c128_i32_270 : BitVec 32 := 128#32
  let v462 : BitVec 32 := Scalar.muli arg17 c128_i32_270
  let v463 : BitVec 32 := v462
  let v464 : Index := Scalar.indexCast v463
  let c0_271 : Index := 0#32
  ![v464.toNat, 0]
@[reducible] def k0_t14_loop (i : grid0.Coords) : Scf.Loop 32 :=
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_141 : BitVec 32 := 1#32
  ⟨c0_i32_139, v259, c1_i32_141⟩
def k0_mult85 (i : grid0.Coords) (k0_t14 : Fin (k0_t14_loop i).trips) : BitVec 32 :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off84 (i : grid0.Coords) (k0_t14 : Fin (k0_t14_loop i).trips) (c0_i32_265 : BitVec 32) : Fin 2 → Nat :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off85 (i : grid0.Coords) (k0_t14 : Fin (k0_t14_loop i).trips) (c0_i32_265 : BitVec 32) : Fin 2 → Nat :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v456 : Index := Scalar.indexCast v450
  let c0_268 : Index := 0#32
  ![v456.toNat, 0]
def k0_off86 (i : grid0.Coords) (k0_t14 : Fin (k0_t14_loop i).trips) (c0_i32_265 : BitVec 32) : Fin 2 → Nat :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v463 : Index := Scalar.indexCast v450
  let c0_274 : Index := 0#32
  ![v463.toNat, 0]
def k0_off87 (i : grid0.Coords) (k0_t14 : Fin (k0_t14_loop i).trips) (c0_i32_265 : BitVec 32) : Fin 2 → Nat :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v470 : Index := Scalar.indexCast v450
  let c256_276 : Index := 256#32
  ![v470.toNat, 256]
def k0_off88 (i : grid0.Coords) (k0_t14 : Fin (k0_t14_loop i).trips) (c0_i32_265 : BitVec 32) : Fin 2 → Nat :=
  let c0_i32_264 : BitVec 32 := 0#32
  let c4_i32_263 : BitVec 32 := 4#32
  let c0_i32_139 : BitVec 32 := 0#32
  let c1_i32_141 : BitVec 32 := 1#32
  let arg17 : BitVec 32 := Scf.iv c0_i32_139 c1_i32_141 k0_t14
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v477 : Index := Scalar.indexCast v450
  let c512 : Index := 512#32
  ![v477.toNat, 512]
def k0_mult86 (i : grid0.Coords) (k0_t14 : Fin (k0_t14_loop i).trips) : BitVec 32 :=
  let c0_i32_284 : BitVec 32 := 0#32
  let c4_i32_283 : BitVec 32 := 4#32
  let c0_i32_139 : BitVec 32 := 0#32
  let c1_i32_141 : BitVec 32 := 1#32
  let arg17 : BitVec 32 := Scf.iv c0_i32_139 c1_i32_141 k0_t14
  let v484 : BitVec 32 := Scalar.muli c4_i32_283 arg17
  let v485 : BitVec 32 := Scalar.addi c0_i32_284 v484
  let c1_i32_285 : BitVec 32 := 1#32
  let v486 : BitVec 32 := Scalar.addi v485 c1_i32_285
  let c512_i32_286 : BitVec 32 := 512#32
  let v487 : BitVec 32 := Scalar.muli v486 c512_i32_286
  v487
def k0_mult87 (i : grid0.Coords) (k0_t14 : Fin (k0_t14_loop i).trips) : BitVec 32 :=
  let c0_i32_305 : BitVec 32 := 0#32
  let c4_i32_304 : BitVec 32 := 4#32
  let c0_i32_139 : BitVec 32 := 0#32
  let c1_i32_141 : BitVec 32 := 1#32
  let arg17 : BitVec 32 := Scf.iv c0_i32_139 c1_i32_141 k0_t14
  let v522 : BitVec 32 := Scalar.muli c4_i32_304 arg17
  let v523 : BitVec 32 := Scalar.addi c0_i32_305 v522
  let c2_i32_306 : BitVec 32 := 2#32
  let v524 : BitVec 32 := Scalar.addi v523 c2_i32_306
  let c512_i32_307 : BitVec 32 := 512#32
  let v525 : BitVec 32 := Scalar.muli v524 c512_i32_307
  v525
def k0_mult88 (i : grid0.Coords) (k0_t14 : Fin (k0_t14_loop i).trips) : BitVec 32 :=
  let c0_i32_326 : BitVec 32 := 0#32
  let c4_i32_325 : BitVec 32 := 4#32
  let c0_i32_139 : BitVec 32 := 0#32
  let c1_i32_141 : BitVec 32 := 1#32
  let arg17 : BitVec 32 := Scf.iv c0_i32_139 c1_i32_141 k0_t14
  let v560 : BitVec 32 := Scalar.muli c4_i32_325 arg17
  let v561 : BitVec 32 := Scalar.addi c0_i32_326 v560
  let c3_i32 : BitVec 32 := 3#32
  let v562 : BitVec 32 := Scalar.addi v561 c3_i32
  let c512_i32_327 : BitVec 32 := 512#32
  let v563 : BitVec 32 := Scalar.muli v562 c512_i32_327
  v563
@[reducible] def k0_t15_loop (i : grid0.Coords) : Scf.Loop 32 :=
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let v256 : BitVec 32 := Scalar.addi c0_i32_139 v255
  let c1_i32_142 : BitVec 32 := 1#32
  ⟨v259, v256, c1_i32_142⟩
def k0_mult89 (i : grid0.Coords) (k0_t15 : Fin (k0_t15_loop i).trips) : BitVec 32 :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off89 (i : grid0.Coords) (k0_t15 : Fin (k0_t15_loop i).trips) (c0_i32_265 : BitVec 32) : Fin 2 → Nat :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off90 (i : grid0.Coords) (k0_t15 : Fin (k0_t15_loop i).trips) (c0_i32_265 : BitVec 32) : Fin 2 → Nat :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v456 : Index := Scalar.indexCast v450
  let c0_268 : Index := 0#32
  ![v456.toNat, 0]
def k0_off91 (i : grid0.Coords) (k0_t15 : Fin (k0_t15_loop i).trips) (c0_i32_265 : BitVec 32) : Fin 2 → Nat :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v463 : Index := Scalar.indexCast v450
  let c0_274 : Index := 0#32
  ![v463.toNat, 0]
def k0_off92 (i : grid0.Coords) (k0_t15 : Fin (k0_t15_loop i).trips) (c0_i32_265 : BitVec 32) : Fin 2 → Nat :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v470 : Index := Scalar.indexCast v450
  let c256_276 : Index := 256#32
  ![v470.toNat, 256]
def k0_off93 (i : grid0.Coords) (k0_t15 : Fin (k0_t15_loop i).trips) (c0_i32_265 : BitVec 32) : Fin 2 → Nat :=
  let c0_i32_264 : BitVec 32 := 0#32
  let c4_i32_263 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v477 : Index := Scalar.indexCast v450
  let c512 : Index := 512#32
  ![v477.toNat, 512]
def k0_mult90 (i : grid0.Coords) (k0_t15 : Fin (k0_t15_loop i).trips) : BitVec 32 :=
  let c0_i32_284 : BitVec 32 := 0#32
  let c4_i32_283 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v484 : BitVec 32 := Scalar.muli c4_i32_283 arg17
  let v485 : BitVec 32 := Scalar.addi c0_i32_284 v484
  let c1_i32_285 : BitVec 32 := 1#32
  let v486 : BitVec 32 := Scalar.addi v485 c1_i32_285
  let c512_i32_286 : BitVec 32 := 512#32
  let v487 : BitVec 32 := Scalar.muli v486 c512_i32_286
  v487
def k0_mult91 (i : grid0.Coords) (k0_t15 : Fin (k0_t15_loop i).trips) : BitVec 32 :=
  let c0_i32_305 : BitVec 32 := 0#32
  let c4_i32_304 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v522 : BitVec 32 := Scalar.muli c4_i32_304 arg17
  let v523 : BitVec 32 := Scalar.addi c0_i32_305 v522
  let c2_i32_306 : BitVec 32 := 2#32
  let v524 : BitVec 32 := Scalar.addi v523 c2_i32_306
  let c512_i32_307 : BitVec 32 := 512#32
  let v525 : BitVec 32 := Scalar.muli v524 c512_i32_307
  v525
def k0_mult92 (i : grid0.Coords) (k0_t15 : Fin (k0_t15_loop i).trips) : BitVec 32 :=
  let c0_i32_326 : BitVec 32 := 0#32
  let c4_i32_325 : BitVec 32 := 4#32
  let c0_i32_139 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v255 : BitVec 32 := Scalar.subi v254 c0_i32_139
  let c1_i32_140 : BitVec 32 := 1#32
  let v257 : BitVec 32 := Scalar.divsi v255 c1_i32_140
  let v258 : BitVec 32 := Scalar.muli v257 c1_i32_140
  let v259 : BitVec 32 := Scalar.addi c0_i32_139 v258
  let c1_i32_142 : BitVec 32 := 1#32
  let arg17 : BitVec 32 := Scf.iv v259 c1_i32_142 k0_t15
  let v560 : BitVec 32 := Scalar.muli c4_i32_325 arg17
  let v561 : BitVec 32 := Scalar.addi c0_i32_326 v560
  let c3_i32 : BitVec 32 := 3#32
  let v562 : BitVec 32 := Scalar.addi v561 c3_i32
  let c512_i32_327 : BitVec 32 := 512#32
  let v563 : BitVec 32 := Scalar.muli v562 c512_i32_327
  v563
@[reducible] def k0_t16_loop (i : grid0.Coords) : Scf.Loop 32 :=
  let c0_i32_152 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_144 : BitVec 32 := 0#32
  let c4_i32_143 : BitVec 32 := 4#32
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_154 : BitVec 32 := 1#32
  ⟨c0_i32_152, v286, c1_i32_154⟩
def k0_mult93 (i : grid0.Coords) (k0_t16 : Fin (k0_t16_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off94 (i : grid0.Coords) (k0_t16 : Fin (k0_t16_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off95 (i : grid0.Coords) (k0_t16 : Fin (k0_t16_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v456 : Index := Scalar.indexCast v450
  let c0_267 : Index := 0#32
  ![v456.toNat, 0]
def k0_off96 (i : grid0.Coords) (k0_t16 : Fin (k0_t16_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v463 : Index := Scalar.indexCast v450
  let c0_273 : Index := 0#32
  ![v463.toNat, 0]
def k0_off97 (i : grid0.Coords) (k0_t16 : Fin (k0_t16_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v470 : Index := Scalar.indexCast v450
  let c256_275 : Index := 256#32
  ![v470.toNat, 256]
def k0_off98 (i : grid0.Coords) (k0_t16 : Fin (k0_t16_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let c1_i32_154 : BitVec 32 := 1#32
  let arg17 : BitVec 32 := Scf.iv c0_i32_152 c1_i32_154 k0_t16
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v477 : Index := Scalar.indexCast v450
  let c512 : Index := 512#32
  ![v477.toNat, 512]
def k0_mult94 (i : grid0.Coords) (k0_t16 : Fin (k0_t16_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_282 : BitVec 32 := 2#32
  let c0_i32_152 : BitVec 32 := 0#32
  let c1_i32_154 : BitVec 32 := 1#32
  let arg17 : BitVec 32 := Scf.iv c0_i32_152 c1_i32_154 k0_t16
  let v484 : BitVec 32 := Scalar.muli c2_i32_282 arg17
  let v485 : BitVec 32 := Scalar.addi v263 v484
  let c1_i32_283 : BitVec 32 := 1#32
  let v486 : BitVec 32 := Scalar.addi v485 c1_i32_283
  let c512_i32_284 : BitVec 32 := 512#32
  let v487 : BitVec 32 := Scalar.muli v486 c512_i32_284
  v487
@[reducible] def k0_t17_loop (i : grid0.Coords) : Scf.Loop 32 :=
  let c0_i32_152 : BitVec 32 := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_144 : BitVec 32 := 0#32
  let c4_i32_143 : BitVec 32 := 4#32
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let v283 : BitVec 32 := Scalar.addi c0_i32_152 v282
  let c1_i32_155 : BitVec 32 := 1#32
  ⟨v286, v283, c1_i32_155⟩
def k0_mult95 (i : grid0.Coords) (k0_t17 : Fin (k0_t17_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off99 (i : grid0.Coords) (k0_t17 : Fin (k0_t17_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off100 (i : grid0.Coords) (k0_t17 : Fin (k0_t17_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v456 : Index := Scalar.indexCast v450
  let c0_267 : Index := 0#32
  ![v456.toNat, 0]
def k0_off101 (i : grid0.Coords) (k0_t17 : Fin (k0_t17_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v463 : Index := Scalar.indexCast v450
  let c0_273 : Index := 0#32
  ![v463.toNat, 0]
def k0_off102 (i : grid0.Coords) (k0_t17 : Fin (k0_t17_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v470 : Index := Scalar.indexCast v450
  let c256_275 : Index := 256#32
  ![v470.toNat, 256]
def k0_off103 (i : grid0.Coords) (k0_t17 : Fin (k0_t17_loop i).trips) (c0_i32_264 : BitVec 32) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_263 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v446 : BitVec 32 := Scalar.muli c2_i32_263 arg17
  let v447 : BitVec 32 := Scalar.addi v263 v446
  let v448 : BitVec 32 := Scalar.addi v447 c0_i32_264
  let c512_i32_265 : BitVec 32 := 512#32
  let v449 : BitVec 32 := Scalar.muli v448 c512_i32_265
  let v450 : BitVec 32 := v449
  let v477 : Index := Scalar.indexCast v450
  let c512 : Index := 512#32
  ![v477.toNat, 512]
def k0_mult96 (i : grid0.Coords) (k0_t17 : Fin (k0_t17_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_282 : BitVec 32 := 2#32
  let c0_i32_152 : BitVec 32 := 0#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v282 : BitVec 32 := Scalar.subi v281 c0_i32_152
  let c1_i32_153 : BitVec 32 := 1#32
  let v284 : BitVec 32 := Scalar.divsi v282 c1_i32_153
  let v285 : BitVec 32 := Scalar.muli v284 c1_i32_153
  let v286 : BitVec 32 := Scalar.addi c0_i32_152 v285
  let c1_i32_155 : BitVec 32 := 1#32
  let arg17 : BitVec 32 := Scf.iv v286 c1_i32_155 k0_t17
  let v484 : BitVec 32 := Scalar.muli c2_i32_282 arg17
  let v485 : BitVec 32 := Scalar.addi v263 v484
  let c1_i32_283 : BitVec 32 := 1#32
  let v486 : BitVec 32 := Scalar.addi v485 c1_i32_283
  let c512_i32_284 : BitVec 32 := 512#32
  let v487 : BitVec 32 := Scalar.muli v486 c512_i32_284
  v487
@[reducible] def k0_t18_loop (i : grid0.Coords) : Scf.Loop 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_158 : BitVec 32 := 1#32
  ⟨v290, v295, c1_i32_158⟩
def k0_mult97 (i : grid0.Coords) (k0_t18 : Fin (k0_t18_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  v446
def k0_off104 (i : grid0.Coords) (k0_t18 : Fin (k0_t18_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off105 (i : grid0.Coords) (k0_t18 : Fin (k0_t18_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  let v447 : BitVec 32 := v446
  let v453 : Index := Scalar.indexCast v447
  let c0_265 : Index := 0#32
  ![v453.toNat, 0]
def k0_off106 (i : grid0.Coords) (k0_t18 : Fin (k0_t18_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  let v447 : BitVec 32 := v446
  let v460 : Index := Scalar.indexCast v447
  let c0_271 : Index := 0#32
  ![v460.toNat, 0]
def k0_off107 (i : grid0.Coords) (k0_t18 : Fin (k0_t18_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  let v447 : BitVec 32 := v446
  let v467 : Index := Scalar.indexCast v447
  let c256_273 : Index := 256#32
  ![v467.toNat, 256]
def k0_off108 (i : grid0.Coords) (k0_t18 : Fin (k0_t18_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let c1_i32_158 : BitVec 32 := 1#32
  let arg17 : BitVec 32 := Scf.iv v290 c1_i32_158 k0_t18
  let c512_i32_263 : BitVec 32 := 512#32
  let v446 : BitVec 32 := Scalar.muli arg17 c512_i32_263
  let v447 : BitVec 32 := v446
  let v474 : Index := Scalar.indexCast v447
  let c512 : Index := 512#32
  ![v474.toNat, 512]
@[reducible] def k0_t19_loop (i : grid0.Coords) : Scf.Loop 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let v292 : BitVec 32 := Scalar.addi v290 v291
  let c1_i32_159 : BitVec 32 := 1#32
  ⟨v295, v292, c1_i32_159⟩
def k0_mult98 (i : grid0.Coords) (k0_t19 : Fin (k0_t19_loop i).trips) : BitVec 32 :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  v446
def k0_off109 (i : grid0.Coords) (k0_t19 : Fin (k0_t19_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off110 (i : grid0.Coords) (k0_t19 : Fin (k0_t19_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  let v447 : BitVec 32 := v446
  let v453 : Index := Scalar.indexCast v447
  let c0_265 : Index := 0#32
  ![v453.toNat, 0]
def k0_off111 (i : grid0.Coords) (k0_t19 : Fin (k0_t19_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  let v447 : BitVec 32 := v446
  let v460 : Index := Scalar.indexCast v447
  let c0_271 : Index := 0#32
  ![v460.toNat, 0]
def k0_off112 (i : grid0.Coords) (k0_t19 : Fin (k0_t19_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  let v447 : BitVec 32 := v446
  let v467 : Index := Scalar.indexCast v447
  let c256_273 : Index := 256#32
  ![v467.toNat, 256]
def k0_off113 (i : grid0.Coords) (k0_t19 : Fin (k0_t19_loop i).trips) : Fin 2 → Nat :=
  let c0_i32_144 : BitVec 32 := 0#32
  let c4_i32_143 : BitVec 32 := 4#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c0_i32_131 : BitVec 32 := 0#32
  let v237 : BitVec 32 := Scalar.subi v234 c0_i32_131
  let c0_i32_133 : BitVec 32 := 0#32
  let v239 : BitVec 1 := Scalar.cmpi .sgt v237 c0_i32_133
  let v240 : BitVec 32 := Scalar.extui v239
  let c0_i32_134 : BitVec 32 := 0#32
  let v241 : BitVec 1 := Scalar.cmpi .slt v237 c0_i32_134
  let v242 : BitVec 32 := Scalar.extui v241
  let v243 : BitVec 32 := Scalar.subi v240 v242
  let c4_i32_132 : BitVec 32 := 4#32
  let c0_i32_135 : BitVec 32 := 0#32
  let v244 : BitVec 1 := Scalar.cmpi .sgt c4_i32_132 c0_i32_135
  let v245 : BitVec 32 := Scalar.extui v244
  let c0_i32_136 : BitVec 32 := 0#32
  let v246 : BitVec 1 := Scalar.cmpi .slt c4_i32_132 c0_i32_136
  let v247 : BitVec 32 := Scalar.extui v246
  let v248 : BitVec 32 := Scalar.subi v245 v247
  let v249 : BitVec 1 := Scalar.cmpi .ne v243 v248
  let v250 : BitVec 32 := Scalar.remsi v237 c4_i32_132
  let c0_i32_137 : BitVec 32 := 0#32
  let v251 : BitVec 1 := Scalar.cmpi .ne v250 c0_i32_137
  let v252 : BitVec 1 := Scalar.andi v249 v251
  let v238 : BitVec 32 := Scalar.divsi v237 c4_i32_132
  let c1_i32_138 : BitVec 32 := 1#32
  let v253 : BitVec 32 := Scalar.subi v238 c1_i32_138
  let v254 : BitVec 32 := Scalar.select v252 v253 v238
  let v262 : BitVec 32 := Scalar.muli c4_i32_143 v254
  let v263 : BitVec 32 := Scalar.addi c0_i32_144 v262
  let c2_i32_156 : BitVec 32 := 2#32
  let v264 : BitVec 32 := Scalar.subi v234 v263
  let c0_i32_146 : BitVec 32 := 0#32
  let v266 : BitVec 1 := Scalar.cmpi .sgt v264 c0_i32_146
  let v267 : BitVec 32 := Scalar.extui v266
  let c0_i32_147 : BitVec 32 := 0#32
  let v268 : BitVec 1 := Scalar.cmpi .slt v264 c0_i32_147
  let v269 : BitVec 32 := Scalar.extui v268
  let v270 : BitVec 32 := Scalar.subi v267 v269
  let c2_i32_145 : BitVec 32 := 2#32
  let c0_i32_148 : BitVec 32 := 0#32
  let v271 : BitVec 1 := Scalar.cmpi .sgt c2_i32_145 c0_i32_148
  let v272 : BitVec 32 := Scalar.extui v271
  let c0_i32_149 : BitVec 32 := 0#32
  let v273 : BitVec 1 := Scalar.cmpi .slt c2_i32_145 c0_i32_149
  let v274 : BitVec 32 := Scalar.extui v273
  let v275 : BitVec 32 := Scalar.subi v272 v274
  let v276 : BitVec 1 := Scalar.cmpi .ne v270 v275
  let v277 : BitVec 32 := Scalar.remsi v264 c2_i32_145
  let c0_i32_150 : BitVec 32 := 0#32
  let v278 : BitVec 1 := Scalar.cmpi .ne v277 c0_i32_150
  let v279 : BitVec 1 := Scalar.andi v276 v278
  let v265 : BitVec 32 := Scalar.divsi v264 c2_i32_145
  let c1_i32_151 : BitVec 32 := 1#32
  let v280 : BitVec 32 := Scalar.subi v265 c1_i32_151
  let v281 : BitVec 32 := Scalar.select v279 v280 v265
  let v289 : BitVec 32 := Scalar.muli c2_i32_156 v281
  let v290 : BitVec 32 := Scalar.addi v263 v289
  let v291 : BitVec 32 := Scalar.subi v234 v290
  let c1_i32_157 : BitVec 32 := 1#32
  let v293 : BitVec 32 := Scalar.divsi v291 c1_i32_157
  let v294 : BitVec 32 := Scalar.muli v293 c1_i32_157
  let v295 : BitVec 32 := Scalar.addi v290 v294
  let c1_i32_159 : BitVec 32 := 1#32
  let arg17 : BitVec 32 := Scf.iv v295 c1_i32_159 k0_t19
  let c512_i32_263 : BitVec 32 := 512#32
  let v446 : BitVec 32 := Scalar.muli arg17 c512_i32_263
  let v447 : BitVec 32 := v446
  let v474 : Index := Scalar.indexCast v447
  let c512 : Index := 512#32
  ![v474.toNat, 512]
@[reducible] def k0_t20_loop (i : grid0.Coords) : Scf.Loop 32 :=
  let c0_i32_167 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_169 : BitVec 32 := 1#32
  ⟨c0_i32_167, v320, c1_i32_169⟩
def k0_mult99 (i : grid0.Coords) (k0_t20 : Fin (k0_t20_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off114 (i : grid0.Coords) (k0_t20 : Fin (k0_t20_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off115 (i : grid0.Coords) (k0_t20 : Fin (k0_t20_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v456 : Index := Scalar.indexCast v450
  let c0_267 : Index := 0#32
  ![v456.toNat, 0]
def k0_off116 (i : grid0.Coords) (k0_t20 : Fin (k0_t20_loop i).trips) (c0_i32_264 : BitVec 32) : Fin 4 → Nat :=
  let c0_274 : Index := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c4_i32_272 : BitVec 32 := 4#32
  let v461 : BitVec 32 := Scalar.muli v448 c4_i32_272
  let c2_i32_273 : BitVec 32 := 2#32
  let v462 : BitVec 32 := Scalar.subi v0 c2_i32_273
  let v463 : BitVec 32 := Scalar.subi v461 v462
  let c3_i32 : BitVec 32 := 3#32
  let v464 : BitVec 32 := Scalar.addi v463 c3_i32
  let v465 : Index := Scalar.indexCast v464
  let c0_275 : Index := 0#32
  let c0_276 : Index := 0#32
  ![0, v465.toNat, 0, 0]
def k0_off117 (i : grid0.Coords) (k0_t20 : Fin (k0_t20_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v472 : Index := Scalar.indexCast v450
  let c0_278 : Index := 0#32
  ![v472.toNat, 0]
def k0_off118 (i : grid0.Coords) (k0_t20 : Fin (k0_t20_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v479 : Index := Scalar.indexCast v450
  let c256_280 : Index := 256#32
  ![v479.toNat, 256]
def k0_off119 (i : grid0.Coords) (k0_t20 : Fin (k0_t20_loop i).trips) (c0_i32_264 : BitVec 32) : Fin 4 → Nat :=
  let c1_288 : Index := 1#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c4_i32_285 : BitVec 32 := 4#32
  let v484 : BitVec 32 := Scalar.muli v448 c4_i32_285
  let c2_i32_286 : BitVec 32 := 2#32
  let v485 : BitVec 32 := Scalar.subi v0 c2_i32_286
  let v486 : BitVec 32 := Scalar.subi v484 v485
  let c3_i32_287 : BitVec 32 := 3#32
  let v487 : BitVec 32 := Scalar.addi v486 c3_i32_287
  let v488 : Index := Scalar.indexCast v487
  let c0_289 : Index := 0#32
  let c0_290 : Index := 0#32
  ![1, v488.toNat, 0, 0]
def k0_off120 (i : grid0.Coords) (k0_t20 : Fin (k0_t20_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c1_i32_169 : BitVec 32 := 1#32
  let arg17 : BitVec 32 := Scf.iv c0_i32_167 c1_i32_169 k0_t20
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v495 : Index := Scalar.indexCast v450
  let c512 : Index := 512#32
  ![v495.toNat, 512]
def k0_mult100 (i : grid0.Coords) (k0_t20 : Fin (k0_t20_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_293 : BitVec 32 := 2#32
  let c0_i32_167 : BitVec 32 := 0#32
  let c1_i32_169 : BitVec 32 := 1#32
  let arg17 : BitVec 32 := Scf.iv c0_i32_167 c1_i32_169 k0_t20
  let v502 : BitVec 32 := Scalar.muli c2_i32_293 arg17
  let v503 : BitVec 32 := Scalar.addi v234 v502
  let c1_i32_294 : BitVec 32 := 1#32
  let v504 : BitVec 32 := Scalar.addi v503 c1_i32_294
  let c512_i32_295 : BitVec 32 := 512#32
  let v505 : BitVec 32 := Scalar.muli v504 c512_i32_295
  v505
@[reducible] def k0_t21_loop (i : grid0.Coords) : Scf.Loop 32 :=
  let c0_i32_167 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let v317 : BitVec 32 := Scalar.addi c0_i32_167 v316
  let c1_i32_170 : BitVec 32 := 1#32
  ⟨v320, v317, c1_i32_170⟩
def k0_mult101 (i : grid0.Coords) (k0_t21 : Fin (k0_t21_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off121 (i : grid0.Coords) (k0_t21 : Fin (k0_t21_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off122 (i : grid0.Coords) (k0_t21 : Fin (k0_t21_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v456 : Index := Scalar.indexCast v450
  let c0_267 : Index := 0#32
  ![v456.toNat, 0]
def k0_off123 (i : grid0.Coords) (k0_t21 : Fin (k0_t21_loop i).trips) (c0_i32_264 : BitVec 32) : Fin 4 → Nat :=
  let c0_274 : Index := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c4_i32_272 : BitVec 32 := 4#32
  let v461 : BitVec 32 := Scalar.muli v448 c4_i32_272
  let c2_i32_273 : BitVec 32 := 2#32
  let v462 : BitVec 32 := Scalar.subi v0 c2_i32_273
  let v463 : BitVec 32 := Scalar.subi v461 v462
  let c3_i32 : BitVec 32 := 3#32
  let v464 : BitVec 32 := Scalar.addi v463 c3_i32
  let v465 : Index := Scalar.indexCast v464
  let c0_275 : Index := 0#32
  let c0_276 : Index := 0#32
  ![0, v465.toNat, 0, 0]
def k0_off124 (i : grid0.Coords) (k0_t21 : Fin (k0_t21_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v472 : Index := Scalar.indexCast v450
  let c0_278 : Index := 0#32
  ![v472.toNat, 0]
def k0_off125 (i : grid0.Coords) (k0_t21 : Fin (k0_t21_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v479 : Index := Scalar.indexCast v450
  let c256_280 : Index := 256#32
  ![v479.toNat, 256]
def k0_off126 (i : grid0.Coords) (k0_t21 : Fin (k0_t21_loop i).trips) (c0_i32_264 : BitVec 32) : Fin 4 → Nat :=
  let c1_288 : Index := 1#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c4_i32_285 : BitVec 32 := 4#32
  let v484 : BitVec 32 := Scalar.muli v448 c4_i32_285
  let c2_i32_286 : BitVec 32 := 2#32
  let v485 : BitVec 32 := Scalar.subi v0 c2_i32_286
  let v486 : BitVec 32 := Scalar.subi v484 v485
  let c3_i32_287 : BitVec 32 := 3#32
  let v487 : BitVec 32 := Scalar.addi v486 c3_i32_287
  let v488 : Index := Scalar.indexCast v487
  let c0_289 : Index := 0#32
  let c0_290 : Index := 0#32
  ![1, v488.toNat, 0, 0]
def k0_off127 (i : grid0.Coords) (k0_t21 : Fin (k0_t21_loop i).trips) (c0_i32_264 : BitVec 32) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_263 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v446 : BitVec 32 := Scalar.muli c2_i32_263 arg17
  let v447 : BitVec 32 := Scalar.addi v234 v446
  let v448 : BitVec 32 := Scalar.addi v447 c0_i32_264
  let c512_i32_265 : BitVec 32 := 512#32
  let v449 : BitVec 32 := Scalar.muli v448 c512_i32_265
  let v450 : BitVec 32 := v449
  let v495 : Index := Scalar.indexCast v450
  let c512 : Index := 512#32
  ![v495.toNat, 512]
def k0_mult102 (i : grid0.Coords) (k0_t21 : Fin (k0_t21_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_293 : BitVec 32 := 2#32
  let c0_i32_167 : BitVec 32 := 0#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v316 : BitVec 32 := Scalar.subi v315 c0_i32_167
  let c1_i32_168 : BitVec 32 := 1#32
  let v318 : BitVec 32 := Scalar.divsi v316 c1_i32_168
  let v319 : BitVec 32 := Scalar.muli v318 c1_i32_168
  let v320 : BitVec 32 := Scalar.addi c0_i32_167 v319
  let c1_i32_170 : BitVec 32 := 1#32
  let arg17 : BitVec 32 := Scf.iv v320 c1_i32_170 k0_t21
  let v502 : BitVec 32 := Scalar.muli c2_i32_293 arg17
  let v503 : BitVec 32 := Scalar.addi v234 v502
  let c1_i32_294 : BitVec 32 := 1#32
  let v504 : BitVec 32 := Scalar.addi v503 c1_i32_294
  let c512_i32_295 : BitVec 32 := 512#32
  let v505 : BitVec 32 := Scalar.muli v504 c512_i32_295
  v505
@[reducible] def k0_t22_loop (i : grid0.Coords) : Scf.Loop 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_173 : BitVec 32 := 1#32
  ⟨v324, v329, c1_i32_173⟩
def k0_mult103 (i : grid0.Coords) (k0_t22 : Fin (k0_t22_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  v446
def k0_off128 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off129 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  let v447 : BitVec 32 := v446
  let v453 : Index := Scalar.indexCast v447
  let c0_265 : Index := 0#32
  ![v453.toNat, 0]
def k0_off130 (i : grid0.Coords) (k0_t22 : Fin (k0_t22_loop i).trips) : Fin 4 → Nat :=
  let c0_272 : Index := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c4_i32_270 : BitVec 32 := 4#32
  let v458 : BitVec 32 := Scalar.muli arg17 c4_i32_270
  let c2_i32_271 : BitVec 32 := 2#32
  let v459 : BitVec 32 := Scalar.subi v0 c2_i32_271
  let v460 : BitVec 32 := Scalar.subi v458 v459
  let c3_i32 : BitVec 32 := 3#32
  let v461 : BitVec 32 := Scalar.addi v460 c3_i32
  let v462 : Index := Scalar.indexCast v461
  let c0_273 : Index := 0#32
  let c0_274 : Index := 0#32
  ![0, v462.toNat, 0, 0]
def k0_off131 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  let v447 : BitVec 32 := v446
  let v469 : Index := Scalar.indexCast v447
  let c0_276 : Index := 0#32
  ![v469.toNat, 0]
def k0_off132 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  let v447 : BitVec 32 := v446
  let v476 : Index := Scalar.indexCast v447
  let c256_278 : Index := 256#32
  ![v476.toNat, 256]
def k0_off133 (i : grid0.Coords) (k0_t22 : Fin (k0_t22_loop i).trips) : Fin 4 → Nat :=
  let c1_286 : Index := 1#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c4_i32_283 : BitVec 32 := 4#32
  let v481 : BitVec 32 := Scalar.muli arg17 c4_i32_283
  let c2_i32_284 : BitVec 32 := 2#32
  let v482 : BitVec 32 := Scalar.subi v0 c2_i32_284
  let v483 : BitVec 32 := Scalar.subi v481 v482
  let c3_i32_285 : BitVec 32 := 3#32
  let v484 : BitVec 32 := Scalar.addi v483 c3_i32_285
  let v485 : Index := Scalar.indexCast v484
  let c0_287 : Index := 0#32
  let c0_288 : Index := 0#32
  ![1, v485.toNat, 0, 0]
def k0_off134 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let c1_i32_173 : BitVec 32 := 1#32
  let arg17 : BitVec 32 := Scf.iv v324 c1_i32_173 k0_t22
  let c512_i32_263 : BitVec 32 := 512#32
  let v446 : BitVec 32 := Scalar.muli arg17 c512_i32_263
  let v447 : BitVec 32 := v446
  let v492 : Index := Scalar.indexCast v447
  let c512 : Index := 512#32
  ![v492.toNat, 512]
@[reducible] def k0_t23_loop (i : grid0.Coords) : Scf.Loop 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let v326 : BitVec 32 := Scalar.addi v324 v325
  let c1_i32_174 : BitVec 32 := 1#32
  ⟨v329, v326, c1_i32_174⟩
def k0_mult104 (i : grid0.Coords) (k0_t23 : Fin (k0_t23_loop i).trips) : BitVec 32 :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  v446
def k0_off135 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off136 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  let v447 : BitVec 32 := v446
  let v453 : Index := Scalar.indexCast v447
  let c0_265 : Index := 0#32
  ![v453.toNat, 0]
def k0_off137 (i : grid0.Coords) (k0_t23 : Fin (k0_t23_loop i).trips) : Fin 4 → Nat :=
  let c0_272 : Index := 0#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c4_i32_270 : BitVec 32 := 4#32
  let v458 : BitVec 32 := Scalar.muli arg17 c4_i32_270
  let c2_i32_271 : BitVec 32 := 2#32
  let v459 : BitVec 32 := Scalar.subi v0 c2_i32_271
  let v460 : BitVec 32 := Scalar.subi v458 v459
  let c3_i32 : BitVec 32 := 3#32
  let v461 : BitVec 32 := Scalar.addi v460 c3_i32
  let v462 : Index := Scalar.indexCast v461
  let c0_273 : Index := 0#32
  let c0_274 : Index := 0#32
  ![0, v462.toNat, 0, 0]
def k0_off138 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  let v447 : BitVec 32 := v446
  let v469 : Index := Scalar.indexCast v447
  let c0_276 : Index := 0#32
  ![v469.toNat, 0]
def k0_off139 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  let v447 : BitVec 32 := v446
  let v476 : Index := Scalar.indexCast v447
  let c256_278 : Index := 256#32
  ![v476.toNat, 256]
def k0_off140 (i : grid0.Coords) (k0_t23 : Fin (k0_t23_loop i).trips) : Fin 4 → Nat :=
  let c1_286 : Index := 1#32
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c4_i32_283 : BitVec 32 := 4#32
  let v481 : BitVec 32 := Scalar.muli arg17 c4_i32_283
  let c2_i32_284 : BitVec 32 := 2#32
  let v482 : BitVec 32 := Scalar.subi v0 c2_i32_284
  let v483 : BitVec 32 := Scalar.subi v481 v482
  let c3_i32_285 : BitVec 32 := 3#32
  let v484 : BitVec 32 := Scalar.addi v483 c3_i32_285
  let v485 : Index := Scalar.indexCast v484
  let c0_287 : Index := 0#32
  let c0_288 : Index := 0#32
  ![1, v485.toNat, 0, 0]
def k0_off141 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c2_i32_120 : BitVec 32 := 2#32
  let v216 : BitVec 32 := Scalar.subi v0 c2_i32_120
  let c0_i32_121 : BitVec 32 := 0#32
  let v217 : BitVec 32 := Scalar.maxsi v216 c0_i32_121
  let c0_i32_123 : BitVec 32 := 0#32
  let v219 : BitVec 1 := Scalar.cmpi .sgt v217 c0_i32_123
  let v220 : BitVec 32 := Scalar.extui v219
  let c0_i32_124 : BitVec 32 := 0#32
  let v221 : BitVec 1 := Scalar.cmpi .slt v217 c0_i32_124
  let v222 : BitVec 32 := Scalar.extui v221
  let v223 : BitVec 32 := Scalar.subi v220 v222
  let c4_i32_122 : BitVec 32 := 4#32
  let c0_i32_125 : BitVec 32 := 0#32
  let v224 : BitVec 1 := Scalar.cmpi .sgt c4_i32_122 c0_i32_125
  let v225 : BitVec 32 := Scalar.extui v224
  let c0_i32_126 : BitVec 32 := 0#32
  let v226 : BitVec 1 := Scalar.cmpi .slt c4_i32_122 c0_i32_126
  let v227 : BitVec 32 := Scalar.extui v226
  let v228 : BitVec 32 := Scalar.subi v225 v227
  let v229 : BitVec 1 := Scalar.cmpi .ne v223 v228
  let v230 : BitVec 32 := Scalar.remsi v217 c4_i32_122
  let c0_i32_127 : BitVec 32 := 0#32
  let v231 : BitVec 1 := Scalar.cmpi .ne v230 c0_i32_127
  let v232 : BitVec 1 := Scalar.andi v229 v231
  let v218 : BitVec 32 := Scalar.divsi v217 c4_i32_122
  let c1_i32_128 : BitVec 32 := 1#32
  let v233 : BitVec 32 := Scalar.subi v218 c1_i32_128
  let v234 : BitVec 32 := Scalar.select v232 v233 v218
  let c2_i32_171 : BitVec 32 := 2#32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v298 : BitVec 32 := Scalar.subi v20 v234
  let c0_i32_161 : BitVec 32 := 0#32
  let v300 : BitVec 1 := Scalar.cmpi .sgt v298 c0_i32_161
  let v301 : BitVec 32 := Scalar.extui v300
  let c0_i32_162 : BitVec 32 := 0#32
  let v302 : BitVec 1 := Scalar.cmpi .slt v298 c0_i32_162
  let v303 : BitVec 32 := Scalar.extui v302
  let v304 : BitVec 32 := Scalar.subi v301 v303
  let c2_i32_160 : BitVec 32 := 2#32
  let c0_i32_163 : BitVec 32 := 0#32
  let v305 : BitVec 1 := Scalar.cmpi .sgt c2_i32_160 c0_i32_163
  let v306 : BitVec 32 := Scalar.extui v305
  let c0_i32_164 : BitVec 32 := 0#32
  let v307 : BitVec 1 := Scalar.cmpi .slt c2_i32_160 c0_i32_164
  let v308 : BitVec 32 := Scalar.extui v307
  let v309 : BitVec 32 := Scalar.subi v306 v308
  let v310 : BitVec 1 := Scalar.cmpi .ne v304 v309
  let v311 : BitVec 32 := Scalar.remsi v298 c2_i32_160
  let c0_i32_165 : BitVec 32 := 0#32
  let v312 : BitVec 1 := Scalar.cmpi .ne v311 c0_i32_165
  let v313 : BitVec 1 := Scalar.andi v310 v312
  let v299 : BitVec 32 := Scalar.divsi v298 c2_i32_160
  let c1_i32_166 : BitVec 32 := 1#32
  let v314 : BitVec 32 := Scalar.subi v299 c1_i32_166
  let v315 : BitVec 32 := Scalar.select v313 v314 v299
  let v323 : BitVec 32 := Scalar.muli c2_i32_171 v315
  let v324 : BitVec 32 := Scalar.addi v234 v323
  let v325 : BitVec 32 := Scalar.subi v20 v324
  let c1_i32_172 : BitVec 32 := 1#32
  let v327 : BitVec 32 := Scalar.divsi v325 c1_i32_172
  let v328 : BitVec 32 := Scalar.muli v327 c1_i32_172
  let v329 : BitVec 32 := Scalar.addi v324 v328
  let c1_i32_174 : BitVec 32 := 1#32
  let arg17 : BitVec 32 := Scf.iv v329 c1_i32_174 k0_t23
  let c512_i32_263 : BitVec 32 := 512#32
  let v446 : BitVec 32 := Scalar.muli arg17 c512_i32_263
  let v447 : BitVec 32 := v446
  let v492 : Index := Scalar.indexCast v447
  let c512 : Index := 512#32
  ![v492.toNat, 512]
@[reducible] def k0_t24_loop (i : grid0.Coords) : Scf.Loop 32 :=
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_192 : BitVec 32 := 1#32
  ⟨c0_i32_190, v362, c1_i32_192⟩
def k0_mult105 (i : grid0.Coords) (k0_t24 : Fin (k0_t24_loop i).trips) : BitVec 32 :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off142 (i : grid0.Coords) (k0_t24 : Fin (k0_t24_loop i).trips) (c0_i32_265 : BitVec 32) : Fin 2 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off143 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v457 : Index := Scalar.indexCast v448
  let c0_268 : Index := 0#32
  let c0_269 : Index := 0#32
  ![v457.toNat, 0, 0]
def k0_off144 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v468 : Index := Scalar.indexCast v448
  let c80 : Index := 80#32
  let c0_277 : Index := 0#32
  ![v468.toNat, 80, 0]
def k0_off145 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v479 : Index := Scalar.indexCast v448
  let c160 : Index := 160#32
  let c0_285 : Index := 0#32
  ![v479.toNat, 160, 0]
def k0_off146 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v490 : Index := Scalar.indexCast v448
  let c240 : Index := 240#32
  let c0_293 : Index := 0#32
  ![v490.toNat, 240, 0]
def k0_off147 (i : grid0.Coords) (k0_t24 : Fin (k0_t24_loop i).trips) (c0_i32_265 : BitVec 32) : Fin 2 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v501 : Index := Scalar.indexCast v450
  let c512 : Index := 512#32
  ![v501.toNat, 512]
def k0_off148 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v507 : Index := Scalar.indexCast v448
  let c320_301 : Index := 320#32
  let c0_302 : Index := 0#32
  ![v507.toNat, 320, 0]
def k0_off149 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v518 : Index := Scalar.indexCast v448
  let c400 : Index := 400#32
  let c0_310 : Index := 0#32
  ![v518.toNat, 400, 0]
def k0_off150 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v529 : Index := Scalar.indexCast v448
  let c480 : Index := 480#32
  let c0_318 : Index := 0#32
  ![v529.toNat, 480, 0]
def k0_off151 (i : grid0.Coords) (k0_t24 : Fin (k0_t24_loop i).trips) (c0_i32_265 : BitVec 32) : Fin 3 → Nat :=
  let c0_i32_264 : BitVec 32 := 0#32
  let c4_i32_263 : BitVec 32 := 4#32
  let c0_i32_190 : BitVec 32 := 0#32
  let c1_i32_192 : BitVec 32 := 1#32
  let arg17 : BitVec 32 := Scf.iv c0_i32_190 c1_i32_192 k0_t24
  let v446 : BitVec 32 := Scalar.muli c4_i32_263 arg17
  let v447 : BitVec 32 := Scalar.addi c0_i32_264 v446
  let v448 : BitVec 32 := Scalar.addi v447 c0_i32_265
  let v540 : Index := Scalar.indexCast v448
  let c560 : Index := 560#32
  let c0_326 : Index := 0#32
  ![v540.toNat, 560, 0]
def k0_mult106 (i : grid0.Coords) (k0_t24 : Fin (k0_t24_loop i).trips) : BitVec 32 :=
  let c0_i32_335 : BitVec 32 := 0#32
  let c4_i32_334 : BitVec 32 := 4#32
  let c0_i32_190 : BitVec 32 := 0#32
  let c1_i32_192 : BitVec 32 := 1#32
  let arg17 : BitVec 32 := Scf.iv c0_i32_190 c1_i32_192 k0_t24
  let v551 : BitVec 32 := Scalar.muli c4_i32_334 arg17
  let v552 : BitVec 32 := Scalar.addi c0_i32_335 v551
  let c1_i32_336 : BitVec 32 := 1#32
  let v553 : BitVec 32 := Scalar.addi v552 c1_i32_336
  let c512_i32_337 : BitVec 32 := 512#32
  let v554 : BitVec 32 := Scalar.muli v553 c512_i32_337
  v554
def k0_mult107 (i : grid0.Coords) (k0_t24 : Fin (k0_t24_loop i).trips) : BitVec 32 :=
  let c0_i32_413 : BitVec 32 := 0#32
  let c4_i32_412 : BitVec 32 := 4#32
  let c0_i32_190 : BitVec 32 := 0#32
  let c1_i32_192 : BitVec 32 := 1#32
  let arg17 : BitVec 32 := Scf.iv c0_i32_190 c1_i32_192 k0_t24
  let v656 : BitVec 32 := Scalar.muli c4_i32_412 arg17
  let v657 : BitVec 32 := Scalar.addi c0_i32_413 v656
  let c2_i32_414 : BitVec 32 := 2#32
  let v658 : BitVec 32 := Scalar.addi v657 c2_i32_414
  let c512_i32_415 : BitVec 32 := 512#32
  let v659 : BitVec 32 := Scalar.muli v658 c512_i32_415
  v659
def k0_mult108 (i : grid0.Coords) (k0_t24 : Fin (k0_t24_loop i).trips) : BitVec 32 :=
  let c0_i32_491 : BitVec 32 := 0#32
  let c4_i32_490 : BitVec 32 := 4#32
  let c0_i32_190 : BitVec 32 := 0#32
  let c1_i32_192 : BitVec 32 := 1#32
  let arg17 : BitVec 32 := Scf.iv c0_i32_190 c1_i32_192 k0_t24
  let v761 : BitVec 32 := Scalar.muli c4_i32_490 arg17
  let v762 : BitVec 32 := Scalar.addi c0_i32_491 v761
  let c3_i32 : BitVec 32 := 3#32
  let v763 : BitVec 32 := Scalar.addi v762 c3_i32
  let c512_i32_492 : BitVec 32 := 512#32
  let v764 : BitVec 32 := Scalar.muli v763 c512_i32_492
  v764
@[reducible] def k0_t25_loop (i : grid0.Coords) : Scf.Loop 32 :=
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let v359 : BitVec 32 := Scalar.addi c0_i32_190 v358
  let c1_i32_193 : BitVec 32 := 1#32
  ⟨v362, v359, c1_i32_193⟩
def k0_mult109 (i : grid0.Coords) (k0_t25 : Fin (k0_t25_loop i).trips) : BitVec 32 :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let c0_i32_265 : BitVec 32 := 0#32
  let v448 : BitVec 32 := Scalar.addi v447 c0_i32_265
  let c512_i32_266 : BitVec 32 := 512#32
  let v449 : BitVec 32 := Scalar.muli v448 c512_i32_266
  v449
def k0_off152 (i : grid0.Coords) (k0_t25 : Fin (k0_t25_loop i).trips) (c0_i32_265 : BitVec 32) : Fin 2 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v451 : Index := Scalar.indexCast v450
  let c0_267 : Index := 0#32
  ![v451.toNat, 0]
def k0_off153 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v457 : Index := Scalar.indexCast v448
  let c0_268 : Index := 0#32
  let c0_269 : Index := 0#32
  ![v457.toNat, 0, 0]
def k0_off154 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v468 : Index := Scalar.indexCast v448
  let c80 : Index := 80#32
  let c0_277 : Index := 0#32
  ![v468.toNat, 80, 0]
def k0_off155 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v479 : Index := Scalar.indexCast v448
  let c160 : Index := 160#32
  let c0_285 : Index := 0#32
  ![v479.toNat, 160, 0]
def k0_off156 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v490 : Index := Scalar.indexCast v448
  let c240 : Index := 240#32
  let c0_293 : Index := 0#32
  ![v490.toNat, 240, 0]
def k0_off157 (i : grid0.Coords) (k0_t25 : Fin (k0_t25_loop i).trips) (c0_i32_265 : BitVec 32) : Fin 2 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let c512_i32_266 : BitVec 32 := 512#32
  let v449 : BitVec 32 := Scalar.muli v448 c512_i32_266
  let v450 : BitVec 32 := v449
  let v501 : Index := Scalar.indexCast v450
  let c512 : Index := 512#32
  ![v501.toNat, 512]
def k0_off158 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v507 : Index := Scalar.indexCast v448
  let c320_301 : Index := 320#32
  let c0_302 : Index := 0#32
  ![v507.toNat, 320, 0]
def k0_off159 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v518 : Index := Scalar.indexCast v448
  let c400 : Index := 400#32
  let c0_310 : Index := 0#32
  ![v518.toNat, 400, 0]
def k0_off160 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v529 : Index := Scalar.indexCast v448
  let c480 : Index := 480#32
  let c0_318 : Index := 0#32
  ![v529.toNat, 480, 0]
def k0_off161 (i : grid0.Coords) (k0_t25 : Fin (k0_t25_loop i).trips) (c0_i32_265 : BitVec 32) : Fin 3 → Nat :=
  let c0_i32_264 : BitVec 32 := 0#32
  let c4_i32_263 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v446 : BitVec 32 := Scalar.muli c4_i32_263 arg17
  let v447 : BitVec 32 := Scalar.addi c0_i32_264 v446
  let v448 : BitVec 32 := Scalar.addi v447 c0_i32_265
  let v540 : Index := Scalar.indexCast v448
  let c560 : Index := 560#32
  let c0_326 : Index := 0#32
  ![v540.toNat, 560, 0]
def k0_mult110 (i : grid0.Coords) (k0_t25 : Fin (k0_t25_loop i).trips) : BitVec 32 :=
  let c0_i32_335 : BitVec 32 := 0#32
  let c4_i32_334 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v551 : BitVec 32 := Scalar.muli c4_i32_334 arg17
  let v552 : BitVec 32 := Scalar.addi c0_i32_335 v551
  let c1_i32_336 : BitVec 32 := 1#32
  let v553 : BitVec 32 := Scalar.addi v552 c1_i32_336
  let c512_i32_337 : BitVec 32 := 512#32
  let v554 : BitVec 32 := Scalar.muli v553 c512_i32_337
  v554
def k0_mult111 (i : grid0.Coords) (k0_t25 : Fin (k0_t25_loop i).trips) : BitVec 32 :=
  let c0_i32_413 : BitVec 32 := 0#32
  let c4_i32_412 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v656 : BitVec 32 := Scalar.muli c4_i32_412 arg17
  let v657 : BitVec 32 := Scalar.addi c0_i32_413 v656
  let c2_i32_414 : BitVec 32 := 2#32
  let v658 : BitVec 32 := Scalar.addi v657 c2_i32_414
  let c512_i32_415 : BitVec 32 := 512#32
  let v659 : BitVec 32 := Scalar.muli v658 c512_i32_415
  v659
def k0_mult112 (i : grid0.Coords) (k0_t25 : Fin (k0_t25_loop i).trips) : BitVec 32 :=
  let c0_i32_491 : BitVec 32 := 0#32
  let c4_i32_490 : BitVec 32 := 4#32
  let c0_i32_190 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v358 : BitVec 32 := Scalar.subi v357 c0_i32_190
  let c1_i32_191 : BitVec 32 := 1#32
  let v360 : BitVec 32 := Scalar.divsi v358 c1_i32_191
  let v361 : BitVec 32 := Scalar.muli v360 c1_i32_191
  let v362 : BitVec 32 := Scalar.addi c0_i32_190 v361
  let c1_i32_193 : BitVec 32 := 1#32
  let arg17 : BitVec 32 := Scf.iv v362 c1_i32_193 k0_t25
  let v761 : BitVec 32 := Scalar.muli c4_i32_490 arg17
  let v762 : BitVec 32 := Scalar.addi c0_i32_491 v761
  let c3_i32 : BitVec 32 := 3#32
  let v763 : BitVec 32 := Scalar.addi v762 c3_i32
  let c512_i32_492 : BitVec 32 := 512#32
  let v764 : BitVec 32 := Scalar.muli v763 c512_i32_492
  v764
@[reducible] def k0_t26_loop (i : grid0.Coords) : Scf.Loop 32 :=
  let c0_i32_204 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_195 : BitVec 32 := 0#32
  let c4_i32_194 : BitVec 32 := 4#32
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_206 : BitVec 32 := 1#32
  ⟨c0_i32_204, v387, c1_i32_206⟩
def k0_mult113 (i : grid0.Coords) (k0_t26 : Fin (k0_t26_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off162 (i : grid0.Coords) (k0_t26 : Fin (k0_t26_loop i).trips) (c0_i32_264 : BitVec 32) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off163 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v457 : Index := Scalar.indexCast v448
  let c0_267 : Index := 0#32
  let c0_268 : Index := 0#32
  ![v457.toNat, 0, 0]
def k0_off164 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v468 : Index := Scalar.indexCast v448
  let c80 : Index := 80#32
  let c0_276 : Index := 0#32
  ![v468.toNat, 80, 0]
def k0_off165 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v479 : Index := Scalar.indexCast v448
  let c160 : Index := 160#32
  let c0_284 : Index := 0#32
  ![v479.toNat, 160, 0]
def k0_off166 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v490 : Index := Scalar.indexCast v448
  let c240 : Index := 240#32
  let c0_292 : Index := 0#32
  ![v490.toNat, 240, 0]
def k0_off167 (i : grid0.Coords) (k0_t26 : Fin (k0_t26_loop i).trips) (c0_i32_264 : BitVec 32) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let c512_i32_265 : BitVec 32 := 512#32
  let v449 : BitVec 32 := Scalar.muli v448 c512_i32_265
  let v450 : BitVec 32 := v449
  let v501 : Index := Scalar.indexCast v450
  let c512 : Index := 512#32
  ![v501.toNat, 512]
def k0_off168 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v507 : Index := Scalar.indexCast v448
  let c320_300 : Index := 320#32
  let c0_301 : Index := 0#32
  ![v507.toNat, 320, 0]
def k0_off169 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v518 : Index := Scalar.indexCast v448
  let c400 : Index := 400#32
  let c0_309 : Index := 0#32
  ![v518.toNat, 400, 0]
def k0_off170 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v529 : Index := Scalar.indexCast v448
  let c480 : Index := 480#32
  let c0_317 : Index := 0#32
  ![v529.toNat, 480, 0]
def k0_off171 (i : grid0.Coords) (k0_t26 : Fin (k0_t26_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let c1_i32_206 : BitVec 32 := 1#32
  let arg17 : BitVec 32 := Scf.iv c0_i32_204 c1_i32_206 k0_t26
  let v446 : BitVec 32 := Scalar.muli c2_i32_263 arg17
  let v447 : BitVec 32 := Scalar.addi v364 v446
  let v448 : BitVec 32 := Scalar.addi v447 c0_i32_264
  let v540 : Index := Scalar.indexCast v448
  let c560 : Index := 560#32
  let c0_325 : Index := 0#32
  ![v540.toNat, 560, 0]
def k0_mult114 (i : grid0.Coords) (k0_t26 : Fin (k0_t26_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_333 : BitVec 32 := 2#32
  let c0_i32_204 : BitVec 32 := 0#32
  let c1_i32_206 : BitVec 32 := 1#32
  let arg17 : BitVec 32 := Scf.iv c0_i32_204 c1_i32_206 k0_t26
  let v551 : BitVec 32 := Scalar.muli c2_i32_333 arg17
  let v552 : BitVec 32 := Scalar.addi v364 v551
  let c1_i32_334 : BitVec 32 := 1#32
  let v553 : BitVec 32 := Scalar.addi v552 c1_i32_334
  let c512_i32_335 : BitVec 32 := 512#32
  let v554 : BitVec 32 := Scalar.muli v553 c512_i32_335
  v554
@[reducible] def k0_t27_loop (i : grid0.Coords) : Scf.Loop 32 :=
  let c0_i32_204 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_195 : BitVec 32 := 0#32
  let c4_i32_194 : BitVec 32 := 4#32
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let v384 : BitVec 32 := Scalar.addi c0_i32_204 v383
  let c1_i32_207 : BitVec 32 := 1#32
  ⟨v387, v384, c1_i32_207⟩
def k0_mult115 (i : grid0.Coords) (k0_t27 : Fin (k0_t27_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let c0_i32_264 : BitVec 32 := 0#32
  let v448 : BitVec 32 := Scalar.addi v447 c0_i32_264
  let c512_i32_265 : BitVec 32 := 512#32
  let v449 : BitVec 32 := Scalar.muli v448 c512_i32_265
  v449
def k0_off172 (i : grid0.Coords) (k0_t27 : Fin (k0_t27_loop i).trips) (c0_i32_264 : BitVec 32) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let c512_i32_265 : BitVec 32 := 512#32
  let v449 : BitVec 32 := Scalar.muli v448 c512_i32_265
  let v450 : BitVec 32 := v449
  let v451 : Index := Scalar.indexCast v450
  let c0_266 : Index := 0#32
  ![v451.toNat, 0]
def k0_off173 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v457 : Index := Scalar.indexCast v448
  let c0_267 : Index := 0#32
  let c0_268 : Index := 0#32
  ![v457.toNat, 0, 0]
def k0_off174 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v468 : Index := Scalar.indexCast v448
  let c80 : Index := 80#32
  let c0_276 : Index := 0#32
  ![v468.toNat, 80, 0]
def k0_off175 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v479 : Index := Scalar.indexCast v448
  let c160 : Index := 160#32
  let c0_284 : Index := 0#32
  ![v479.toNat, 160, 0]
def k0_off176 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v490 : Index := Scalar.indexCast v448
  let c240 : Index := 240#32
  let c0_292 : Index := 0#32
  ![v490.toNat, 240, 0]
def k0_off177 (i : grid0.Coords) (k0_t27 : Fin (k0_t27_loop i).trips) (c0_i32_264 : BitVec 32) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let c512_i32_265 : BitVec 32 := 512#32
  let v449 : BitVec 32 := Scalar.muli v448 c512_i32_265
  let v450 : BitVec 32 := v449
  let v501 : Index := Scalar.indexCast v450
  let c512 : Index := 512#32
  ![v501.toNat, 512]
def k0_off178 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v507 : Index := Scalar.indexCast v448
  let c320_300 : Index := 320#32
  let c0_301 : Index := 0#32
  ![v507.toNat, 320, 0]
def k0_off179 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v518 : Index := Scalar.indexCast v448
  let c400 : Index := 400#32
  let c0_309 : Index := 0#32
  ![v518.toNat, 400, 0]
def k0_off180 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v529 : Index := Scalar.indexCast v448
  let c480 : Index := 480#32
  let c0_317 : Index := 0#32
  ![v529.toNat, 480, 0]
def k0_off181 (i : grid0.Coords) (k0_t27 : Fin (k0_t27_loop i).trips) (c0_i32_264 : BitVec 32) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_263 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v446 : BitVec 32 := Scalar.muli c2_i32_263 arg17
  let v447 : BitVec 32 := Scalar.addi v364 v446
  let v448 : BitVec 32 := Scalar.addi v447 c0_i32_264
  let v540 : Index := Scalar.indexCast v448
  let c560 : Index := 560#32
  let c0_325 : Index := 0#32
  ![v540.toNat, 560, 0]
def k0_mult116 (i : grid0.Coords) (k0_t27 : Fin (k0_t27_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_333 : BitVec 32 := 2#32
  let c0_i32_204 : BitVec 32 := 0#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v383 : BitVec 32 := Scalar.subi v382 c0_i32_204
  let c1_i32_205 : BitVec 32 := 1#32
  let v385 : BitVec 32 := Scalar.divsi v383 c1_i32_205
  let v386 : BitVec 32 := Scalar.muli v385 c1_i32_205
  let v387 : BitVec 32 := Scalar.addi c0_i32_204 v386
  let c1_i32_207 : BitVec 32 := 1#32
  let arg17 : BitVec 32 := Scf.iv v387 c1_i32_207 k0_t27
  let v551 : BitVec 32 := Scalar.muli c2_i32_333 arg17
  let v552 : BitVec 32 := Scalar.addi v364 v551
  let c1_i32_334 : BitVec 32 := 1#32
  let v553 : BitVec 32 := Scalar.addi v552 c1_i32_334
  let c512_i32_335 : BitVec 32 := 512#32
  let v554 : BitVec 32 := Scalar.muli v553 c512_i32_335
  v554
@[reducible] def k0_t28_loop (i : grid0.Coords) : Scf.Loop 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_211 : BitVec 32 := 1#32
  ⟨v389, v394, c1_i32_211⟩
def k0_mult117 (i : grid0.Coords) (k0_t28 : Fin (k0_t28_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let c512_i32_263 : BitVec 32 := 512#32
  let v446 : BitVec 32 := Scalar.muli arg17 c512_i32_263
  v446
def k0_off182 (i : grid0.Coords) (k0_t28 : Fin (k0_t28_loop i).trips) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off183 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v454 : Index := Scalar.indexCast arg17
  let c0_265 : Index := 0#32
  let c0_266 : Index := 0#32
  ![v454.toNat, 0, 0]
def k0_off184 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v465 : Index := Scalar.indexCast arg17
  let c80 : Index := 80#32
  let c0_274 : Index := 0#32
  ![v465.toNat, 80, 0]
def k0_off185 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v476 : Index := Scalar.indexCast arg17
  let c160 : Index := 160#32
  let c0_282 : Index := 0#32
  ![v476.toNat, 160, 0]
def k0_off186 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v487 : Index := Scalar.indexCast arg17
  let c240 : Index := 240#32
  let c0_290 : Index := 0#32
  ![v487.toNat, 240, 0]
def k0_off187 (i : grid0.Coords) (k0_t28 : Fin (k0_t28_loop i).trips) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let c512_i32_263 : BitVec 32 := 512#32
  let v446 : BitVec 32 := Scalar.muli arg17 c512_i32_263
  let v447 : BitVec 32 := v446
  let v498 : Index := Scalar.indexCast v447
  let c512 : Index := 512#32
  ![v498.toNat, 512]
def k0_off188 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v504 : Index := Scalar.indexCast arg17
  let c320_298 : Index := 320#32
  let c0_299 : Index := 0#32
  ![v504.toNat, 320, 0]
def k0_off189 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v515 : Index := Scalar.indexCast arg17
  let c400 : Index := 400#32
  let c0_307 : Index := 0#32
  ![v515.toNat, 400, 0]
def k0_off190 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v526 : Index := Scalar.indexCast arg17
  let c480 : Index := 480#32
  let c0_315 : Index := 0#32
  ![v526.toNat, 480, 0]
def k0_off191 (i : grid0.Coords) (k0_t28 : Fin (k0_t28_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let c1_i32_211 : BitVec 32 := 1#32
  let arg17 : BitVec 32 := Scf.iv v389 c1_i32_211 k0_t28
  let v537 : Index := Scalar.indexCast arg17
  let c560 : Index := 560#32
  let c0_323 : Index := 0#32
  ![v537.toNat, 560, 0]
@[reducible] def k0_t29_loop (i : grid0.Coords) : Scf.Loop 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let v391 : BitVec 32 := Scalar.addi v389 v390
  let c1_i32_212 : BitVec 32 := 1#32
  ⟨v394, v391, c1_i32_212⟩
def k0_mult118 (i : grid0.Coords) (k0_t29 : Fin (k0_t29_loop i).trips) : BitVec 32 :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let c512_i32_263 : BitVec 32 := 512#32
  let v446 : BitVec 32 := Scalar.muli arg17 c512_i32_263
  v446
def k0_off192 (i : grid0.Coords) (k0_t29 : Fin (k0_t29_loop i).trips) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let c512_i32_263 : BitVec 32 := 512#32
  let v446 : BitVec 32 := Scalar.muli arg17 c512_i32_263
  let v447 : BitVec 32 := v446
  let v448 : Index := Scalar.indexCast v447
  let c0_264 : Index := 0#32
  ![v448.toNat, 0]
def k0_off193 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v454 : Index := Scalar.indexCast arg17
  let c0_265 : Index := 0#32
  let c0_266 : Index := 0#32
  ![v454.toNat, 0, 0]
def k0_off194 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v465 : Index := Scalar.indexCast arg17
  let c80 : Index := 80#32
  let c0_274 : Index := 0#32
  ![v465.toNat, 80, 0]
def k0_off195 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v476 : Index := Scalar.indexCast arg17
  let c160 : Index := 160#32
  let c0_282 : Index := 0#32
  ![v476.toNat, 160, 0]
def k0_off196 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v487 : Index := Scalar.indexCast arg17
  let c240 : Index := 240#32
  let c0_290 : Index := 0#32
  ![v487.toNat, 240, 0]
def k0_off197 (i : grid0.Coords) (k0_t29 : Fin (k0_t29_loop i).trips) : Fin 2 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let c512_i32_263 : BitVec 32 := 512#32
  let v446 : BitVec 32 := Scalar.muli arg17 c512_i32_263
  let v447 : BitVec 32 := v446
  let v498 : Index := Scalar.indexCast v447
  let c512 : Index := 512#32
  ![v498.toNat, 512]
def k0_off198 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v504 : Index := Scalar.indexCast arg17
  let c320_298 : Index := 320#32
  let c0_299 : Index := 0#32
  ![v504.toNat, 320, 0]
def k0_off199 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v515 : Index := Scalar.indexCast arg17
  let c400 : Index := 400#32
  let c0_307 : Index := 0#32
  ![v515.toNat, 400, 0]
def k0_off200 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v526 : Index := Scalar.indexCast arg17
  let c480 : Index := 480#32
  let c0_315 : Index := 0#32
  ![v526.toNat, 480, 0]
def k0_off201 (i : grid0.Coords) (k0_t29 : Fin (k0_t29_loop i).trips) : Fin 3 → Nat :=
  let c0_i32_195 : BitVec 32 := 0#32
  let c4_i32_194 : BitVec 32 := 4#32
  let arg1 : BitVec 32 := BitVec.ofNat 32 (i 1).val
  let c1_i32 : BitVec 32 := 1#32
  let v0 : BitVec 32 := Scalar.addi arg1 c1_i32
  let c4_i32 : BitVec 32 := 4#32
  let v2 : BitVec 32 := Scalar.addi v0 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c0_i32_181 : BitVec 32 := 0#32
  let v340 : BitVec 32 := Scalar.subi v20 c0_i32_181
  let c0_i32_183 : BitVec 32 := 0#32
  let v342 : BitVec 1 := Scalar.cmpi .sgt v340 c0_i32_183
  let v343 : BitVec 32 := Scalar.extui v342
  let c0_i32_184 : BitVec 32 := 0#32
  let v344 : BitVec 1 := Scalar.cmpi .slt v340 c0_i32_184
  let v345 : BitVec 32 := Scalar.extui v344
  let v346 : BitVec 32 := Scalar.subi v343 v345
  let c4_i32_182 : BitVec 32 := 4#32
  let c0_i32_185 : BitVec 32 := 0#32
  let v347 : BitVec 1 := Scalar.cmpi .sgt c4_i32_182 c0_i32_185
  let v348 : BitVec 32 := Scalar.extui v347
  let c0_i32_186 : BitVec 32 := 0#32
  let v349 : BitVec 1 := Scalar.cmpi .slt c4_i32_182 c0_i32_186
  let v350 : BitVec 32 := Scalar.extui v349
  let v351 : BitVec 32 := Scalar.subi v348 v350
  let v352 : BitVec 1 := Scalar.cmpi .ne v346 v351
  let v353 : BitVec 32 := Scalar.remsi v340 c4_i32_182
  let c0_i32_187 : BitVec 32 := 0#32
  let v354 : BitVec 1 := Scalar.cmpi .ne v353 c0_i32_187
  let v355 : BitVec 1 := Scalar.andi v352 v354
  let v341 : BitVec 32 := Scalar.divsi v340 c4_i32_182
  let c1_i32_188 : BitVec 32 := 1#32
  let v356 : BitVec 32 := Scalar.subi v341 c1_i32_188
  let v357 : BitVec 32 := Scalar.select v355 v356 v341
  let v363 : BitVec 32 := Scalar.muli c4_i32_194 v357
  let v364 : BitVec 32 := Scalar.addi c0_i32_195 v363
  let c2_i32_208 : BitVec 32 := 2#32
  let v365 : BitVec 32 := Scalar.subi v20 v364
  let c0_i32_197 : BitVec 32 := 0#32
  let v367 : BitVec 1 := Scalar.cmpi .sgt v365 c0_i32_197
  let v368 : BitVec 32 := Scalar.extui v367
  let c0_i32_198 : BitVec 32 := 0#32
  let v369 : BitVec 1 := Scalar.cmpi .slt v365 c0_i32_198
  let v370 : BitVec 32 := Scalar.extui v369
  let v371 : BitVec 32 := Scalar.subi v368 v370
  let c2_i32_196 : BitVec 32 := 2#32
  let c0_i32_199 : BitVec 32 := 0#32
  let v372 : BitVec 1 := Scalar.cmpi .sgt c2_i32_196 c0_i32_199
  let v373 : BitVec 32 := Scalar.extui v372
  let c0_i32_200 : BitVec 32 := 0#32
  let v374 : BitVec 1 := Scalar.cmpi .slt c2_i32_196 c0_i32_200
  let v375 : BitVec 32 := Scalar.extui v374
  let v376 : BitVec 32 := Scalar.subi v373 v375
  let v377 : BitVec 1 := Scalar.cmpi .ne v371 v376
  let v378 : BitVec 32 := Scalar.remsi v365 c2_i32_196
  let c0_i32_201 : BitVec 32 := 0#32
  let v379 : BitVec 1 := Scalar.cmpi .ne v378 c0_i32_201
  let v380 : BitVec 1 := Scalar.andi v377 v379
  let v366 : BitVec 32 := Scalar.divsi v365 c2_i32_196
  let c1_i32_202 : BitVec 32 := 1#32
  let v381 : BitVec 32 := Scalar.subi v366 c1_i32_202
  let v382 : BitVec 32 := Scalar.select v380 v381 v366
  let v388 : BitVec 32 := Scalar.muli c2_i32_208 v382
  let v389 : BitVec 32 := Scalar.addi v364 v388
  let v390 : BitVec 32 := Scalar.subi v20 v389
  let c1_i32_210 : BitVec 32 := 1#32
  let v392 : BitVec 32 := Scalar.divsi v390 c1_i32_210
  let v393 : BitVec 32 := Scalar.muli v392 c1_i32_210
  let v394 : BitVec 32 := Scalar.addi v389 v393
  let c1_i32_212 : BitVec 32 := 1#32
  let arg17 : BitVec 32 := Scf.iv v394 c1_i32_212 k0_t29
  let v537 : Index := Scalar.indexCast arg17
  let c560 : Index := 560#32
  let c0_323 : Index := 0#32
  ![v537.toNat, 560, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x8x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn.lean ====
abbrev S8x4096x1024 : Shape := ⟨3, ![8, 4096, 1024]⟩
abbrev S2x1024x2816 : Shape := ⟨3, ![2, 1024, 2816]⟩
abbrev S2x2816x1024 : Shape := ⟨3, ![2, 2816, 1024]⟩
abbrev S4x1024 : Shape := ⟨2, ![4, 1024]⟩
abbrev S32768x1024 : Shape := ⟨2, ![32768, 1024]⟩
abbrev S1x1024 : Shape := ⟨2, ![1, 1024]⟩
abbrev S1024 : Shape := ⟨1, ![1024]⟩
abbrev S256x1024 : Shape := ⟨2, ![256, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S4x1024, .f32⟩
  | .hbm, ⟨5, _⟩ => ⟨S4x1024, .f32⟩
  | .hbm, ⟨6, _⟩ => ⟨S32768x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x4096x1024 : Shape := ⟨3, ![8, 4096, 1024]⟩
abbrev S2x1024x2816 : Shape := ⟨3, ![2, 1024, 2816]⟩
abbrev S2x2816x1024 : Shape := ⟨3, ![2, 2816, 1024]⟩
abbrev S4x1024 : Shape := ⟨2, ![4, 1024]⟩
abbrev S32768x1024 : Shape := ⟨2, ![32768, 1024]⟩
abbrev S1x1024x2816 : Shape := ⟨3, ![1, 1024, 2816]⟩
abbrev S1024x2816 : Shape := ⟨2, ![1024, 2816]⟩
abbrev S32768x2816 : Shape := ⟨2, ![32768, 2816]⟩
abbrev S_ : Shape := ⟨0, ![]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S4x1024, .f32⟩
  | .hbm, ⟨5, _⟩ => ⟨S4x1024, .f32⟩
  | .hbm, ⟨6, _⟩ => ⟨S32768x1024, .f32⟩
  | .hbm, ⟨7, _⟩ => ⟨S1x1024x2816, .f32⟩
  | .hbm, ⟨8, _⟩ => ⟨S1024x2816, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S1x1024x2816, .f32⟩
  | .hbm, ⟨20, _⟩ => ⟨S1024x2816, .f32⟩
  | .hbm, ⟨21, _⟩ => ⟨S32768x2816, .f32⟩
  | .hbm, ⟨22, _⟩ => ⟨S32768x2816, .f32⟩
  | .hbm, ⟨23, _⟩ => ⟨S1x2816x1024, .f32⟩
  | .hbm, ⟨24, _⟩ => ⟨S2816x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Experts.lean ====
abbrev S67584x1024 : Shape := ⟨2, ![67584, 1024]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S256x1024 : Shape := ⟨2, ![256, 1024]⟩
abbrev S1x1x1024x3584 : Shape := ⟨4, ![1, 1, 1024, 3584]⟩
abbrev S1x1x3584x1024 : Shape := ⟨4, ![1, 1, 3584, 1024]⟩
abbrev S1024x3584 : Shape := ⟨2, ![1024, 3584]⟩
abbrev S3584x1024 : Shape := ⟨2, ![3584, 1024]⟩
abbrev S256x3584 : Shape := ⟨2, ![256, 3584]⟩

abbrev nBuf : Space → Nat
  | .hbm => 8
  | .vmem => 10
  | .smem => 2
  | _ => 0

abbrev bufTy : (tb : Table) → Fin (tcTables nBuf tb) → BufTy
  | .hbm, ⟨0, _⟩ => ⟨S67584x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S2x8x1024x3584, .bf16⟩
  | .hbm, ⟨5, _⟩ => ⟨S2x8x1024x3584, .bf16⟩
  | .hbm, ⟨6, _⟩ => ⟨S2x8x3584x1024, .bf16⟩
  | .hbm, ⟨7, _⟩ => ⟨S67584x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x3584, .bf16⟩
  | .local _ .vmem, ⟨3, _⟩ => ⟨S1x1x1024x3584, .bf16⟩
  | .local _ .vmem, ⟨4, _⟩ => ⟨S1x1x1024x3584, .bf16⟩
  | .local _ .vmem, ⟨5, _⟩ => ⟨S1x1x1024x3584, .bf16⟩
  | .local _ .vmem, ⟨6, _⟩ => ⟨S1x1x3584x1024, .bf16⟩
  | .local _ .vmem, ⟨7, _⟩ => ⟨S1x1x3584x1024, .bf16⟩
  | .local _ .vmem, ⟨8, _⟩ => ⟨S256x1024, .f32⟩
  | .local _ .vmem, ⟨9, _⟩ => ⟨S256x1024, .f32⟩
  | .local _ .smem, ⟨0, _⟩ => ⟨S264, .i32⟩
  | .local _ .smem, ⟨1, _⟩ => ⟨S1, .i32⟩
  | _, _ => ⟨S67584x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S67584x1024 : Shape := ⟨2, ![67584, 1024]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S67584 : Shape := ⟨1, ![67584]⟩
abbrev S_ : Shape := ⟨0, ![]⟩
abbrev S264x256 : Shape := ⟨2, ![264, 256]⟩
abbrev S1x1x1024x3584 : Shape := ⟨4, ![1, 1, 1024, 3584]⟩
abbrev S1024x3584 : Shape := ⟨2, ![1024, 3584]⟩
abbrev S67584x3584 : Shape := ⟨2, ![67584, 3584]⟩
abbrev S1x1x3584x1024 : Shape := ⟨4, ![1, 1, 3584, 1024]⟩
abbrev S3584x1024 : Shape := ⟨2, ![3584, 1024]⟩
abbrev S67584x1 : Shape := ⟨2, ![67584, 1]⟩

abbrev nBuf : Space → Nat
  | .hbm => 261
  | .vmem => 0
  | .smem => 0
  | _ => 0

abbrev hbmTy0_0 (i : Nat) : BufTy := match i % 128 with
  | 0 => ⟨S67584x1024, .f32⟩
  | 1 => ⟨S264, .i32⟩
  | 2 => ⟨S1, .i32⟩
  | 3 => ⟨S2x8x1024x3584, .f32⟩
  | 4 => ⟨S2x8x1024x3584, .f32⟩
  | 5 => ⟨S2x8x3584x1024, .f32⟩
  | 6 => ⟨S67584, .i32⟩
  | 7 => ⟨S_, .i32⟩
  | 8 => ⟨S_, .i32⟩
  | 9 => ⟨S67584, .i32⟩
  | 10 => ⟨S67584, .i32⟩
  | 11 => ⟨S67584, .i32⟩
  | 12 => ⟨S_, .i32⟩
  | 13 => ⟨S67584, .i32⟩
  | 14 => ⟨S67584, .i1⟩
  | 15 => ⟨S67584, .i32⟩
  | 16 => ⟨S67584, .i32⟩
  | 17 => ⟨S_, .i32⟩
  | 18 => ⟨S67584, .i32⟩
  | 19 => ⟨S67584, .i1⟩
  | 20 => ⟨S67584, .i1⟩
  | 21 => ⟨S_, .i32⟩
  | 22 => ⟨S67584, .i32⟩
  | 23 => ⟨S67584, .i32⟩
  | 24 => ⟨S67584, .i32⟩
  | 25 => ⟨S264x256, .i32⟩
  | 26 => ⟨S67584, .i32⟩
  | 27 => ⟨S_, .f32⟩
  | 28 => ⟨S67584x1024, .f32⟩
  | 29 => ⟨S1x1x1024x3584, .f32⟩
  | 30 => ⟨S1024x3584, .f32⟩
  | 31 => ⟨S67584x3584, .f32⟩
  | 32 => ⟨S67584x3584, .f32⟩
  | 33 => ⟨S67584x3584, .f32⟩
  | 34 => ⟨S_, .f32⟩
  | 35 => ⟨S67584x3584, .f32⟩
  | 36 => ⟨S67584x3584, .f32⟩
  | 37 => ⟨S_, .f32⟩
  | 38 => ⟨S67584x3584, .f32⟩
  | 39 => ⟨S67584x3584, .f32⟩
  | 40 => ⟨S67584x3584, .f32⟩
  | 41 => ⟨S1x1x1024x3584, .f32⟩
  | 42 => ⟨S1024x3584, .f32⟩
  | 43 => ⟨S67584x3584, .f32⟩
  | 44 => ⟨S67584x3584, .f32⟩
  | 45 => ⟨S1x1x3584x1024, .f32⟩
  | 46 => ⟨S3584x1024, .f32⟩
  | 47 => ⟨S67584x1024, .f32⟩
  | 48 => ⟨S_, .i32⟩
  | 49 => ⟨S67584, .i32⟩
  | 50 => ⟨S67584, .i1⟩
  | 51 => ⟨S_, .i32⟩
  | 52 => ⟨S67584, .i32⟩
  | 53 => ⟨S67584, .i1⟩
  | 54 => ⟨S67584, .i1⟩
  | 55 => ⟨S67584x1, .i1⟩
  | 56 => ⟨S67584x1024, .i1⟩
  | 57 => ⟨S67584x1024, .f32⟩
  | 58 => ⟨S1x1x1024x3584, .f32⟩
  | 59 => ⟨S1024x3584, .f32⟩
  | 60 => ⟨S67584x3584, .f32⟩
  | 61 => ⟨S67584x3584, .f32⟩
  | 62 => ⟨S67584x3584, .f32⟩
  | 63 => ⟨S_, .f32⟩
  | 64 => ⟨S67584x3584, .f32⟩
  | 65 => ⟨S67584x3584, .f32⟩
  | 66 => ⟨S_, .f32⟩
  | 67 => ⟨S67584x3584, .f32⟩
  | 68 => ⟨S67584x3584, .f32⟩
  | 69 => ⟨S67584x3584, .f32⟩
  | 70 => ⟨S1x1x1024x3584, .f32⟩
  | 71 => ⟨S1024x3584, .f32⟩
  | 72 => ⟨S67584x3584, .f32⟩
  | 73 => ⟨S67584x3584, .f32⟩
  | 74 => ⟨S1x1x3584x1024, .f32⟩
  | 75 => ⟨S3584x1024, .f32⟩
  | 76 => ⟨S67584x1024, .f32⟩
  | 77 => ⟨S_, .i32⟩
  | 78 => ⟨S67584, .i32⟩
  | 79 => ⟨S67584, .i1⟩
  | 80 => ⟨S_, .i32⟩
  | 81 => ⟨S67584, .i32⟩
  | 82 => ⟨S67584, .i1⟩
  | 83 => ⟨S67584, .i1⟩
  | 84 => ⟨S67584x1, .i1⟩
  | 85 => ⟨S67584x1024, .i1⟩
  | 86 => ⟨S67584x1024, .f32⟩
  | 87 => ⟨S1x1x1024x3584, .f32⟩
  | 88 => ⟨S1024x3584, .f32⟩
  | 89 => ⟨S67584x3584, .f32⟩
  | 90 => ⟨S67584x3584, .f32⟩
  | 91 => ⟨S67584x3584, .f32⟩
  | 92 => ⟨S_, .f32⟩
  | 93 => ⟨S67584x3584, .f32⟩
  | 94 => ⟨S67584x3584, .f32⟩
  | 95 => ⟨S_, .f32⟩
  | 96 => ⟨S67584x3584, .f32⟩
  | 97 => ⟨S67584x3584, .f32⟩
  | 98 => ⟨S67584x3584, .f32⟩
  | 99 => ⟨S1x1x1024x3584, .f32⟩
  | 100 => ⟨S1024x3584, .f32⟩
  | 101 => ⟨S67584x3584, .f32⟩
  | 102 => ⟨S67584x3584, .f32⟩
  | 103 => ⟨S1x1x3584x1024, .f32⟩
  | 104 => ⟨S3584x1024, .f32⟩
  | 105 => ⟨S67584x1024, .f32⟩
  | 106 => ⟨S_, .i32⟩
  | 107 => ⟨S67584, .i32⟩
  | 108 => ⟨S67584, .i1⟩
  | 109 => ⟨S_, .i32⟩
  | 110 => ⟨S67584, .i32⟩
  | 111 => ⟨S67584, .i1⟩
  | 112 => ⟨S67584, .i1⟩
  | 113 => ⟨S67584x1, .i1⟩
  | 114 => ⟨S67584x1024, .i1⟩
  | 115 => ⟨S67584x1024, .f32⟩
  | 116 => ⟨S1x1x1024x3584, .f32⟩
  | 117 => ⟨S1024x3584, .f32⟩
  | 118 => ⟨S67584x3584, .f32⟩
  | 119 => ⟨S67584x3584, .f32⟩
  | 120 => ⟨S67584x3584, .f32⟩
  | 121 => ⟨S_, .f32⟩
  | 122 => ⟨S67584x3584, .f32⟩
  | 123 => ⟨S67584x3584, .f32⟩
  | 124 => ⟨S_, .f32⟩
  | 125 => ⟨S67584x3584, .f32⟩
  | 126 => ⟨S67584x3584, .f32⟩
  | 127 => ⟨S67584x3584, .f32⟩
  | _ => ⟨S67584x1024, .f32⟩

abbrev hbmTy0_1 (i : Nat) : BufTy := match i % 128 with
  | 0 => ⟨S1x1x1024x3584, .f32⟩
  | 1 => ⟨S1024x3584, .f32⟩
  | 2 => ⟨S67584x3584, .f32⟩
  | 3 => ⟨S67584x3584, .f32⟩
  | 4 => ⟨S1x1x3584x1024, .f32⟩
  | 5 => ⟨S3584x1024, .f32⟩
  | 6 => ⟨S67584x1024, .f32⟩
  | 7 => ⟨S_, .i32⟩
  | 8 => ⟨S67584, .i32⟩
  | 9 => ⟨S67584, .i1⟩
  | 10 => ⟨S_, .i32⟩
  | 11 => ⟨S67584, .i32⟩
  | 12 => ⟨S67584, .i1⟩
  | 13 => ⟨S67584, .i1⟩
  | 14 => ⟨S67584x1, .i1⟩
  | 15 => ⟨S67584x1024, .i1⟩
  | 16 => ⟨S67584x1024, .f32⟩
  | 17 => ⟨S1x1x1024x3584, .f32⟩
  | 18 => ⟨S1024x3584, .f32⟩
  | 19 => ⟨S67584x3584, .f32⟩
  | 20 => ⟨S67584x3584, .f32⟩
  | 21 => ⟨S67584x3584, .f32⟩
  | 22 => ⟨S_, .f32⟩
  | 23 => ⟨S67584x3584, .f32⟩
  | 24 => ⟨S67584x3584, .f32⟩
  | 25 => ⟨S_, .f32⟩
  | 26 => ⟨S67584x3584, .f32⟩
  | 27 => ⟨S67584x3584, .f32⟩
  | 28 => ⟨S67584x3584, .f32⟩
  | 29 => ⟨S1x1x1024x3584, .f32⟩
  | 30 => ⟨S1024x3584, .f32⟩
  | 31 => ⟨S67584x3584, .f32⟩
  | 32 => ⟨S67584x3584, .f32⟩
  | 33 => ⟨S1x1x3584x1024, .f32⟩
  | 34 => ⟨S3584x1024, .f32⟩
  | 35 => ⟨S67584x1024, .f32⟩
  | 36 => ⟨S_, .i32⟩
  | 37 => ⟨S67584, .i32⟩
  | 38 => ⟨S67584, .i1⟩
  | 39 => ⟨S_, .i32⟩
  | 40 => ⟨S67584, .i32⟩
  | 41 => ⟨S67584, .i1⟩
  | 42 => ⟨S67584, .i1⟩
  | 43 => ⟨S67584x1, .i1⟩
  | 44 => ⟨S67584x1024, .i1⟩
  | 45 => ⟨S67584x1024, .f32⟩
  | 46 => ⟨S1x1x1024x3584, .f32⟩
  | 47 => ⟨S1024x3584, .f32⟩
  | 48 => ⟨S67584x3584, .f32⟩
  | 49 => ⟨S67584x3584, .f32⟩
  | 50 => ⟨S67584x3584, .f32⟩
  | 51 => ⟨S_, .f32⟩
  | 52 => ⟨S67584x3584, .f32⟩
  | 53 => ⟨S67584x3584, .f32⟩
  | 54 => ⟨S_, .f32⟩
  | 55 => ⟨S67584x3584, .f32⟩
  | 56 => ⟨S67584x3584, .f32⟩
  | 57 => ⟨S67584x3584, .f32⟩
  | 58 => ⟨S1x1x1024x3584, .f32⟩
  | 59 => ⟨S1024x3584, .f32⟩
  | 60 => ⟨S67584x3584, .f32⟩
  | 61 => ⟨S67584x3584, .f32⟩
  | 62 => ⟨S1x1x3584x1024, .f32⟩
  | 63 => ⟨S3584x1024, .f32⟩
  | 64 => ⟨S67584x1024, .f32⟩
  | 65 => ⟨S_, .i32⟩
  | 66 => ⟨S67584, .i32⟩
  | 67 => ⟨S67584, .i1⟩
  | 68 => ⟨S_, .i32⟩
  | 69 => ⟨S67584, .i32⟩
  | 70 => ⟨S67584, .i1⟩
  | 71 => ⟨S67584, .i1⟩
  | 72 => ⟨S67584x1, .i1⟩
  | 73 => ⟨S67584x1024, .i1⟩
  | 74 => ⟨S67584x1024, .f32⟩
  | 75 => ⟨S1x1x1024x3584, .f32⟩
  | 76 => ⟨S1024x3584, .f32⟩
  | 77 => ⟨S67584x3584, .f32⟩
  | 78 => ⟨S67584x3584, .f32⟩
  | 79 => ⟨S67584x3584, .f32⟩
  | 80 => ⟨S_, .f32⟩
  | 81 => ⟨S67584x3584, .f32⟩
  | 82 => ⟨S67584x3584, .f32⟩
  | 83 => ⟨S_, .f32⟩
  | 84 => ⟨S67584x3584, .f32⟩
  | 85 => ⟨S67584x3584, .f32⟩
  | 86 => ⟨S67584x3584, .f32⟩
  | 87 => ⟨S1x1x1024x3584, .f32⟩
  | 88 => ⟨S1024x3584, .f32⟩
  | 89 => ⟨S67584x3584, .f32⟩
  | 90 => ⟨S67584x3584, .f32⟩
  | 91 => ⟨S1x1x3584x1024, .f32⟩
  | 92 => ⟨S3584x1024, .f32⟩
  | 93 => ⟨S67584x1024, .f32⟩
  | 94 => ⟨S_, .i32⟩
  | 95 => ⟨S67584, .i32⟩
  | 96 => ⟨S67584, .i1⟩
  | 97 => ⟨S_, .i32⟩
  | 98 => ⟨S67584, .i32⟩
  | 99 => ⟨S67584, .i1⟩
  | 100 => ⟨S67584, .i1⟩
  | 101 => ⟨S67584x1, .i1⟩
  | 102 => ⟨S67584x1024, .i1⟩
  | 103 => ⟨S67584x1024, .f32⟩
  | 104 => ⟨S1x1x1024x3584, .f32⟩
  | 105 => ⟨S1024x3584, .f32⟩
  | 106 => ⟨S67584x3584, .f32⟩
  | 107 => ⟨S67584x3584, .f32⟩
  | 108 => ⟨S67584x3584, .f32⟩
  | 109 => ⟨S_, .f32⟩
  | 110 => ⟨S67584x3584, .f32⟩
  | 111 => ⟨S67584x3584, .f32⟩
  | 112 => ⟨S_, .f32⟩
  | 113 => ⟨S67584x3584, .f32⟩
  | 114 => ⟨S67584x3584, .f32⟩
  | 115 => ⟨S67584x3584, .f32⟩
  | 116 => ⟨S1x1x1024x3584, .f32⟩
  | 117 => ⟨S1024x3584, .f32⟩
  | 118 => ⟨S67584x3584, .f32⟩
  | 119 => ⟨S67584x3584, .f32⟩
  | 120 => ⟨S1x1x3584x1024, .f32⟩
  | 121 => ⟨S3584x1024, .f32⟩
  | 122 => ⟨S67584x1024, .f32⟩
  | 123 => ⟨S_, .i32⟩
  | 124 => ⟨S67584, .i32⟩
  | 125 => ⟨S67584, .i1⟩
  | 126 => ⟨S_, .i32⟩
  | 127 => ⟨S67584, .i32⟩
  | _ => ⟨S67584x1024, .f32⟩

abbrev hbmTy0_2 (i : Nat) : BufTy := match i % 128 with
  | 0 => ⟨S67584, .i1⟩
  | 1 => ⟨S67584, .i1⟩
  | 2 => ⟨S67584x1, .i1⟩
  | 3 => ⟨S67584x1024, .i1⟩
  | 4 => ⟨S67584x1024, .f32⟩
  | _ => ⟨S67584x1024, .f32⟩

abbrev hbmTy (i : Nat) : BufTy := match i / 128 with
  | 0 => hbmTy0_0 i
  | 1 => hbmTy0_1 i
  | 2 => hbmTy0_2 i
  | _ => ⟨S67584x1024, .f32⟩

abbrev bufTy : (tb : Table) → Fin (tcTables nBuf tb) → BufTy
  | .hbm, ⟨i, _⟩ => hbmTy i
  | _, _ => ⟨S67584x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_8 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call3_v0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_9 : Ref sig .tc := ⟨.hbm, 121, rfl⟩
abbrev main_v85 : Ref sig .tc := ⟨.hbm, 122, rfl⟩
abbrev main_v86 : Ref sig .tc := ⟨.hbm, 123, rfl⟩
abbrev main_cst_10 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_11 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call4_v0 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_12 : Ref sig .tc := ⟨.hbm, 150, rfl⟩
abbrev main_v110 : Ref sig .tc := ⟨.hbm, 151, rfl⟩
abbrev main_v111 : Ref sig .tc := ⟨.hbm, 152, rfl⟩
abbrev main_cst_13 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_14 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_call5_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_15 : Ref sig .tc := ⟨.hbm, 179, rfl⟩
abbrev main_v135 : Ref sig .tc := ⟨.hbm, 180, rfl⟩
abbrev main_v136 : Ref sig .tc := ⟨.hbm, 181, rfl⟩
abbrev main_cst_16 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_17 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_call6_v0 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_18 : Ref sig .tc := ⟨.hbm, 208, rfl⟩
abbrev main_v160 : Ref sig .tc := ⟨.hbm, 209, rfl⟩
abbrev main_v161 : Ref sig .tc := ⟨.hbm, 210, rfl⟩
abbrev main_cst_19 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_c_20 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_call7_v0 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_21 : Ref sig .tc := ⟨.hbm, 237, rfl⟩
abbrev main_v185 : Ref sig .tc := ⟨.hbm, 238, rfl⟩
abbrev main_v186 : Ref sig .tc := ⟨.hbm, 239, rfl⟩
abbrev main_cst_22 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_c_23 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_call8_v0 : Ref sig .tc := ⟨.hbm, 259, rfl⟩
abbrev main_v204 : Ref sig .tc := ⟨.hbm, 260, rfl⟩

abbrev nD : Nat := 1
abbrev τ : Topo := Topo.v7x

variable {F : FTy → Type} [FloatOps F]
-- ==== Proj.lean ====
abbrev S8x4096x1024 : Shape := ⟨3, ![8, 4096, 1024]⟩
abbrev S4x1024x3144 : Shape := ⟨3, ![4, 1024, 3144]⟩
abbrev S32768x1024 : Shape := ⟨2, ![32768, 1024]⟩
abbrev S1x1024x3144 : Shape := ⟨3, ![1, 1024, 3144]⟩
abbrev S1024x3144 : Shape := ⟨2, ![1024, 3144]⟩
abbrev S1024x512 : Shape := ⟨2, ![1024, 512]⟩
abbrev S512x1024 : Shape := ⟨2, ![512, 1024]⟩
abbrev S1024x64 : Shape := ⟨2, ![1024, 64]⟩
abbrev S1024x8 : Shape := ⟨2, ![1024, 8]⟩
abbrev S8x1024 : Shape := ⟨2, ![8, 1024]⟩
abbrev S512x32768 : Shape := ⟨2, ![512, 32768]⟩
abbrev S64x640x512 : Shape := ⟨3, ![64, 640, 512]⟩
abbrev S8x32768 : Shape := ⟨2, ![8, 32768]⟩
abbrev S32768x512 : Shape := ⟨2, ![32768, 512]⟩
abbrev S32768x64 : Shape := ⟨2, ![32768, 64]⟩
abbrev S512x512 : Shape := ⟨2, ![512, 512]⟩
abbrev S1x640x512 : Shape := ⟨3, ![1, 640, 512]⟩
abbrev S8x512 : Shape := ⟨2, ![8, 512]⟩
abbrev S512x64 : Shape := ⟨2, ![512, 64]⟩
abbrev S16x512 : Shape := ⟨2, ![16, 512]⟩
abbrev S64x512 : Shape := ⟨2, ![64, 512]⟩
abbrev S640x512 : Shape := ⟨2, ![640, 512]⟩

abbrev nBuf : Space → Nat
  | .hbm => 32
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S4x1024x3144, .f32⟩
  | .hbm, ⟨2, _⟩ => ⟨S32768x1024, .f32⟩
  | .hbm, ⟨3, _⟩ => ⟨S1x1024x3144, .f32⟩
  | .hbm, ⟨4, _⟩ => ⟨S1024x3144, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x64, .f32⟩
  | .hbm, ⟨17, _⟩ => ⟨S1024x64, .bf16⟩
  | .hbm, ⟨18, _⟩ => ⟨S1024x8, .f32⟩
  | .hbm, ⟨19, _⟩ => ⟨S8x1024, .f32⟩
  | .hbm, ⟨20, _⟩ => ⟨S8x1024, .bf16⟩
  | .hbm, ⟨21, _⟩ => ⟨S1024x512, .f32⟩
  | .hbm, ⟨22, _⟩ => ⟨S1024x512, .bf16⟩
  | .hbm, ⟨23, _⟩ => ⟨S1024x512, .f32⟩
  | .hbm, ⟨24, _⟩ => ⟨S1024x512, .bf16⟩
  | .hbm, ⟨25, _⟩ => ⟨S512x32768, .bf16⟩
  | .hbm, ⟨26, _⟩ => ⟨S512x32768, .bf16⟩
  | .hbm, ⟨27, _⟩ => ⟨S64x640x512, .bf16⟩
  | .hbm, ⟨28, _⟩ => ⟨S8x32768, .f32⟩
  | .hbm, ⟨29, _⟩ => ⟨S32768x512, .bf16⟩
  | .hbm, ⟨30, _⟩ => ⟨S32768x64, .bf16⟩
  | .hbm, ⟨31, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S8x1024, .bf16⟩
  | .local _ .vmem, ⟨6, _⟩ => ⟨S1024x512, .bf16⟩
  | .local _ .vmem, ⟨7, _⟩ => ⟨S1024x64, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x640x512, .bf16⟩
  | .local _ .vmem, ⟨15, _⟩ => ⟨S1x640x512, .bf16⟩
  | .local _ .vmem, ⟨16, _⟩ => ⟨S8x512, .f32⟩
  | .local _ .vmem, ⟨17, _⟩ => ⟨S8x512, .f32⟩
  | .local _ .vmem, ⟨18, _⟩ => ⟨S512x512, .bf16⟩
  | .local _ .vmem, ⟨19, _⟩ => ⟨S512x512, .bf16⟩
  | .local _ .vmem, ⟨20, _⟩ => ⟨S512x64, .bf16⟩
  | .local _ .vmem, ⟨21, _⟩ => ⟨S512x64, .bf16⟩
  | .local _ .vmem, ⟨22, _⟩ => ⟨S512x512, .f32⟩
  | .local _ .vmem, ⟨23, _⟩ => ⟨S512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23_0 : Ref sig .tc := ⟨.hbm, 25, rfl⟩
abbrev main_v23_1 : Ref sig .tc := ⟨.hbm, 26, rfl⟩
abbrev main_v23_2 : Ref sig .tc := ⟨.hbm, 27, rfl⟩
abbrev main_v23_3 : Ref sig .tc := ⟨.hbm, 28, rfl⟩
abbrev main_v23_4 : Ref sig .tc := ⟨.hbm, 29, rfl⟩
abbrev main_v23_5 : Ref sig .tc := ⟨.hbm, 30, rfl⟩
abbrev main_v23_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S8x4096x1024 : Shape := ⟨3, ![8, 4096, 1024]⟩
abbrev S4x1024x3144 : Shape := ⟨3, ![4, 1024, 3144]⟩
abbrev S32768x1024 : Shape := ⟨2, ![32768, 1024]⟩
abbrev S1x1024x3144 : Shape := ⟨3, ![1, 1024, 3144]⟩
abbrev S1024x3144 : Shape := ⟨2, ![1024, 3144]⟩
abbrev S32768x3144 : Shape := ⟨2, ![32768, 3144]⟩
abbrev S32768x512 : Shape := ⟨2, ![32768, 512]⟩
abbrev S_ : Shape := ⟨0, ![]⟩
abbrev S32768x8 : Shape := ⟨2, ![32768, 8]⟩
abbrev S64x512x8x64 : Shape := ⟨4, ![64, 512, 8, 64]⟩
abbrev S64x8x64x512 : Shape := ⟨4, ![64, 8, 64, 512]⟩
abbrev S64x8x1x512 : Shape := ⟨4, ![64, 8, 1, 512]⟩
abbrev S64x8x15x512 : Shape := ⟨4, ![64, 8, 15, 512]⟩
abbrev S64x8x80x512 : Shape := ⟨4, ![64, 8, 80, 512]⟩
abbrev S64x640x512 : Shape := ⟨3, ![64, 640, 512]⟩
abbrev S512x32768 : Shape := ⟨2, ![512, 32768]⟩
abbrev S8x32768 : Shape := ⟨2, ![8, 32768]⟩
abbrev S32768x64 : Shape := ⟨2, ![32768, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024x3144, .f32⟩
  | .hbm, ⟨2, _⟩ => ⟨S32768x1024, .f32⟩
  | .hbm, ⟨3, _⟩ => ⟨S1x1024x3144, .f32⟩
  | .hbm, ⟨4, _⟩ => ⟨S1024x3144, .f32⟩
  | .hbm, ⟨5, _⟩ => ⟨S32768x3144, .f32⟩
  | .hbm, ⟨6, _⟩ => ⟨S32768x512, .f32⟩
  | .hbm, ⟨7, _⟩ => ⟨S_, .f32⟩
  | .hbm, ⟨8, _⟩ => ⟨S32768x512, .f32⟩
  | .hbm, ⟨9, _⟩ => ⟨S32768x512, .f32⟩
  | .hbm, ⟨10, _⟩ => ⟨S32768x8, .f32⟩
  | .hbm, ⟨11, _⟩ => ⟨S_, .f32⟩
  | .hbm, ⟨12, _⟩ => ⟨S32768x8, .f32⟩
  | .hbm, ⟨13, _⟩ => ⟨S32768x8, .f32⟩
  | .hbm, ⟨14, _⟩ => ⟨S32768x512, .f32⟩
  | .hbm, ⟨15, _⟩ => ⟨S64x512x8x64, .f32⟩
  | .hbm, ⟨16, _⟩ => ⟨S64x8x64x512, .f32⟩
  | .hbm, ⟨17, _⟩ => ⟨S_, .f32⟩
  | .hbm, ⟨18, _⟩ => ⟨S64x8x1x512, .f32⟩
  | .hbm, ⟨19, _⟩ => ⟨S_, .f32⟩
  | .hbm, ⟨20, _⟩ => ⟨S64x8x15x512, .f32⟩
  | .hbm, ⟨21, _⟩ => ⟨S64x8x80x512, .f32⟩
  | .hbm, ⟨22, _⟩ => ⟨S64x640x512, .f32⟩
  | .hbm, ⟨23, _⟩ => ⟨S32768x512, .f32⟩
  | .hbm, ⟨24, _⟩ => ⟨S32768x512, .f32⟩
  | .hbm, ⟨25, _⟩ => ⟨S512x32768, .f32⟩
  | .hbm, ⟨26, _⟩ => ⟨S512x32768, .bf16⟩
  | .hbm, ⟨27, _⟩ => ⟨S32768x512, .f32⟩
  | .hbm, ⟨28, _⟩ => ⟨S512x32768, .f32⟩
  | .hbm, ⟨29, _⟩ => ⟨S512x32768, .bf16⟩
  | .hbm, ⟨30, _⟩ => ⟨S64x640x512, .bf16⟩
  | .hbm, ⟨31, _⟩ => ⟨S8x32768, .f32⟩
  | .hbm, ⟨32, _⟩ => ⟨S32768x512, .f32⟩
  | .hbm, ⟨33, _⟩ => ⟨S32768x512, .bf16⟩
  | .hbm, ⟨34, _⟩ => ⟨S32768x64, .f32⟩
  | .hbm, ⟨35, _⟩ => ⟨S32768x64, .bf16⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Combine.lean ====
abbrev S32768x1024 : Shape := ⟨2, ![32768, 1024]⟩
abbrev S32768x2 : Shape := ⟨2, ![32768, 2]⟩
abbrev S32768x8 : Shape := ⟨2, ![32768, 8]⟩
abbrev S67584x1024 : Shape := ⟨2, ![67584, 1024]⟩
abbrev S4x1024 : Shape := ⟨2, ![4, 1024]⟩
abbrev S64x512x2 : Shape := ⟨3, ![64, 512, 2]⟩
abbrev S64x2x512 : Shape := ⟨3, ![64, 2, 512]⟩
abbrev S64x1x1024 : Shape := ⟨3, ![64, 1, 1024]⟩
abbrev S1x1024 : Shape := ⟨2, ![1, 1024]⟩
abbrev S1024 : Shape := ⟨1, ![1024]⟩
abbrev S1x1x1024 : Shape := ⟨3, ![1, 1, 1024]⟩
abbrev S512x1024 : Shape := ⟨2, ![512, 1024]⟩
abbrev S512x8 : Shape := ⟨2, ![512, 8]⟩
abbrev S2x512x1024 : Shape := ⟨3, ![2, 512, 1024]⟩
abbrev S_ : Shape := ⟨0, ![]⟩
abbrev S1x1x1 : Shape := ⟨3, ![1, 1, 1]⟩
abbrev S512x1 : Shape := ⟨2, ![512, 1]⟩
abbrev S1x512x1024 : Shape := ⟨3, ![1, 512, 1024]⟩
abbrev S512 : Shape := ⟨1, ![512]⟩

abbrev nBuf : Space → Nat
  | .hbm => 16
  | .vmem => 9
  | .smem => 2
  | _ => 0

abbrev bufTy : (tb : Table) → Fin (tcTables nBuf tb) → BufTy
  | .hbm, ⟨0, _⟩ => ⟨S32768x1024, .f32⟩
  | .hbm, ⟨1, _⟩ => ⟨S32768x2, .i32⟩
  | .hbm, ⟨2, _⟩ => ⟨S32768x8, .f32⟩
  | .hbm, ⟨3, _⟩ => ⟨S67584x1024, .f32⟩
  | .hbm, ⟨4, _⟩ => ⟨S4x1024, .f32⟩
  | .hbm, ⟨5, _⟩ => ⟨S4x1024, .f32⟩
  | .hbm, ⟨6, _⟩ => ⟨S64x512x2, .i32⟩
  | .hbm, ⟨7, _⟩ => ⟨S64x2x512, .i32⟩
  | .hbm, ⟨8, _⟩ => ⟨S64x1x1024, .i32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S2x512x1024, .f32⟩
  | .local _ .smem, ⟨0, _⟩ => ⟨S1x1x1024, .i32⟩
  | .local _ .smem, ⟨1, _⟩ => ⟨S1x1x1024, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0_25 : Index := 0#32
  let c0_26 : Index := 0#32
  let c0_i32_24 : BitVec 32 := 0#32
  let c0_i32 : BitVec 32 := 0#32
  let c1_i32 : BitVec 32 := 1#32
  let arg10 : BitVec 32 := Scf.iv c0_i32 c1_i32 k0_t1
  let v43 : BitVec 32 := Scalar.addi c0_i32_24 arg10
  let v44 : Index := Scalar.indexCast v43
  ![0, 0, v44.toNat]
def k0_off2 (k0_t1 : Fin k0_t1_loop.trips) : Fin 3 → Nat :=
  let c0_i32_27 : BitVec 32 := 0#32
  let c0_i32 : BitVec 32 := 0#32
  let c1_i32 : BitVec 32 := 1#32
  let arg10 : BitVec 32 := Scf.iv c0_i32 c1_i32 k0_t1
  let c0_i32_28 : BitVec 32 := 0#32
  ![0, arg10.toNat, 0]
def k0_off3 (v45 : BitVec 32) : Fin 2 → Nat :=
  let c0_i32_29 : BitVec 32 := 0#32
  ![v45.toNat, 0]

def k0_chk1 (v45 : BitVec 32) : Prop :=
  (∀ a, (k0_off3 v45) a + S1x1024.size a ≤ S67584x1024.size a)
theorem k0_off3_inb : ∀ (v45 : BitVec 32) (k0_hw1 : k0_chk1 v45), ∀ a, (k0_off3 v45) a + S1x1024.size a ≤ S67584x1024.size a := fun v45 k0_hw1 => k0_hw1

def k0_off4 (k0_t1 : Fin k0_t1_loop.trips) : Fin 3 → Nat :=
  let c0_31 : Index := 0#32
  let c0_32 : Index := 0#32
  let c512_i32_30 : BitVec 32 := 512#32
  let c0_i32 : BitVec 32 := 0#32
  let c1_i32 : BitVec 32 := 1#32
  let arg10 : BitVec 32 := Scf.iv c0_i32 c1_i32 k0_t1
  let v49 : BitVec 32 := Scalar.addi c512_i32_30 arg10
  let v50 : Index := Scalar.indexCast v49
  ![0, 0, v50.toNat]
def k0_off5 (k0_t1 : Fin k0_t1_loop.trips) : Fin 3 → Nat :=
  let c1_i32_33 : BitVec 32 := 1#32
  let c0_i32 : BitVec 32 := 0#32
  let c1_i32 : BitVec 32 := 1#32
  let arg10 : BitVec 32 := Scf.iv c0_i32 c1_i32 k0_t1
  let c0_i32_34 : BitVec 32 := 0#32
  ![1, arg10.toNat, 0]
def k0_off6 (v51 : BitVec 32) : Fin 2 → Nat :=
  let c0_i32_35 : BitVec 32 := 0#32
  ![v51.toNat, 0]

def k0_chk2 (v51 : BitVec 32) : Prop :=
  (∀ a, (k0_off6 v51) a + S1x1024.size a ≤ S67584x1024.size a)
theorem k0_off6_inb : ∀ (v51 : BitVec 32) (k0_hw2 : k0_chk2 v51), ∀ a, (k0_off6 v51) a + S1x1024.size a ≤ S67584x1024.size a := fun v51 k0_hw2 => k0_hw2

@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off7 (k0_t2 : Fin k0_t2_loop.trips) : Fin 3 → Nat :=
  let c0_25 : Index := 0#32
  let c0_26 : Index := 0#32
  let c0_i32_24 : BitVec 32 := 0#32
  let c0_i32_1 : BitVec 32 := 0#32
  let c1_i32_3 : BitVec 32 := 1#32
  let arg10 : BitVec 32 := Scf.iv c0_i32_1 c1_i32_3 k0_t2
  let v43 : BitVec 32 := Scalar.addi c0_i32_24 arg10
  let v44 : Index := Scalar.indexCast v43
  ![0, 0, v44.toNat]
def k0_off8 (k0_t2 : Fin k0_t2_loop.trips) : Fin 3 → Nat :=
  let c0_i32_27 : BitVec 32 := 0#32
  let c0_i32_1 : BitVec 32 := 0#32
  let c1_i32_3 : BitVec 32 := 1#32
  let arg10 : BitVec 32 := Scf.iv c0_i32_1 c1_i32_3 k0_t2
  let c0_i32_28 : BitVec 32 := 0#32
  ![0, arg10.toNat, 0]
def k0_off9 (v45 : BitVec 32) : Fin 2 → Nat :=
  let c0_i32_29 : BitVec 32 := 0#32
  ![v45.toNat, 0]

def k0_chk3 (v45 : BitVec 32) : Prop :=
  (∀ a, (k0_off9 v45) a + S1x1024.size a ≤ S67584x1024.size a)
theorem k0_off9_inb : ∀ (v45 : BitVec 32) (k0_hw3 : k0_chk3 v45), ∀ a, (k0_off9 v45) a + S1x1024.size a ≤ S67584x1024.size a := fun v45 k0_hw3 => k0_hw3

def k0_off10 (k0_t2 : Fin k0_t2_loop.trips) : Fin 3 → Nat :=
  let c0_31 : Index := 0#32
  let c0_32 : Index := 0#32
  let c512_i32_30 : BitVec 32 := 512#32
  let c0_i32_1 : BitVec 32 := 0#32
  let c1_i32_3 : BitVec 32 := 1#32
  let arg10 : BitVec 32 := Scf.iv c0_i32_1 c1_i32_3 k0_t2
  let v49 : BitVec 32 := Scalar.addi c512_i32_30 arg10
  let v50 : Index := Scalar.indexCast v49
  ![0, 0, v50.toNat]
def k0_off11 (k0_t2 : Fin k0_t2_loop.trips) : Fin 3 → Nat :=
  let c1_i32_33 : BitVec 32 := 1#32
  let c0_i32_1 : BitVec 32 := 0#32
  let c1_i32_3 : BitVec 32 := 1#32
  let arg10 : BitVec 32 := Scf.iv c0_i32_1 c1_i32_3 k0_t2
  let c0_i32_34 : BitVec 32 := 0#32
  ![1, arg10.toNat, 0]
def k0_off12 (v51 : BitVec 32) : Fin 2 → Nat :=
  let c0_i32_35 : BitVec 32 := 0#32
  ![v51.toNat, 0]

def k0_chk4 (v51 : BitVec 32) : Prop :=
  (∀ a, (k0_off12 v51) a + S1x1024.size a ≤ S67584x1024.size a)
theorem k0_off12_inb : ∀ (v51 : BitVec 32) (k0_hw4 : k0_chk4 v51), ∀ a, (k0_off12 v51) a + S1x1024.size a ≤ S67584x1024.size a := fun v51 k0_hw4 => k0_hw4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768x1024 : Shape := ⟨2, ![32768, 1024]⟩
abbrev S32768x2 : Shape := ⟨2, ![32768, 2]⟩
abbrev S32768x8 : Shape := ⟨2, ![32768, 8]⟩
abbrev S67584x1024 : Shape := ⟨2, ![67584, 1024]⟩
abbrev S4x1024 : Shape := ⟨2, ![4, 1024]⟩
abbrev S32768x1 : Shape := ⟨2, ![32768, 1]⟩
abbrev S32768 : Shape := ⟨1, ![32768]⟩
abbrev S_ : Shape := ⟨0, ![]⟩
abbrev S1x1024 : Shape := ⟨2, ![1, 1024]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2, .i32⟩
  | .hbm, ⟨2, _⟩ => ⟨S32768x8, .f32⟩
  | .hbm, ⟨3, _⟩ => ⟨S67584x1024, .f32⟩
  | .hbm, ⟨4, _⟩ => ⟨S4x1024, .f32⟩
  | .hbm, ⟨5, _⟩ => ⟨S4x1024, .f32⟩
  | .hbm, ⟨6, _⟩ => ⟨S32768x1, .f32⟩
  | .hbm, ⟨7, _⟩ => ⟨S32768x1, .i32⟩
  | .hbm, ⟨8, _⟩ => ⟨S32768, .i32⟩
  | .hbm, ⟨9, _⟩ => ⟨S32768x1, .i32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1, .f32⟩
  | .hbm, ⟨14, _⟩ => ⟨S32768x1, .i32⟩
  | .hbm, ⟨15, _⟩ => ⟨S32768, .i32⟩
  | .hbm, ⟨16, _⟩ => ⟨S32768x1, .i32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Mixout.lean ====
abbrev S8x4096x1024 : Shape := ⟨3, ![8, 4096, 1024]⟩
abbrev S32768x512 : Shape := ⟨2, ![32768, 512]⟩
abbrev S4x31x512 : Shape := ⟨3, ![4, 31, 512]⟩
abbrev S4x512 : Shape := ⟨2, ![4, 512]⟩
abbrev S4x1024 : Shape := ⟨2, ![4, 1024]⟩
abbrev S4x1024x1024 : Shape := ⟨3, ![4, 1024, 1024]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S32768x1024 : Shape := ⟨2, ![32768, 1024]⟩
abbrev S512x1024 : Shape := ⟨2, ![512, 1024]⟩
abbrev S512x512 : Shape := ⟨2, ![512, 512]⟩
abbrev S32x512 : Shape := ⟨2, ![32, 512]⟩
abbrev S544x512 : Shape := ⟨2, ![544, 512]⟩
abbrev S8x88x512 : Shape := ⟨3, ![8, 88, 512]⟩
abbrev S64x512 : Shape := ⟨2, ![64, 512]⟩
abbrev S96x512 : Shape := ⟨2, ![96, 512]⟩
abbrev S88x512 : Shape := ⟨2, ![88, 512]⟩
abbrev S1x88x512 : Shape := ⟨3, ![1, 88, 512]⟩
abbrev S1x64x512 : Shape := ⟨3, ![1, 64, 512]⟩
abbrev S64 : Shape := ⟨1, ![64]⟩
abbrev S64x1 : Shape := ⟨2, ![64, 1]⟩
abbrev S512x1 : Shape := ⟨2, ![512, 1]⟩

abbrev nBuf : Space → Nat
  | .hbm => 36
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .f32⟩
  | .hbm, ⟨2, _⟩ => ⟨S32768x512, .f32⟩
  | .hbm, ⟨3, _⟩ => ⟨S4x31x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x1024, .f32⟩
  | .hbm, ⟨8, _⟩ => ⟨S4x1024x1024, .f32⟩
  | .hbm, ⟨9, _⟩ => ⟨S4x1024, .f32⟩
  | .hbm, ⟨10, _⟩ => ⟨S4x1024, .f32⟩
  | .hbm, ⟨11, _⟩ => ⟨S1x31x512, .f32⟩
  | .hbm, ⟨12, _⟩ => ⟨S31x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024x1024, .f32⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1024, .f32⟩
  | .hbm, ⟨35, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S544x512, .f32⟩
  | .local _ .vmem, ⟨19, _⟩ => ⟨S512x512, .bf16⟩
  | .local _ .vmem, ⟨20, _⟩ => ⟨S8x88x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_6 : BitVec 32 := 0#32
  let c8_i32 : BitVec 32 := 8#32
  let v11 : BitVec 32 := Scalar.addi c0_i32_6 c8_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg18 : BitVec 32 := Scf.iv c0_i32_6 c1_i32 k0_t1
  let c64_i32 : BitVec 32 := 64#32
  let v56 : BitVec 32 := Scalar.muli arg18 c64_i32
  v56
def k0_off1 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c64_i32 : BitVec 32 := 64#32
  let v56 : BitVec 32 := Scalar.muli arg18 c64_i32
  let v57 : BitVec 32 := v56
  let v63 : Index := Scalar.indexCast v57
  let c0_36 : Index := 0#32
  ![v63.toNat, 0]
def k0_off2 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c64_i32 : BitVec 32 := 64#32
  let v56 : BitVec 32 := Scalar.muli arg18 c64_i32
  let v57 : BitVec 32 := v56
  let v337 : Index := Scalar.indexCast v57
  let c0_182 : Index := 0#32
  ![v337.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixoutRefIdeal.lean ====
abbrev S8x4096x1024 : Shape := ⟨3, ![8, 4096, 1024]⟩
abbrev S32768x512 : Shape := ⟨2, ![32768, 512]⟩
abbrev S4x31x512 : Shape := ⟨3, ![4, 31, 512]⟩
abbrev S4x512 : Shape := ⟨2, ![4, 512]⟩
abbrev S4x1024 : Shape := ⟨2, ![4, 1024]⟩
abbrev S4x1024x1024 : Shape := ⟨3, ![4, 1024, 1024]⟩
abbrev S8x4096x512 : Shape := ⟨3, ![8, 4096, 512]⟩
abbrev S_ : Shape := ⟨0, ![]⟩
abbrev S8x4126x512 : Shape := ⟨3, ![8, 4126, 512]⟩
abbrev S1x1x512 : Shape := ⟨3, ![1, 1, 512]⟩
abbrev S512 : Shape := ⟨1, ![512]⟩
abbrev S1x512 : Shape := ⟨2, ![1, 512]⟩
abbrev S8x4096 : Shape := ⟨2, ![8, 4096]⟩
abbrev S8x4096x1 : Shape := ⟨3, ![8, 4096, 1]⟩
abbrev S32768x1024 : Shape := ⟨2, ![32768, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩

abbrev nBuf : Space → Nat
  | .hbm => 329
  | .vmem => 0
  | .smem => 0
  | _ => 0

abbrev hbmTy0_0 (i : Nat) : BufTy := match i % 128 with
  | 0 => ⟨S8x4096x1024, .f32⟩
  | 1 => ⟨S32768x512, .f32⟩
  | 2 => ⟨S32768x512, .f32⟩
  | 3 => ⟨S4x31x512, .f32⟩
  | 4 => ⟨S4x512, .f32⟩
  | 5 => ⟨S4x512, .f32⟩
  | 6 => ⟨S4x512, .f32⟩
  | 7 => ⟨S4x1024, .f32⟩
  | 8 => ⟨S4x1024x1024, .f32⟩
  | 9 => ⟨S4x1024, .f32⟩
  | 10 => ⟨S4x1024, .f32⟩
  | 11 => ⟨S8x4096x512, .f32⟩
  | 12 => ⟨S_, .i32⟩
  | 13 => ⟨S_, .f32⟩
  | 14 => ⟨S8x4126x512, .f32⟩
  | 15 => ⟨S_, .f32⟩
  | 16 => ⟨S8x4096x512, .f32⟩
  | 17 => ⟨S8x4096x512, .f32⟩
  | 18 => ⟨S1x1x512, .f32⟩
  | 19 => ⟨S512, .f32⟩
  | 20 => ⟨S1x1x512, .f32⟩
  | 21 => ⟨S8x4096x512, .f32⟩
  | 22 => ⟨S8x4096x512, .f32⟩
  | 23 => ⟨S8x4096x512, .f32⟩
  | 24 => ⟨S8x4096x512, .f32⟩
  | 25 => ⟨S1x1x512, .f32⟩
  | 26 => ⟨S512, .f32⟩
  | 27 => ⟨S1x1x512, .f32⟩
  | 28 => ⟨S8x4096x512, .f32⟩
  | 29 => ⟨S8x4096x512, .f32⟩
  | 30 => ⟨S8x4096x512, .f32⟩
  | 31 => ⟨S8x4096x512, .f32⟩
  | 32 => ⟨S1x1x512, .f32⟩
  | 33 => ⟨S512, .f32⟩
  | 34 => ⟨S1x1x512, .f32⟩
  | 35 => ⟨S8x4096x512, .f32⟩
  | 36 => ⟨S8x4096x512, .f32⟩
  | 37 => ⟨S8x4096x512, .f32⟩
  | 38 => ⟨S8x4096x512, .f32⟩
  | 39 => ⟨S1x1x512, .f32⟩
  | 40 => ⟨S512, .f32⟩
  | 41 => ⟨S1x1x512, .f32⟩
  | 42 => ⟨S8x4096x512, .f32⟩
  | 43 => ⟨S8x4096x512, .f32⟩
  | 44 => ⟨S8x4096x512, .f32⟩
  | 45 => ⟨S8x4096x512, .f32⟩
  | 46 => ⟨S1x1x512, .f32⟩
  | 47 => ⟨S512, .f32⟩
  | 48 => ⟨S1x1x512, .f32⟩
  | 49 => ⟨S8x4096x512, .f32⟩
  | 50 => ⟨S8x4096x512, .f32⟩
  | 51 => ⟨S8x4096x512, .f32⟩
  | 52 => ⟨S8x4096x512, .f32⟩
  | 53 => ⟨S1x1x512, .f32⟩
  | 54 => ⟨S512, .f32⟩
  | 55 => ⟨S1x1x512, .f32⟩
  | 56 => ⟨S8x4096x512, .f32⟩
  | 57 => ⟨S8x4096x512, .f32⟩
  | 58 => ⟨S8x4096x512, .f32⟩
  | 59 => ⟨S8x4096x512, .f32⟩
  | 60 => ⟨S1x1x512, .f32⟩
  | 61 => ⟨S512, .f32⟩
  | 62 => ⟨S1x1x512, .f32⟩
  | 63 => ⟨S8x4096x512, .f32⟩
  | 64 => ⟨S8x4096x512, .f32⟩
  | 65 => ⟨S8x4096x512, .f32⟩
  | 66 => ⟨S8x4096x512, .f32⟩
  | 67 => ⟨S1x1x512, .f32⟩
  | 68 => ⟨S512, .f32⟩
  | 69 => ⟨S1x1x512, .f32⟩
  | 70 => ⟨S8x4096x512, .f32⟩
  | 71 => ⟨S8x4096x512, .f32⟩
  | 72 => ⟨S8x4096x512, .f32⟩
  | 73 => ⟨S8x4096x512, .f32⟩
  | 74 => ⟨S1x1x512, .f32⟩
  | 75 => ⟨S512, .f32⟩
  | 76 => ⟨S1x1x512, .f32⟩
  | 77 => ⟨S8x4096x512, .f32⟩
  | 78 => ⟨S8x4096x512, .f32⟩
  | 79 => ⟨S8x4096x512, .f32⟩
  | 80 => ⟨S8x4096x512, .f32⟩
  | 81 => ⟨S1x1x512, .f32⟩
  | 82 => ⟨S512, .f32⟩
  | 83 => ⟨S1x1x512, .f32⟩
  | 84 => ⟨S8x4096x512, .f32⟩
  | 85 => ⟨S8x4096x512, .f32⟩
  | 86 => ⟨S8x4096x512, .f32⟩
  | 87 => ⟨S8x4096x512, .f32⟩
  | 88 => ⟨S1x1x512, .f32⟩
  | 89 => ⟨S512, .f32⟩
  | 90 => ⟨S1x1x512, .f32⟩
  | 91 => ⟨S8x4096x512, .f32⟩
  | 92 => ⟨S8x4096x512, .f32⟩
  | 93 => ⟨S8x4096x512, .f32⟩
  | 94 => ⟨S8x4096x512, .f32⟩
  | 95 => ⟨S1x1x512, .f32⟩
  | 96 => ⟨S512, .f32⟩
  | 97 => ⟨S1x1x512, .f32⟩
  | 98 => ⟨S8x4096x512, .f32⟩
  | 99 => ⟨S8x4096x512, .f32⟩
  | 100 => ⟨S8x4096x512, .f32⟩
  | 101 => ⟨S8x4096x512, .f32⟩
  | 102 => ⟨S1x1x512, .f32⟩
  | 103 => ⟨S512, .f32⟩
  | 104 => ⟨S1x1x512, .f32⟩
  | 105 => ⟨S8x4096x512, .f32⟩
  | 106 => ⟨S8x4096x512, .f32⟩
  | 107 => ⟨S8x4096x512, .f32⟩
  | 108 => ⟨S8x4096x512, .f32⟩
  | 109 => ⟨S1x1x512, .f32⟩
  | 110 => ⟨S512, .f32⟩
  | 111 => ⟨S1x1x512, .f32⟩
  | 112 => ⟨S8x4096x512, .f32⟩
  | 113 => ⟨S8x4096x512, .f32⟩
  | 114 => ⟨S8x4096x512, .f32⟩
  | 115 => ⟨S8x4096x512, .f32⟩
  | 116 => ⟨S1x1x512, .f32⟩
  | 117 => ⟨S512, .f32⟩
  | 118 => ⟨S1x1x512, .f32⟩
  | 119 => ⟨S8x4096x512, .f32⟩
  | 120 => ⟨S8x4096x512, .f32⟩
  | 121 => ⟨S8x4096x512, .f32⟩
  | 122 => ⟨S8x4096x512, .f32⟩
  | 123 => ⟨S1x1x512, .f32⟩
  | 124 => ⟨S512, .f32⟩
  | 125 => ⟨S1x1x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S1x1x512, .f32⟩
  | 3 => ⟨S512, .f32⟩
  | 4 => ⟨S1x1x512, .f32⟩
  | 5 => ⟨S8x4096x512, .f32⟩
  | 6 => ⟨S8x4096x512, .f32⟩
  | 7 => ⟨S8x4096x512, .f32⟩
  | 8 => ⟨S8x4096x512, .f32⟩
  | 9 => ⟨S1x1x512, .f32⟩
  | 10 => ⟨S512, .f32⟩
  | 11 => ⟨S1x1x512, .f32⟩
  | 12 => ⟨S8x4096x512, .f32⟩
  | 13 => ⟨S8x4096x512, .f32⟩
  | 14 => ⟨S8x4096x512, .f32⟩
  | 15 => ⟨S8x4096x512, .f32⟩
  | 16 => ⟨S1x1x512, .f32⟩
  | 17 => ⟨S512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S1x1x512, .f32⟩
  | 24 => ⟨S512, .f32⟩
  | 25 => ⟨S1x1x512, .f32⟩
  | 26 => ⟨S8x4096x512, .f32⟩
  | 27 => ⟨S8x4096x512, .f32⟩
  | 28 => ⟨S8x4096x512, .f32⟩
  | 29 => ⟨S8x4096x512, .f32⟩
  | 30 => ⟨S1x1x512, .f32⟩
  | 31 => ⟨S512, .f32⟩
  | 32 => ⟨S1x1x512, .f32⟩
  | 33 => ⟨S8x4096x512, .f32⟩
  | 34 => ⟨S8x4096x512, .f32⟩
  | 35 => ⟨S8x4096x512, .f32⟩
  | 36 => ⟨S8x4096x512, .f32⟩
  | 37 => ⟨S1x1x512, .f32⟩
  | 38 => ⟨S512, .f32⟩
  | 39 => ⟨S1x1x512, .f32⟩
  | 40 => ⟨S8x4096x512, .f32⟩
  | 41 => ⟨S8x4096x512, .f32⟩
  | 42 => ⟨S8x4096x512, .f32⟩
  | 43 => ⟨S8x4096x512, .f32⟩
  | 44 => ⟨S1x1x512, .f32⟩
  | 45 => ⟨S512, .f32⟩
  | 46 => ⟨S1x1x512, .f32⟩
  | 47 => ⟨S8x4096x512, .f32⟩
  | 48 => ⟨S8x4096x512, .f32⟩
  | 49 => ⟨S8x4096x512, .f32⟩
  | 50 => ⟨S8x4096x512, .f32⟩
  | 51 => ⟨S1x1x512, .f32⟩
  | 52 => ⟨S512, .f32⟩
  | 53 => ⟨S1x1x512, .f32⟩
  | 54 => ⟨S8x4096x512, .f32⟩
  | 55 => ⟨S8x4096x512, .f32⟩
  | 56 => ⟨S8x4096x512, .f32⟩
  | 57 => ⟨S8x4096x512, .f32⟩
  | 58 => ⟨S1x1x512, .f32⟩
  | 59 => ⟨S512, .f32⟩
  | 60 => ⟨S1x1x512, .f32⟩
  | 61 => ⟨S8x4096x512, .f32⟩
  | 62 => ⟨S8x4096x512, .f32⟩
  | 63 => ⟨S8x4096x512, .f32⟩
  | 64 => ⟨S8x4096x512, .f32⟩
  | 65 => ⟨S1x1x512, .f32⟩
  | 66 => ⟨S512, .f32⟩
  | 67 => ⟨S1x1x512, .f32⟩
  | 68 => ⟨S8x4096x512, .f32⟩
  | 69 => ⟨S8x4096x512, .f32⟩
  | 70 => ⟨S8x4096x512, .f32⟩
  | 71 => ⟨S8x4096x512, .f32⟩
  | 72 => ⟨S1x1x512, .f32⟩
  | 73 => ⟨S512, .f32⟩
  | 74 => ⟨S1x1x512, .f32⟩
  | 75 => ⟨S8x4096x512, .f32⟩
  | 76 => ⟨S8x4096x512, .f32⟩
  | 77 => ⟨S8x4096x512, .f32⟩
  | 78 => ⟨S8x4096x512, .f32⟩
  | 79 => ⟨S1x1x512, .f32⟩
  | 80 => ⟨S512, .f32⟩
  | 81 => ⟨S1x1x512, .f32⟩
  | 82 => ⟨S8x4096x512, .f32⟩
  | 83 => ⟨S8x4096x512, .f32⟩
  | 84 => ⟨S8x4096x512, .f32⟩
  | 85 => ⟨S8x4096x512, .f32⟩
  | 86 => ⟨S1x1x512, .f32⟩
  | 87 => ⟨S512, .f32⟩
  | 88 => ⟨S1x1x512, .f32⟩
  | 89 => ⟨S8x4096x512, .f32⟩
  | 90 => ⟨S8x4096x512, .f32⟩
  | 91 => ⟨S8x4096x512, .f32⟩
  | 92 => ⟨S8x4096x512, .f32⟩
  | 93 => ⟨S1x1x512, .f32⟩
  | 94 => ⟨S512, .f32⟩
  | 95 => ⟨S1x1x512, .f32⟩
  | 96 => ⟨S8x4096x512, .f32⟩
  | 97 => ⟨S8x4096x512, .f32⟩
  | 98 => ⟨S8x4096x512, .f32⟩
  | 99 => ⟨S8x4096x512, .f32⟩
  | 100 => ⟨S1x1x512, .f32⟩
  | 101 => ⟨S512, .f32⟩
  | 102 => ⟨S1x1x512, .f32⟩
  | 103 => ⟨S8x4096x512, .f32⟩
  | 104 => ⟨S8x4096x512, .f32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S1x512, .f32⟩
  | 112 => ⟨S512, .f32⟩
  | 113 => ⟨S1x512, .f32⟩
  | 114 => ⟨S512, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x512, .f32⟩
  | 122 => ⟨S8x4096x512, .f32⟩
  | 123 => ⟨S8x4096x512, .f32⟩
  | 124 => ⟨S_, .f32⟩
  | 125 => ⟨S8x4096, .f32⟩
  | 126 => ⟨S8x4096x1, .f32⟩
  | 127 => ⟨S_, .f32⟩
  | _ => ⟨S8x4096x1024, .f32⟩

abbrev hbmTy0_2 (i : Nat) : BufTy := match i % 128 with
  | 0 => ⟨S8x4096x1, .f32⟩
  | 1 => ⟨S8x4096x1, .f32⟩
  | 2 => ⟨S8x4096x512, .f32⟩
  | 3 => ⟨S8x4096x512, .f32⟩
  | 4 => ⟨S_, .f32⟩
  | 5 => ⟨S8x4096x1, .f32⟩
  | 6 => ⟨S8x4096x1, .f32⟩
  | 7 => ⟨S8x4096x1, .f32⟩
  | 8 => ⟨S8x4096x512, .f32⟩
  | 9 => ⟨S8x4096x512, .f32⟩
  | 10 => ⟨S1x1x512, .f32⟩
  | 11 => ⟨S8x4096x512, .f32⟩
  | 12 => ⟨S8x4096x512, .f32⟩
  | 13 => ⟨S1x1x512, .f32⟩
  | 14 => ⟨S8x4096x512, .f32⟩
  | 15 => ⟨S8x4096x512, .f32⟩
  | 16 => ⟨S8x4096x512, .f32⟩
  | 17 => ⟨S8x4096x512, .f32⟩
  | 18 => ⟨S_, .f32⟩
  | 19 => ⟨S8x4096x512, .f32⟩
  | 20 => ⟨S8x4096x512, .f32⟩
  | 21 => ⟨S_, .f32⟩
  | 22 => ⟨S8x4096x512, .f32⟩
  | 23 => ⟨S8x4096x512, .f32⟩
  | 24 => ⟨S8x4096x512, .f32⟩
  | 25 => ⟨S32768x512, .f32⟩
  | 26 => ⟨S32768x1024, .f32⟩
  | 27 => ⟨S1x1024, .f32⟩
  | 28 => ⟨S1024, .f32⟩
  | 29 => ⟨S1x1024, .f32⟩
  | 30 => ⟨S32768x1024, .f32⟩
  | 31 => ⟨S32768x1024, .f32⟩
  | 32 => ⟨S32768x1024, .f32⟩
  | 33 => ⟨S_, .f32⟩
  | 34 => ⟨S32768x1024, .f32⟩
  | 35 => ⟨S32768x1024, .f32⟩
  | 36 => ⟨S1x1024x1024, .f32⟩
  | 37 => ⟨S1024x1024, .f32⟩
  | 38 => ⟨S32768x1024, .f32⟩
  | 39 => ⟨S32768x1024, .f32⟩
  | 40 => ⟨S1x1024, .f32⟩
  | 41 => ⟨S1024, .f32⟩
  | 42 => ⟨S1x1024, .f32⟩
  | 43 => ⟨S1024, .f32⟩
  | 44 => ⟨S_, .f32⟩
  | 45 => ⟨S32768, .f32⟩
  | 46 => ⟨S32768x1, .f32⟩
  | 47 => ⟨S_, .f32⟩
  | 48 => ⟨S32768x1, .f32⟩
  | 49 => ⟨S32768x1, .f32⟩
  | 50 => ⟨S32768x1024, .f32⟩
  | 51 => ⟨S32768x1024, .f32⟩
  | 52 => ⟨S32768x1024, .f32⟩
  | 53 => ⟨S_, .f32⟩
  | 54 => ⟨S32768, .f32⟩
  | 55 => ⟨S32768x1, .f32⟩
  | 56 => ⟨S_, .f32⟩
  | 57 => ⟨S32768x1, .f32⟩
  | 58 => ⟨S32768x1, .f32⟩
  | 59 => ⟨S32768x1024, .f32⟩
  | 60 => ⟨S32768x1024, .f32⟩
  | 61 => ⟨S_, .f32⟩
  | 62 => ⟨S32768x1, .f32⟩
  | 63 => ⟨S32768x1, .f32⟩
  | 64 => ⟨S32768x1, .f32⟩
  | 65 => ⟨S32768x1024, .f32⟩
  | 66 => ⟨S32768x1024, .f32⟩
  | 67 => ⟨S1x1024, .f32⟩
  | 68 => ⟨S32768x1024, .f32⟩
  | 69 => ⟨S32768x1024, .f32⟩
  | 70 => ⟨S1x1024, .f32⟩
  | 71 => ⟨S32768x1024, .f32⟩
  | 72 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_cst_0 : Ref sig .tc := ⟨.hbm, 243, rfl⟩
abbrev main_v229 : Ref sig .tc := ⟨.hbm, 244, rfl⟩
abbrev main_v230 : Ref sig .tc := ⟨.hbm, 245, rfl⟩
abbrev main_cst_1 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_cst_2 : Ref sig .tc := ⟨.hbm, 252, rfl⟩
abbrev main_v236 : Ref sig .tc := ⟨.hbm, 253, rfl⟩
abbrev main_v237 : Ref sig .tc := ⟨.hbm, 254, rfl⟩
abbrev main_cst_3 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_cst_4 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_5 : Ref sig .tc := ⟨.hbm, 274, rfl⟩
abbrev main_v255 : Ref sig .tc := ⟨.hbm, 275, rfl⟩
abbrev main_v256 : Ref sig .tc := ⟨.hbm, 276, rfl⟩
abbrev main_cst_6 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_cst_7 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_cst_8 : Ref sig .tc := ⟨.hbm, 300, rfl⟩
abbrev main_v278 : Ref sig .tc := ⟨.hbm, 301, rfl⟩
abbrev main_v279 : Ref sig .tc := ⟨.hbm, 302, rfl⟩
abbrev main_cst_9 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_cst_10 : Ref sig .tc := ⟨.hbm, 309, rfl⟩
abbrev main_v285 : Ref sig .tc := ⟨.hbm, 310, rfl⟩
abbrev main_v286 : Ref sig .tc := ⟨.hbm, 311, rfl⟩
abbrev main_cst_11 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_cst_12 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_v301 : Ref sig .tc := ⟨.hbm, 328, rfl⟩

abbrev nD : Nat := 1
abbrev τ : Topo := Topo.v7x

variable {F : FTy → Type} [FloatOps F]
-- ==== Proof.Attn.Buffers.lean ====
/-
  Programs that only load from and store into buffers they hold whole: the assertion "these buffers are held,
  at some contents" is kept by every load, store, sequence, branch and counted loop. Nothing is said of what the
  buffers hold, so the rules compose along the text of a program without following its values.
-/
module

public import Idealize.ShloMosaic.Lib.Pipeline.FrameBody

@[expose] public section

noncomputable section

namespace Cert.Attn

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]
variable {defs : Defs nD τ sig Val Λ} (𝒱 : Variants) (c : Thread nD τ)

local notation "𝕄" => MT nD τ sig Unit Val ℕ U ℕ

/-- The memref's buffer is held, at some contents. -/
def Holds {sp : Space} {s : Shape} {e : EltTy} (m : Memref sig c.2.kind sp s e) : sProp (MT nD τ sig Unit Val ℕ U ℕ) :=
  iprop(∃ X, owns c m fullShare X)

/-- `Keeps 𝒱 c P p`: the program `p` started in `P` ends in `P`. -/
def Keeps (P : sProp (MT nD τ sig Unit Val ℕ U ℕ)) {α : Type} (p : Prog (TpuEff nD τ sig Val Λ c.2) α) : Prop :=
  P ⊢ wp frame (wpE defs 𝒱 c none) Set.univ p (fun _ => P)

variable {P : sProp (MT nD τ sig Unit Val ℕ U ℕ)} {α β : Type}

theorem keeps_pure (a : α) : Keeps (defs := defs) 𝒱 c P (pure a) :=
  BI.fupd_intro

theorem keeps_bind {p : Prog (TpuEff nD τ sig Val Λ c.2) α} {k : α → Prog (TpuEff nD τ sig Val Λ c.2) β}
    (hp : Keeps (defs := defs) 𝒱 c P p) (hk : ∀ a, Keeps (defs := defs) 𝒱 c P (k a)) :
    Keeps (defs := defs) 𝒱 c P (p >>= k) := by
  unfold Keeps at hp hk ⊢
  rw [wp_bind]
  refine hp.trans (Idealize.SL.Sem.wp_mono frame (wpE defs 𝒱 c none) Set.univ (Q' := fun a => wp frame (wpE defs 𝒱 c none) Set.univ (k a) fun _ => P) hk)

theorem keeps_for {w : Nat} {σ : Type} (l : Scf.Loop w) (hok : l.OK) (init : σ)
    (body : Fin l.trips → σ → Prog (TpuEff nD τ sig Val Λ c.2) σ)
    (hb : ∀ k acc, Keeps (defs := defs) 𝒱 c P (body k acc)) :
    Keeps (defs := defs) 𝒱 c P (Scf.Loop.for l hok init body) := by
  unfold Keeps
  refine BIBase.Entails.trans ?_ (Scf.wp_for frame (wpE defs 𝒱 c none) Set.univ l.lb l.ub l.st hok init body (fun _ _ => P) hb)
  iintro H
  isplitl [H]; · iexact H
  iintro %acc H
  iexact H

theorem keeps_dite {q : Prop} [Decidable q] {t : q → Prog (TpuEff nD τ sig Val Λ c.2) α} {e : ¬ q → Prog (TpuEff nD τ sig Val Λ c.2) α}
    (ht : ∀ h, Keeps (defs := defs) 𝒱 c P (t h)) (he : ∀ h, Keeps (defs := defs) 𝒱 c P (e h)) :
    Keeps (defs := defs) 𝒱 c P (dite q t e) := by
  by_cases h : q
  · rw [dif_pos h]; exact ht h
  · rw [dif_neg h]; exact he h

theorem keeps_ite {q : Prop} [Decidable q] {t e : Prog (TpuEff nD τ sig Val Λ c.2) α}
    (ht : Keeps (defs := defs) 𝒱 c P t) (he : Keeps (defs := defs) 𝒱 c P e) :
    Keeps (defs := defs) 𝒱 c P (ite q t e) := by
  by_cases h : q
  · rw [if_pos h]; exact ht
  · rw [if_neg h]; exact he

section Ops

variable {cs : CoreSpace} {s : Shape} {e : EltTy} {m : Memref sig c.2.kind cs s e}

theorem keeps_load {r : LoadRect s} {hl : m.view.LoadsAt r} (hP : P ⊢ iprop(Holds c m ∗ (Holds c m -∗ P))) :
    Keeps (defs := defs) 𝒱 c P (Prog.lift (.load m r hl)) := by
  unfold Keeps Holds owns at *
  refine hP.trans ?_
  iintro H
  icases H with ⟨⟨%X, %f, %hf, Hm⟩, Hw⟩
  iapply (wp_load 𝒱 c none Set.univ (m := m) (r := r) (hl := hl) (S := m.view.set) (q := fullShare) (f := f) (View.setOn_subset_set _ _)) $$ Hm
  iintro Hm
  rw [wp_ret]
  imodintro
  iapply Hw
  iexists X, f
  isplitr [Hm]
  · ipureintro; exact hf
  · iexact Hm

theorem keeps_store {r : Rect s} {w : r.shape.Idx → Val e} {Mk : Finset r.shape.Idx} {hx : (m.access r).Stores Mk}
    {hm : Mk = Finset.univ ∨ ∀ a, r.stride a = 1} (hP : P ⊢ iprop(Holds c m ∗ (Holds c m -∗ P))) :
    Keeps (defs := defs) 𝒱 c P (Prog.lift (.store m r w Mk hx hm)) := by
  unfold Keeps Holds owns at *
  refine hP.trans ?_
  iintro H
  icases H with ⟨⟨%X, %f, %hf, Hm⟩, Hw⟩
  iapply (wp_store 𝒱 c none Set.univ (m := m) (r := r) (w := w) (Mk := Mk) (hx := hx) (hm := hm) (S := m.view.set) (f := f) (View.setOn_slice_subset_set m.view r Mk)) $$ Hm
  iintro Hm
  rw [wp_ret]
  imodintro
  iapply Hw
  iexists (m.view.read Val ((m.access r).write Val f w Mk)), ((m.access r).write Val f w Mk)
  isplitr [Hm]
  · ipureintro; rfl
  · iexact Hm

end Ops

end Cert.Attn

end
-- ==== Proof.Attn.Setup.lean ====
/-
  The fifteen buffers of the sparse attention's kernel function (seven inputs, the output, seven scratch buffers),
  held whole at some contents, and the rules of `Buffers.lean` at each of them.
-/
module

public import proofs.«01_k».proof.Proof.Gen.Kernel.Skeleton
public import proofs.«01_k».proof.Proof.Attn.Buffers

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

variable {F : FTy → Type} [BitOps F]

/-- The buffers the kernel function is called with, each a whole buffer. -/
structure Bufs where
  a2 : Memref sig .tc .vmem S512x128 .bf16
  h2 : a2.IsWhole
  a3 : Memref sig .tc .vmem S8x128 .f32
  h3 : a3.IsWhole
  a4 : Memref sig .tc .vmem S512x128 .bf16
  h4 : a4.IsWhole
  a5 : Memref sig .tc .vmem S4096x64 .bf16
  h5 : a5.IsWhole
  a6 : Memref sig .tc .vmem S4096x512 .bf16
  h6 : a6.IsWhole
  a7 : Memref sig .tc .vmem S8x640x512 .bf16
  h7 : a7.IsWhole
  a8 : Memref sig .tc .vmem S2x8x128x512 .f32
  h8 : a8.IsWhole
  a9 : Memref sig .tc .vmem S128x512 .f32
  h9 : a9.IsWhole
  a10 : Memref sig .tc .vmem S4096x128 .i32
  h10 : a10.IsWhole
  a11 : Memref sig .tc .vmem S32x128x128 .i32
  h11 : a11.IsWhole
  a12 : Memref sig .tc .vmem S4096x1024 .f32
  h12 : a12.IsWhole
  a13 : Memref sig .tc .vmem S8x80x128 .f32
  h13 : a13.IsWhole
  a14 : Memref sig .tc .vmem S2x64x512 .bf16
  h14 : a14.IsWhole
  a15 : Memref sig .tc .vmem S2x256x512 .bf16
  h15 : a15.IsWhole
  a16 : Memref sig .tc .vmem S2x1x512 .f32
  h16 : a16.IsWhole

/-- Every buffer held, at some contents. -/
def Bufs.Own (F : FTy → Type) [BitOps F] (B : Bufs) (c : Dev nD) : sProp (MT nD τ sig Unit (Elt F) ℕ (UR sig nD τ) ℕ) :=
  iprop(Holds (c : Thread nD τ) B.a2 ∗ Holds (c : Thread nD τ) B.a3 ∗ Holds (c : Thread nD τ) B.a4 ∗ Holds (c : Thread nD τ) B.a5 ∗ Holds (c : Thread nD τ) B.a6 ∗ Holds (c : Thread nD τ) B.a7 ∗ Holds (c : Thread nD τ) B.a8 ∗ Holds (c : Thread nD τ) B.a9 ∗ Holds (c : Thread nD τ) B.a10 ∗ Holds (c : Thread nD τ) B.a11 ∗ Holds (c : Thread nD τ) B.a12 ∗ Holds (c : Thread nD τ) B.a13 ∗ Holds (c : Thread nD τ) B.a14 ∗ Holds (c : Thread nD τ) B.a15 ∗ Holds (c : Thread nD τ) B.a16)

/-- The program `p` of the kernel's core, started with every buffer held, ends with every buffer held. -/
def Safe (B : Bufs) {α : Type} (p : Prog (TpuEff nD τ sig (Elt F) Λ₀ .tc) α) : Prop :=
  ∀ c : Dev nD, Keeps (defs := defs₀ (F := F)) Variants.none (c : Thread nD τ) (B.Own F c) p

theorem safe_pure (B : Bufs) {α : Type} (a : α) : Safe (F := F) B (pure a) := fun _ => keeps_pure _ _ a

theorem safe_bind (B : Bufs) {α β : Type} {p : Prog (TpuEff nD τ sig (Elt F) Λ₀ .tc) α} {k : α → Prog (TpuEff nD τ sig (Elt F) Λ₀ .tc) β}
    (hp : Safe B p) (hk : ∀ a, Safe B (k a)) : Safe B (p >>= k) := fun c => keeps_bind _ _ (hp c) fun a => hk a c

theorem safe_for (B : Bufs) {w : Nat} {σ : Type} (l : Scf.Loop w) (hok : l.OK) (init : σ)
    (body : Fin l.trips → σ → Prog (TpuEff nD τ sig (Elt F) Λ₀ .tc) σ) (hb : ∀ k acc, Safe B (body k acc)) :
    Safe B (Scf.Loop.for l hok init body) := fun c =>
  keeps_for (defs := defs₀ (F := F)) (P := B.Own F c) Variants.none (c : Thread nD τ) l hok init body fun k acc => hb k acc c

theorem safe_dite (B : Bufs) {α : Type} {q : Prop} [Decidable q] {t : q → Prog (TpuEff nD τ sig (Elt F) Λ₀ .tc) α}
    {e : ¬ q → Prog (TpuEff nD τ sig (Elt F) Λ₀ .tc) α} (ht : ∀ h, Safe B (t h)) (he : ∀ h, Safe B (e h)) :
    Safe B (dite q t e) := fun c => keeps_dite _ _ (fun h => ht h c) fun h => he h c

theorem safe_ite (B : Bufs) {α : Type} {q : Prop} [Decidable q] {t e : Prog (TpuEff nD τ sig (Elt F) Λ₀ .tc) α}
    (ht : Safe B t) (he : Safe B e) : Safe B (ite q t e) := fun c => keeps_ite _ _ (ht c) (he c)

theorem own_a2 (B : Bufs) (c : Dev nD) : B.Own F c ⊢ iprop(Holds (c : Thread nD τ) B.a2 ∗ (Holds (c : Thread nD τ) B.a2 -∗ B.Own F c)) := by
  unfold Bufs.Own
  iintro ⟨H2, H3, H4, H5, H6, H7, H8, H9, H10, H11, H12, H13, H14, H15, H16⟩
  isplitl [H2]; · iexact H2
  iintro H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a2 (B : Bufs) {r : LoadRect S512x128} {hl : B.a2.view.LoadsAt r} : Safe (F := F) B (Prog.lift (.load B.a2 r hl)) :=
  fun c => keeps_load _ _ (own_a2 B c)

theorem store_a2 (B : Bufs) {r : Rect S512x128} {w : r.shape.Idx → Elt F .bf16} {Mk : Finset r.shape.Idx} {hx : (B.a2.access r).Stores Mk}
    {hm : Mk = Finset.univ ∨ ∀ a, r.stride a = 1} : Safe (F := F) B (Prog.lift (.store B.a2 r w Mk hx hm)) :=
  fun c => keeps_store _ _ (own_a2 B c)

theorem own_a3 (B : Bufs) (c : Dev nD) : B.Own F c ⊢ iprop(Holds (c : Thread nD τ) B.a3 ∗ (Holds (c : Thread nD τ) B.a3 -∗ B.Own F c)) := by
  unfold Bufs.Own
  iintro ⟨H2, H3, H4, H5, H6, H7, H8, H9, H10, H11, H12, H13, H14, H15, H16⟩
  isplitl [H3]; · iexact H3
  iintro H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a3 (B : Bufs) {r : LoadRect S8x128} {hl : B.a3.view.LoadsAt r} : Safe (F := F) B (Prog.lift (.load B.a3 r hl)) :=
  fun c => keeps_load _ _ (own_a3 B c)

theorem store_a3 (B : Bufs) {r : Rect S8x128} {w : r.shape.Idx → Elt F .f32} {Mk : Finset r.shape.Idx} {hx : (B.a3.access r).Stores Mk}
    {hm : Mk = Finset.univ ∨ ∀ a, r.stride a = 1} : Safe (F := F) B (Prog.lift (.store B.a3 r w Mk hx hm)) :=
  fun c => keeps_store _ _ (own_a3 B c)

theorem own_a4 (B : Bufs) (c : Dev nD) : B.Own F c ⊢ iprop(Holds (c : Thread nD τ) B.a4 ∗ (Holds (c : Thread nD τ) B.a4 -∗ B.Own F c)) := by
  unfold Bufs.Own
  iintro ⟨H2, H3, H4, H5, H6, H7, H8, H9, H10, H11, H12, H13, H14, H15, H16⟩
  isplitl [H4]; · iexact H4
  iintro H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a4 (B : Bufs) {r : LoadRect S512x128} {hl : B.a4.view.LoadsAt r} : Safe (F := F) B (Prog.lift (.load B.a4 r hl)) :=
  fun c => keeps_load _ _ (own_a4 B c)

theorem store_a4 (B : Bufs) {r : Rect S512x128} {w : r.shape.Idx → Elt F .bf16} {Mk : Finset r.shape.Idx} {hx : (B.a4.access r).Stores Mk}
    {hm : Mk = Finset.univ ∨ ∀ a, r.stride a = 1} : Safe (F := F) B (Prog.lift (.store B.a4 r w Mk hx hm)) :=
  fun c => keeps_store _ _ (own_a4 B c)

theorem own_a5 (B : Bufs) (c : Dev nD) : B.Own F c ⊢ iprop(Holds (c : Thread nD τ) B.a5 ∗ (Holds (c : Thread nD τ) B.a5 -∗ B.Own F c)) := by
  unfold Bufs.Own
  iintro ⟨H2, H3, H4, H5, H6, H7, H8, H9, H10, H11, H12, H13, H14, H15, H16⟩
  isplitl [H5]; · iexact H5
  iintro H5
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a5 (B : Bufs) {r : LoadRect S4096x64} {hl : B.a5.view.LoadsAt r} : Safe (F := F) B (Prog.lift (.load B.a5 r hl)) :=
  fun c => keeps_load _ _ (own_a5 B c)

theorem store_a5 (B : Bufs) {r : Rect S4096x64} {w : r.shape.Idx → Elt F .bf16} {Mk : Finset r.shape.Idx} {hx : (B.a5.access r).Stores Mk}
    {hm : Mk = Finset.univ ∨ ∀ a, r.stride a = 1} : Safe (F := F) B (Prog.lift (.store B.a5 r w Mk hx hm)) :=
  fun c => keeps_store _ _ (own_a5 B c)

theorem own_a6 (B : Bufs) (c : Dev nD) : B.Own F c ⊢ iprop(Holds (c : Thread nD τ) B.a6 ∗ (Holds (c : Thread nD τ) B.a6 -∗ B.Own F c)) := by
  unfold Bufs.Own
  iintro ⟨H2, H3, H4, H5, H6, H7, H8, H9, H10, H11, H12, H13, H14, H15, H16⟩
  isplitl [H6]; · iexact H6
  iintro H6
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a6 (B : Bufs) {r : LoadRect S4096x512} {hl : B.a6.view.LoadsAt r} : Safe (F := F) B (Prog.lift (.load B.a6 r hl)) :=
  fun c => keeps_load _ _ (own_a6 B c)

theorem store_a6 (B : Bufs) {r : Rect S4096x512} {w : r.shape.Idx → Elt F .bf16} {Mk : Finset r.shape.Idx} {hx : (B.a6.access r).Stores Mk}
    {hm : Mk = Finset.univ ∨ ∀ a, r.stride a = 1} : Safe (F := F) B (Prog.lift (.store B.a6 r w Mk hx hm)) :=
  fun c => keeps_store _ _ (own_a6 B c)

theorem own_a7 (B : Bufs) (c : Dev nD) : B.Own F c ⊢ iprop(Holds (c : Thread nD τ) B.a7 ∗ (Holds (c : Thread nD τ) B.a7 -∗ B.Own F c)) := by
  unfold Bufs.Own
  iintro ⟨H2, H3, H4, H5, H6, H7, H8, H9, H10, H11, H12, H13, H14, H15, H16⟩
  isplitl [H7]; · iexact H7
  iintro H7
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a7 (B : Bufs) {r : LoadRect S8x640x512} {hl : B.a7.view.LoadsAt r} : Safe (F := F) B (Prog.lift (.load B.a7 r hl)) :=
  fun c => keeps_load _ _ (own_a7 B c)

theorem store_a7 (B : Bufs) {r : Rect S8x640x512} {w : r.shape.Idx → Elt F .bf16} {Mk : Finset r.shape.Idx} {hx : (B.a7.access r).Stores Mk}
    {hm : Mk = Finset.univ ∨ ∀ a, r.stride a = 1} : Safe (F := F) B (Prog.lift (.store B.a7 r w Mk hx hm)) :=
  fun c => keeps_store _ _ (own_a7 B c)

theorem own_a8 (B : Bufs) (c : Dev nD) : B.Own F c ⊢ iprop(Holds (c : Thread nD τ) B.a8 ∗ (Holds (c : Thread nD τ) B.a8 -∗ B.Own F c)) := by
  unfold Bufs.Own
  iintro ⟨H2, H3, H4, H5, H6, H7, H8, H9, H10, H11, H12, H13, H14, H15, H16⟩
  isplitl [H8]; · iexact H8
  iintro H8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a8 (B : Bufs) {r : LoadRect S2x8x128x512} {hl : B.a8.view.LoadsAt r} : Safe (F := F) B (Prog.lift (.load B.a8 r hl)) :=
  fun c => keeps_load _ _ (own_a8 B c)

theorem store_a8 (B : Bufs) {r : Rect S2x8x128x512} {w : r.shape.Idx → Elt F .f32} {Mk : Finset r.shape.Idx} {hx : (B.a8.access r).Stores Mk}
    {hm : Mk = Finset.univ ∨ ∀ a, r.stride a = 1} : Safe (F := F) B (Prog.lift (.store B.a8 r w Mk hx hm)) :=
  fun c => keeps_store _ _ (own_a8 B c)

theorem own_a9 (B : Bufs) (c : Dev nD) : B.Own F c ⊢ iprop(Holds (c : Thread nD τ) B.a9 ∗ (Holds (c : Thread nD τ) B.a9 -∗ B.Own F c)) := by
  unfold Bufs.Own
  iintro ⟨H2, H3, H4, H5, H6, H7, H8, H9, H10, H11, H12, H13, H14, H15, H16⟩
  isplitl [H9]; · iexact H9
  iintro H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a9 (B : Bufs) {r : LoadRect S128x512} {hl : B.a9.view.LoadsAt r} : Safe (F := F) B (Prog.lift (.load B.a9 r hl)) :=
  fun c => keeps_load _ _ (own_a9 B c)

theorem store_a9 (B : Bufs) {r : Rect S128x512} {w : r.shape.Idx → Elt F .f32} {Mk : Finset r.shape.Idx} {hx : (B.a9.access r).Stores Mk}
    {hm : Mk = Finset.univ ∨ ∀ a, r.stride a = 1} : Safe (F := F) B (Prog.lift (.store B.a9 r w Mk hx hm)) :=
  fun c => keeps_store _ _ (own_a9 B c)

theorem own_a10 (B : Bufs) (c : Dev nD) : B.Own F c ⊢ iprop(Holds (c : Thread nD τ) B.a10 ∗ (Holds (c : Thread nD τ) B.a10 -∗ B.Own F c)) := by
  unfold Bufs.Own
  iintro ⟨H2, H3, H4, H5, H6, H7, H8, H9, H10, H11, H12, H13, H14, H15, H16⟩
  isplitl [H10]; · iexact H10
  iintro H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a10 (B : Bufs) {r : LoadRect S4096x128} {hl : B.a10.view.LoadsAt r} : Safe (F := F) B (Prog.lift (.load B.a10 r hl)) :=
  fun c => keeps_load _ _ (own_a10 B c)

theorem store_a10 (B : Bufs) {r : Rect S4096x128} {w : r.shape.Idx → Elt F .i32} {Mk : Finset r.shape.Idx} {hx : (B.a10.access r).Stores Mk}
    {hm : Mk = Finset.univ ∨ ∀ a, r.stride a = 1} : Safe (F := F) B (Prog.lift (.store B.a10 r w Mk hx hm)) :=
  fun c => keeps_store _ _ (own_a10 B c)

theorem own_a11 (B : Bufs) (c : Dev nD) : B.Own F c ⊢ iprop(Holds (c : Thread nD τ) B.a11 ∗ (Holds (c : Thread nD τ) B.a11 -∗ B.Own F c)) := by
  unfold Bufs.Own
  iintro ⟨H2, H3, H4, H5, H6, H7, H8, H9, H10, H11, H12, H13, H14, H15, H16⟩
  isplitl [H11]; · iexact H11
  iintro H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a11 (B : Bufs) {r : LoadRect S32x128x128} {hl : B.a11.view.LoadsAt r} : Safe (F := F) B (Prog.lift (.load B.a11 r hl)) :=
  fun c => keeps_load _ _ (own_a11 B c)

theorem store_a11 (B : Bufs) {r : Rect S32x128x128} {w : r.shape.Idx → Elt F .i32} {Mk : Finset r.shape.Idx} {hx : (B.a11.access r).Stores Mk}
    {hm : Mk = Finset.univ ∨ ∀ a, r.stride a = 1} : Safe (F := F) B (Prog.lift (.store B.a11 r w Mk hx hm)) :=
  fun c => keeps_store _ _ (own_a11 B c)

theorem own_a12 (B : Bufs) (c : Dev nD) : B.Own F c ⊢ iprop(Holds (c : Thread nD τ) B.a12 ∗ (Holds (c : Thread nD τ) B.a12 -∗ B.Own F c)) := by
  unfold Bufs.Own
  iintro ⟨H2, H3, H4, H5, H6, H7, H8, H9, H10, H11, H12, H13, H14, H15, H16⟩
  isplitl [H12]; · iexact H12
  iintro H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a12 (B : Bufs) {r : LoadRect S4096x1024} {hl : B.a12.view.LoadsAt r} : Safe (F := F) B (Prog.lift (.load B.a12 r hl)) :=
  fun c => keeps_load _ _ (own_a12 B c)

theorem store_a12 (B : Bufs) {r : Rect S4096x1024} {w : r.shape.Idx → Elt F .f32} {Mk : Finset r.shape.Idx} {hx : (B.a12.access r).Stores Mk}
    {hm : Mk = Finset.univ ∨ ∀ a, r.stride a = 1} : Safe (F := F) B (Prog.lift (.store B.a12 r w Mk hx hm)) :=
  fun c => keeps_store _ _ (own_a12 B c)

theorem own_a13 (B : Bufs) (c : Dev nD) : B.Own F c ⊢ iprop(Holds (c : Thread nD τ) B.a13 ∗ (Holds (c : Thread nD τ) B.a13 -∗ B.Own F c)) := by
  unfold Bufs.Own
  iintro ⟨H2, H3, H4, H5, H6, H7, H8, H9, H10, H11, H12, H13, H14, H15, H16⟩
  isplitl [H13]; · iexact H13
  iintro H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a13 (B : Bufs) {r : LoadRect S8x80x128} {hl : B.a13.view.LoadsAt r} : Safe (F := F) B (Prog.lift (.load B.a13 r hl)) :=
  fun c => keeps_load _ _ (own_a13 B c)

theorem store_a13 (B : Bufs) {r : Rect S8x80x128} {w : r.shape.Idx → Elt F .f32} {Mk : Finset r.shape.Idx} {hx : (B.a13.access r).Stores Mk}
    {hm : Mk = Finset.univ ∨ ∀ a, r.stride a = 1} : Safe (F := F) B (Prog.lift (.store B.a13 r w Mk hx hm)) :=
  fun c => keeps_store _ _ (own_a13 B c)

theorem own_a14 (B : Bufs) (c : Dev nD) : B.Own F c ⊢ iprop(Holds (c : Thread nD τ) B.a14 ∗ (Holds (c : Thread nD τ) B.a14 -∗ B.Own F c)) := by
  unfold Bufs.Own
  iintro ⟨H2, H3, H4, H5, H6, H7, H8, H9, H10, H11, H12, H13, H14, H15, H16⟩
  isplitl [H14]; · iexact H14
  iintro H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a14 (B : Bufs) {r : LoadRect S2x64x512} {hl : B.a14.view.LoadsAt r} : Safe (F := F) B (Prog.lift (.load B.a14 r hl)) :=
  fun c => keeps_load _ _ (own_a14 B c)

theorem store_a14 (B : Bufs) {r : Rect S2x64x512} {w : r.shape.Idx → Elt F .bf16} {Mk : Finset r.shape.Idx} {hx : (B.a14.access r).Stores Mk}
    {hm : Mk = Finset.univ ∨ ∀ a, r.stride a = 1} : Safe (F := F) B (Prog.lift (.store B.a14 r w Mk hx hm)) :=
  fun c => keeps_store _ _ (own_a14 B c)

theorem own_a15 (B : Bufs) (c : Dev nD) : B.Own F c ⊢ iprop(Holds (c : Thread nD τ) B.a15 ∗ (Holds (c : Thread nD τ) B.a15 -∗ B.Own F c)) := by
  unfold Bufs.Own
  iintro ⟨H2, H3, H4, H5, H6, H7, H8, H9, H10, H11, H12, H13, H14, H15, H16⟩
  isplitl [H15]; · iexact H15
  iintro H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a15 (B : Bufs) {r : LoadRect S2x256x512} {hl : B.a15.view.LoadsAt r} : Safe (F := F) B (Prog.lift (.load B.a15 r hl)) :=
  fun c => keeps_load _ _ (own_a15 B c)

theorem store_a15 (B : Bufs) {r : Rect S2x256x512} {w : r.shape.Idx → Elt F .bf16} {Mk : Finset r.shape.Idx} {hx : (B.a15.access r).Stores Mk}
    {hm : Mk = Finset.univ ∨ ∀ a, r.stride a = 1} : Safe (F := F) B (Prog.lift (.store B.a15 r w Mk hx hm)) :=
  fun c => keeps_store _ _ (own_a15 B c)

theorem own_a16 (B : Bufs) (c : Dev nD) : B.Own F c ⊢ iprop(Holds (c : Thread nD τ) B.a16 ∗ (Holds (c : Thread nD τ) B.a16 -∗ B.Own F c)) := by
  unfold Bufs.Own
  iintro ⟨H2, H3, H4, H5, H6, H7, H8, H9, H10, H11, H12, H13, H14, H15, H16⟩
  isplitl [H16]; · iexact H16
  iintro H16
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem load_a16 (B : Bufs) {r : LoadRect S2x1x512} {hl : B.a16.view.LoadsAt r} : Safe (F := F) B (Prog.lift (.load B.a16 r hl)) :=
  fun c => keeps_load _ _ (own_a16 B c)

theorem store_a16 (B : Bufs) {r : Rect S2x1x512} {w : r.shape.Idx → Elt F .f32} {Mk : Finset r.shape.Idx} {hx : (B.a16.access r).Stores Mk}
    {hm : Mk = Finset.univ ∨ ∀ a, r.stride a = 1} : Safe (F := F) B (Prog.lift (.store B.a16 r w Mk hx hm)) :=
  fun c => keeps_store _ _ (own_a16 B c)

end Cert.Attn

end
-- ==== Proof.Attn.Parts.lean ====
/-
  Each printed part of the kernel function, each region of its counted loops, and the function itself keep the
  fifteen buffers held: the rules of `Setup.lean` along the text of each.
-/
module

public import proofs.«01_k».proof.Proof.Attn.Setup

@[expose] public section

noncomputable section

namespace Cert.Attn

open Idealize.ShloMosaic Idealize.SL.Sem
open Cert.Kernel Cert.Kernel.Gen

variable {F : FTy → Type} [BitOps F]

theorem safe_part127 (B : Bufs) (i : grid0.Coords) : Safe (F := F) B (k0_part127 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 ) := by
  rw [k0_part127_eq_skeleton]
  unfold k0_part127_skel
  repeat' first
    | with_reducible exact safe_pure _ _
    | with_reducible refine safe_bind _ ?_ (fun _ => ?_)

theorem safe_part128 (B : Bufs) (i : grid0.Coords) (v1 : BitVec 32) (v23 : BitVec 32) (v37 : BitVec 1) (c1_i32_14 : BitVec 32) : Safe (F := F) B (k0_part128 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v1 v23 v37 c1_i32_14) := by
  rw [k0_part128_eq_skeleton]
  unfold k0_part128_skel
  repeat' first
    | with_reducible exact safe_pure _ _
    | with_reducible exact load_a2 _
    | with_reducible exact load_a4 _
    | with_reducible exact load_a14 _
    | with_reducible exact store_a14 _
    | with_reducible exact load_a15 _
    | with_reducible exact store_a15 _
    | with_reducible refine safe_bind _ ?_ (fun _ => ?_)

theorem safe_part129 (B : Bufs) (i : grid0.Coords) (v49 : FVec F S64x128 .bf16) : Safe (F := F) B (k0_part129 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v49) := by
  rw [k0_part129_eq_skeleton]
  unfold k0_part129_skel
  repeat' first
    | with_reducible exact safe_pure _ _
    | with_reducible exact load_a2 _
    | with_reducible exact load_a3 _
    | with_reducible exact load_a4 _
    | with_reducible exact load_a14 _
    | with_reducible exact store_a14 _
    | with_reducible exact load_a16 _
    | with_reducible exact store_a16 _
    | with_reducible refine safe_bind _ ?_ (fun _ => ?_)

theorem safe_part1 (B : Bufs) (i : grid0.Coords) (c0_i32_75 : BitVec 32) (c1_i32_78 : BitVec 32) (k0_t1 : Fin (k0_t1_loop i).trips) : Safe (F := F) B (k0_part1 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 c0_i32_75 c1_i32_78 k0_t1) := by
  rw [k0_part1_eq_skeleton]
  unfold k0_part1_skel
  repeat' first
    | with_reducible exact safe_pure _ _
    | with_reducible exact load_a5 _
    | with_reducible exact load_a14 _
    | with_reducible exact load_a16 _
    | with_reducible refine safe_bind _ ?_ (fun _ => ?_)

theorem safe_part2 (B : Bufs) (i : grid0.Coords) (v46 : IVec S1x128 32) (k0_t1 : Fin (k0_t1_loop i).trips) (arg17 : BitVec 32) (v450 : BitVec 32) (v479 : FVec F S512x512 .f32) (v481 : FVec F S512x128 .f32) (v482 : FVec F S512x128 .f32) : Safe (F := F) B (k0_part2 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t1 arg17 v450 v479 v481 v482) := by
  rw [k0_part2_eq_skeleton]
  unfold k0_part2_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_part3 (B : Bufs) (i : grid0.Coords) (v46 : IVec S1x128 32) (k0_t1 : Fin (k0_t1_loop i).trips) (arg17 : BitVec 32) (v509 : BitVec 32) (v511 : Vec F S512x64 .bf16) (v521 : FVec F S512x512 .f32) (v523 : FVec F S512x128 .f32) : Safe (F := F) B (k0_part3 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t1 arg17 v509 v511 v521 v523) := by
  rw [k0_part3_eq_skeleton]
  unfold k0_part3_skel
  repeat' first
    | with_reducible exact safe_pure _ _
    | with_reducible exact load_a10 _
    | with_reducible exact store_a10 _
    | with_reducible exact load_a14 _
    | with_reducible exact load_a16 _
    | with_reducible refine safe_bind _ ?_ (fun _ => ?_)

theorem safe_part4 (B : Bufs) (i : grid0.Coords) (k0_t1 : Fin (k0_t1_loop i).trips) (v566 : BitVec 32) (c512_i32_316 : BitVec 32) : Safe (F := F) B (k0_part4 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t1 v566 c512_i32_316) := by
  rw [k0_part4_eq_skeleton]
  unfold k0_part4_skel
  repeat' first
    | with_reducible exact safe_pure _ _
    | with_reducible exact load_a5 _
    | with_reducible exact load_a14 _
    | with_reducible exact load_a16 _
    | with_reducible refine safe_bind _ ?_ (fun _ => ?_)

theorem safe_part5 (B : Bufs) (i : grid0.Coords) (v46 : IVec S1x128 32) (k0_t1 : Fin (k0_t1_loop i).trips) (arg17 : BitVec 32) (v568 : BitVec 32) (v605 : FVec F S512x128 .f32) (v608 : IVec S512x128 32) : Safe (F := F) B (k0_part5 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t1 arg17 v568 v605 v608) := by
  rw [k0_part5_eq_skeleton]
  unfold k0_part5_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_t1_body (B : Bufs) (i : grid0.Coords) (v20 : BitVec 32) (v46 : IVec S1x128 32) (v94 : FVec F S256x512 .bf16) (k) (acc) : Safe (F := F) B (k0_t1_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v46 v94 k acc) := by
  unfold k0_t1_body
  repeat' first
    | with_reducible exact safe_pure _ _
    | with_reducible exact load_a10 _
    | with_reducible exact store_a10 _
    | with_reducible exact load_a14 _
    | with_reducible exact load_a16 _
    | with_reducible exact safe_part1 _ _ _ _ _
    | with_reducible exact safe_part2 _ _ _ _ _ _ _ _ _
    | with_reducible exact safe_part3 _ _ _ _ _ _ _ _ _
    | with_reducible exact safe_part4 _ _ _ _ _
    | with_reducible exact safe_part5 _ _ _ _ _ _ _ _
    | with_reducible refine safe_bind _ ?_ (fun _ => ?_)

theorem safe_part130 (B : Bufs) (i : grid0.Coords) (v20 : BitVec 32) (v46 : IVec S1x128 32) (v94 : FVec F S256x512 .bf16) : Safe (F := F) B (k0_part130 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v46 v94) := by
  rw [k0_part130_eq_skeleton]
  unfold k0_part130_skel
  repeat' first
    | with_reducible exact safe_pure _ _
    | with_reducible exact load_a3 _
    | with_reducible exact load_a15 _
    | with_reducible exact store_a15 _
    | with_reducible exact load_a16 _
    | with_reducible exact store_a16 _
    | with_reducible exact safe_t1_body _ _ _ _ _ _ _
    | with_reducible refine safe_for _ _ _ _ _ (fun _ _ => ?_)
    | with_reducible refine safe_bind _ ?_ (fun _ => ?_)

theorem safe_part10 (B : Bufs) (i : grid0.Coords) (v46 : IVec S1x128 32) (k0_t2 : Fin (k0_t2_loop i).trips) (arg17 : BitVec 32) (v568 : BitVec 32) (v605 : FVec F S512x128 .f32) (v608 : IVec S512x128 32) : Safe (F := F) B (k0_part10 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t2 arg17 v568 v605 v608) := by
  rw [k0_part10_eq_skeleton]
  unfold k0_part10_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_part6 (B : Bufs) (i : grid0.Coords) (v128 : BitVec 32) (c1_i32_79 : BitVec 32) (k0_t2 : Fin (k0_t2_loop i).trips) : Safe (F := F) B (k0_part6 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v128 c1_i32_79 k0_t2) := by
  rw [k0_part6_eq_skeleton]
  unfold k0_part6_skel
  repeat' first
    | with_reducible exact safe_pure _ _
    | with_reducible exact load_a5 _
    | with_reducible exact load_a14 _
    | with_reducible exact load_a16 _
    | with_reducible refine safe_bind _ ?_ (fun _ => ?_)

theorem safe_part7 (B : Bufs) (i : grid0.Coords) (v46 : IVec S1x128 32) (k0_t2 : Fin (k0_t2_loop i).trips) (arg17 : BitVec 32) (v450 : BitVec 32) (v479 : FVec F S512x512 .f32) (v481 : FVec F S512x128 .f32) (v482 : FVec F S512x128 .f32) : Safe (F := F) B (k0_part7 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t2 arg17 v450 v479 v481 v482) := by
  rw [k0_part7_eq_skeleton]
  unfold k0_part7_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_part8 (B : Bufs) (i : grid0.Coords) (v46 : IVec S1x128 32) (k0_t2 : Fin (k0_t2_loop i).trips) (arg17 : BitVec 32) (v509 : BitVec 32) (v511 : Vec F S512x64 .bf16) (v521 : FVec F S512x512 .f32) (v523 : FVec F S512x128 .f32) : Safe (F := F) B (k0_part8 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 k0_t2 arg17 v509 v511 v521 v523) := by
  rw [k0_part8_eq_skeleton]
  unfold k0_part8_skel
  repeat' first
    | with_reducible exact safe_pure _ _
    | with_reducible exact load_a10 _
    | with_reducible exact store_a10 _
    | with_reducible exact load_a14 _
    | with_reducible exact load_a16 _
    | with_reducible refine safe_bind _ ?_ (fun _ => ?_)

theorem safe_part9 (B : Bufs) (i : grid0.Coords) (k0_t2 : Fin (k0_t2_loop i).trips) (v566 : BitVec 32) (c512_i32_316 : BitVec 32) : Safe (F := F) B (k0_part9 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t2 v566 c512_i32_316) := by
  rw [k0_part9_eq_skeleton]
  unfold k0_part9_skel
  repeat' first
    | with_reducible exact safe_pure _ _
    | with_reducible exact load_a5 _
    | with_reducible exact load_a14 _
    | with_reducible exact load_a16 _
    | with_reducible refine safe_bind _ ?_ (fun _ => ?_)

theorem safe_t2_body (B : Bufs) (i : grid0.Coords) (v20 : BitVec 32) (v39 : BitVec 32) (v46 : IVec S1x128 32) (v123 : BitVec 32) (v128 : BitVec 32) (v129 : BitVec 32) (k) (acc) : Safe (F := F) B (k0_t2_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129 k acc) := by
  unfold k0_t2_body
  repeat' first
    | with_reducible exact safe_pure _ _
    | with_reducible exact load_a10 _
    | with_reducible exact store_a10 _
    | with_reducible exact load_a14 _
    | with_reducible exact load_a16 _
    | with_reducible exact safe_part10 _ _ _ _ _ _ _ _
    | with_reducible exact safe_part6 _ _ _ _ _
    | with_reducible exact safe_part7 _ _ _ _ _ _ _ _ _
    | with_reducible exact safe_part8 _ _ _ _ _ _ _ _ _
    | with_reducible exact safe_part9 _ _ _ _ _
    | with_reducible refine safe_bind _ ?_ (fun _ => ?_)

theorem safe_part11 (B : Bufs) (i : grid0.Coords) (v132 : BitVec 32) (c0_i32_88 : BitVec 32) (c1_i32_90 : BitVec 32) (k0_t3 : Fin (k0_t3_loop i).trips) : Safe (F := F) B (k0_part11 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v132 c0_i32_88 c1_i32_90 k0_t3) := by
  rw [k0_part11_eq_skeleton]
  unfold k0_part11_skel
  repeat' first
    | with_reducible exact safe_pure _ _
    | with_reducible exact load_a5 _
    | with_reducible exact load_a14 _
    | with_reducible exact load_a16 _
    | with_reducible refine safe_bind _ ?_ (fun _ => ?_)

theorem safe_part12 (B : Bufs) (i : grid0.Coords) (v46 : IVec S1x128 32) (v132 : BitVec 32) (k0_t3 : Fin (k0_t3_loop i).trips) (arg17 : BitVec 32) (v450 : BitVec 32) (v479 : FVec F S512x512 .f32) (v483 : FVec F S512x128 .f32) : Safe (F := F) B (k0_part12 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 v132 k0_t3 arg17 v450 v479 v483) := by
  rw [k0_part12_eq_skeleton]
  unfold k0_part12_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_t3_body (B : Bufs) (i : grid0.Coords) (v20 : BitVec 32) (v39 : BitVec 32) (v46 : IVec S1x128 32) (v123 : BitVec 32) (v128 : BitVec 32) (v129 : BitVec 32) (v132 : BitVec 32) (k) (acc) : Safe (F := F) B (k0_t3_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129 v132 k acc) := by
  unfold k0_t3_body
  repeat' first
    | with_reducible exact safe_pure _ _
    | with_reducible exact load_a10 _
    | with_reducible exact store_a10 _
    | with_reducible exact load_a14 _
    | with_reducible exact load_a16 _
    | with_reducible exact safe_part11 _ _ _ _ _ _
    | with_reducible exact safe_part12 _ _ _ _ _ _ _ _ _
    | with_reducible refine safe_bind _ ?_ (fun _ => ?_)

theorem safe_part13 (B : Bufs) (i : grid0.Coords) (v132 : BitVec 32) (v155 : BitVec 32) (c1_i32_91 : BitVec 32) (k0_t4 : Fin (k0_t4_loop i).trips) : Safe (F := F) B (k0_part13 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v132 v155 c1_i32_91 k0_t4) := by
  rw [k0_part13_eq_skeleton]
  unfold k0_part13_skel
  repeat' first
    | with_reducible exact safe_pure _ _
    | with_reducible exact load_a5 _
    | with_reducible exact load_a14 _
    | with_reducible exact load_a16 _
    | with_reducible refine safe_bind _ ?_ (fun _ => ?_)

theorem safe_part14 (B : Bufs) (i : grid0.Coords) (v46 : IVec S1x128 32) (v132 : BitVec 32) (k0_t4 : Fin (k0_t4_loop i).trips) (arg17 : BitVec 32) (v450 : BitVec 32) (v479 : FVec F S512x512 .f32) (v483 : FVec F S512x128 .f32) : Safe (F := F) B (k0_part14 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v46 v132 k0_t4 arg17 v450 v479 v483) := by
  rw [k0_part14_eq_skeleton]
  unfold k0_part14_skel
  repeat' first
    | with_reducible exact safe_pure _ _
    | with_reducible exact load_a5 _
    | with_reducible exact load_a10 _
    | with_reducible exact store_a10 _
    | with_reducible exact load_a14 _
    | with_reducible exact load_a16 _
    | with_reducible refine safe_bind _ ?_ (fun _ => ?_)

theorem safe_t4_body (B : Bufs) (i : grid0.Coords) (v20 : BitVec 32) (v39 : BitVec 32) (v46 : IVec S1x128 32) (v123 : BitVec 32) (v128 : BitVec 32) (v129 : BitVec 32) (v132 : BitVec 32) (v155 : BitVec 32) (k) (acc) : Safe (F := F) B (k0_t4_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129 v132 v155 k acc) := by
  unfold k0_t4_body
  repeat' first
    | with_reducible exact safe_pure _ _
    | with_reducible exact load_a10 _
    | with_reducible exact store_a10 _
    | with_reducible exact load_a14 _
    | with_reducible exact load_a16 _
    | with_reducible exact safe_part13 _ _ _ _ _ _
    | with_reducible exact safe_part14 _ _ _ _ _ _ _ _ _
    | with_reducible refine safe_bind _ ?_ (fun _ => ?_)

theorem safe_part15 (B : Bufs) (i : grid0.Coords) (v159 : BitVec 32) (c1_i32_94 : BitVec 32) (k0_t5 : Fin (k0_t5_loop i).trips) : Safe (F := F) B (k0_part15 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v159 c1_i32_94 k0_t5) := by
  rw [k0_part15_eq_skeleton]
  unfold k0_part15_skel
  repeat' first
    | with_reducible exact safe_pure _ _
    | with_reducible exact load_a5 _
    | with_reducible exact load_a14 _
    | with_reducible exact load_a16 _
    | with_reducible refine safe_bind _ ?_ (fun _ => ?_)

theorem safe_t5_body (B : Bufs) (i : grid0.Coords) (v20 : BitVec 32) (v39 : BitVec 32) (v46 : IVec S1x128 32) (v123 : BitVec 32) (v128 : BitVec 32) (v129 : BitVec 32) (v159 : BitVec 32) (k) (acc) : Safe (F := F) B (k0_t5_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129 v159 k acc) := by
  unfold k0_t5_body
  repeat' first
    | with_reducible exact safe_pure _ _
    | with_reducible exact load_a10 _
    | with_reducible exact store_a10 _
    | with_reducible exact safe_part15 _ _ _ _ _
    | with_reducible refine safe_bind _ ?_ (fun _ => ?_)

theorem safe_part16 (B : Bufs) (i : grid0.Coords) (v164 : BitVec 32) (c1_i32_95 : BitVec 32) (k0_t6 : Fin (k0_t6_loop i).trips) : Safe (F := F) B (k0_part16 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v164 c1_i32_95 k0_t6) := by
  rw [k0_part16_eq_skeleton]
  unfold k0_part16_skel
  repeat' first
    | with_reducible exact safe_pure _ _
    | with_reducible exact load_a5 _
    | with_reducible exact load_a14 _
    | with_reducible exact load_a16 _
    | with_reducible refine safe_bind _ ?_ (fun _ => ?_)

theorem safe_t6_body (B : Bufs) (i : grid0.Coords) (v20 : BitVec 32) (v39 : BitVec 32) (v46 : IVec S1x128 32) (v123 : BitVec 32) (v128 : BitVec 32) (v129 : BitVec 32) (v164 : BitVec 32) (k) (acc) : Safe (F := F) B (k0_t6_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129 v164 k acc) := by
  unfold k0_t6_body
  repeat' first
    | with_reducible exact safe_pure _ _
    | with_reducible exact load_a10 _
    | with_reducible exact store_a10 _
    | with_reducible exact safe_part16 _ _ _ _ _
    | with_reducible refine safe_bind _ ?_ (fun _ => ?_)

theorem safe_part131 (B : Bufs) (i : grid0.Coords) (v20 : BitVec 32) (v39 : BitVec 32) (v46 : IVec S1x128 32) (v123 : BitVec 32) (v128 : BitVec 32) (v129 : BitVec 32) : Safe (F := F) B (k0_part131 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v39 v46 v123 v128 v129) := by
  rw [k0_part131_eq_skeleton]
  unfold k0_part131_skel
  repeat' first
    | with_reducible exact safe_pure _ _
    | with_reducible exact safe_t2_body _ _ _ _ _ _ _ _ _ _
    | with_reducible exact safe_t3_body _ _ _ _ _ _ _ _ _ _ _
    | with_reducible exact safe_t4_body _ _ _ _ _ _ _ _ _ _ _ _
    | with_reducible exact safe_t5_body _ _ _ _ _ _ _ _ _ _ _
    | with_reducible exact safe_t6_body _ _ _ _ _ _ _ _ _ _ _
    | with_reducible refine safe_for _ _ _ _ _ (fun _ _ => ?_)
    | with_reducible refine safe_bind _ ?_ (fun _ => ?_)

theorem safe_part41 (B : Bufs) (i : grid0.Coords) (v185 : BitVec 32) (c1_i32_109 : BitVec 32) (k0_t10 : Fin (k0_t10_loop i).trips) : Safe (F := F) B (k0_part41 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v185 c1_i32_109 k0_t10) := by
  rw [k0_part41_eq_skeleton]
  unfold k0_part41_skel
  repeat' first
    | with_reducible exact safe_pure _ _
    | with_reducible exact load_a10 _
    | with_reducible refine safe_bind _ ?_ (fun _ => ?_)

theorem safe_part42 (B : Bufs) (i : grid0.Coords) (k0_t10 : Fin (k0_t10_loop i).trips) (v447 : BitVec 32) (c88_i32 : BitVec 32) : Safe (F := F) B (k0_part42 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 v447 c88_i32) := by
  rw [k0_part42_eq_skeleton]
  unfold k0_part42_skel
  repeat' first
    | with_reducible exact safe_pure _ _
    | with_reducible exact load_a10 _
    | with_reducible refine safe_bind _ ?_ (fun _ => ?_)

theorem safe_part43 (B : Bufs) (i : grid0.Coords) (k0_t10 : Fin (k0_t10_loop i).trips) (v447 : BitVec 32) (v450 : Vec F S8x128 .i32) (v453 : Vec F S8x128 .i32) (v498 : Vec F S8x128 .i32) (v501 : Vec F S8x128 .i32) (c184_i32 : BitVec 32) : Safe (F := F) B (k0_part43 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 v447 v450 v453 v498 v501 c184_i32) := by
  rw [k0_part43_eq_skeleton]
  unfold k0_part43_skel
  repeat' first
    | with_reducible exact safe_pure _ _
    | with_reducible exact load_a10 _
    | with_reducible refine safe_bind _ ?_ (fun _ => ?_)

theorem safe_part44 (B : Bufs) (i : grid0.Coords) (v453 : Vec F S8x128 .i32) (v456 : Vec F S8x128 .i32) (v459 : Vec F S8x128 .i32) (v462 : Vec F S8x128 .i32) (v465 : Vec F S8x128 .i32) (v468 : Vec F S8x128 .i32) (v501 : Vec F S8x128 .i32) (v504 : Vec F S8x128 .i32) (v507 : Vec F S8x128 .i32) (v510 : Vec F S8x128 .i32) (v513 : Vec F S8x128 .i32) (v516 : Vec F S8x128 .i32) (v555 : IVec S8x128 32) : Safe (F := F) B (k0_part44 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v453 v456 v459 v462 v465 v468 v501 v504 v507 v510 v513 v516 v555) := by
  rw [k0_part44_eq_skeleton]
  unfold k0_part44_skel
  repeat' first
    | with_reducible exact safe_pure _ _
    | with_reducible refine safe_bind _ ?_ (fun _ => ?_)

theorem safe_part45 (B : Bufs) (i : grid0.Coords) (v468 : Vec F S8x128 .i32) (v471 : Vec F S8x128 .i32) (v474 : Vec F S8x128 .i32) (v477 : Vec F S8x128 .i32) (v480 : Vec F S8x128 .i32) (v483 : Vec F S8x128 .i32) (v516 : Vec F S8x128 .i32) (v519 : Vec F S8x128 .i32) (v522 : Vec F S8x128 .i32) (v525 : Vec F S8x128 .i32) (v528 : Vec F S8x128 .i32) (v531 : Vec F S8x128 .i32) (v600 : IVec S8x128 32) : Safe (F := F) B (k0_part45 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v468 v471 v474 v477 v480 v483 v516 v519 v522 v525 v528 v531 v600) := by
  rw [k0_part45_eq_skeleton]
  unfold k0_part45_skel
  repeat' first
    | with_reducible exact safe_pure _ _
    | with_reducible refine safe_bind _ ?_ (fun _ => ?_)

theorem safe_part46 (B : Bufs) (i : grid0.Coords) (v483 : Vec F S8x128 .i32) (v486 : Vec F S8x128 .i32) (v489 : Vec F S8x128 .i32) (v492 : Vec F S8x128 .i32) (v495 : Vec F S8x128 .i32) (v531 : Vec F S8x128 .i32) (v534 : Vec F S8x128 .i32) (v537 : Vec F S8x128 .i32) (v540 : Vec F S8x128 .i32) (v543 : Vec F S8x128 .i32) (v549 : IVec S8x128 32) (v621 : IVec S8x128 32) (v645 : IVec S8x128 32) : Safe (F := F) B (k0_part46 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v483 v486 v489 v492 v495 v531 v534 v537 v540 v543 v549 v621 v645) := by
  rw [k0_part46_eq_skeleton]
  unfold k0_part46_skel
  repeat' first
    | with_reducible exact safe_pure _ _
    | with_reducible refine safe_bind _ ?_ (fun _ => ?_)

theorem safe_part47 (B : Bufs) (i : grid0.Coords) (v549 : IVec S8x128 32) (v558 : IVec S8x128 32) (v567 : IVec S8x128 32) (v576 : IVec S8x128 32) (v585 : IVec S8x128 32) (v594 : IVec S8x128 32) (v621 : IVec S8x128 32) (v630 : IVec S8x128 32) (v639 : IVec S8x128 32) (v648 : IVec S8x128 32) (v657 : IVec S8x128 32) (v666 : IVec S8x128 32) (v690 : IVec S8x128 32) : Safe (F := F) B (k0_part47 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v549 v558 v567 v576 v585 v594 v621 v630 v639 v648 v657 v666 v690) := by
  rw [k0_part47_eq_skeleton]
  unfold k0_part47_skel
  repeat' first
    | with_reducible exact safe_pure _ _
    | with_reducible refine safe_bind _ ?_ (fun _ => ?_)

theorem safe_part48 (B : Bufs) (i : grid0.Coords) (v552 : IVec S8x128 32) (v561 : IVec S8x128 32) (v570 : IVec S8x128 32) (v594 : IVec S8x128 32) (v603 : IVec S8x128 32) (v612 : IVec S8x128 32) (v624 : IVec S8x128 32) (v633 : IVec S8x128 32) (v642 : IVec S8x128 32) (v666 : IVec S8x128 32) (v675 : IVec S8x128 32) (v684 : IVec S8x128 32) (v735 : IVec S8x128 32) : Safe (F := F) B (k0_part48 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v552 v561 v570 v594 v603 v612 v624 v633 v642 v666 v675 v684 v735) := by
  rw [k0_part48_eq_skeleton]
  unfold k0_part48_skel
  repeat' first
    | with_reducible exact safe_pure _ _
    | with_reducible refine safe_bind _ ?_ (fun _ => ?_)

theorem safe_part49 (B : Bufs) (i : grid0.Coords) (v570 : IVec S8x128 32) (v579 : IVec S8x128 32) (v588 : IVec S8x128 32) (v597 : IVec S8x128 32) (v606 : IVec S8x128 32) (v615 : IVec S8x128 32) (v642 : IVec S8x128 32) (v651 : IVec S8x128 32) (v660 : IVec S8x128 32) (v669 : IVec S8x128 32) (v678 : IVec S8x128 32) (v687 : IVec S8x128 32) (v780 : IVec S8x128 32) : Safe (F := F) B (k0_part49 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v570 v579 v588 v597 v606 v615 v642 v651 v660 v669 v678 v687 v780) := by
  rw [k0_part49_eq_skeleton]
  unfold k0_part49_skel
  repeat' first
    | with_reducible exact safe_pure _ _
    | with_reducible refine safe_bind _ ?_ (fun _ => ?_)

theorem safe_part50 (B : Bufs) (i : grid0.Coords) (v615 : IVec S8x128 32) (v687 : IVec S8x128 32) (v693 : IVec S8x128 32) (v696 : IVec S8x128 32) (v702 : IVec S8x128 32) (v711 : IVec S8x128 32) (v720 : IVec S8x128 32) (v729 : IVec S8x128 32) (v732 : IVec S8x128 32) (v738 : IVec S8x128 32) (v747 : IVec S8x128 32) (v756 : IVec S8x128 32) (v825 : IVec S8x128 32) : Safe (F := F) B (k0_part50 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v615 v687 v693 v696 v702 v711 v720 v729 v732 v738 v747 v756 v825) := by
  rw [k0_part50_eq_skeleton]
  unfold k0_part50_skel
  repeat' first
    | with_reducible exact safe_pure _ _
    | with_reducible refine safe_bind _ ?_ (fun _ => ?_)

theorem safe_part51 (B : Bufs) (i : grid0.Coords) (v696 : IVec S8x128 32) (v705 : IVec S8x128 32) (v714 : IVec S8x128 32) (v723 : IVec S8x128 32) (v732 : IVec S8x128 32) (v741 : IVec S8x128 32) (v750 : IVec S8x128 32) (v759 : IVec S8x128 32) (v765 : IVec S8x128 32) (v774 : IVec S8x128 32) (v801 : IVec S8x128 32) (v810 : IVec S8x128 32) (v870 : IVec S8x128 32) : Safe (F := F) B (k0_part51 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v696 v705 v714 v723 v732 v741 v750 v759 v765 v774 v801 v810 v870) := by
  rw [k0_part51_eq_skeleton]
  unfold k0_part51_skel
  repeat' first
    | with_reducible exact safe_pure _ _
    | with_reducible refine safe_bind _ ?_ (fun _ => ?_)

theorem safe_part52 (B : Bufs) (i : grid0.Coords) (v768 : IVec S8x128 32) (v774 : IVec S8x128 32) (v777 : IVec S8x128 32) (v783 : IVec S8x128 32) (v786 : IVec S8x128 32) (v792 : IVec S8x128 32) (v804 : IVec S8x128 32) (v810 : IVec S8x128 32) (v813 : IVec S8x128 32) (v819 : IVec S8x128 32) (v822 : IVec S8x128 32) (v828 : IVec S8x128 32) (v915 : IVec S8x128 32) : Safe (F := F) B (k0_part52 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v768 v774 v777 v783 v786 v792 v804 v810 v813 v819 v822 v828 v915) := by
  rw [k0_part52_eq_skeleton]
  unfold k0_part52_skel
  repeat' first
    | with_reducible exact safe_pure _ _
    | with_reducible refine safe_bind _ ?_ (fun _ => ?_)

theorem safe_part53 (B : Bufs) (i : grid0.Coords) (v786 : IVec S8x128 32) (v795 : IVec S8x128 32) (v822 : IVec S8x128 32) (v831 : IVec S8x128 32) (v837 : IVec S8x128 32) (v840 : IVec S8x128 32) (v846 : IVec S8x128 32) (v849 : IVec S8x128 32) (v855 : IVec S8x128 32) (v858 : IVec S8x128 32) (v864 : IVec S8x128 32) (v867 : IVec S8x128 32) (v960 : IVec S8x128 32) : Safe (F := F) B (k0_part53 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v786 v795 v822 v831 v837 v840 v846 v849 v855 v858 v864 v867 v960) := by
  rw [k0_part53_eq_skeleton]
  unfold k0_part53_skel
  repeat' first
    | with_reducible exact safe_pure _ _
    | with_reducible refine safe_bind _ ?_ (fun _ => ?_)

theorem safe_part54 (B : Bufs) (i : grid0.Coords) (v849 : IVec S8x128 32) (v867 : IVec S8x128 32) (v873 : IVec S8x128 32) (v876 : IVec S8x128 32) (v882 : IVec S8x128 32) (v885 : IVec S8x128 32) (v891 : IVec S8x128 32) (v894 : IVec S8x128 32) (v900 : IVec S8x128 32) (v903 : IVec S8x128 32) (v909 : IVec S8x128 32) (v927 : IVec S8x128 32) (v1005 : IVec S8x128 32) : Safe (F := F) B (k0_part54 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v849 v867 v873 v876 v882 v885 v891 v894 v900 v903 v909 v927 v1005) := by
  rw [k0_part54_eq_skeleton]
  unfold k0_part54_skel
  repeat' first
    | with_reducible exact safe_pure _ _
    | with_reducible refine safe_bind _ ?_ (fun _ => ?_)

theorem safe_part55 (B : Bufs) (i : grid0.Coords) (v909 : IVec S8x128 32) (v912 : IVec S8x128 32) (v918 : IVec S8x128 32) (v921 : IVec S8x128 32) (v927 : IVec S8x128 32) (v930 : IVec S8x128 32) (v936 : IVec S8x128 32) (v939 : IVec S8x128 32) (v945 : IVec S8x128 32) (v954 : IVec S8x128 32) (v963 : IVec S8x128 32) (v972 : IVec S8x128 32) (v1050 : IVec S8x128 32) : Safe (F := F) B (k0_part55 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v909 v912 v918 v921 v927 v930 v936 v939 v945 v954 v963 v972 v1050) := by
  rw [k0_part55_eq_skeleton]
  unfold k0_part55_skel
  repeat' first
    | with_reducible exact safe_pure _ _
    | with_reducible refine safe_bind _ ?_ (fun _ => ?_)

theorem safe_part56 (B : Bufs) (i : grid0.Coords) (v948 : IVec S8x128 32) (v954 : IVec S8x128 32) (v957 : IVec S8x128 32) (v966 : IVec S8x128 32) (v972 : IVec S8x128 32) (v975 : IVec S8x128 32) (v981 : IVec S8x128 32) (v984 : IVec S8x128 32) (v990 : IVec S8x128 32) (v993 : IVec S8x128 32) (v999 : IVec S8x128 32) (v1008 : IVec S8x128 32) (v1095 : IVec S8x128 32) : Safe (F := F) B (k0_part56 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v948 v954 v957 v966 v972 v975 v981 v984 v990 v993 v999 v1008 v1095) := by
  rw [k0_part56_eq_skeleton]
  unfold k0_part56_skel
  repeat' first
    | with_reducible exact safe_pure _ _
    | with_reducible refine safe_bind _ ?_ (fun _ => ?_)

theorem safe_part57 (B : Bufs) (i : grid0.Coords) (v999 : IVec S8x128 32) (v1002 : IVec S8x128 32) (v1008 : IVec S8x128 32) (v1011 : IVec S8x128 32) (v1017 : IVec S8x128 32) (v1020 : IVec S8x128 32) (v1026 : IVec S8x128 32) (v1029 : IVec S8x128 32) (v1035 : IVec S8x128 32) (v1038 : IVec S8x128 32) (v1044 : IVec S8x128 32) (v1047 : IVec S8x128 32) (v1140 : IVec S8x128 32) : Safe (F := F) B (k0_part57 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v999 v1002 v1008 v1011 v1017 v1020 v1026 v1029 v1035 v1038 v1044 v1047 v1140) := by
  rw [k0_part57_eq_skeleton]
  unfold k0_part57_skel
  repeat' first
    | with_reducible exact safe_pure _ _
    | with_reducible refine safe_bind _ ?_ (fun _ => ?_)

theorem safe_part58 (B : Bufs) (i : grid0.Coords) (v1038 : IVec S8x128 32) (v1047 : IVec S8x128 32) (v1053 : IVec S8x128 32) (v1056 : IVec S8x128 32) (v1062 : IVec S8x128 32) (v1065 : IVec S8x128 32) (v1071 : IVec S8x128 32) (v1074 : IVec S8x128 32) (v1080 : IVec S8x128 32) (v1083 : IVec S8x128 32) (v1089 : IVec S8x128 32) (v1098 : IVec S8x128 32) (v1185 : IVec S8x128 32) : Safe (F := F) B (k0_part58 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v1038 v1047 v1053 v1056 v1062 v1065 v1071 v1074 v1080 v1083 v1089 v1098 v1185) := by
  rw [k0_part58_eq_skeleton]
  unfold k0_part58_skel
  repeat' first
    | with_reducible exact safe_pure _ _
    | with_reducible refine safe_bind _ ?_ (fun _ => ?_)

theorem safe_part59 (B : Bufs) (i : grid0.Coords) (k0_t10 : Fin (k0_t10_loop i).trips) (arg17 : BitVec 32) (v1089 : IVec S8x128 32) (v1092 : IVec S8x128 32) (v1098 : IVec S8x128 32) (v1101 : IVec S8x128 32) (v1107 : IVec S8x128 32) (v1110 : IVec S8x128 32) (v1116 : IVec S8x128 32) (v1119 : IVec S8x128 32) (v1125 : IVec S8x128 32) (v1230 : IVec S8x128 32) : Safe (F := F) B (k0_part59 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1089 v1092 v1098 v1101 v1107 v1110 v1116 v1119 v1125 v1230) := by
  rw [k0_part59_eq_skeleton]
  unfold k0_part59_skel
  repeat' first
    | with_reducible exact safe_pure _ _
    | with_reducible exact load_a11 _
    | with_reducible exact store_a11 _
    | with_reducible refine safe_bind _ ?_ (fun _ => ?_)

theorem safe_part60 (B : Bufs) (i : grid0.Coords) (k0_t10 : Fin (k0_t10_loop i).trips) (arg17 : BitVec 32) (v1128 : IVec S8x128 32) (v1134 : IVec S8x128 32) (v1137 : IVec S8x128 32) (v1143 : IVec S8x128 32) (v1146 : IVec S8x128 32) (v1152 : IVec S8x128 32) (v1272 : BitVec 32) : Safe (F := F) B (k0_part60 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1128 v1134 v1137 v1143 v1146 v1152 v1272) := by
  rw [k0_part60_eq_skeleton]
  unfold k0_part60_skel
  repeat' first
    | with_reducible exact safe_pure _ _
    | with_reducible exact load_a11 _
    | with_reducible exact store_a11 _
    | with_reducible refine safe_bind _ ?_ (fun _ => ?_)

theorem safe_part61 (B : Bufs) (i : grid0.Coords) (k0_t10 : Fin (k0_t10_loop i).trips) (arg17 : BitVec 32) (v1155 : IVec S8x128 32) (v1161 : IVec S8x128 32) (v1164 : IVec S8x128 32) (v1170 : IVec S8x128 32) (v1173 : IVec S8x128 32) (v1179 : IVec S8x128 32) (v1308 : BitVec 32) : Safe (F := F) B (k0_part61 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1155 v1161 v1164 v1170 v1173 v1179 v1308) := by
  rw [k0_part61_eq_skeleton]
  unfold k0_part61_skel
  repeat' first
    | with_reducible exact safe_pure _ _
    | with_reducible exact load_a11 _
    | with_reducible exact store_a11 _
    | with_reducible refine safe_bind _ ?_ (fun _ => ?_)

theorem safe_part62 (B : Bufs) (i : grid0.Coords) (k0_t10 : Fin (k0_t10_loop i).trips) (arg17 : BitVec 32) (v1182 : IVec S8x128 32) (v1188 : IVec S8x128 32) (v1191 : IVec S8x128 32) (v1197 : IVec S8x128 32) (v1200 : IVec S8x128 32) (v1206 : IVec S8x128 32) (v1344 : BitVec 32) : Safe (F := F) B (k0_part62 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1182 v1188 v1191 v1197 v1200 v1206 v1344) := by
  rw [k0_part62_eq_skeleton]
  unfold k0_part62_skel
  repeat' first
    | with_reducible exact safe_pure _ _
    | with_reducible exact load_a11 _
    | with_reducible exact store_a11 _
    | with_reducible refine safe_bind _ ?_ (fun _ => ?_)

theorem safe_part63 (B : Bufs) (i : grid0.Coords) (k0_t10 : Fin (k0_t10_loop i).trips) (arg17 : BitVec 32) (v1209 : IVec S8x128 32) (v1215 : IVec S8x128 32) (v1218 : IVec S8x128 32) (v1224 : IVec S8x128 32) (v1227 : IVec S8x128 32) (v1233 : IVec S8x128 32) (v1380 : BitVec 32) : Safe (F := F) B (k0_part63 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1209 v1215 v1218 v1224 v1227 v1233 v1380) := by
  rw [k0_part63_eq_skeleton]
  unfold k0_part63_skel
  repeat' first
    | with_reducible exact safe_pure _ _
    | with_reducible exact load_a11 _
    | with_reducible exact store_a11 _
    | with_reducible refine safe_bind _ ?_ (fun _ => ?_)

theorem safe_part64 (B : Bufs) (i : grid0.Coords) (k0_t10 : Fin (k0_t10_loop i).trips) (arg17 : BitVec 32) (v1236 : IVec S8x128 32) (v1242 : IVec S8x128 32) (v1245 : IVec S8x128 32) (v1251 : IVec S8x128 32) (v1254 : IVec S8x128 32) (v1260 : IVec S8x128 32) (v1416 : BitVec 32) : Safe (F := F) B (k0_part64 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t10 arg17 v1236 v1242 v1245 v1251 v1254 v1260 v1416) := by
  rw [k0_part64_eq_skeleton]
  unfold k0_part64_skel
  repeat' first
    | with_reducible exact safe_pure _ _
    | with_reducible exact load_a11 _
    | with_reducible exact store_a11 _
    | with_reducible refine safe_bind _ ?_ (fun _ => ?_)

theorem safe_t10_body (B : Bufs) (i : grid0.Coords) (arg0 : BitVec 32) (arg1 : BitVec 32) (v20 : BitVec 32) (v39 : BitVec 32) (v48 : IVec S1x128 32) (c0_i32_97 : BitVec 32) (v168 : BitVec 32) (v185 : BitVec 32) (k) (acc) : Safe (F := F) B (k0_t10_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168 v185 k acc) := by
  unfold k0_t10_body
  repeat' first
    | with_reducible exact safe_pure _ _
    | with_reducible exact load_a11 _
    | with_reducible exact store_a11 _
    | with_reducible exact safe_part41 _ _ _ _ _
    | with_reducible exact safe_part42 _ _ _ _ _
    | with_reducible exact safe_part43 _ _ _ _ _ _ _ _ _
    | with_reducible exact safe_part44 _ _ _ _ _ _ _ _ _ _ _ _ _ _ _
    | with_reducible exact safe_part45 _ _ _ _ _ _ _ _ _ _ _ _ _ _ _
    | with_reducible exact safe_part46 _ _ _ _ _ _ _ _ _ _ _ _ _ _ _
    | with_reducible exact safe_part47 _ _ _ _ _ _ _ _ _ _ _ _ _ _ _
    | with_reducible exact safe_part48 _ _ _ _ _ _ _ _ _ _ _ _ _ _ _
    | with_reducible exact safe_part49 _ _ _ _ _ _ _ _ _ _ _ _ _ _ _
    | with_reducible exact safe_part50 _ _ _ _ _ _ _ _ _ _ _ _ _ _ _
    | with_reducible exact safe_part51 _ _ _ _ _ _ _ _ _ _ _ _ _ _ _
    | with_reducible exact safe_part52 _ _ _ _ _ _ _ _ _ _ _ _ _ _ _
    | with_reducible exact safe_part53 _ _ _ _ _ _ _ _ _ _ _ _ _ _ _
    | with_reducible exact safe_part54 _ _ _ _ _ _ _ _ _ _ _ _ _ _ _
    | with_reducible exact safe_part55 _ _ _ _ _ _ _ _ _ _ _ _ _ _ _
    | with_reducible exact safe_part56 _ _ _ _ _ _ _ _ _ _ _ _ _ _ _
    | with_reducible exact safe_part57 _ _ _ _ _ _ _ _ _ _ _ _ _ _ _
    | with_reducible exact safe_part58 _ _ _ _ _ _ _ _ _ _ _ _ _ _ _
    | with_reducible exact safe_part59 _ _ _ _ _ _ _ _ _ _ _ _ _ _
    | with_reducible exact safe_part60 _ _ _ _ _ _ _ _ _ _ _
    | with_reducible exact safe_part61 _ _ _ _ _ _ _ _ _ _ _
    | with_reducible exact safe_part62 _ _ _ _ _ _ _ _ _ _ _
    | with_reducible exact safe_part63 _ _ _ _ _ _ _ _ _ _ _
    | with_reducible exact safe_part64 _ _ _ _ _ _ _ _ _ _ _
    | with_reducible refine safe_bind _ ?_ (fun _ => ?_)

theorem safe_t11_body (B : Bufs) (i : grid0.Coords) (arg0 : BitVec 32) (arg1 : BitVec 32) (v20 : BitVec 32) (v39 : BitVec 32) (v48 : IVec S1x128 32) (c0_i32_97 : BitVec 32) (v168 : BitVec 32) (k) (acc) : Safe (F := F) B (k0_t11_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168 k acc) := by
  unfold k0_t11_body
  repeat' first
    | with_reducible exact safe_pure _ _
    | with_reducible exact load_a11 _
    | with_reducible refine safe_bind _ ?_ (fun _ => ?_)

theorem safe_t7_body (B : Bufs) (i : grid0.Coords) (arg0 : BitVec 32) (arg1 : BitVec 32) (v20 : BitVec 32) (v39 : BitVec 32) (v48 : IVec S1x128 32) (c0_i32_97 : BitVec 32) (v168 : BitVec 32) (k) (acc) : Safe (F := F) B (k0_t7_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168 k acc) := by
  unfold k0_t7_body
  repeat' first
    | with_reducible exact safe_pure _ _
    | with_reducible exact load_a10 _
    | with_reducible exact store_a10 _
    | with_reducible refine safe_bind _ ?_ (fun _ => ?_)

theorem safe_t8_body (B : Bufs) (i : grid0.Coords) (arg0 : BitVec 32) (arg1 : BitVec 32) (v20 : BitVec 32) (v39 : BitVec 32) (v48 : IVec S1x128 32) (c0_i32_97 : BitVec 32) (v168 : BitVec 32) (k) (acc) : Safe (F := F) B (k0_t8_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168 k acc) := by
  unfold k0_t8_body
  repeat' first
    | with_reducible exact safe_pure _ _
    | with_reducible exact load_a10 _
    | with_reducible exact store_a10 _
    | with_reducible refine safe_bind _ ?_ (fun _ => ?_)

theorem safe_part17 (B : Bufs) (i : grid0.Coords) (c0_i32_105 : BitVec 32) (c1_i32_108 : BitVec 32) (k0_t9 : Fin (k0_t9_loop i).trips) : Safe (F := F) B (k0_part17 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 c0_i32_105 c1_i32_108 k0_t9) := by
  rw [k0_part17_eq_skeleton]
  unfold k0_part17_skel
  repeat' first
    | with_reducible exact safe_pure _ _
    | with_reducible exact load_a10 _
    | with_reducible refine safe_bind _ ?_ (fun _ => ?_)

theorem safe_part18 (B : Bufs) (i : grid0.Coords) (k0_t9 : Fin (k0_t9_loop i).trips) (v447 : BitVec 32) (c88_i32 : BitVec 32) : Safe (F := F) B (k0_part18 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 v447 c88_i32) := by
  rw [k0_part18_eq_skeleton]
  unfold k0_part18_skel
  repeat' first
    | with_reducible exact safe_pure _ _
    | with_reducible exact load_a10 _
    | with_reducible refine safe_bind _ ?_ (fun _ => ?_)

theorem safe_part19 (B : Bufs) (i : grid0.Coords) (k0_t9 : Fin (k0_t9_loop i).trips) (v447 : BitVec 32) (v450 : Vec F S8x128 .i32) (v453 : Vec F S8x128 .i32) (v498 : Vec F S8x128 .i32) (v501 : Vec F S8x128 .i32) (c184_i32 : BitVec 32) : Safe (F := F) B (k0_part19 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 v447 v450 v453 v498 v501 c184_i32) := by
  rw [k0_part19_eq_skeleton]
  unfold k0_part19_skel
  repeat' first
    | with_reducible exact safe_pure _ _
    | with_reducible exact load_a10 _
    | with_reducible refine safe_bind _ ?_ (fun _ => ?_)

theorem safe_part20 (B : Bufs) (i : grid0.Coords) (v453 : Vec F S8x128 .i32) (v456 : Vec F S8x128 .i32) (v459 : Vec F S8x128 .i32) (v462 : Vec F S8x128 .i32) (v465 : Vec F S8x128 .i32) (v468 : Vec F S8x128 .i32) (v501 : Vec F S8x128 .i32) (v504 : Vec F S8x128 .i32) (v507 : Vec F S8x128 .i32) (v510 : Vec F S8x128 .i32) (v513 : Vec F S8x128 .i32) (v516 : Vec F S8x128 .i32) (v555 : IVec S8x128 32) : Safe (F := F) B (k0_part20 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v453 v456 v459 v462 v465 v468 v501 v504 v507 v510 v513 v516 v555) := by
  rw [k0_part20_eq_skeleton]
  unfold k0_part20_skel
  repeat' first
    | with_reducible exact safe_pure _ _
    | with_reducible refine safe_bind _ ?_ (fun _ => ?_)

theorem safe_part21 (B : Bufs) (i : grid0.Coords) (v468 : Vec F S8x128 .i32) (v471 : Vec F S8x128 .i32) (v474 : Vec F S8x128 .i32) (v477 : Vec F S8x128 .i32) (v480 : Vec F S8x128 .i32) (v483 : Vec F S8x128 .i32) (v516 : Vec F S8x128 .i32) (v519 : Vec F S8x128 .i32) (v522 : Vec F S8x128 .i32) (v525 : Vec F S8x128 .i32) (v528 : Vec F S8x128 .i32) (v531 : Vec F S8x128 .i32) (v600 : IVec S8x128 32) : Safe (F := F) B (k0_part21 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v468 v471 v474 v477 v480 v483 v516 v519 v522 v525 v528 v531 v600) := by
  rw [k0_part21_eq_skeleton]
  unfold k0_part21_skel
  repeat' first
    | with_reducible exact safe_pure _ _
    | with_reducible refine safe_bind _ ?_ (fun _ => ?_)

theorem safe_part22 (B : Bufs) (i : grid0.Coords) (v483 : Vec F S8x128 .i32) (v486 : Vec F S8x128 .i32) (v489 : Vec F S8x128 .i32) (v492 : Vec F S8x128 .i32) (v495 : Vec F S8x128 .i32) (v531 : Vec F S8x128 .i32) (v534 : Vec F S8x128 .i32) (v537 : Vec F S8x128 .i32) (v540 : Vec F S8x128 .i32) (v543 : Vec F S8x128 .i32) (v549 : IVec S8x128 32) (v621 : IVec S8x128 32) (v645 : IVec S8x128 32) : Safe (F := F) B (k0_part22 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v483 v486 v489 v492 v495 v531 v534 v537 v540 v543 v549 v621 v645) := by
  rw [k0_part22_eq_skeleton]
  unfold k0_part22_skel
  repeat' first
    | with_reducible exact safe_pure _ _
    | with_reducible refine safe_bind _ ?_ (fun _ => ?_)

theorem safe_part23 (B : Bufs) (i : grid0.Coords) (v549 : IVec S8x128 32) (v558 : IVec S8x128 32) (v567 : IVec S8x128 32) (v576 : IVec S8x128 32) (v585 : IVec S8x128 32) (v594 : IVec S8x128 32) (v621 : IVec S8x128 32) (v630 : IVec S8x128 32) (v639 : IVec S8x128 32) (v648 : IVec S8x128 32) (v657 : IVec S8x128 32) (v666 : IVec S8x128 32) (v690 : IVec S8x128 32) : Safe (F := F) B (k0_part23 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v549 v558 v567 v576 v585 v594 v621 v630 v639 v648 v657 v666 v690) := by
  rw [k0_part23_eq_skeleton]
  unfold k0_part23_skel
  repeat' first
    | with_reducible exact safe_pure _ _
    | with_reducible refine safe_bind _ ?_ (fun _ => ?_)

theorem safe_part24 (B : Bufs) (i : grid0.Coords) (v552 : IVec S8x128 32) (v561 : IVec S8x128 32) (v570 : IVec S8x128 32) (v594 : IVec S8x128 32) (v603 : IVec S8x128 32) (v612 : IVec S8x128 32) (v624 : IVec S8x128 32) (v633 : IVec S8x128 32) (v642 : IVec S8x128 32) (v666 : IVec S8x128 32) (v675 : IVec S8x128 32) (v684 : IVec S8x128 32) (v735 : IVec S8x128 32) : Safe (F := F) B (k0_part24 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v552 v561 v570 v594 v603 v612 v624 v633 v642 v666 v675 v684 v735) := by
  rw [k0_part24_eq_skeleton]
  unfold k0_part24_skel
  repeat' first
    | with_reducible exact safe_pure _ _
    | with_reducible refine safe_bind _ ?_ (fun _ => ?_)

theorem safe_part25 (B : Bufs) (i : grid0.Coords) (v570 : IVec S8x128 32) (v579 : IVec S8x128 32) (v588 : IVec S8x128 32) (v597 : IVec S8x128 32) (v606 : IVec S8x128 32) (v615 : IVec S8x128 32) (v642 : IVec S8x128 32) (v651 : IVec S8x128 32) (v660 : IVec S8x128 32) (v669 : IVec S8x128 32) (v678 : IVec S8x128 32) (v687 : IVec S8x128 32) (v780 : IVec S8x128 32) : Safe (F := F) B (k0_part25 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v570 v579 v588 v597 v606 v615 v642 v651 v660 v669 v678 v687 v780) := by
  rw [k0_part25_eq_skeleton]
  unfold k0_part25_skel
  repeat' first
    | with_reducible exact safe_pure _ _
    | with_reducible refine safe_bind _ ?_ (fun _ => ?_)

theorem safe_part26 (B : Bufs) (i : grid0.Coords) (v615 : IVec S8x128 32) (v687 : IVec S8x128 32) (v693 : IVec S8x128 32) (v696 : IVec S8x128 32) (v702 : IVec S8x128 32) (v711 : IVec S8x128 32) (v720 : IVec S8x128 32) (v729 : IVec S8x128 32) (v732 : IVec S8x128 32) (v738 : IVec S8x128 32) (v747 : IVec S8x128 32) (v756 : IVec S8x128 32) (v825 : IVec S8x128 32) : Safe (F := F) B (k0_part26 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v615 v687 v693 v696 v702 v711 v720 v729 v732 v738 v747 v756 v825) := by
  rw [k0_part26_eq_skeleton]
  unfold k0_part26_skel
  repeat' first
    | with_reducible exact safe_pure _ _
    | with_reducible refine safe_bind _ ?_ (fun _ => ?_)

theorem safe_part27 (B : Bufs) (i : grid0.Coords) (v696 : IVec S8x128 32) (v705 : IVec S8x128 32) (v714 : IVec S8x128 32) (v723 : IVec S8x128 32) (v732 : IVec S8x128 32) (v741 : IVec S8x128 32) (v750 : IVec S8x128 32) (v759 : IVec S8x128 32) (v765 : IVec S8x128 32) (v774 : IVec S8x128 32) (v801 : IVec S8x128 32) (v810 : IVec S8x128 32) (v870 : IVec S8x128 32) : Safe (F := F) B (k0_part27 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v696 v705 v714 v723 v732 v741 v750 v759 v765 v774 v801 v810 v870) := by
  rw [k0_part27_eq_skeleton]
  unfold k0_part27_skel
  repeat' first
    | with_reducible exact safe_pure _ _
    | with_reducible refine safe_bind _ ?_ (fun _ => ?_)

theorem safe_part28 (B : Bufs) (i : grid0.Coords) (v768 : IVec S8x128 32) (v774 : IVec S8x128 32) (v777 : IVec S8x128 32) (v783 : IVec S8x128 32) (v786 : IVec S8x128 32) (v792 : IVec S8x128 32) (v804 : IVec S8x128 32) (v810 : IVec S8x128 32) (v813 : IVec S8x128 32) (v819 : IVec S8x128 32) (v822 : IVec S8x128 32) (v828 : IVec S8x128 32) (v915 : IVec S8x128 32) : Safe (F := F) B (k0_part28 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v768 v774 v777 v783 v786 v792 v804 v810 v813 v819 v822 v828 v915) := by
  rw [k0_part28_eq_skeleton]
  unfold k0_part28_skel
  repeat' first
    | with_reducible exact safe_pure _ _
    | with_reducible refine safe_bind _ ?_ (fun _ => ?_)

theorem safe_part29 (B : Bufs) (i : grid0.Coords) (v786 : IVec S8x128 32) (v795 : IVec S8x128 32) (v822 : IVec S8x128 32) (v831 : IVec S8x128 32) (v837 : IVec S8x128 32) (v840 : IVec S8x128 32) (v846 : IVec S8x128 32) (v849 : IVec S8x128 32) (v855 : IVec S8x128 32) (v858 : IVec S8x128 32) (v864 : IVec S8x128 32) (v867 : IVec S8x128 32) (v960 : IVec S8x128 32) : Safe (F := F) B (k0_part29 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v786 v795 v822 v831 v837 v840 v846 v849 v855 v858 v864 v867 v960) := by
  rw [k0_part29_eq_skeleton]
  unfold k0_part29_skel
  repeat' first
    | with_reducible exact safe_pure _ _
    | with_reducible refine safe_bind _ ?_ (fun _ => ?_)

theorem safe_part30 (B : Bufs) (i : grid0.Coords) (v849 : IVec S8x128 32) (v867 : IVec S8x128 32) (v873 : IVec S8x128 32) (v876 : IVec S8x128 32) (v882 : IVec S8x128 32) (v885 : IVec S8x128 32) (v891 : IVec S8x128 32) (v894 : IVec S8x128 32) (v900 : IVec S8x128 32) (v903 : IVec S8x128 32) (v909 : IVec S8x128 32) (v927 : IVec S8x128 32) (v1005 : IVec S8x128 32) : Safe (F := F) B (k0_part30 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v849 v867 v873 v876 v882 v885 v891 v894 v900 v903 v909 v927 v1005) := by
  rw [k0_part30_eq_skeleton]
  unfold k0_part30_skel
  repeat' first
    | with_reducible exact safe_pure _ _
    | with_reducible refine safe_bind _ ?_ (fun _ => ?_)

theorem safe_part31 (B : Bufs) (i : grid0.Coords) (v909 : IVec S8x128 32) (v912 : IVec S8x128 32) (v918 : IVec S8x128 32) (v921 : IVec S8x128 32) (v927 : IVec S8x128 32) (v930 : IVec S8x128 32) (v936 : IVec S8x128 32) (v939 : IVec S8x128 32) (v945 : IVec S8x128 32) (v954 : IVec S8x128 32) (v963 : IVec S8x128 32) (v972 : IVec S8x128 32) (v1050 : IVec S8x128 32) : Safe (F := F) B (k0_part31 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v909 v912 v918 v921 v927 v930 v936 v939 v945 v954 v963 v972 v1050) := by
  rw [k0_part31_eq_skeleton]
  unfold k0_part31_skel
  repeat' first
    | with_reducible exact safe_pure _ _
    | with_reducible refine safe_bind _ ?_ (fun _ => ?_)

theorem safe_part32 (B : Bufs) (i : grid0.Coords) (v948 : IVec S8x128 32) (v954 : IVec S8x128 32) (v957 : IVec S8x128 32) (v966 : IVec S8x128 32) (v972 : IVec S8x128 32) (v975 : IVec S8x128 32) (v981 : IVec S8x128 32) (v984 : IVec S8x128 32) (v990 : IVec S8x128 32) (v993 : IVec S8x128 32) (v999 : IVec S8x128 32) (v1008 : IVec S8x128 32) (v1095 : IVec S8x128 32) : Safe (F := F) B (k0_part32 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v948 v954 v957 v966 v972 v975 v981 v984 v990 v993 v999 v1008 v1095) := by
  rw [k0_part32_eq_skeleton]
  unfold k0_part32_skel
  repeat' first
    | with_reducible exact safe_pure _ _
    | with_reducible refine safe_bind _ ?_ (fun _ => ?_)

theorem safe_part33 (B : Bufs) (i : grid0.Coords) (v999 : IVec S8x128 32) (v1002 : IVec S8x128 32) (v1008 : IVec S8x128 32) (v1011 : IVec S8x128 32) (v1017 : IVec S8x128 32) (v1020 : IVec S8x128 32) (v1026 : IVec S8x128 32) (v1029 : IVec S8x128 32) (v1035 : IVec S8x128 32) (v1038 : IVec S8x128 32) (v1044 : IVec S8x128 32) (v1047 : IVec S8x128 32) (v1140 : IVec S8x128 32) : Safe (F := F) B (k0_part33 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v999 v1002 v1008 v1011 v1017 v1020 v1026 v1029 v1035 v1038 v1044 v1047 v1140) := by
  rw [k0_part33_eq_skeleton]
  unfold k0_part33_skel
  repeat' first
    | with_reducible exact safe_pure _ _
    | with_reducible refine safe_bind _ ?_ (fun _ => ?_)

theorem safe_part34 (B : Bufs) (i : grid0.Coords) (v1038 : IVec S8x128 32) (v1047 : IVec S8x128 32) (v1053 : IVec S8x128 32) (v1056 : IVec S8x128 32) (v1062 : IVec S8x128 32) (v1065 : IVec S8x128 32) (v1071 : IVec S8x128 32) (v1074 : IVec S8x128 32) (v1080 : IVec S8x128 32) (v1083 : IVec S8x128 32) (v1089 : IVec S8x128 32) (v1098 : IVec S8x128 32) (v1185 : IVec S8x128 32) : Safe (F := F) B (k0_part34 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v1038 v1047 v1053 v1056 v1062 v1065 v1071 v1074 v1080 v1083 v1089 v1098 v1185) := by
  rw [k0_part34_eq_skeleton]
  unfold k0_part34_skel
  repeat' first
    | with_reducible exact safe_pure _ _
    | with_reducible refine safe_bind _ ?_ (fun _ => ?_)

theorem safe_part35 (B : Bufs) (i : grid0.Coords) (k0_t9 : Fin (k0_t9_loop i).trips) (arg17 : BitVec 32) (v1089 : IVec S8x128 32) (v1092 : IVec S8x128 32) (v1098 : IVec S8x128 32) (v1101 : IVec S8x128 32) (v1107 : IVec S8x128 32) (v1110 : IVec S8x128 32) (v1116 : IVec S8x128 32) (v1119 : IVec S8x128 32) (v1125 : IVec S8x128 32) (v1230 : IVec S8x128 32) : Safe (F := F) B (k0_part35 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1089 v1092 v1098 v1101 v1107 v1110 v1116 v1119 v1125 v1230) := by
  rw [k0_part35_eq_skeleton]
  unfold k0_part35_skel
  repeat' first
    | with_reducible exact safe_pure _ _
    | with_reducible exact load_a11 _
    | with_reducible exact store_a11 _
    | with_reducible refine safe_bind _ ?_ (fun _ => ?_)

theorem safe_part36 (B : Bufs) (i : grid0.Coords) (k0_t9 : Fin (k0_t9_loop i).trips) (arg17 : BitVec 32) (v1128 : IVec S8x128 32) (v1134 : IVec S8x128 32) (v1137 : IVec S8x128 32) (v1143 : IVec S8x128 32) (v1146 : IVec S8x128 32) (v1152 : IVec S8x128 32) (v1272 : BitVec 32) : Safe (F := F) B (k0_part36 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1128 v1134 v1137 v1143 v1146 v1152 v1272) := by
  rw [k0_part36_eq_skeleton]
  unfold k0_part36_skel
  repeat' first
    | with_reducible exact safe_pure _ _
    | with_reducible exact load_a11 _
    | with_reducible exact store_a11 _
    | with_reducible refine safe_bind _ ?_ (fun _ => ?_)

theorem safe_part37 (B : Bufs) (i : grid0.Coords) (k0_t9 : Fin (k0_t9_loop i).trips) (arg17 : BitVec 32) (v1155 : IVec S8x128 32) (v1161 : IVec S8x128 32) (v1164 : IVec S8x128 32) (v1170 : IVec S8x128 32) (v1173 : IVec S8x128 32) (v1179 : IVec S8x128 32) (v1308 : BitVec 32) : Safe (F := F) B (k0_part37 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1155 v1161 v1164 v1170 v1173 v1179 v1308) := by
  rw [k0_part37_eq_skeleton]
  unfold k0_part37_skel
  repeat' first
    | with_reducible exact safe_pure _ _
    | with_reducible exact load_a11 _
    | with_reducible exact store_a11 _
    | with_reducible refine safe_bind _ ?_ (fun _ => ?_)

theorem safe_part38 (B : Bufs) (i : grid0.Coords) (k0_t9 : Fin (k0_t9_loop i).trips) (arg17 : BitVec 32) (v1182 : IVec S8x128 32) (v1188 : IVec S8x128 32) (v1191 : IVec S8x128 32) (v1197 : IVec S8x128 32) (v1200 : IVec S8x128 32) (v1206 : IVec S8x128 32) (v1344 : BitVec 32) : Safe (F := F) B (k0_part38 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1182 v1188 v1191 v1197 v1200 v1206 v1344) := by
  rw [k0_part38_eq_skeleton]
  unfold k0_part38_skel
  repeat' first
    | with_reducible exact safe_pure _ _
    | with_reducible exact load_a11 _
    | with_reducible exact store_a11 _
    | with_reducible refine safe_bind _ ?_ (fun _ => ?_)

theorem safe_part39 (B : Bufs) (i : grid0.Coords) (k0_t9 : Fin (k0_t9_loop i).trips) (arg17 : BitVec 32) (v1209 : IVec S8x128 32) (v1215 : IVec S8x128 32) (v1218 : IVec S8x128 32) (v1224 : IVec S8x128 32) (v1227 : IVec S8x128 32) (v1233 : IVec S8x128 32) (v1380 : BitVec 32) : Safe (F := F) B (k0_part39 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1209 v1215 v1218 v1224 v1227 v1233 v1380) := by
  rw [k0_part39_eq_skeleton]
  unfold k0_part39_skel
  repeat' first
    | with_reducible exact safe_pure _ _
    | with_reducible exact load_a11 _
    | with_reducible exact store_a11 _
    | with_reducible refine safe_bind _ ?_ (fun _ => ?_)

theorem safe_part40 (B : Bufs) (i : grid0.Coords) (k0_t9 : Fin (k0_t9_loop i).trips) (arg17 : BitVec 32) (v1236 : IVec S8x128 32) (v1242 : IVec S8x128 32) (v1245 : IVec S8x128 32) (v1251 : IVec S8x128 32) (v1254 : IVec S8x128 32) (v1260 : IVec S8x128 32) (v1416 : BitVec 32) : Safe (F := F) B (k0_part40 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t9 arg17 v1236 v1242 v1245 v1251 v1254 v1260 v1416) := by
  rw [k0_part40_eq_skeleton]
  unfold k0_part40_skel
  repeat' first
    | with_reducible exact safe_pure _ _
    | with_reducible exact load_a11 _
    | with_reducible exact store_a11 _
    | with_reducible refine safe_bind _ ?_ (fun _ => ?_)

theorem safe_t9_body (B : Bufs) (i : grid0.Coords) (arg0 : BitVec 32) (arg1 : BitVec 32) (v20 : BitVec 32) (v39 : BitVec 32) (v48 : IVec S1x128 32) (c0_i32_97 : BitVec 32) (v168 : BitVec 32) (k) (acc) : Safe (F := F) B (k0_t9_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168 k acc) := by
  unfold k0_t9_body
  repeat' first
    | with_reducible exact safe_pure _ _
    | with_reducible exact load_a11 _
    | with_reducible exact store_a11 _
    | with_reducible exact safe_part17 _ _ _ _ _
    | with_reducible exact safe_part18 _ _ _ _ _
    | with_reducible exact safe_part19 _ _ _ _ _ _ _ _ _
    | with_reducible exact safe_part20 _ _ _ _ _ _ _ _ _ _ _ _ _ _ _
    | with_reducible exact safe_part21 _ _ _ _ _ _ _ _ _ _ _ _ _ _ _
    | with_reducible exact safe_part22 _ _ _ _ _ _ _ _ _ _ _ _ _ _ _
    | with_reducible exact safe_part23 _ _ _ _ _ _ _ _ _ _ _ _ _ _ _
    | with_reducible exact safe_part24 _ _ _ _ _ _ _ _ _ _ _ _ _ _ _
    | with_reducible exact safe_part25 _ _ _ _ _ _ _ _ _ _ _ _ _ _ _
    | with_reducible exact safe_part26 _ _ _ _ _ _ _ _ _ _ _ _ _ _ _
    | with_reducible exact safe_part27 _ _ _ _ _ _ _ _ _ _ _ _ _ _ _
    | with_reducible exact safe_part28 _ _ _ _ _ _ _ _ _ _ _ _ _ _ _
    | with_reducible exact safe_part29 _ _ _ _ _ _ _ _ _ _ _ _ _ _ _
    | with_reducible exact safe_part30 _ _ _ _ _ _ _ _ _ _ _ _ _ _ _
    | with_reducible exact safe_part31 _ _ _ _ _ _ _ _ _ _ _ _ _ _ _
    | with_reducible exact safe_part32 _ _ _ _ _ _ _ _ _ _ _ _ _ _ _
    | with_reducible exact safe_part33 _ _ _ _ _ _ _ _ _ _ _ _ _ _ _
    | with_reducible exact safe_part34 _ _ _ _ _ _ _ _ _ _ _ _ _ _ _
    | with_reducible exact safe_part35 _ _ _ _ _ _ _ _ _ _ _ _ _ _
    | with_reducible exact safe_part36 _ _ _ _ _ _ _ _ _ _ _
    | with_reducible exact safe_part37 _ _ _ _ _ _ _ _ _ _ _
    | with_reducible exact safe_part38 _ _ _ _ _ _ _ _ _ _ _
    | with_reducible exact safe_part39 _ _ _ _ _ _ _ _ _ _ _
    | with_reducible exact safe_part40 _ _ _ _ _ _ _ _ _ _ _
    | with_reducible refine safe_bind _ ?_ (fun _ => ?_)

theorem safe_part132 (B : Bufs) (i : grid0.Coords) (arg0 : BitVec 32) (arg1 : BitVec 32) (v20 : BitVec 32) (v39 : BitVec 32) (v48 : IVec S1x128 32) (c0_i32_97 : BitVec 32) (v168 : BitVec 32) : Safe (F := F) B (k0_part132 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 arg0 arg1 v20 v39 v48 c0_i32_97 v168) := by
  rw [k0_part132_eq_skeleton]
  unfold k0_part132_skel
  repeat' first
    | with_reducible exact safe_pure _ _
    | with_reducible exact load_a11 _
    | with_reducible exact store_a11 _
    | with_reducible exact safe_t10_body _ _ _ _ _ _ _ _ _ _ _ _
    | with_reducible exact safe_t11_body _ _ _ _ _ _ _ _ _ _ _
    | with_reducible exact safe_t7_body _ _ _ _ _ _ _ _ _ _ _
    | with_reducible exact safe_t8_body _ _ _ _ _ _ _ _ _ _ _
    | with_reducible exact safe_t9_body _ _ _ _ _ _ _ _ _ _ _
    | with_reducible refine safe_for _ _ _ _ _ (fun _ _ => ?_)
    | with_reducible refine safe_dite _ (fun _ => ?_) (fun _ => ?_)
    | with_reducible refine safe_bind _ ?_ (fun _ => ?_)

theorem safe_t12_body (B : Bufs) (i : grid0.Coords) (v0 : BitVec 32) (v48 : IVec S1x128 32) (v199_1 : IVec S1x128 32) (v199_2 : IVec S1x128 32) (v201 : IVec S1x128 32) (v204 : IVec S1x128 32) (k) (acc) : Safe (F := F) B (k0_t12_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v48 v199_1 v199_2 v201 v204 k acc) := by
  unfold k0_t12_body
  repeat' first
    | with_reducible exact safe_pure _ _
    | with_reducible exact load_a10 _
    | with_reducible exact store_a10 _
    | with_reducible refine safe_bind _ ?_ (fun _ => ?_)

theorem safe_t13_body (B : Bufs) (i : grid0.Coords) (v0 : BitVec 32) (v48 : IVec S1x128 32) (v199_1 : IVec S1x128 32) (v199_2 : IVec S1x128 32) (v201 : IVec S1x128 32) (v204 : IVec S1x128 32) (k) (acc) : Safe (F := F) B (k0_t13_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v48 v199_1 v199_2 v201 v204 k acc) := by
  unfold k0_t13_body
  repeat' first
    | with_reducible exact safe_pure _ _
    | with_reducible exact load_a10 _
    | with_reducible exact store_a10 _
    | with_reducible refine safe_bind _ ?_ (fun _ => ?_)

theorem safe_part133 (B : Bufs) (i : grid0.Coords) (v0 : BitVec 32) (v48 : IVec S1x128 32) (v199_1 : IVec S1x128 32) (v199_2 : IVec S1x128 32) (v201 : IVec S1x128 32) (v204 : IVec S1x128 32) : Safe (F := F) B (k0_part133 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v48 v199_1 v199_2 v201 v204) := by
  rw [k0_part133_eq_skeleton]
  unfold k0_part133_skel
  repeat' first
    | with_reducible exact safe_pure _ _
    | with_reducible exact safe_t12_body _ _ _ _ _ _ _ _ _ _
    | with_reducible exact safe_t13_body _ _ _ _ _ _ _ _ _ _
    | with_reducible refine safe_for _ _ _ _ _ (fun _ _ => ?_)
    | with_reducible refine safe_ite _ ?_ ?_
    | with_reducible refine safe_bind _ ?_ (fun _ => ?_)

theorem safe_part65 (B : Bufs) (i : grid0.Coords) (v201 : IVec S1x128 32) (c0_i32_139 : BitVec 32) (c1_i32_141 : BitVec 32) (k0_t14 : Fin (k0_t14_loop i).trips) (arg18 : FVec F S8x512 .f32) : Safe (F := F) B (k0_part65 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 c0_i32_139 c1_i32_141 k0_t14 arg18) := by
  rw [k0_part65_eq_skeleton]
  unfold k0_part65_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part66 (B : Bufs) (i : grid0.Coords) (v201 : IVec S1x128 32) (k0_t14 : Fin (k0_t14_loop i).trips) (arg19 : FVec F S8x512 .f32) (arg17 : BitVec 32) (v469 : FVec F S8x512 .f32) (v481 : FVec F S64x8x512 .f32) : Safe (F := F) B (k0_part66 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t14 arg19 arg17 v469 v481) := by
  rw [k0_part66_eq_skeleton]
  unfold k0_part66_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part67 (B : Bufs) (i : grid0.Coords) (v201 : IVec S1x128 32) (k0_t14 : Fin (k0_t14_loop i).trips) (arg17 : BitVec 32) (v483 : FVec F S8x512 .f32) (v507 : FVec F S8x512 .f32) (v519 : FVec F S64x8x512 .f32) : Safe (F := F) B (k0_part67 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t14 arg17 v483 v507 v519) := by
  rw [k0_part67_eq_skeleton]
  unfold k0_part67_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part68 (B : Bufs) (i : grid0.Coords) (v201 : IVec S1x128 32) (k0_t14 : Fin (k0_t14_loop i).trips) (arg17 : BitVec 32) (v521 : FVec F S8x512 .f32) (v545 : FVec F S8x512 .f32) (v552 : FVec F S512x512 .f32) : Safe (F := F) B (k0_part68 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t14 arg17 v521 v545 v552) := by
  rw [k0_part68_eq_skeleton]
  unfold k0_part68_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_t14_body (B : Bufs) (i : grid0.Coords) (v201 : IVec S1x128 32) (v234 : BitVec 32) (v235 : FVec F S8x512 .f32) (v236 : FVec F S8x512 .f32) (v237 : BitVec 32) (c4_i32_132 : BitVec 32) (v238 : BitVec 32) (v243 : BitVec 32) (v244 : BitVec 1) (k) (acc) : Safe (F := F) B (k0_t14_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v234 v235 v236 v237 c4_i32_132 v238 v243 v244 k acc) := by
  unfold k0_t14_body
  repeat' first
    | with_reducible exact safe_pure _ _
    | with_reducible exact store_a12 _
    | with_reducible exact safe_part65 _ _ _ _ _ _ _
    | with_reducible exact safe_part66 _ _ _ _ _ _ _ _
    | with_reducible exact safe_part67 _ _ _ _ _ _ _ _
    | with_reducible exact safe_part68 _ _ _ _ _ _ _ _
    | with_reducible refine safe_bind _ ?_ (fun _ => ?_)

theorem safe_part69 (B : Bufs) (i : grid0.Coords) (v201 : IVec S1x128 32) (v259 : BitVec 32) (c1_i32_142 : BitVec 32) (k0_t15 : Fin (k0_t15_loop i).trips) (arg18 : FVec F S8x512 .f32) : Safe (F := F) B (k0_part69 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v259 c1_i32_142 k0_t15 arg18) := by
  rw [k0_part69_eq_skeleton]
  unfold k0_part69_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part70 (B : Bufs) (i : grid0.Coords) (v201 : IVec S1x128 32) (k0_t15 : Fin (k0_t15_loop i).trips) (arg19 : FVec F S8x512 .f32) (arg17 : BitVec 32) (v469 : FVec F S8x512 .f32) (v481 : FVec F S64x8x512 .f32) : Safe (F := F) B (k0_part70 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t15 arg19 arg17 v469 v481) := by
  rw [k0_part70_eq_skeleton]
  unfold k0_part70_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part71 (B : Bufs) (i : grid0.Coords) (v201 : IVec S1x128 32) (k0_t15 : Fin (k0_t15_loop i).trips) (arg17 : BitVec 32) (v483 : FVec F S8x512 .f32) (v507 : FVec F S8x512 .f32) (v519 : FVec F S64x8x512 .f32) : Safe (F := F) B (k0_part71 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t15 arg17 v483 v507 v519) := by
  rw [k0_part71_eq_skeleton]
  unfold k0_part71_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part72 (B : Bufs) (i : grid0.Coords) (v201 : IVec S1x128 32) (k0_t15 : Fin (k0_t15_loop i).trips) (arg17 : BitVec 32) (v521 : FVec F S8x512 .f32) (v545 : FVec F S8x512 .f32) (v552 : FVec F S512x512 .f32) : Safe (F := F) B (k0_part72 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 k0_t15 arg17 v521 v545 v552) := by
  rw [k0_part72_eq_skeleton]
  unfold k0_part72_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_t15_body (B : Bufs) (i : grid0.Coords) (v201 : IVec S1x128 32) (v234 : BitVec 32) (v235 : FVec F S8x512 .f32) (v236 : FVec F S8x512 .f32) (v237 : BitVec 32) (c4_i32_132 : BitVec 32) (v238 : BitVec 32) (v243 : BitVec 32) (v244 : BitVec 1) (v259 : BitVec 32) (k) (acc) : Safe (F := F) B (k0_t15_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v234 v235 v236 v237 c4_i32_132 v238 v243 v244 v259 k acc) := by
  unfold k0_t15_body
  repeat' first
    | with_reducible exact safe_pure _ _
    | with_reducible exact store_a12 _
    | with_reducible exact safe_part69 _ _ _ _ _ _ _
    | with_reducible exact safe_part70 _ _ _ _ _ _ _ _
    | with_reducible exact safe_part71 _ _ _ _ _ _ _ _
    | with_reducible exact safe_part72 _ _ _ _ _ _ _ _
    | with_reducible refine safe_bind _ ?_ (fun _ => ?_)

theorem safe_part134 (B : Bufs) (i : grid0.Coords) (v201 : IVec S1x128 32) (v234 : BitVec 32) (v235 : FVec F S8x512 .f32) (v236 : FVec F S8x512 .f32) (v237 : BitVec 32) (c4_i32_132 : BitVec 32) (v238 : BitVec 32) (v243 : BitVec 32) (v244 : BitVec 1) : Safe (F := F) B (k0_part134 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v234 v235 v236 v237 c4_i32_132 v238 v243 v244) := by
  rw [k0_part134_eq_skeleton]
  unfold k0_part134_skel
  repeat' first
    | with_reducible exact safe_pure _ _
    | with_reducible exact safe_t14_body _ _ _ _ _ _ _ _ _ _ _ _ _
    | with_reducible exact safe_t15_body _ _ _ _ _ _ _ _ _ _ _ _ _ _
    | with_reducible refine safe_for _ _ _ _ _ (fun _ _ => ?_)
    | with_reducible refine safe_bind _ ?_ (fun _ => ?_)

theorem safe_part73 (B : Bufs) (i : grid0.Coords) (v201 : IVec S1x128 32) (v263 : BitVec 32) (c0_i32_152 : BitVec 32) (c1_i32_154 : BitVec 32) (k0_t16 : Fin (k0_t16_loop i).trips) (arg18 : FVec F S8x512 .f32) : Safe (F := F) B (k0_part73 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v263 c0_i32_152 c1_i32_154 k0_t16 arg18) := by
  rw [k0_part73_eq_skeleton]
  unfold k0_part73_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part74 (B : Bufs) (i : grid0.Coords) (v201 : IVec S1x128 32) (v263 : BitVec 32) (k0_t16 : Fin (k0_t16_loop i).trips) (arg19 : FVec F S8x512 .f32) (arg17 : BitVec 32) (v469 : FVec F S8x512 .f32) (v482 : FVec F S8x512 .f32) : Safe (F := F) B (k0_part74 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v263 k0_t16 arg19 arg17 v469 v482) := by
  rw [k0_part74_eq_skeleton]
  unfold k0_part74_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_t16_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (k) (acc) : Safe (F := F) B (k0_t16_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 k acc) := by
  unfold k0_t16_body
  repeat' first
    | with_reducible exact safe_pure _ _
    | with_reducible exact safe_part73 _ _ _ _ _ _ _ _
    | with_reducible exact safe_part74 _ _ _ _ _ _ _ _ _
    | with_reducible refine safe_bind _ ?_ (fun _ => ?_)

theorem safe_part75 (B : Bufs) (i : grid0.Coords) (v201 : IVec S1x128 32) (v263 : BitVec 32) (v286 : BitVec 32) (c1_i32_155 : BitVec 32) (k0_t17 : Fin (k0_t17_loop i).trips) (arg18 : FVec F S8x512 .f32) : Safe (F := F) B (k0_part75 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v263 v286 c1_i32_155 k0_t17 arg18) := by
  rw [k0_part75_eq_skeleton]
  unfold k0_part75_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part76 (B : Bufs) (i : grid0.Coords) (v201 : IVec S1x128 32) (v263 : BitVec 32) (k0_t17 : Fin (k0_t17_loop i).trips) (arg19 : FVec F S8x512 .f32) (arg17 : BitVec 32) (v469 : FVec F S8x512 .f32) (v482 : FVec F S8x512 .f32) : Safe (F := F) B (k0_part76 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v201 v263 k0_t17 arg19 arg17 v469 v482) := by
  rw [k0_part76_eq_skeleton]
  unfold k0_part76_skel
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_t17_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (k) (acc) : Safe (F := F) B (k0_t17_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 k acc) := by
  unfold k0_t17_body
  repeat' first
    | with_reducible exact safe_pure _ _
    | with_reducible exact safe_part75 _ _ _ _ _ _ _ _
    | with_reducible exact safe_part76 _ _ _ _ _ _ _ _ _
    | with_reducible refine safe_bind _ ?_ (fun _ => ?_)

theorem safe_t18_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (k) (acc) : Safe (F := F) B (k0_t18_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 k acc) := by
  unfold k0_t18_body
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_t19_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (k) (acc) : Safe (F := F) B (k0_t19_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 k acc) := by
  unfold k0_t19_body
  repeat' first
    | with_reducible exact safe_pure _ _
    | with_reducible exact load_a6 _
    | with_reducible exact load_a10 _
    | with_reducible exact load_a12 _
    | with_reducible exact store_a12 _
    | with_reducible exact load_a15 _
    | with_reducible refine safe_bind _ ?_ (fun _ => ?_)

theorem safe_part77 (B : Bufs) (i : grid0.Coords) (v0 : BitVec 32) (v201 : IVec S1x128 32) (v234 : BitVec 32) (c0_i32_167 : BitVec 32) (c1_i32_169 : BitVec 32) (k0_t20 : Fin (k0_t20_loop i).trips) (arg18 : FVec F S8x512 .f32) : Safe (F := F) B (k0_part77 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v234 c0_i32_167 c1_i32_169 k0_t20 arg18) := by
  rw [k0_part77_eq_skeleton]
  unfold k0_part77_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_part78 (B : Bufs) (i : grid0.Coords) (v0 : BitVec 32) (v201 : IVec S1x128 32) (v234 : BitVec 32) (k0_t20 : Fin (k0_t20_loop i).trips) (arg19 : FVec F S8x512 .f32) (arg17 : BitVec 32) (v448 : BitVec 32) (v450 : BitVec 32) (v455 : IVec S512x512 1) (v480 : Vec F S512x256 .bf16) (v481 : Vec F S1x256x512 .bf16) : Safe (F := F) B (k0_part78 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v234 k0_t20 arg19 arg17 v448 v450 v455 v480 v481) := by
  rw [k0_part78_eq_skeleton]
  unfold k0_part78_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_part79 (B : Bufs) (i : grid0.Coords) (v0 : BitVec 32) (k0_t20 : Fin (k0_t20_loop i).trips) (v478 : FVec F S8x512 .f32) (v504 : BitVec 32) (v506 : BitVec 32) (v511 : IVec S512x512 1) (v516 : FVec F S512x512 .f32) (v519 : BitVec 32) : Safe (F := F) B (k0_part79 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 k0_t20 v478 v504 v506 v511 v516 v519) := by
  rw [k0_part79_eq_skeleton]
  unfold k0_part79_skel
  repeat' first
    | with_reducible exact safe_pure _ _
    | with_reducible exact load_a6 _
    | with_reducible exact load_a8 _
    | with_reducible exact load_a12 _
    | with_reducible exact store_a12 _
    | with_reducible exact load_a15 _
    | with_reducible refine safe_bind _ ?_ (fun _ => ?_)

theorem safe_t20_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (k) (acc) : Safe (F := F) B (k0_t20_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 k acc) := by
  unfold k0_t20_body
  repeat' first
    | with_reducible exact safe_pure _ _
    | with_reducible exact safe_part77 _ _ _ _ _ _ _ _ _
    | with_reducible exact safe_part78 _ _ _ _ _ _ _ _ _ _ _ _ _
    | with_reducible exact safe_part79 _ _ _ _ _ _ _ _ _ _
    | with_reducible refine safe_bind _ ?_ (fun _ => ?_)

theorem safe_part80 (B : Bufs) (i : grid0.Coords) (v0 : BitVec 32) (v201 : IVec S1x128 32) (v234 : BitVec 32) (v320 : BitVec 32) (c1_i32_170 : BitVec 32) (k0_t21 : Fin (k0_t21_loop i).trips) (arg18 : FVec F S8x512 .f32) : Safe (F := F) B (k0_part80 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v234 v320 c1_i32_170 k0_t21 arg18) := by
  rw [k0_part80_eq_skeleton]
  unfold k0_part80_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_part81 (B : Bufs) (i : grid0.Coords) (v0 : BitVec 32) (v201 : IVec S1x128 32) (v234 : BitVec 32) (k0_t21 : Fin (k0_t21_loop i).trips) (arg19 : FVec F S8x512 .f32) (arg17 : BitVec 32) (v448 : BitVec 32) (v450 : BitVec 32) (v455 : IVec S512x512 1) (v480 : Vec F S512x256 .bf16) (v481 : Vec F S1x256x512 .bf16) : Safe (F := F) B (k0_part81 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v234 k0_t21 arg19 arg17 v448 v450 v455 v480 v481) := by
  rw [k0_part81_eq_skeleton]
  unfold k0_part81_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_part82 (B : Bufs) (i : grid0.Coords) (v0 : BitVec 32) (k0_t21 : Fin (k0_t21_loop i).trips) (v478 : FVec F S8x512 .f32) (v504 : BitVec 32) (v506 : BitVec 32) (v511 : IVec S512x512 1) (v516 : FVec F S512x512 .f32) (v519 : BitVec 32) : Safe (F := F) B (k0_part82 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 k0_t21 v478 v504 v506 v511 v516 v519) := by
  rw [k0_part82_eq_skeleton]
  unfold k0_part82_skel
  repeat' first
    | with_reducible exact safe_pure _ _
    | with_reducible exact load_a6 _
    | with_reducible exact load_a8 _
    | with_reducible exact load_a12 _
    | with_reducible exact store_a12 _
    | with_reducible exact load_a15 _
    | with_reducible refine safe_bind _ ?_ (fun _ => ?_)

theorem safe_t21_body (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) (v320 : BitVec 32) (k) (acc) : Safe (F := F) B (k0_t21_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286 v320 k acc) := by
  unfold k0_t21_body
  repeat' first
    | with_reducible exact safe_pure _ _
    | with_reducible exact safe_part80 _ _ _ _ _ _ _ _ _
    | with_reducible exact safe_part81 _ _ _ _ _ _ _ _ _ _ _ _ _
    | with_reducible exact safe_part82 _ _ _ _ _ _ _ _ _ _
    | with_reducible refine safe_bind _ ?_ (fun _ => ?_)

theorem safe_part135 (B : Bufs) (i : grid0.Coords) (v0 : BitVec 32) (v20 : BitVec 32) (v201 : IVec S1x128 32) (v234 : BitVec 32) (v261_0 : FVec F S8x512 .f32) (v261_1 : FVec F S8x512 .f32) (v263 : BitVec 32) (v281 : BitVec 32) (c0_i32_152 : BitVec 32) (v286 : BitVec 32) : Safe (F := F) B (k0_part135 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v234 v261_0 v261_1 v263 v281 c0_i32_152 v286) := by
  rw [k0_part135_eq_skeleton]
  unfold k0_part135_skel
  repeat' first
    | with_reducible exact safe_pure _ _
    | with_reducible exact safe_t16_body _ _ _ _ _ _ _ _ _ _ _ _ _ _
    | with_reducible exact safe_t17_body _ _ _ _ _ _ _ _ _ _ _ _ _ _
    | with_reducible exact safe_t18_body _ _ _ _ _ _ _ _ _ _ _ _ _ _
    | with_reducible exact safe_t19_body _ _ _ _ _ _ _ _ _ _ _ _ _ _
    | with_reducible exact safe_t20_body _ _ _ _ _ _ _ _ _ _ _ _ _ _
    | with_reducible exact safe_t21_body _ _ _ _ _ _ _ _ _ _ _ _ _ _ _
    | with_reducible refine safe_for _ _ _ _ _ (fun _ _ => ?_)
    | with_reducible refine safe_bind _ ?_ (fun _ => ?_)

theorem safe_part83 (B : Bufs) (i : grid0.Coords) (v0 : BitVec 32) (v201 : IVec S1x128 32) (v324 : BitVec 32) (c1_i32_173 : BitVec 32) (k0_t22 : Fin (k0_t22_loop i).trips) (arg18 : FVec F S8x512 .f32) : Safe (F := F) B (k0_part83 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v324 c1_i32_173 k0_t22 arg18) := by
  rw [k0_part83_eq_skeleton]
  unfold k0_part83_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_t22_body (B : Bufs) (i : grid0.Coords) (v0 : BitVec 32) (v20 : BitVec 32) (v201 : IVec S1x128 32) (v322_0 : FVec F S8x512 .f32) (v322_1 : FVec F S8x512 .f32) (v324 : BitVec 32) (c1_i32_172 : BitVec 32) (v327 : BitVec 32) (k) (acc) : Safe (F := F) B (k0_t22_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v322_0 v322_1 v324 c1_i32_172 v327 k acc) := by
  unfold k0_t22_body
  repeat' first
    | with_reducible exact safe_pure _ _
    | with_reducible exact load_a8 _
    | with_reducible exact load_a12 _
    | with_reducible exact store_a12 _
    | with_reducible exact safe_part83 _ _ _ _ _ _ _ _
    | with_reducible refine safe_bind _ ?_ (fun _ => ?_)

theorem safe_part84 (B : Bufs) (i : grid0.Coords) (v0 : BitVec 32) (v201 : IVec S1x128 32) (v329 : BitVec 32) (c1_i32_174 : BitVec 32) (k0_t23 : Fin (k0_t23_loop i).trips) (arg18 : FVec F S8x512 .f32) : Safe (F := F) B (k0_part84 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v201 v329 c1_i32_174 k0_t23 arg18) := by
  rw [k0_part84_eq_skeleton]
  unfold k0_part84_skel
  repeat' first
    | with_reducible exact safe_pure _ _
    | with_reducible exact load_a6 _
    | with_reducible exact load_a8 _
    | with_reducible exact load_a10 _
    | with_reducible exact load_a12 _
    | with_reducible exact store_a12 _
    | with_reducible exact load_a15 _
    | with_reducible refine safe_bind _ ?_ (fun _ => ?_)

theorem safe_t23_body (B : Bufs) (i : grid0.Coords) (v0 : BitVec 32) (v20 : BitVec 32) (v201 : IVec S1x128 32) (v322_0 : FVec F S8x512 .f32) (v322_1 : FVec F S8x512 .f32) (v324 : BitVec 32) (c1_i32_172 : BitVec 32) (v327 : BitVec 32) (v329 : BitVec 32) (k) (acc) : Safe (F := F) B (k0_t23_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v322_0 v322_1 v324 c1_i32_172 v327 v329 k acc) := by
  unfold k0_t23_body
  repeat' first
    | with_reducible exact safe_pure _ _
    | with_reducible exact load_a8 _
    | with_reducible exact load_a12 _
    | with_reducible exact store_a12 _
    | with_reducible exact safe_part84 _ _ _ _ _ _ _ _
    | with_reducible refine safe_bind _ ?_ (fun _ => ?_)

theorem safe_part85 (B : Bufs) (i : grid0.Coords) (v333 : FVec F S1x512 .f32) (c0_i32_190 : BitVec 32) (c1_i32_192 : BitVec 32) (k0_t24 : Fin (k0_t24_loop i).trips) : Safe (F := F) B (k0_part85 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 c0_i32_190 c1_i32_192 k0_t24) := by
  rw [k0_part85_eq_skeleton]
  unfold k0_part85_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part86 (B : Bufs) (i : grid0.Coords) (v335 : FVec F S1x512 .f32) (k0_t24 : Fin (k0_t24_loop i).trips) (v448 : BitVec 32) (v450 : BitVec 32) (v456 : FVec F S512x512 .bf16) : Safe (F := F) B (k0_part86 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t24 v448 v450 v456) := by
  rw [k0_part86_eq_skeleton]
  unfold k0_part86_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part87 (B : Bufs) (i : grid0.Coords) (k0_t24 : Fin (k0_t24_loop i).trips) (v448 : BitVec 32) (v506 : FVec F S512x512 .bf16) (v509 : FVec F S80x512 .bf16) (v511 : FVec F S80x128 .f32) (v512 : FVec F S512x128 .bf16) (cst_306 : FVec F S80x128 .f32) : Safe (F := F) B (k0_part87 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t24 v448 v506 v509 v511 v512 cst_306) := by
  rw [k0_part87_eq_skeleton]
  unfold k0_part87_skel
  repeat' first
    | with_reducible exact safe_pure _ _
    | with_reducible exact load_a7 _
    | with_reducible exact load_a13 _
    | with_reducible exact store_a13 _
    | with_reducible refine safe_bind _ ?_ (fun _ => ?_)

theorem safe_part88 (B : Bufs) (i : grid0.Coords) (v333 : FVec F S1x512 .f32) (k0_t24 : Fin (k0_t24_loop i).trips) (arg17 : BitVec 32) (v506 : FVec F S512x512 .bf16) (v542 : FVec F S80x512 .bf16) (v543 : Vec F S1x80x128 .f32) : Safe (F := F) B (k0_part88 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t24 arg17 v506 v542 v543) := by
  rw [k0_part88_eq_skeleton]
  unfold k0_part88_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part89 (B : Bufs) (i : grid0.Coords) (v335 : FVec F S1x512 .f32) (k0_t24 : Fin (k0_t24_loop i).trips) (v553 : BitVec 32) (v555 : BitVec 32) (v561 : FVec F S512x512 .bf16) (v575 : FVec F S80x512 .bf16) (v577 : FVec F S80x128 .f32) (v578 : FVec F S512x128 .bf16) : Safe (F := F) B (k0_part89 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t24 v553 v555 v561 v575 v577 v578) := by
  rw [k0_part89_eq_skeleton]
  unfold k0_part89_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part90 (B : Bufs) (i : grid0.Coords) (k0_t24 : Fin (k0_t24_loop i).trips) (v553 : BitVec 32) (v611 : FVec F S512x512 .bf16) : Safe (F := F) B (k0_part90 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t24 v553 v611) := by
  rw [k0_part90_eq_skeleton]
  unfold k0_part90_skel
  repeat' first
    | with_reducible exact safe_pure _ _
    | with_reducible exact load_a7 _
    | with_reducible exact load_a13 _
    | with_reducible exact store_a13 _
    | with_reducible refine safe_bind _ ?_ (fun _ => ?_)

theorem safe_part91 (B : Bufs) (i : grid0.Coords) (v333 : FVec F S1x512 .f32) (k0_t24 : Fin (k0_t24_loop i).trips) (arg17 : BitVec 32) (v553 : BitVec 32) (v611 : FVec F S512x512 .bf16) (v641 : FVec F S80x128 .f32) : Safe (F := F) B (k0_part91 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t24 arg17 v553 v611 v641) := by
  rw [k0_part91_eq_skeleton]
  unfold k0_part91_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part92 (B : Bufs) (i : grid0.Coords) (k0_t24 : Fin (k0_t24_loop i).trips) (v658 : BitVec 32) (v666 : FVec F S512x512 .bf16) : Safe (F := F) B (k0_part92 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t24 v658 v666) := by
  rw [k0_part92_eq_skeleton]
  unfold k0_part92_skel
  repeat' first
    | with_reducible exact safe_pure _ _
    | with_reducible exact load_a7 _
    | with_reducible exact load_a13 _
    | with_reducible exact store_a13 _
    | with_reducible refine safe_bind _ ?_ (fun _ => ?_)

theorem safe_part93 (B : Bufs) (i : grid0.Coords) (v335 : FVec F S1x512 .f32) (k0_t24 : Fin (k0_t24_loop i).trips) (v658 : BitVec 32) (v660 : BitVec 32) (v707 : FVec F S80x128 .f32) (v708 : Vec F S1x80x128 .f32) : Safe (F := F) B (k0_part93 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t24 v658 v660 v707 v708) := by
  rw [k0_part93_eq_skeleton]
  unfold k0_part93_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part94 (B : Bufs) (i : grid0.Coords) (v333 : FVec F S1x512 .f32) (k0_t24 : Fin (k0_t24_loop i).trips) (arg17 : BitVec 32) (v658 : BitVec 32) (v716 : FVec F S512x512 .bf16) (v741 : FVec F S80x512 .bf16) : Safe (F := F) B (k0_part94 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t24 arg17 v658 v716 v741) := by
  rw [k0_part94_eq_skeleton]
  unfold k0_part94_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part95 (B : Bufs) (i : grid0.Coords) (k0_t24 : Fin (k0_t24_loop i).trips) (v763 : BitVec 32) (v771 : FVec F S512x512 .bf16) (v774 : FVec F S80x512 .bf16) (v776 : FVec F S80x128 .f32) : Safe (F := F) B (k0_part95 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t24 v763 v771 v774 v776) := by
  rw [k0_part95_eq_skeleton]
  unfold k0_part95_skel
  repeat' first
    | with_reducible exact safe_pure _ _
    | with_reducible exact load_a7 _
    | with_reducible exact load_a13 _
    | with_reducible exact store_a13 _
    | with_reducible refine safe_bind _ ?_ (fun _ => ?_)

theorem safe_part96 (B : Bufs) (i : grid0.Coords) (v335 : FVec F S1x512 .f32) (k0_t24 : Fin (k0_t24_loop i).trips) (v763 : BitVec 32) (v765 : BitVec 32) (v771 : FVec F S512x512 .bf16) (v807 : FVec F S80x512 .bf16) : Safe (F := F) B (k0_part96 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t24 v763 v765 v771 v807) := by
  rw [k0_part96_eq_skeleton]
  unfold k0_part96_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_t24_body (B : Bufs) (i : grid0.Coords) (v0 : BitVec 32) (v20 : BitVec 32) (v201 : IVec S1x128 32) (v322_0 : FVec F S8x512 .f32) (v322_1 : FVec F S8x512 .f32) (v324 : BitVec 32) (c1_i32_172 : BitVec 32) (v327 : BitVec 32) (v331_0 : FVec F S8x512 .f32) (v331_1 : FVec F S8x512 .f32) (k) (acc) : Safe (F := F) B (k0_t24_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v322_0 v322_1 v324 c1_i32_172 v327 v331_0 v331_1 k acc) := by
  unfold k0_t24_body
  repeat' first
    | with_reducible exact safe_pure _ _
    | with_reducible exact load_a7 _
    | with_reducible exact load_a13 _
    | with_reducible exact store_a13 _
    | with_reducible exact safe_part85 _ _ _ _ _ _
    | with_reducible exact safe_part86 _ _ _ _ _ _ _
    | with_reducible exact safe_part87 _ _ _ _ _ _ _ _ _
    | with_reducible exact safe_part88 _ _ _ _ _ _ _ _
    | with_reducible exact safe_part89 _ _ _ _ _ _ _ _ _ _
    | with_reducible exact safe_part90 _ _ _ _ _
    | with_reducible exact safe_part91 _ _ _ _ _ _ _ _
    | with_reducible exact safe_part92 _ _ _ _ _
    | with_reducible exact safe_part93 _ _ _ _ _ _ _ _
    | with_reducible exact safe_part94 _ _ _ _ _ _ _ _
    | with_reducible exact safe_part95 _ _ _ _ _ _ _
    | with_reducible exact safe_part96 _ _ _ _ _ _ _ _
    | with_reducible refine safe_bind _ ?_ (fun _ => ?_)

theorem safe_part100 (B : Bufs) (i : grid0.Coords) (v333 : FVec F S1x512 .f32) (k0_t25 : Fin (k0_t25_loop i).trips) (arg17 : BitVec 32) (v506 : FVec F S512x512 .bf16) (v542 : FVec F S80x512 .bf16) (v543 : Vec F S1x80x128 .f32) : Safe (F := F) B (k0_part100 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t25 arg17 v506 v542 v543) := by
  rw [k0_part100_eq_skeleton]
  unfold k0_part100_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part101 (B : Bufs) (i : grid0.Coords) (v335 : FVec F S1x512 .f32) (k0_t25 : Fin (k0_t25_loop i).trips) (v553 : BitVec 32) (v555 : BitVec 32) (v561 : FVec F S512x512 .bf16) (v575 : FVec F S80x512 .bf16) (v577 : FVec F S80x128 .f32) (v578 : FVec F S512x128 .bf16) : Safe (F := F) B (k0_part101 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t25 v553 v555 v561 v575 v577 v578) := by
  rw [k0_part101_eq_skeleton]
  unfold k0_part101_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part102 (B : Bufs) (i : grid0.Coords) (k0_t25 : Fin (k0_t25_loop i).trips) (v553 : BitVec 32) (v611 : FVec F S512x512 .bf16) : Safe (F := F) B (k0_part102 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t25 v553 v611) := by
  rw [k0_part102_eq_skeleton]
  unfold k0_part102_skel
  repeat' first
    | with_reducible exact safe_pure _ _
    | with_reducible exact load_a7 _
    | with_reducible exact load_a13 _
    | with_reducible exact store_a13 _
    | with_reducible refine safe_bind _ ?_ (fun _ => ?_)

theorem safe_part103 (B : Bufs) (i : grid0.Coords) (v333 : FVec F S1x512 .f32) (k0_t25 : Fin (k0_t25_loop i).trips) (arg17 : BitVec 32) (v553 : BitVec 32) (v611 : FVec F S512x512 .bf16) (v641 : FVec F S80x128 .f32) : Safe (F := F) B (k0_part103 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t25 arg17 v553 v611 v641) := by
  rw [k0_part103_eq_skeleton]
  unfold k0_part103_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part104 (B : Bufs) (i : grid0.Coords) (k0_t25 : Fin (k0_t25_loop i).trips) (v658 : BitVec 32) (v666 : FVec F S512x512 .bf16) : Safe (F := F) B (k0_part104 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t25 v658 v666) := by
  rw [k0_part104_eq_skeleton]
  unfold k0_part104_skel
  repeat' first
    | with_reducible exact safe_pure _ _
    | with_reducible exact load_a7 _
    | with_reducible exact load_a13 _
    | with_reducible exact store_a13 _
    | with_reducible refine safe_bind _ ?_ (fun _ => ?_)

theorem safe_part105 (B : Bufs) (i : grid0.Coords) (v335 : FVec F S1x512 .f32) (k0_t25 : Fin (k0_t25_loop i).trips) (v658 : BitVec 32) (v660 : BitVec 32) (v707 : FVec F S80x128 .f32) (v708 : Vec F S1x80x128 .f32) : Safe (F := F) B (k0_part105 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t25 v658 v660 v707 v708) := by
  rw [k0_part105_eq_skeleton]
  unfold k0_part105_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part106 (B : Bufs) (i : grid0.Coords) (v333 : FVec F S1x512 .f32) (k0_t25 : Fin (k0_t25_loop i).trips) (arg17 : BitVec 32) (v658 : BitVec 32) (v716 : FVec F S512x512 .bf16) (v741 : FVec F S80x512 .bf16) : Safe (F := F) B (k0_part106 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 k0_t25 arg17 v658 v716 v741) := by
  rw [k0_part106_eq_skeleton]
  unfold k0_part106_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part107 (B : Bufs) (i : grid0.Coords) (k0_t25 : Fin (k0_t25_loop i).trips) (v763 : BitVec 32) (v771 : FVec F S512x512 .bf16) (v774 : FVec F S80x512 .bf16) (v776 : FVec F S80x128 .f32) : Safe (F := F) B (k0_part107 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t25 v763 v771 v774 v776) := by
  rw [k0_part107_eq_skeleton]
  unfold k0_part107_skel
  repeat' first
    | with_reducible exact safe_pure _ _
    | with_reducible exact load_a7 _
    | with_reducible exact load_a13 _
    | with_reducible exact store_a13 _
    | with_reducible refine safe_bind _ ?_ (fun _ => ?_)

theorem safe_part108 (B : Bufs) (i : grid0.Coords) (v335 : FVec F S1x512 .f32) (k0_t25 : Fin (k0_t25_loop i).trips) (v763 : BitVec 32) (v765 : BitVec 32) (v771 : FVec F S512x512 .bf16) (v807 : FVec F S80x512 .bf16) : Safe (F := F) B (k0_part108 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t25 v763 v765 v771 v807) := by
  rw [k0_part108_eq_skeleton]
  unfold k0_part108_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part97 (B : Bufs) (i : grid0.Coords) (v333 : FVec F S1x512 .f32) (v362 : BitVec 32) (c1_i32_193 : BitVec 32) (k0_t25 : Fin (k0_t25_loop i).trips) : Safe (F := F) B (k0_part97 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v362 c1_i32_193 k0_t25) := by
  rw [k0_part97_eq_skeleton]
  unfold k0_part97_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part98 (B : Bufs) (i : grid0.Coords) (v335 : FVec F S1x512 .f32) (k0_t25 : Fin (k0_t25_loop i).trips) (v448 : BitVec 32) (v450 : BitVec 32) (v456 : FVec F S512x512 .bf16) : Safe (F := F) B (k0_part98 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t25 v448 v450 v456) := by
  rw [k0_part98_eq_skeleton]
  unfold k0_part98_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part99 (B : Bufs) (i : grid0.Coords) (k0_t25 : Fin (k0_t25_loop i).trips) (v448 : BitVec 32) (v506 : FVec F S512x512 .bf16) (v509 : FVec F S80x512 .bf16) (v511 : FVec F S80x128 .f32) (v512 : FVec F S512x128 .bf16) (cst_306 : FVec F S80x128 .f32) : Safe (F := F) B (k0_part99 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t25 v448 v506 v509 v511 v512 cst_306) := by
  rw [k0_part99_eq_skeleton]
  unfold k0_part99_skel
  repeat' first
    | with_reducible exact safe_pure _ _
    | with_reducible exact load_a7 _
    | with_reducible exact load_a13 _
    | with_reducible exact store_a13 _
    | with_reducible refine safe_bind _ ?_ (fun _ => ?_)

theorem safe_t25_body (B : Bufs) (i : grid0.Coords) (v0 : BitVec 32) (v20 : BitVec 32) (v201 : IVec S1x128 32) (v322_0 : FVec F S8x512 .f32) (v322_1 : FVec F S8x512 .f32) (v324 : BitVec 32) (c1_i32_172 : BitVec 32) (v327 : BitVec 32) (v331_0 : FVec F S8x512 .f32) (v331_1 : FVec F S8x512 .f32) (v362 : BitVec 32) (k) (acc) : Safe (F := F) B (k0_t25_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v322_0 v322_1 v324 c1_i32_172 v327 v331_0 v331_1 v362 k acc) := by
  unfold k0_t25_body
  repeat' first
    | with_reducible exact safe_pure _ _
    | with_reducible exact load_a7 _
    | with_reducible exact load_a13 _
    | with_reducible exact store_a13 _
    | with_reducible exact safe_part100 _ _ _ _ _ _ _ _
    | with_reducible exact safe_part101 _ _ _ _ _ _ _ _ _ _
    | with_reducible exact safe_part102 _ _ _ _ _
    | with_reducible exact safe_part103 _ _ _ _ _ _ _ _
    | with_reducible exact safe_part104 _ _ _ _ _
    | with_reducible exact safe_part105 _ _ _ _ _ _ _ _
    | with_reducible exact safe_part106 _ _ _ _ _ _ _ _
    | with_reducible exact safe_part107 _ _ _ _ _ _ _
    | with_reducible exact safe_part108 _ _ _ _ _ _ _ _
    | with_reducible exact safe_part97 _ _ _ _ _ _
    | with_reducible exact safe_part98 _ _ _ _ _ _ _
    | with_reducible exact safe_part99 _ _ _ _ _ _ _ _ _
    | with_reducible refine safe_bind _ ?_ (fun _ => ?_)

theorem safe_part136 (B : Bufs) (i : grid0.Coords) (v0 : BitVec 32) (v20 : BitVec 32) (v201 : IVec S1x128 32) (v322_0 : FVec F S8x512 .f32) (v322_1 : FVec F S8x512 .f32) (v324 : BitVec 32) (c1_i32_172 : BitVec 32) (v327 : BitVec 32) : Safe (F := F) B (k0_part136 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v0 v20 v201 v322_0 v322_1 v324 c1_i32_172 v327) := by
  rw [k0_part136_eq_skeleton]
  unfold k0_part136_skel
  repeat' first
    | with_reducible exact safe_pure _ _
    | with_reducible exact load_a13 _
    | with_reducible exact store_a13 _
    | with_reducible exact safe_t22_body _ _ _ _ _ _ _ _ _ _ _ _
    | with_reducible exact safe_t23_body _ _ _ _ _ _ _ _ _ _ _ _ _
    | with_reducible exact safe_t24_body _ _ _ _ _ _ _ _ _ _ _ _ _ _
    | with_reducible exact safe_t25_body _ _ _ _ _ _ _ _ _ _ _ _ _ _ _
    | with_reducible refine safe_for _ _ _ _ _ (fun _ _ => ?_)
    | with_reducible refine safe_bind _ ?_ (fun _ => ?_)

theorem safe_part109 (B : Bufs) (i : grid0.Coords) (v333 : FVec F S1x512 .f32) (v364 : BitVec 32) (c0_i32_204 : BitVec 32) (c1_i32_206 : BitVec 32) (k0_t26 : Fin (k0_t26_loop i).trips) : Safe (F := F) B (k0_part109 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v364 c0_i32_204 c1_i32_206 k0_t26) := by
  rw [k0_part109_eq_skeleton]
  unfold k0_part109_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part110 (B : Bufs) (i : grid0.Coords) (v335 : FVec F S1x512 .f32) (k0_t26 : Fin (k0_t26_loop i).trips) (v448 : BitVec 32) (v450 : BitVec 32) (v456 : FVec F S512x512 .bf16) : Safe (F := F) B (k0_part110 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t26 v448 v450 v456) := by
  rw [k0_part110_eq_skeleton]
  unfold k0_part110_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part111 (B : Bufs) (i : grid0.Coords) (k0_t26 : Fin (k0_t26_loop i).trips) (v448 : BitVec 32) (v506 : FVec F S512x512 .bf16) (v511 : FVec F S80x128 .f32) (v513 : FVec F S80x128 .f32) : Safe (F := F) B (k0_part111 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t26 v448 v506 v511 v513) := by
  rw [k0_part111_eq_skeleton]
  unfold k0_part111_skel
  repeat' first
    | with_reducible exact safe_pure _ _
    | with_reducible exact load_a7 _
    | with_reducible exact load_a13 _
    | with_reducible exact store_a13 _
    | with_reducible refine safe_bind _ ?_ (fun _ => ?_)

theorem safe_part112 (B : Bufs) (i : grid0.Coords) (v333 : FVec F S1x512 .f32) (v364 : BitVec 32) (k0_t26 : Fin (k0_t26_loop i).trips) (arg17 : BitVec 32) (v506 : FVec F S512x512 .bf16) (v542 : FVec F S80x512 .bf16) (v544 : FVec F S80x128 .f32) : Safe (F := F) B (k0_part112 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v364 k0_t26 arg17 v506 v542 v544) := by
  rw [k0_part112_eq_skeleton]
  unfold k0_part112_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part113 (B : Bufs) (i : grid0.Coords) (v335 : FVec F S1x512 .f32) (k0_t26 : Fin (k0_t26_loop i).trips) (v553 : BitVec 32) (v555 : BitVec 32) (v561 : FVec F S512x512 .bf16) (v577 : FVec F S80x128 .f32) (v579 : FVec F S80x128 .f32) : Safe (F := F) B (k0_part113 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t26 v553 v555 v561 v577 v579) := by
  rw [k0_part113_eq_skeleton]
  unfold k0_part113_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part114 (B : Bufs) (i : grid0.Coords) (k0_t26 : Fin (k0_t26_loop i).trips) (v553 : BitVec 32) (v611 : FVec F S512x512 .bf16) : Safe (F := F) B (k0_part114 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t26 v553 v611) := by
  rw [k0_part114_eq_skeleton]
  unfold k0_part114_skel
  repeat' first
    | with_reducible exact safe_pure _ _
    | with_reducible exact load_a7 _
    | with_reducible exact load_a13 _
    | with_reducible exact store_a13 _
    | with_reducible refine safe_bind _ ?_ (fun _ => ?_)

theorem safe_t26_body (B : Bufs) (i : grid0.Coords) (v20 : BitVec 32) (v333 : FVec F S1x512 .f32) (v335 : FVec F S1x512 .f32) (v357 : BitVec 32) (c4_i32_194 : BitVec 32) (v364 : BitVec 32) (k) (acc) : Safe (F := F) B (k0_t26_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v333 v335 v357 c4_i32_194 v364 k acc) := by
  unfold k0_t26_body
  repeat' first
    | with_reducible exact safe_pure _ _
    | with_reducible exact load_a7 _
    | with_reducible exact load_a13 _
    | with_reducible exact store_a13 _
    | with_reducible exact safe_part109 _ _ _ _ _ _ _
    | with_reducible exact safe_part110 _ _ _ _ _ _ _
    | with_reducible exact safe_part111 _ _ _ _ _ _ _
    | with_reducible exact safe_part112 _ _ _ _ _ _ _ _ _
    | with_reducible exact safe_part113 _ _ _ _ _ _ _ _ _
    | with_reducible exact safe_part114 _ _ _ _ _
    | with_reducible refine safe_bind _ ?_ (fun _ => ?_)

theorem safe_part115 (B : Bufs) (i : grid0.Coords) (v333 : FVec F S1x512 .f32) (v364 : BitVec 32) (v387 : BitVec 32) (c1_i32_207 : BitVec 32) (k0_t27 : Fin (k0_t27_loop i).trips) : Safe (F := F) B (k0_part115 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v364 v387 c1_i32_207 k0_t27) := by
  rw [k0_part115_eq_skeleton]
  unfold k0_part115_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part116 (B : Bufs) (i : grid0.Coords) (v335 : FVec F S1x512 .f32) (k0_t27 : Fin (k0_t27_loop i).trips) (v448 : BitVec 32) (v450 : BitVec 32) (v456 : FVec F S512x512 .bf16) : Safe (F := F) B (k0_part116 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t27 v448 v450 v456) := by
  rw [k0_part116_eq_skeleton]
  unfold k0_part116_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part117 (B : Bufs) (i : grid0.Coords) (k0_t27 : Fin (k0_t27_loop i).trips) (v448 : BitVec 32) (v506 : FVec F S512x512 .bf16) (v511 : FVec F S80x128 .f32) (v513 : FVec F S80x128 .f32) : Safe (F := F) B (k0_part117 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t27 v448 v506 v511 v513) := by
  rw [k0_part117_eq_skeleton]
  unfold k0_part117_skel
  repeat' first
    | with_reducible exact safe_pure _ _
    | with_reducible exact load_a7 _
    | with_reducible exact load_a13 _
    | with_reducible exact store_a13 _
    | with_reducible refine safe_bind _ ?_ (fun _ => ?_)

theorem safe_part118 (B : Bufs) (i : grid0.Coords) (v333 : FVec F S1x512 .f32) (v364 : BitVec 32) (k0_t27 : Fin (k0_t27_loop i).trips) (arg17 : BitVec 32) (v506 : FVec F S512x512 .bf16) (v542 : FVec F S80x512 .bf16) (v544 : FVec F S80x128 .f32) : Safe (F := F) B (k0_part118 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v364 k0_t27 arg17 v506 v542 v544) := by
  rw [k0_part118_eq_skeleton]
  unfold k0_part118_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part119 (B : Bufs) (i : grid0.Coords) (v335 : FVec F S1x512 .f32) (k0_t27 : Fin (k0_t27_loop i).trips) (v553 : BitVec 32) (v555 : BitVec 32) (v561 : FVec F S512x512 .bf16) (v577 : FVec F S80x128 .f32) (v579 : FVec F S80x128 .f32) : Safe (F := F) B (k0_part119 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t27 v553 v555 v561 v577 v579) := by
  rw [k0_part119_eq_skeleton]
  unfold k0_part119_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part120 (B : Bufs) (i : grid0.Coords) (k0_t27 : Fin (k0_t27_loop i).trips) (v553 : BitVec 32) (v611 : FVec F S512x512 .bf16) : Safe (F := F) B (k0_part120 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t27 v553 v611) := by
  rw [k0_part120_eq_skeleton]
  unfold k0_part120_skel
  repeat' first
    | with_reducible exact safe_pure _ _
    | with_reducible exact load_a7 _
    | with_reducible exact load_a13 _
    | with_reducible exact store_a13 _
    | with_reducible refine safe_bind _ ?_ (fun _ => ?_)

theorem safe_t27_body (B : Bufs) (i : grid0.Coords) (v20 : BitVec 32) (v333 : FVec F S1x512 .f32) (v335 : FVec F S1x512 .f32) (v357 : BitVec 32) (c4_i32_194 : BitVec 32) (v364 : BitVec 32) (v387 : BitVec 32) (k) (acc) : Safe (F := F) B (k0_t27_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v333 v335 v357 c4_i32_194 v364 v387 k acc) := by
  unfold k0_t27_body
  repeat' first
    | with_reducible exact safe_pure _ _
    | with_reducible exact load_a7 _
    | with_reducible exact load_a13 _
    | with_reducible exact store_a13 _
    | with_reducible exact safe_part115 _ _ _ _ _ _ _
    | with_reducible exact safe_part116 _ _ _ _ _ _ _
    | with_reducible exact safe_part117 _ _ _ _ _ _ _
    | with_reducible exact safe_part118 _ _ _ _ _ _ _ _ _
    | with_reducible exact safe_part119 _ _ _ _ _ _ _ _ _
    | with_reducible exact safe_part120 _ _ _ _ _
    | with_reducible refine safe_bind _ ?_ (fun _ => ?_)

theorem safe_part121 (B : Bufs) (i : grid0.Coords) (v333 : FVec F S1x512 .f32) (v389 : BitVec 32) (c1_i32_211 : BitVec 32) (k0_t28 : Fin (k0_t28_loop i).trips) : Safe (F := F) B (k0_part121 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v389 c1_i32_211 k0_t28) := by
  rw [k0_part121_eq_skeleton]
  unfold k0_part121_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part122 (B : Bufs) (i : grid0.Coords) (v335 : FVec F S1x512 .f32) (k0_t28 : Fin (k0_t28_loop i).trips) (arg17 : BitVec 32) (v447 : BitVec 32) (v453 : FVec F S512x512 .bf16) (v478 : FVec F S80x512 .bf16) : Safe (F := F) B (k0_part122 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t28 arg17 v447 v453 v478) := by
  rw [k0_part122_eq_skeleton]
  unfold k0_part122_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part123 (B : Bufs) (i : grid0.Coords) (k0_t28 : Fin (k0_t28_loop i).trips) (arg17 : BitVec 32) (v503 : FVec F S512x512 .bf16) (v511 : FVec F S80x128 .f32) (v512 : Vec F S1x80x128 .f32) : Safe (F := F) B (k0_part123 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t28 arg17 v503 v511 v512) := by
  rw [k0_part123_eq_skeleton]
  unfold k0_part123_skel
  repeat' first
    | with_reducible exact safe_pure _ _
    | with_reducible exact load_a7 _
    | with_reducible exact load_a13 _
    | with_reducible exact store_a13 _
    | with_reducible refine safe_bind _ ?_ (fun _ => ?_)

theorem safe_t28_body (B : Bufs) (i : grid0.Coords) (v20 : BitVec 32) (v333 : FVec F S1x512 .f32) (v335 : FVec F S1x512 .f32) (v357 : BitVec 32) (c4_i32_194 : BitVec 32) (v389 : BitVec 32) (k) (acc) : Safe (F := F) B (k0_t28_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v333 v335 v357 c4_i32_194 v389 k acc) := by
  unfold k0_t28_body
  repeat' first
    | with_reducible exact safe_pure _ _
    | with_reducible exact load_a13 _
    | with_reducible exact store_a13 _
    | with_reducible exact safe_part121 _ _ _ _ _ _
    | with_reducible exact safe_part122 _ _ _ _ _ _ _ _
    | with_reducible exact safe_part123 _ _ _ _ _ _ _
    | with_reducible refine safe_bind _ ?_ (fun _ => ?_)

theorem safe_part124 (B : Bufs) (i : grid0.Coords) (v333 : FVec F S1x512 .f32) (v394 : BitVec 32) (c1_i32_212 : BitVec 32) (k0_t29 : Fin (k0_t29_loop i).trips) : Safe (F := F) B (k0_part124 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v333 v394 c1_i32_212 k0_t29) := by
  rw [k0_part124_eq_skeleton]
  unfold k0_part124_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part125 (B : Bufs) (i : grid0.Coords) (v335 : FVec F S1x512 .f32) (k0_t29 : Fin (k0_t29_loop i).trips) (arg17 : BitVec 32) (v447 : BitVec 32) (v453 : FVec F S512x512 .bf16) (v478 : FVec F S80x512 .bf16) : Safe (F := F) B (k0_part125 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v335 k0_t29 arg17 v447 v453 v478) := by
  rw [k0_part125_eq_skeleton]
  unfold k0_part125_skel
  repeat' first
    | with_reducible exact safe_pure _ _
    | with_reducible exact load_a7 _
    | with_reducible exact load_a12 _
    | with_reducible exact load_a13 _
    | with_reducible exact store_a13 _
    | with_reducible refine safe_bind _ ?_ (fun _ => ?_)

theorem safe_part126 (B : Bufs) (i : grid0.Coords) (k0_t29 : Fin (k0_t29_loop i).trips) (arg17 : BitVec 32) (v503 : FVec F S512x512 .bf16) (v511 : FVec F S80x128 .f32) (v512 : Vec F S1x80x128 .f32) : Safe (F := F) B (k0_part126 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 k0_t29 arg17 v503 v511 v512) := by
  rw [k0_part126_eq_skeleton]
  unfold k0_part126_skel
  repeat' first
    | with_reducible exact safe_pure _ _
    | with_reducible exact load_a7 _
    | with_reducible exact load_a13 _
    | with_reducible exact store_a13 _
    | with_reducible refine safe_bind _ ?_ (fun _ => ?_)

theorem safe_t29_body (B : Bufs) (i : grid0.Coords) (v20 : BitVec 32) (v333 : FVec F S1x512 .f32) (v335 : FVec F S1x512 .f32) (v357 : BitVec 32) (c4_i32_194 : BitVec 32) (v394 : BitVec 32) (k) (acc) : Safe (F := F) B (k0_t29_body (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v333 v335 v357 c4_i32_194 v394 k acc) := by
  unfold k0_t29_body
  repeat' first
    | with_reducible exact safe_pure _ _
    | with_reducible exact load_a13 _
    | with_reducible exact store_a13 _
    | with_reducible exact safe_part124 _ _ _ _ _ _
    | with_reducible exact safe_part125 _ _ _ _ _ _ _ _
    | with_reducible exact safe_part126 _ _ _ _ _ _ _
    | with_reducible refine safe_bind _ ?_ (fun _ => ?_)

theorem safe_part137 (B : Bufs) (i : grid0.Coords) (v20 : BitVec 32) (v333 : FVec F S1x512 .f32) (v335 : FVec F S1x512 .f32) (v357 : BitVec 32) (c4_i32_194 : BitVec 32) : Safe (F := F) B (k0_part137 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v20 v333 v335 v357 c4_i32_194) := by
  rw [k0_part137_eq_skeleton]
  unfold k0_part137_skel
  repeat' first
    | with_reducible exact safe_pure _ _
    | with_reducible exact load_a13 _
    | with_reducible exact safe_t26_body _ _ _ _ _ _ _ _ _ _
    | with_reducible exact safe_t27_body _ _ _ _ _ _ _ _ _ _ _
    | with_reducible exact safe_t28_body _ _ _ _ _ _ _ _ _ _
    | with_reducible exact safe_t29_body _ _ _ _ _ _ _ _ _ _
    | with_reducible refine safe_for _ _ _ _ _ (fun _ _ => ?_)
    | with_reducible refine safe_bind _ ?_ (fun _ => ?_)

theorem safe_part138 (B : Bufs) (i : grid0.Coords) (v396 : FVec F S64x128 .f32) : Safe (F := F) B (k0_part138 (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 v396) := by
  rw [k0_part138_eq_skeleton]
  unfold k0_part138_skel
  repeat' first
    | with_reducible exact safe_pure _ _
    | with_reducible exact load_a13 _
    | with_reducible refine safe_bind _ ?_ (fun _ => ?_)

theorem safe_sparse_attn (B : Bufs) (i : grid0.Coords) : Safe (F := F) B (cc0_sparse_attn (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 ) := by
  rw [cc0_sparse_attn_eq_skeleton]
  unfold cc0_sparse_attn_skel
  repeat' first
    | with_reducible exact safe_pure _ _
    | with_reducible exact load_a9 _
    | with_reducible exact store_a9 _
    | with_reducible exact load_a13 _
    | with_reducible exact safe_part127 _ _
    | with_reducible exact safe_part128 _ _ _ _ _ _
    | with_reducible exact safe_part129 _ _ _
    | with_reducible exact safe_part130 _ _ _ _ _
    | with_reducible exact safe_part131 _ _ _ _ _ _ _ _
    | with_reducible exact safe_part132 _ _ _ _ _ _ _ _ _
    | with_reducible exact safe_part133 _ _ _ _ _ _ _ _
    | with_reducible exact safe_part134 _ _ _ _ _ _ _ _ _ _ _
    | with_reducible exact safe_part135 _ _ _ _ _ _ _ _ _ _ _ _
    | with_reducible exact safe_part136 _ _ _ _ _ _ _ _ _ _
    | with_reducible exact safe_part137 _ _ _ _ _ _ _
    | with_reducible exact safe_part138 _ _ _
    | with_reducible refine safe_bind _ ?_ (fun _ => ?_)

end Cert.Attn

end
-- ==== Proof.Attn.Frame.lean ====
/-
  The frame of the sparse attention's launch: at every grid point the body keeps its buffers (`Parts.lean`), so the
  pipeline runs to its end whatever the windows and the scratch hold, and the argument arrays, which no window writes
  back, end as they were.
-/
module

public import proofs.«01_k».proof.Proof.Attn.Parts
public import proofs.«01_k».proof.Proof.Gen.Kernel.Frame

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]
variable (m : (ℓ : Loc nD τ sig) → Buf (Elt F) ℓ) (ρ : Dev nD → PrngReg)

/-- The buffers the body is called with at point `t`. -/
def bufsAt (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := Memref.whole cc0_scratch0
  h10 := Memref.isWhole_whole _
  a11 := Memref.whole cc0_scratch1
  h11 := Memref.isWhole_whole _
  a12 := Memref.whole cc0_scratch2
  h12 := Memref.isWhole_whole _
  a13 := Memref.whole cc0_scratch3
  h13 := Memref.isWhole_whole _
  a14 := Memref.whole cc0_scratch4
  h14 := Memref.isWhole_whole _
  a15 := Memref.whole cc0_scratch5
  h15 := Memref.isWhole_whole _
  a16 := Memref.whole cc0_scratch6
  h16 := Memref.isWhole_whole _

theorem safe_body (t : Fin cfg0.N) : Safe (F := F) (bufsAt t) (bodyAt0 t) := safe_sparse_attn (bufsAt t) (grid0.coords t)

/-- The launch's data: the arrays as the call finds them, nothing said of what the body leaves in a window. -/
def rdat (c : Dev nD) : Pipeline.RDat τ (Elt F) Unit ℕ (UR sig nD τ) ℕ (cfgs 0) c where
  A w := V m c (Pipeline.arrRef spec0 w)
  after _ _ _ _ := True
  Φ _ := Pipeline.ΦA spec0 c
  q _ := fullShare
  owed _ := 0

theorem body_row (t : Fin cfg0.N) : defs₀ (F := F) .tc cfg0.body (cfg0.bodyArgs t (cfg0.slots t)) = bodyAt0 t := by
  unfold defs₀; rw [Defs.onTc_tc]

theorem holds_whole (c : Dev nD) (b : Ref sig .tc) :
    iprop(∃ f : Buf (Elt F) ((c : Thread nD τ).loc b), ((c : Thread nD τ).loc b) ↦{fullShare} f)
      ⊣⊢ (Holds (U := UR sig nD τ) (c : Thread nD τ) (Memref.whole b) : sProp (MT nD τ sig Unit (Elt F) ℕ (UR sig nD τ) ℕ)) := by
  have h : (Holds (U := UR sig nD τ) (c : Thread nD τ) (Memref.whole b) : sProp (MT nD τ sig Unit (Elt F) ℕ (UR sig nD τ) ℕ))
      = iprop(∃ f : Buf (Elt F) ((c : Thread nD τ).loc b), ((c : Thread nD τ).loc b) ↦{fullShare} f) := by
    unfold Holds
    exact congrArg (fun Φ : Buf (Elt F) ((c : Thread nD τ).loc b) → sProp (MT nD τ sig Unit (Elt F) ℕ (UR sig nD τ) ℕ) => iprop(∃ f, Φ f))
      (funext fun f => owns_whole (c : Thread nD τ) b fullShare f)
  rw [h]

theorem body_obligation (c : Dev nD) : (rdat (F := F) m c).BodyObligation defs₀ Variants.none () Set.univ := by
  intro t Y _
  have hs := safe_body (F := F) t c
  unfold Keeps at hs
  change _ ⊢ wp frame (wpE defs₀ Variants.none (c : Thread nD τ) none) Set.univ (defs₀ (F := F) .tc cfg0.body (cfg0.bodyArgs t (cfg0.slots t))) _
  rw [body_row]
  rw [bigSep_W0]
  simp only [bigSep_W0]
  change iprop(Pipeline.ΦA spec0 c ∗ _ ∗ _) ⊢ wp frame (wpE defs₀ Variants.none (c : Thread nD τ) none) Set.univ (bodyAt0 t)
    fun _ => iprop(Pipeline.ΦA spec0 c ∗ _ ∗ _)
  unfold Pipeline.ΦA
  rw [scopedRest0_eq]
  iintro ⟨⟨⟨S0, S1, S2, S3, S4, S5, S6⟩, Hp⟩, How, W0, W1, W2, W3, W4, W5, W6, W7⟩
  iapply (wp_wand_r frame (wpE defs₀ Variants.none (c : Thread nD τ) none) Set.univ)
  isplitl [W0 W1 W2 W3 W4 W5 W6 W7 S0 S1 S2 S3 S4 S5 S6]
  · iapply hs
    unfold Bufs.Own
    isplitl [W0]; · unfold Holds; iexists _; iexact W0
    isplitl [W1]; · unfold Holds; iexists _; iexact W1
    isplitl [W2]; · unfold Holds; iexists _; iexact W2
    isplitl [W3]; · unfold Holds; iexists _; iexact W3
    isplitl [W4]; · unfold Holds; iexists _; iexact W4
    isplitl [W5]; · unfold Holds; iexists _; iexact W5
    isplitl [W6]; · unfold Holds; iexists _; iexact W6
    isplitl [W7]; · unfold Holds; iexists _; iexact W7
    isplitl [S0]; · iapply (holds_whole (F := F) c cc0_scratch0).1; iexact S0
    isplitl [S1]; · iapply (holds_whole (F := F) c cc0_scratch1).1; iexact S1
    isplitl [S2]; · iapply (holds_whole (F := F) c cc0_scratch2).1; iexact S2
    isplitl [S3]; · iapply (holds_whole (F := F) c cc0_scratch3).1; iexact S3
    isplitl [S4]; · iapply (holds_whole (F := F) c cc0_scratch4).1; iexact S4
    isplitl [S5]; · iapply (holds_whole (F := F) c cc0_scratch5).1; iexact S5
    iapply (holds_whole (F := F) c cc0_scratch6).1; iexact S6
  · iintro %_ H
    unfold Bufs.Own
    icases H with ⟨W0, W1, W2, W3, W4, W5, W6, W7, S0, S1, S2, S3, S4, S5, S6⟩
    isplitl [Hp S0 S1 S2 S3 S4 S5 S6]
    · isplitr [Hp]
      · isplitl [S0]; · iapply (holds_whole (F := F) c cc0_scratch0).2; iexact S0
        isplitl [S1]; · iapply (holds_whole (F := F) c cc0_scratch1).2; iexact S1
        isplitl [S2]; · iapply (holds_whole (F := F) c cc0_scratch2).2; iexact S2
        isplitl [S3]; · iapply (holds_whole (F := F) c cc0_scratch3).2; iexact S3
        isplitl [S4]; · iapply (holds_whole (F := F) c cc0_scratch4).2; iexact S4
        isplitl [S5]; · iapply (holds_whole (F := F) c cc0_scratch5).2; iexact S5
        iapply (holds_whole (F := F) c cc0_scratch6).2; iexact S6
      · iexact Hp
    isplitl [How]; · iexact How
    isplitl [W0]
    · unfold Holds
      icases W0 with ⟨%X, W0⟩
      iexists X
      isplitr [W0]
      · ipureintro; exact True.intro
      · iexact W0
    isplitl [W1]
    · unfold Holds
      icases W1 with ⟨%X, W1⟩
      iexists X
      isplitr [W1]
      · ipureintro; exact True.intro
      · iexact W1
    isplitl [W2]
    · unfold Holds
      icases W2 with ⟨%X, W2⟩
      iexists X
      isplitr [W2]
      · ipureintro; exact True.intro
      · iexact W2
    isplitl [W3]
    · unfold Holds
      icases W3 with ⟨%X, W3⟩
      iexists X
      isplitr [W3]
      · ipureintro; exact True.intro
      · iexact W3
    isplitl [W4]
    · unfold Holds
      icases W4 with ⟨%X, W4⟩
      iexists X
      isplitr [W4]
      · ipureintro; exact True.intro
      · iexact W4
    isplitl [W5]
    · unfold Holds
      icases W5 with ⟨%X, W5⟩
      iexists X
      isplitr [W5]
      · ipureintro; exact True.intro
      · iexact W5
    isplitl [W6]
    · unfold Holds
      icases W6 with ⟨%X, W6⟩
      iexists X
      isplitr [W6]
      · ipureintro; exact True.intro
      · iexact W6
    unfold Holds
    icases W7 with ⟨%X, W7⟩
    iexists X
    isplitr [W7]
    · ipureintro; exact True.intro
    · iexact W7

/-- The launch ends, leaves every argument array as it was, and every semaphore at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.RDat.θ_run_frame cfgs 0 launch0 defs₀ Variants.none (rdat (F := F) m) m ρ main (body_obligation m)
    (fun c w => by unfold Pipeline.RDat.share; split <;> rfl) (fun _ _ => rfl) (V m) (hmain m Variants.none) (fun _ _ => rfl) (fun _ _ => rfl) _
    fun r h => ⟨fun c => by
      have hp := h.1
      refine ⟨?_, ?_, ?_, ?_, ?_, ?_, ?_⟩
      · exact (hp.arr_in c 2 rfl).trans (V_main_arg0 m c)
      · exact (hp.arr_in c 0 rfl).trans (V_main_arg1 m c)
      · exact (hp.arr_in c 5 rfl).trans (V_main_arg2 m c)
      · exact (hp.arr_in c 1 rfl).trans (V_main_arg3 m c)
      · exact (hp.arr_in c 4 rfl).trans (V_main_arg4 m c)
      · exact (hp.arr_in c 3 rfl).trans (V_main_arg5 m c)
      · exact (hp.arr_in c 6 rfl).trans (V_main_arg6 m c), h.2⟩

end Cert.Attn

end
-- ==== Proof.Ffn.Block.lean ====
/- One row of the dense gated unit with its layer norm, as a function of the row and of the weights, and the kernel's block
   payloads read at an index as that function. -/
module

public import proofs.«01_k».proof.Proof.Gen.FfnIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FfnRow

open Idealize.ShloMosaic

/-- The gated activation: column `j` of `silu (x · wg) * (x · wu)`. -/
def hid (x : Fin 1024 → EReal) (wg wu : Fin 1024 → Fin 2816 → EReal) (j : Fin 2816) : EReal :=
  (∑ k, x k * wg k j) * Ideal.logistic (∑ k, x k * wg k j) * ∑ k, x k * wu k j

/-- The residual sum: `alpha * x` and the unit's output. -/
def mix (x : Fin 1024 → EReal) (wg wu : Fin 1024 → Fin 2816 → EReal) (wd : Fin 2816 → Fin 1024 → EReal) (d : Fin 1024) : EReal :=
  Ideal.ofBits .f32 0x3FD744FD#32 * x d + ∑ j, hid x wg wu j * wd j d

/-- The residual sum less its mean. -/
def cen (x : Fin 1024 → EReal) (wg wu : Fin 1024 → Fin 2816 → EReal) (wd : Fin 2816 → Fin 1024 → EReal) (d : Fin 1024) : EReal :=
  mix x wg wu wd d - Ideal.div (∑ e, mix x wg wu wd e) (Ideal.ofBits .f32 0x44800000#32)

/-- The layer norm of the residual sum. -/
def row (x : Fin 1024 → EReal) (wg wu : Fin 1024 → Fin 2816 → EReal) (wd : Fin 2816 → Fin 1024 → EReal) (g b : Fin 1024 → EReal)
    (d : Fin 1024) : EReal :=
  cen x wg wu wd d
      * Ideal.rsqrt (Ideal.div (∑ e, cen x wg wu wd e * cen x wg wu wd e) (Ideal.ofBits .f32 0x44800000#32) + Ideal.ofBits .f32 0x3727C5AC#32)
      * g d + b d

end Cert.FfnRow

namespace Cert.FfnBlock

open Cert.FfnIdeal Cert.FfnIdeal.Gen Idealize.ShloMosaic Idealize.ShloMosaic.TcCoe Idealize.SL.Sem

/-- The centred residual sum of a block, at row `r` and column `d`. -/
theorem pay4_at (P0 : Vec Ideal S256x1024 .f32) (P1 P2 : Vec Ideal S1x1024x2816 .bf16) (P3 : Vec Ideal S1x2816x1024 .bf16)
    (r : Fin 256) (d : Fin 1024) :
    k0_pay4 P0 P1 P2 P3 (ix2 r d)
      = FfnRow.cen (fun k => P0 (ix2 r k)) (fun k j => P1 (ix3 0 k j)) (fun k j => P2 (ix3 0 k j)) (fun j e => P3 (ix3 0 j e)) d := by
  pointwise [k0_pay4]
  rfl

/-- What the body stores in its block, at row `r` and column `d`. -/
theorem out_at (P0 : Vec Ideal S256x1024 .f32) (P1 P2 : Vec Ideal S1x1024x2816 .bf16) (P3 : Vec Ideal S1x2816x1024 .bf16)
    (P4 P5 : Vec Ideal S1x1024 .f32) (r : Fin 256) (d : Fin 1024) :
    out0_6 P0 P1 P2 P3 P4 P5 (ix2 r d)
      = FfnRow.row (fun k => P0 (ix2 r k)) (fun k j => P1 (ix3 0 k j)) (fun k j => P2 (ix3 0 k j)) (fun j e => P3 (ix3 0 j e))
          (fun e => P4 (ix2 0 e)) (fun e => P5 (ix2 0 e)) d := by
  frame_out
  pointwise [k0_pay1, k0_pay2, k0_pay3, k0_pay5, k0_pay6]
  simp only [pay4_at]
  rfl

variable (m : (ℓ : Loc nD τ sig) → Buf (Elt Ideal) ℓ)

/-- The whole result, from the arguments. -/
def G (c : Dev nD) : S32768x1024.Idx → EReal := fun i =>
  FfnRow.row (fun k => m ((c : Thread nD τ).loc main_arg0) (ix3 ⟨(i 0).val / 4096, by have : (i 0).val < 32768 := (i 0).isLt; omega⟩ ⟨(i 0).val % 4096, by omega⟩ k))
    (fun k j => m ((c : Thread nD τ).loc main_arg1) (ix3 0 k j)) (fun k j => m ((c : Thread nD τ).loc main_arg2) (ix3 0 k j))
    (fun j e => m ((c : Thread nD τ).loc main_arg3) (ix3 0 j e)) (fun e => m ((c : Thread nD τ).loc main_arg4) (ix2 0 e))
    (fun e => m ((c : Thread nD τ).loc main_arg5) (ix2 0 e)) (i 1)

theorem idx : ∀ t : Fin grid0.N, win0_0.index t = ![t.val, 0] ∧ win0_1.index t = ![0, 0, 0] ∧ win0_2.index t = ![0, 0, 0]
    ∧ win0_3.index t = ![0, 0, 0] ∧ win0_4.index t = ![0, 0] ∧ win0_5.index t = ![0, 0] ∧ win0_6.index t = ![t.val, 0] := by
  decide +kernel

theorem x_at (c : Dev nD) (r : Fin 32768) (k : Fin 1024) :
    (V m c main_v0 : S32768x1024.Idx → EReal) (ix2 r k)
      = m ((c : Thread nD τ).loc main_arg0) (ix3 ⟨r.val / 4096, by omega⟩ ⟨r.val % 4096, by omega⟩ k) := by
  unfold V
  after_reads_at

theorem g_at (c : Dev nD) (k : Fin 1024) :
    (V m c main_v6 : S1x1024.Idx → EReal) (ix2 0 k) = m ((c : Thread nD τ).loc main_arg4) (ix2 0 k) := by
  unfold V
  after_reads_at

theorem b_at (c : Dev nD) (k : Fin 1024) :
    (V m c main_v9 : S1x1024.Idx → EReal) (ix2 0 k) = m ((c : Thread nD τ).loc main_arg5) (ix2 0 k) := by
  unfold V
  after_reads_at

theorem blk0 (c : Dev nD) (t : Fin cfg0.N) (r : Fin 256) (k : Fin 1024) (h : t.val * 256 + r.val < 32768) :
    (iblk m c 0 t : S256x1024.Idx → EReal) (ix2 r k) = (V m c main_v0 : S32768x1024.Idx → EReal) (ix2 ⟨t.val * 256 + r.val, h⟩ k) := by
  blk_ext [iblk, idx t]

theorem blk1 (c : Dev nD) (t : Fin cfg0.N) (k : Fin 1024) (j : Fin 2816) :
    (iblk m c 1 t : S1x1024x2816.Idx → EReal) (ix3 0 k j) = m ((c : Thread nD τ).loc main_arg1) (ix3 0 k j) := by
  blk_ext [iblk, V, idx t]

theorem blk2 (c : Dev nD) (t : Fin cfg0.N) (k : Fin 1024) (j : Fin 2816) :
    (iblk m c 2 t : S1x1024x2816.Idx → EReal) (ix3 0 k j) = m ((c : Thread nD τ).loc main_arg2) (ix3 0 k j) := by
  blk_ext [iblk, V, idx t]

theorem blk3 (c : Dev nD) (t : Fin cfg0.N) (k : Fin 2816) (j : Fin 1024) :
    (iblk m c 3 t : S1x2816x1024.Idx → EReal) (ix3 0 k j) = m ((c : Thread nD τ).loc main_arg3) (ix3 0 k j) := by
  blk_ext [iblk, V, idx t]

theorem blk4 (c : Dev nD) (t : Fin cfg0.N) (j : Fin 1024) :
    (iblk m c 4 t : S1x1024.Idx → EReal) (ix2 0 j) = (V m c main_v6 : S1x1024.Idx → EReal) (ix2 0 j) := by
  blk_ext [iblk, idx t]

theorem blk5 (c : Dev nD) (t : Fin cfg0.N) (j : Fin 1024) :
    (iblk m c 5 t : S1x1024.Idx → EReal) (ix2 0 j) = (V m c main_v9 : S1x1024.Idx → EReal) (ix2 0 j) := by
  blk_ext [iblk, idx t]

theorem arr_eq (c : Dev nD) : (dats m 0 c).arrAt 6 cfg0.N = G m c := by
  refine (dats m 0 c).arrAt_eq_of_covers 6 _ (by decide +kernel) fun t hf y => ?_
  blk_simp
  rw [after0_6]
  have hy : (y : S256x1024.Idx) = ix2 (n0 := 256) (n1 := 1024) (y 0) (y 1) := by
    funext a; fin_cases a <;> rfl
  refine (congrArg _ hy).trans ((out_at _ _ _ _ _ _ (y 0) (y 1)).trans ?_)
  have h0 : ((win0_6.blk t).view.emb y 0).val = t.val * 256 + (y 0).val := by blk_simp [idx t]
  have h1 : ((win0_6.blk t).view.emb y 1) = y 1 := Fin.ext (by blk_simp [idx t])
  have ht : t.val * 256 + (y 0).val < 32768 := h0 ▸ ((win0_6.blk t).view.emb y 0).isLt
  have e0 : ∀ k, (iblk m c 0 t : S256x1024.Idx → EReal) (ix2 (y 0) k) = _ := fun k => (blk0 m c t (y 0) k ht).trans (x_at m c _ k)
  have e4 : ∀ k, (iblk m c 4 t : S1x1024.Idx → EReal) (ix2 0 k) = _ := fun k => (blk4 m c t k).trans (g_at m c k)
  have e5 : ∀ k, (iblk m c 5 t : S1x1024.Idx → EReal) (ix2 0 k) = _ := fun k => (blk5 m c t k).trans (b_at m c k)
  unfold G
  simp only [h0, h1]
  rw [show (fun k => (iblk m c 0 t : S256x1024.Idx → EReal) (ix2 (y 0) k)) = _ from funext e0,
    show (fun k j => (iblk m c 1 t : S1x1024x2816.Idx → EReal) (ix3 0 k j)) = _ from funext fun k => funext fun j => blk1 m c t k j,
    show (fun k j => (iblk m c 2 t : S1x1024x2816.Idx → EReal) (ix3 0 k j)) = _ from funext fun k => funext fun j => blk2 m c t k j,
    show (fun k j => (iblk m c 3 t : S1x2816x1024.Idx → EReal) (ix3 0 k j)) = _ from funext fun k => funext fun j => blk3 m c t k j,
    show (fun k => (iblk m c 4 t : S1x1024.Idx → EReal) (ix2 0 k)) = _ from funext e4,
    show (fun k => (iblk m c 5 t : S1x1024.Idx → EReal) (ix2 0 k)) = _ from funext e5]

end Cert.FfnBlock

end
-- ==== Proof.Ffn.Ref.lean ====
/- The reference's composed term at an index: the row function of the row of tokens. -/
module

public import proofs.«01_k».proof.Proof.Ffn.Block
public import proofs.«01_k».proof.Proof.Gen.FfnRefIdeal.Run
public import Idealize.ShloMosaic.Lib.Tactic.CleanTypes

@[expose] public section

set_option maxRecDepth 16384

noncomputable section

namespace Cert.FfnRefAt

open Cert.FfnRefIdeal Cert.FfnRefIdeal.Gen Idealize.ShloMosaic Idealize.ShloMosaic.TcCoe Idealize.SL.Sem

variable (m : (ℓ : Loc nD τ sig) → Buf (Elt Ideal) ℓ)

theorem res_at (c : Dev nD) (r : Fin 32768) (d : Fin 1024) :
    (Value.res_out0 m c : S32768x1024.Idx → EReal) (ix2 r d)
      = FfnRow.row (fun k => m ((c : Thread nD τ).loc main_arg0) (ix3 ⟨r.val / 4096, by omega⟩ ⟨r.val % 4096, by omega⟩ k))
    (fun k j => m ((c : Thread nD τ).loc main_arg1) (ix3 0 k j)) (fun k j => m ((c : Thread nD τ).loc main_arg2) (ix3 0 k j))
    (fun j e => m ((c : Thread nD τ).loc main_arg3) (ix3 0 j e)) (fun e => m ((c : Thread nD τ).loc main_arg4) (ix2 0 e))
    (fun e => m ((c : Thread nD τ).loc main_arg5) (ix2 0 e)) d := by
  unfold Value.res_out0 Value.res_main_v48
  clean_types
  pointwise
  rfl

end Cert.FfnRefAt

end
-- ==== Proof.Ffn.Claims.lean ====
/- The dense unit's claims: its frames, and at the ideal instance the kernel's array equal to the reference's. -/
module

public import proofs.«01_k».proof.Defs
public import proofs.«01_k».proof.Proof.Ffn.Ref
public import proofs.«01_k».proof.Proof.Gen.Ffn.Frame
public import Idealize.ShloMosaic.Lib.Quiescent

@[expose] public section

set_option maxRecDepth 16384

noncomputable section

namespace Cert.FfnClaims

open Idealize.ShloMosaic Idealize.ShloMosaic.TcCoe Idealize.SL.Sem

theorem frame_ref : Cert.quiescent_FfnRefIdeal (hFfnRefIdeal := Cert.FfnRefIdeal.Gen.facts) := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The reference's array is the kernel's. -/
theorem ref_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    Cert.FfnRefIdeal.Value.res_out0 m' c = Cert.FfnBlock.G m c := by
  funext i
  have hi : (i : Cert.FfnIdeal.S32768x1024.Idx) = ix2 (n0 := 32768) (n1 := 1024) (i 0) (i 1) := by
    funext a; fin_cases a <;> rfl
  refine (congrArg _ hi).trans ((Cert.FfnRefAt.res_at m' c (i 0) (i 1)).trans ?_)
  unfold Cert.FfnBlock.G
  rw [← h0, ← h1, ← h2, ← h3, ← h4, ← h5]

theorem algebraic : Cert.algebraic_FfnIdeal_FfnRefIdeal (hFfnIdeal := Cert.FfnIdeal.Gen.facts) (hFfnRefIdeal := Cert.FfnRefIdeal.Gen.facts) := by
  intro m g m' g' _ hagree
  refine ⟨fun c => Cert.FfnBlock.G m c, ?_, ?_⟩
  · exact (θ_run Cert.FfnIdeal.defs _ _).mono (fun _ h c => ⟨(h c).1.trans (Cert.FfnBlock.arr_eq m c), (h c).2⟩)
      (Cert.FfnIdeal.Value.run_blocks m g)
  · refine (θ_run Cert.FfnRefIdeal.defs _ _).mono (fun _ h c => ⟨(h c).1.trans ?_, (h c).2⟩) (Cert.FfnRefIdeal.Value.run (F := Ideal) m' g')
    obtain ⟨h0, h1, h2, h3, h4, h5⟩ := hagree c
    exact ref_eq m m' c h0 h1 h2 h3 h4 h5

end Cert.FfnClaims

end
-- ==== Proof.Experts.ExpertsIdealBody.lean ====
/- The expert layer's launch at the ideal values: what the body leaves in its block, from the tables and the blocks it is called with. -/
module

public import proofs.«01_k».proof.Proof.Gen.ExpertsIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-! ## What the body stores -/

/-- The gated unit of a tile of rows through one expert's three matrices. -/
def unit (x : Vec F S256x1024 .f32) (wg wu : Vec F S1x1x1024x3584 .bf16) (wd : Vec F S1x1x3584x1024 .bf16) : Vec F S256x1024 .f32 :=
  have xb : FVec F S256x1024 .bf16 := truncf .bf16 x bitsLt_bf16_f32
  have g : FVec F S256x3584 .f32 := matmul dot_S256x1024_S1024x3584_S256x3584_1_0_0_1_n_n none xb (shapeCast S1024x3584 wg shapeCasts_S1x1x1024x3584_S1024x3584) (constant S256x3584 .f32 0x00000000#32)
  have u : FVec F S256x3584 .f32 := matmul dot_S256x1024_S1024x3584_S256x3584_1_0_0_1_n_n none xb (shapeCast S1024x3584 wu shapeCasts_S1x1x1024x3584_S1024x3584) (constant S256x3584 .f32 0x00000000#32)
  have h : FVec F S256x3584 .bf16 := truncf .bf16 (mulf (mulf g (logistic g)) u) bitsLt_bf16_f32
  matmul dot_S256x3584_S3584x1024_S256x1024_1_0_0_1_n_n none h (shapeCast S3584x1024 wd shapeCasts_S1x1x3584x1024_S3584x1024) (constant S256x1024 .f32 0x00000000#32)

/-- A tile of zeros. -/
def zeros : Vec F S256x1024 .f32 := broadcast S256x1024 (Scalar.ofBits .f32 0x00000000#32 : F .f32)

abbrev rX : Rect S256x1024 := Rect.unit (s := S256x1024) ![0, 0] S256x1024.size inb_S256x1024_S256x1024_0_0
abbrev rW : Rect S1x1x1024x3584 := Rect.unit (s := S1x1x1024x3584) ![0, 0, 0, 0] S1x1x1024x3584.size inb_S1x1x1024x3584_S1x1x1024x3584_0_0_0_0
abbrev rD : Rect S1x1x3584x1024 := Rect.unit (s := S1x1x3584x1024) ![0, 0, 0, 0] S1x1x3584x1024.size inb_S1x1x3584x1024_S1x1x3584x1024_0_0_0_0

/-- The payload of the body's one store at point `i` when `n` tiles are valid. -/
def stored (i : grid0.Coords) (n : BitVec 32) (x : Vec F S256x1024 .f32) (wg wu : Vec F S1x1x1024x3584 .bf16) (wd : Vec F S1x1x3584x1024 .bf16) :
    Vec F S256x1024 .f32 :=
  if k0_cond1 i n = 1#1 then unit (View.ld x rX) (View.ld wg rW) (View.ld wu rW) (View.ld wd rD) else zeros

/-- The output block after the body. -/
def out (i : grid0.Coords) (n : BitVec 32) (x : Vec F S256x1024 .f32) (wg wu : Vec F S1x1x1024x3584 .bf16) (wd : Vec F S1x1x3584x1024 .bf16) :
    Vec F S256x1024 .f32 := View.canon [⟨rX, stored i n x wg wu wd⟩]

theorem cover (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The two conditions -/

theorem bool_word (p : Bool) : (IntOp.cmpi .ne (BitVec.setWidth 32 (BitVec.ofBool p)) 0#32 = 1#1) ↔ p = true := by
  cases p <;> decide

theorem cond1_iff (i : grid0.Coords) (n : BitVec 32) : k0_cond1 i n = 1#1 ↔ (BitVec.ofNat 32 (i 0).val).toInt < n.toInt :=
  (bool_word _).trans decide_eq_true_iff

theorem cond2_iff (i : grid0.Coords) (n : BitVec 32) : k0_cond2 i n = 1#1 ↔ ¬ k0_cond1 i n = 1#1 := by
  rw [cond1_iff, not_lt]
  exact (bool_word _).trans decide_eq_true_iff

/-! ## The body's triple -/

abbrev tb : Memref sig .tc .smem S1 .i32 := Memref.whole main_arg2
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The number of valid tiles, as the body reads it off its table. -/
def word (c : Dev nD) (xt : TbBuf (F := F) c tb) : BitVec 32 :=
  View.readAt (Elt F) tb.view (Rect.unit (s := S1) ![0] S1.size inb_S1_S1_0).toLoadRect xt (Shape.Idx.first (by decide))

/-- The two guarded stores leave the block of the one that ran. -/
theorem read_stores (arg7 : Memref sig .tc .vmem S256x1024 .f32) (f4 : BufTy.Contents (Elt F) arg7.view.ty) (i : grid0.Coords) (n : BitVec 32)
    (p z : Vec F S256x1024 .f32) :
    View.read (Elt F) arg7.view
        (if _h : k0_cond2 i n = 1#1 then
          arg7.view.writes (Elt F) (if _h : k0_cond1 i n = 1#1 then arg7.view.writes (Elt F) f4 [⟨rX, p⟩] else f4) [⟨rX, z⟩]
        else if _h : k0_cond1 i n = 1#1 then arg7.view.writes (Elt F) f4 [⟨rX, p⟩] else f4)
      = View.canon [⟨rX, if k0_cond1 i n = 1#1 then p else z⟩] := by
  by_cases h : k0_cond1 i n = 1#1
  · rw [dif_neg (fun h2 => (cond2_iff i n).1 h2 h), dif_pos h, if_pos h]
    exact View.read_writes_eq_canon _ _ _ (cover _)
  · rw [dif_pos ((cond2_iff i n).2 h), dif_neg h, if_neg h]
    exact View.read_writes_eq_canon _ _ _ (cover _)

set_option maxHeartbeats 1000000 in
theorem sound_kernel (c : Dev nD) (i : grid0.Coords)
    (arg1 : Memref sig .tc .smem S264 .i32) (harg1 : arg1.IsWhole)
    (arg3 : Memref sig .tc .vmem S256x1024 .f32) (harg3 : arg3.IsWhole) (arg4 : Memref sig .tc .vmem S1x1x1024x3584 .bf16) (harg4 : arg4.IsWhole)
    (arg5 : Memref sig .tc .vmem S1x1x1024x3584 .bf16) (harg5 : arg5.IsWhole) (arg6 : Memref sig .tc .vmem S1x1x3584x1024 .bf16) (harg6 : arg6.IsWhole)
    (arg7 : Memref sig .tc .vmem S256x1024 .f32) (harg7 : arg7.IsWhole)
    (x0 : Vec F S256x1024 .f32) (x1 x2 : Vec F S1x1x1024x3584 .bf16) (x3 : Vec F S1x1x3584x1024 .bf16) (xt : TbBuf (F := F) c tb)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tbPt c tb xt
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out i (word c xt) x0 x1 x2 x3) ∗ tbPt c tb xt) -∗ K ⟨⟩))
      ⊢ wp frame (wpE (defs₀ (F := F)) Variants.none c none) Set.univ
          (cc0_moe_gffn i arg1 harg1 tb (Memref.isWhole_whole _) arg3 harg3 arg4 harg4 arg5 harg5 arg6 harg6 arg7 harg7) K := by
  unfold cc0_moe_gffn
  unfold owns
  iintro ⟨⟨%f0, %hf0, H0⟩, ⟨%f1, %hf1, H1⟩, ⟨%f2, %hf2, H2⟩, ⟨%f3, %hf3, H3⟩, ⟨%d4, %f4, -, H4⟩, HT, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_stores arg7 f4 i (word c xt) _ _
  iexact HT

end Cert.ExpertsIdealRun
-- ==== Proof.Experts.ExpertsIdealRun.lean ====
/- The expert layer's launch at the ideal values: the pipeline's data at the tables the memory holds, the body's obligation, the run. -/
module

public import proofs.«01_k».proof.Proof.Experts.ExpertsIdealBody
public import Idealize.ShloMosaic.Lib.Claim
public import Idealize.ShloMosaic.Lib.Pipeline.Frame

@[expose] public section

set_option maxRecDepth 16384

noncomputable section

namespace Cert.ExpertsIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the launch is entered: the memory after the three casts of the weights. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := ⟨rfl, rfl, rfl⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-! ## The tables -/

/-- The tables' contents when the launch is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The launch's side condition on the tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) :
    (Pipeline.ΦT pre0 (tbl m) c : sProp 𝕄)
      = iprop(((Memref.whole main_arg1 : Memref sig .tc .smem S264 .i32).view.loc (c : Thread nD τ) ↦{fullShare.right} (tbl m 0)) ∗ tbPt c tb (tbl m 1)) := by
  unfold Pipeline.ΦT Pipeline.prefHeld
  rw [show (Finset.univ : Finset (Fin 2)) = insert (0 : Fin 2) {(1 : Fin 2)} from by decide, bigSep_insert (by decide), bigSep_singleton]
  rfl

/-! ## The windows' blocks -/

/-- Window `w`'s block at point `t` of its array as the launch finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem before_of_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The number of valid tiles. -/
abbrev nv (c : Dev nD) : BitVec 32 := word c (tbl m 1)

/-- The proof data: each input's block stays, the output's is what the body stores. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => out (grid0.coords t) (nv m c) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) :
    (dats m hO 0 c).after 4 t = out (grid0.coords t) (nv m c) (iblk m hO c 0 t) (iblk m hO c 1 t) (iblk m hO c 2 t) (iblk m hO c 3 t) := by
  dsimp only [dats]; try rfl

theorem before_0 (hO : Ok m) (c : Dev nD) (t : Fin (cfgM m hO).N) (d) : (dats m hO 0 c).before 0 t d = iblk m hO c 0 t :=
  before_of_0 m hO (dats m hO 0 c) (A_eq m hO c 0) (after_0 m hO c) t d
theorem before_1 (hO : Ok m) (c : Dev nD) (t : Fin (cfgM m hO).N) (d) : (dats m hO 0 c).before 1 t d = iblk m hO c 1 t :=
  before_of_1 m hO (dats m hO 0 c) (A_eq m hO c 1) (after_1 m hO c) t d
theorem before_2 (hO : Ok m) (c : Dev nD) (t : Fin (cfgM m hO).N) (d) : (dats m hO 0 c).before 2 t d = iblk m hO c 2 t :=
  before_of_2 m hO (dats m hO 0 c) (A_eq m hO c 2) (after_2 m hO c) t d
theorem before_3 (hO : Ok m) (c : Dev nD) (t : Fin (cfgM m hO).N) (d) : (dats m hO 0 c).before 3 t d = iblk m hO c 3 t :=
  before_of_3 m hO (dats m hO 0 c) (A_eq m hO c 3) (after_3 m hO c) t d

/-! ## The body's obligation -/

abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x3584 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024x3584 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x3584x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x1024 .f32 := spec0_4.stage ((cfgM m hO).slots t 4)
abbrev hs4 (hO : Ok m) (t : Fin (cfgM m hO).N) : (ms4 m hO t).IsWhole := hstage0_4 (((cfgM m hO).slots t 4).cast nbuf0_4)

abbrev bodyAt (hO : Ok m) (t : Fin (cfgM m hO).N) : Prog (TpuEff nD τ sig (Elt F) Λ₀ .tc) PUnit :=
  cc0_moe_gffn (grid0.coords t) (Memref.whole main_arg1) (Memref.isWhole_whole _) (Memref.whole main_arg2) (Memref.isWhole_whole _)
    (ms0 m hO t) (hs0 m hO t) (ms1 m hO t) (hs1 m hO t) (ms2 m hO t) (hs2 m hO t) (ms3 m hO t) (hs3 m hO t) (ms4 m hO t) (hs4 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  iintro ⟨⟨HA, HT0, HT1⟩, Ho, ⟨%d0, H0⟩, ⟨%d1, H1⟩, ⟨%d2, H2⟩, ⟨%d3, H3⟩, ⟨%d4, H4⟩⟩
  iapply (sound_kernel c (grid0.coords t) (Memref.whole main_arg1) (Memref.isWhole_whole _) _ _ _ _ _ _ _ _ _ _
    (iblk m hO c 0 t) (iblk m hO c 1 t) (iblk m hO c 2 t) (iblk m hO c 3 t) (tbl m 1) _)
  isplitl [H0]; · iexact H0
  isplitl [H1]; · iexact H1
  isplitl [H2]; · iexact H2
  isplitl [H3]; · iexact H3
  isplitl [H4]; · iexists _; iexact H4
  isplitl [HT1]; · iexact HT1
  iintro ⟨H0, H1, H2, H3, H4, HT1⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- One of the two stores runs at every point. -/
theorem one_runs (i : grid0.Coords) (w : BitVec 32) : (!(k0_cond1 i w == 1#1) && !(k0_cond2 i w == 1#1)) = false := by
  by_cases h : k0_cond1 i w = 1#1
  · rw [h]; rfl
  · rw [(cond2_iff i w).2 h]; exact Bool.and_false _

theorem not_idle (hO : Ok m) (t : Fin (cfgM m hO).N) : (cfgM m hO).idle (4 : Fin 5) ((cfgM m hO).grid.coords t) = false := one_runs _ _

theorem body_obligation (hO : Ok m) (c : Dev nD) : BodyObligation (dats (F := F) m hO 0 c) (defs₀ (F := F)) Variants.none () Set.univ := fun t => by
  rw [bigSep_W0, bigSep_W0, defs₀_row m hO]
  rw [not_idle m hO t]
  exact triple_restated (sound_body m hO c t) rfl .rfl fun _ => .rfl

/-! ## The run -/

set_option backward.isDefEq.respectTransparency.types false in
set_option maxHeartbeats 800000 in
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The arguments end as they were, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c)⟩, h.2⟩)
    (run_main_quiescent m ρ hO)

end Cert.ExpertsIdealRun
-- ==== Proof.Experts.ExpertsIdealOk.lean ====
/- The expert layer's tables under the precondition: every named expert exists, every block lies in its array at the ideal values. -/
module

public import proofs.«01_k».proof.Defs
public import proofs.«01_k».proof.Proof.Experts.ExpertsIdealRun
public import proofs.«01_k».proof.Proof.Gen.Experts
public import Idealize.ShloMosaic.Lib.WordCmp
public import Idealize.ShloMosaic.Lib.Affine

@[expose] public section

set_option maxRecDepth 16384

noncomputable section

namespace Cert.ExpertsIdealOk

open Idealize.ShloMosaic Idealize.ShloMosaic.TcCoe Idealize.SL.Sem
open Cert.ExpertsIdeal Cert.ExpertsIdeal.Gen Cert.ExpertsIdealRun

theorem facts_pre : Cert.Pre_tiles_named.Facts := ⟨by decide, by decide⟩

section
variable {F : FTy → Type} [FloatOps F] (m : (ℓ : Loc nD τ sig) → Buf (Elt F) ℓ)

/-- The precondition, over any float values. -/
def Pre : Prop := ∀ c : Dev nD, letI := facts_pre
  (Cert.Pre_tiles_named.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))).1 = (fun _ => 1#1)
  ∧ (Cert.Pre_tiles_named.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))).2 = (fun _ => 1#1)

/-- What the precondition says of the two tables. -/
structure Good : Prop where
  te : ∀ x : S264.Idx, ((tbl m 0 : S264.Idx → BitVec 32) x).toNat < 8
  nv : ∀ x : S1.Idx, 1 ≤ ((tbl m 1 : S1.Idx → BitVec 32) x).toInt

theorem good (h : Pre m) : Good m := by
  obtain ⟨h1, h2⟩ := h 0
  refine ⟨fun x => ?_, fun x => ?_⟩
  · have e : (tbl m 0 : S264.Idx → BitVec 32) = m ((((0 : Dev nD).tc : Thread nD τ)).loc main_arg1) := V_main_arg1 m 0
    rw [e]
    have hx := congrFun h1 x
    simp only [Cert.Pre_tiles_named.fn, constantI, broadcastInDim, cmpi, andi] at hx
    have hk := (WordCmp.andi_sge_zero_slt_ofNat (w := 32) (k := 8) (by decide) _).symm.trans hx
    by_contra hn
    rw [decide_eq_false hn] at hk
    exact absurd hk (by decide)
  · have e : (tbl m 1 : S1.Idx → BitVec 32) = m ((((0 : Dev nD).tc : Thread nD τ)).loc main_arg2) := V_main_arg2 m 0
    rw [e]
    have hx := congrFun h2 x
    simp only [Cert.Pre_tiles_named.fn, constantI, broadcastInDim, cmpi] at hx
    have hk := (WordCmp.cmpi_sge_eq (w := 32) _ _).symm.trans hx
    by_contra hn
    rw [decide_eq_false (p := (1#32).toInt ≤ _) hn] at hk
    exact absurd hk (by decide)

/-- The row of tiles a point reads: its own, held below the number of valid tiles. -/
theorem min_toNat (i : Nat) (hi : i < 264) (n : BitVec 32) (hn : 1 ≤ n.toInt) :
    (Scalar.minsi (BitVec.ofNat 32 i) (Scalar.subi n 1#32)).toNat = min i (n.toInt.toNat - 1) := by
  have h1 : Affine.IsInt (BitVec.ofNat 32 i) (i : Int) := Affine.ofNat i ⟨rfl, by omega⟩
  have hu := BitVec.toInt_lt (x := n)
  have h2 : Affine.IsInt (Scalar.subi n 1#32) (n.toInt - 1) := Affine.subi (ea := n.toInt) (eb := 1) (Affine.word n) (Affine.ofNat 1 ⟨rfl, by decide⟩) ⟨rfl, by omega, by omega⟩
  have h3 := Affine.minsi h1 h2 rfl
  exact Affine.nat_eq h3 _ (by omega)

theorem ix_in (f : Fin 4 → Nat) (e : Nat) (he : e < 8) (hf : f = ![0, e, 0, 0]) : ∀ a, (f a + 1) * S1x1x1024x3584.size a ≤ S2x8x1024x3584.size a := by
  subst hf
  intro a
  fin_cases a <;> simp [S1x1x1024x3584, S2x8x1024x3584] <;> omega

theorem ix_in' (f : Fin 4 → Nat) (e : Nat) (he : e < 8) (hf : f = ![0, e, 0, 0]) : ∀ a, (f a + 1) * S1x1x3584x1024.size a ≤ S2x8x3584x1024.size a := by
  subst hf
  intro a
  fin_cases a <;> simp [S1x1x3584x1024, S2x8x3584x1024] <;> omega

theorem ok (g : Good m) : Ok m := by
  refine ⟨fun i => ⟨?_, .inl rfl⟩, fun i => ⟨?_, .inr (Affine.block_words_rows (by decide) rfl)⟩,
    fun i => ⟨?_, .inr (Affine.block_words_rows (by decide) rfl)⟩, fun i => ⟨?_, .inr (Affine.block_words_rows (by decide) rfl)⟩⟩
  · have hm := min_toNat (i 0).val (i 0).isLt _ (g.nv ((Rect.unit (s := S1) ![0] S1.size inb_S1_S1_0).emb (Shape.Idx.first (by decide))))
    have hlt : (i 0).val < 264 := (i 0).isLt
    have hf : cc0_transform_0 inb_S1_S1_0 numel1_S1 (tbl m) i = ![_, 0] := congrArg (fun x => ![x, 0]) hm
    rw [hf]
    intro a
    fin_cases a <;> simp [S256x1024, S67584x1024]
    omega
  · exact ix_in _ _ (g.te ((Rect.unit (s := S264) (k0_off1 i) S1.size (k0_off1_inb i)).emb (Shape.Idx.first (s := S1) (by decide)))) rfl
  · exact ix_in _ _ (g.te ((Rect.unit (s := S264) (k0_off1 i) S1.size (k0_off1_inb i)).emb (Shape.Idx.first (s := S1) (by decide)))) rfl
  · exact ix_in' _ _ (g.te ((Rect.unit (s := S264) (k0_off1 i) S1.size (k0_off1_inb i)).emb (Shape.Idx.first (s := S1) (by decide)))) rfl

end

theorem frame : Cert.quiescent_ExpertsIdeal (hExpertsIdeal := Cert.ExpertsIdeal.Gen.facts) (hPre_tiles_named := facts_pre) := fun m ρ h =>
  Cert.ExpertsIdealRun.frame m ρ (ok m (good m h))

section
local instance : Cert.Experts.Facts := Cert.Experts.Gen.facts

/-- The program and its idealization have one text: their tables of bodies are the same. -/
theorem defs₀_eq (F : FTy → Type) [FloatOps F] : Cert.Experts.defs₀ (F := F) = Cert.ExpertsIdeal.defs₀ (F := F) :=
  congrArg Defs.onTc (funext fun l => funext fun a => match l, a with
    | ⟨0, _⟩, (_, _) => rfl
    | ⟨_ + 1, h⟩, _ => absurd h (Nat.not_lt.2 (Nat.le_add_left _ _)))

theorem defs_eq (F : FTy → Type) [FloatOps F] : Cert.Experts.defs (F := F) = Cert.ExpertsIdeal.defs (F := F) :=
  congrArg (Pipeline.defs Cert.ExpertsIdeal.pcfgs) (defs₀_eq F)

/-- So the run over any float values is the program's too. -/
theorem frame_kernel : Cert.quiescent_Experts (hExperts := Cert.Experts.Gen.facts) (hPre_tiles_named := facts_pre) := fun m ρ h => by
  have h1 := Cert.ExpertsIdealRun.frame (F := Bits) m ρ (ok (F := Bits) m (good (F := Bits) m h))
  rw [← defs_eq Bits] at h1
  exact h1

end

end Cert.ExpertsIdealOk

end
-- ==== Proof.Experts.Row.lean ====
/- One row of the expert layer as a function of the row and of an expert's matrices, and the kernel's block read at an index as it. -/
module

public import proofs.«01_k».proof.Proof.Experts.ExpertsIdealOk
public import Idealize.ShloMosaic.Lib.Pointwise
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.ExpertsRow

open Idealize.ShloMosaic

/-- The gated activation: column `j` of `silu (x · wg) * (x · wu)`. -/
def hid (x : Fin 1024 → EReal) (wg wu : Fin 1024 → Fin 3584 → EReal) (j : Fin 3584) : EReal :=
  (∑ k, x k * wg k j) * Ideal.logistic (∑ k, x k * wg k j) * ∑ k, x k * wu k j

/-- The gated unit. -/
def row (x : Fin 1024 → EReal) (wg wu : Fin 1024 → Fin 3584 → EReal) (wd : Fin 3584 → Fin 1024 → EReal) (d : Fin 1024) : EReal :=
  ∑ j, hid x wg wu j * wd j d

end Cert.ExpertsRow

namespace Cert.ExpertsBlock

open Cert.ExpertsIdeal Cert.ExpertsIdeal.Gen Cert.ExpertsIdealRun Idealize.ShloMosaic Idealize.ShloMosaic.TcCoe Idealize.SL.Sem

theorem unit_at (P0 : Vec Ideal S256x1024 .f32) (P1 P2 : Vec Ideal S1x1x1024x3584 .bf16) (P3 : Vec Ideal S1x1x3584x1024 .bf16)
    (r : Fin 256) (d : Fin 1024) :
    unit P0 P1 P2 P3 (ix2 r d)
      = ExpertsRow.row (fun k => P0 (ix2 r k)) (fun k j => P1 (ix4 0 0 k j)) (fun k j => P2 (ix4 0 0 k j)) (fun j e => P3 (ix4 0 0 j e)) d := by
  pointwise [unit]
  rfl

theorem zeros_at (r : Fin 256) (d : Fin 1024) : zeros (F := Ideal) (ix2 r d) = 0 := by
  pointwise [zeros]

/-- What the body leaves in its block, at row `r` and column `d`. -/
theorem out_at (i : grid0.Coords) (n : BitVec 32) (P0 : Vec Ideal S256x1024 .f32) (P1 P2 : Vec Ideal S1x1x1024x3584 .bf16) (P3 : Vec Ideal S1x1x3584x1024 .bf16)
    (r : Fin 256) (d : Fin 1024) :
    out i n P0 P1 P2 P3 (ix2 r d)
      = if (i 0).val < n.toInt then
          ExpertsRow.row (fun k => P0 (ix2 r k)) (fun k j => P1 (ix4 0 0 k j)) (fun k j => P2 (ix4 0 0 k j)) (fun j e => P3 (ix4 0 0 j e)) d
        else 0 := by
  have hi : (i 0).val < 264 := (i 0).isLt
  have hc : k0_cond1 i n = 1#1 ↔ (i 0).val < n.toInt := by
    rw [cond1_iff, WordCmp.toInt_ofNat_of_lt (by omega)]
  unfold out stored
  rw [View.ld_unit_lit _ _ (by decide), View.ld_unit_lit _ _ (by decide), View.ld_unit_lit _ _ (by decide), View.ld_unit_lit _ _ (by decide),
    View.canon_cons_unit_lit _ _ _ (by decide)]
  by_cases h : k0_cond1 i n = 1#1
  · rw [if_pos h, if_pos (hc.1 h)]
    exact unit_at _ _ _ _ r d
  · rw [if_neg h, if_neg fun h' => h (hc.2 h')]
    exact zeros_at r d

variable (m : (ℓ : Loc nD τ sig) → Buf (Elt Ideal) ℓ)

theorem coords_val : ∀ t : Fin grid0.N, (grid0.coords t 0).val = t.val := by decide +kernel

/-- The expert named for tile `t`. -/
abbrev te (t : Fin 264) : Nat := ((tbl m 0 : S264.Idx → BitVec 32) (ix1 t)).toNat

theorem tile_read (t : Fin grid0.N) :
    (tbl m).at 0 (Rect.unit (s := S264) (k0_off1 (grid0.coords t)) S1.size (k0_off1_inb (grid0.coords t))) numel1_S1
      = (tbl m 0 : S264.Idx → BitVec 32) (ix1 (n0 := 264) t) := by
  refine congrArg (tbl m 0) (funext fun a => Fin.ext ?_)
  fin_cases a
  have := coords_val t
  show (k0_off1 (grid0.coords t)) 0 + 1 * 0 = t.val
  rw [k0_off1_eq]
  simpa using this

theorem ix0_of (t : Fin grid0.N) (g : Cert.ExpertsIdealOk.Good m) (hv : (t.val : Int) < (nv m 0).toInt) :
    cc0_transform_0 inb_S1_S1_0 numel1_S1 (tbl m) (grid0.coords t) = ![t.val, 0] := by
  have ht : t.val < 264 := t.isLt
  have hm : (Scalar.minsi (BitVec.ofNat 32 t.val) (Scalar.subi (nv m 0) 1#32)).toNat = t.val := by
    rw [Cert.ExpertsIdealOk.min_toNat t.val ht (nv m 0) (g.nv _)]
    exact Nat.min_eq_left (by omega)
  have hc : cc0_transform_0 inb_S1_S1_0 numel1_S1 (tbl m) (grid0.coords t)
      = ![(Scalar.minsi (BitVec.ofNat 32 (grid0.coords t 0).val) (Scalar.subi (nv m 0) 1#32)).toNat, 0] := rfl
  rw [hc, coords_val t, hm]

theorem ix1_of (t : Fin grid0.N) : cc0_transform_1 k0_off1_inb numel1_S1 (tbl m) (grid0.coords t) = ![0, te m t, 0, 0] :=
  congrArg (fun x : BitVec 32 => ![0, x.toNat, 0, 0]) (tile_read m t)
theorem ix2_of (t : Fin grid0.N) : cc0_transform_2 k0_off1_inb numel1_S1 (tbl m) (grid0.coords t) = ![0, te m t, 0, 0] :=
  congrArg (fun x : BitVec 32 => ![0, x.toNat, 0, 0]) (tile_read m t)
theorem ix3_of (t : Fin grid0.N) : cc0_transform_3 k0_off1_inb numel1_S1 (tbl m) (grid0.coords t) = ![0, te m t, 0, 0] :=
  congrArg (fun x : BitVec 32 => ![0, x.toNat, 0, 0]) (tile_read m t)
theorem ix4_of : ∀ t : Fin grid0.N, cc0_transform_4 (grid0.coords t) = ![t.val, 0] := by decide +kernel

end Cert.ExpertsBlock

end
-- ==== Proof.Experts.Blocks.lean ====
/- The expert layer's blocks at an index of their arrays, and the whole result array. -/
module

public import proofs.«01_k».proof.Proof.Experts.Row

@[expose] public section

set_option maxRecDepth 16384

noncomputable section

namespace Cert.ExpertsBlock

open Cert.ExpertsIdeal Cert.ExpertsIdeal.Gen Cert.ExpertsIdealRun Idealize.ShloMosaic Idealize.ShloMosaic.TcCoe Idealize.SL.Sem

variable (m : (ℓ : Loc nD τ sig) → Buf (Elt Ideal) ℓ)

theorem w1_at (c : Dev nD) (a : Fin 2) (b : Fin 8) (k : Fin 1024) (j : Fin 3584) :
    (V m c main_v0 : S2x8x1024x3584.Idx → EReal) (ix4 a b k j) = m ((c : Thread nD τ).loc main_arg3) (ix4 a b k j) := by
  unfold V
  after_reads_at

theorem w2_at (c : Dev nD) (a : Fin 2) (b : Fin 8) (k : Fin 1024) (j : Fin 3584) :
    (V m c main_v1 : S2x8x1024x3584.Idx → EReal) (ix4 a b k j) = m ((c : Thread nD τ).loc main_arg4) (ix4 a b k j) := by
  unfold V
  after_reads_at

theorem w3_at (c : Dev nD) (a : Fin 2) (b : Fin 8) (k : Fin 3584) (j : Fin 1024) :
    (V m c main_v2 : S2x8x3584x1024.Idx → EReal) (ix4 a b k j) = m ((c : Thread nD τ).loc main_arg5) (ix4 a b k j) := by
  unfold V
  after_reads_at

variable (hO : Ok m)

theorem blk0 (c : Dev nD) (t : Fin (cfgM m hO).N) (i : Nat) (hi : ((cfgM m hO).win 0).index t = ![i, 0]) (r : Fin 256) (k : Fin 1024) (h : i * 256 + r.val < 67584) :
    (iblk m hO c 0 t : S256x1024.Idx → EReal) (ix2 r k) = (V m c main_arg0 : S67584x1024.Idx → EReal) (ix2 ⟨i * 256 + r.val, h⟩ k) := by
  blk_ext [iblk, hi]

theorem blk1 (c : Dev nD) (t : Fin (cfgM m hO).N) (e : Nat) (he : e < 8) (hi : ((cfgM m hO).win 1).index t = ![0, e, 0, 0]) (k : Fin 1024) (j : Fin 3584) :
    (iblk m hO c 1 t : S1x1x1024x3584.Idx → EReal) (ix4 0 0 k j) = (V m c main_v0 : S2x8x1024x3584.Idx → EReal) (ix4 0 ⟨e, he⟩ k j) := by
  blk_ext [iblk, hi]

theorem blk2 (c : Dev nD) (t : Fin (cfgM m hO).N) (e : Nat) (he : e < 8) (hi : ((cfgM m hO).win 2).index t = ![0, e, 0, 0]) (k : Fin 1024) (j : Fin 3584) :
    (iblk m hO c 2 t : S1x1x1024x3584.Idx → EReal) (ix4 0 0 k j) = (V m c main_v1 : S2x8x1024x3584.Idx → EReal) (ix4 0 ⟨e, he⟩ k j) := by
  blk_ext [iblk, hi]

theorem blk3 (c : Dev nD) (t : Fin (cfgM m hO).N) (e : Nat) (he : e < 8) (hi : ((cfgM m hO).win 3).index t = ![0, e, 0, 0]) (k : Fin 3584) (j : Fin 1024) :
    (iblk m hO c 3 t : S1x1x3584x1024.Idx → EReal) (ix4 0 0 k j) = (V m c main_v2 : S2x8x3584x1024.Idx → EReal) (ix4 0 ⟨e, he⟩ k j) := by
  blk_ext [iblk, hi]

theorem blocks_pos : ∀ a : Fin 2, 0 < S256x1024.size a := by decide

theorem nblk_0 : ((cfgM m hO).win 4).nblk (0 : Fin 2) = grid0.N :=
  (congrArg₂ (fun a b : Nat => (a + b - 1) / b) (rfl : ((cfgM m hO).win 4).shape.size (0 : Fin 2) = 67584) (rfl : ((cfgM m hO).win 4).size (0 : Fin 2) = 256)).trans
    (by decide : (67584 + 256 - 1) / 256 = 264)
theorem nblk_1 : ((cfgM m hO).win 4).nblk (1 : Fin 2) = 1 :=
  (congrArg₂ (fun a b : Nat => (a + b - 1) / b) (rfl : ((cfgM m hO).win 4).shape.size (1 : Fin 2) = 1024) (rfl : ((cfgM m hO).win 4).size (1 : Fin 2) = 1024)).trans
    (by decide : (1024 + 1024 - 1) / 1024 = 1)

theorem covers : ((cfgM m hO).win 4).Covers :=
  ((cfgM m hO).win 4).covers_of_index_surj rfl blocks_pos fun β => by
    have h0 : (β (0 : Fin 2)).val < grid0.N := lt_of_lt_of_eq (β (0 : Fin 2)).isLt (nblk_0 m hO)
    refine ⟨⟨(β (0 : Fin 2)).val, h0⟩, fun a => ?_⟩
    have := congrFun (ix4_of ⟨(β (0 : Fin 2)).val, h0⟩) a
    refine this.trans ?_
    change Fin 2 at a
    fin_cases a
    · rfl
    · have h1 : (β (1 : Fin 2)).val < 1 := lt_of_lt_of_eq (β (1 : Fin 2)).isLt (nblk_1 m hO)
      show 0 = (β (1 : Fin 2)).val
      omega

/-- Row `r` of the result: the gated unit of the row through the matrices of the expert its tile `q` names, where the tile is valid. -/
def Gq (hg : Cert.ExpertsIdealOk.Good m) (c : Dev nD) (q : Fin 264) (r : Fin 67584) (d : Fin 1024) : EReal :=
  if (q.val : Int) < (nv m 0).toInt then
    ExpertsRow.row (fun k => m ((c : Thread nD τ).loc main_arg0) (ix2 r k))
      (fun k j => m ((c : Thread nD τ).loc main_arg3) (ix4 0 ⟨te m q, hg.te _⟩ k j))
      (fun k j => m ((c : Thread nD τ).loc main_arg4) (ix4 0 ⟨te m q, hg.te _⟩ k j))
      (fun k j => m ((c : Thread nD τ).loc main_arg5) (ix4 0 ⟨te m q, hg.te _⟩ k j)) d
  else 0

/-- The tile of a row. -/
def tile (r : Fin 67584) : Fin 264 := ⟨r.val / 256, by omega⟩

/-- The whole result, from the arguments. -/
def G (hg : Cert.ExpertsIdealOk.Good m) (c : Dev nD) : S67584x1024.Idx → EReal := fun i => Gq m hg c (tile (i 0)) (i 0) (i 1)

theorem arr_eq (hg : Cert.ExpertsIdealOk.Good m) (c : Dev nD) : (dats m hO 0 c).arrAt 4 (cfgM m hO).N = G m hg c := by
  obtain rfl : c = 0 := Subsingleton.elim _ _
  refine (dats m hO 0 0).arrAt_eq_of_covers 4 _ (covers m hO) fun t hf y => ?_
  have h0 : ((((cfgM m hO).win 4).blk t).view.emb y (0 : Fin 2)).val = t.val * 256 + (y (0 : Fin 2)).val := by
    blk_simp [show ((cfgM m hO).win 4).index t = ![t.val, 0] from ix4_of t]
  have h1 : ((((cfgM m hO).win 4).blk t).view.emb y (1 : Fin 2)).val = (y (1 : Fin 2)).val := by
    blk_simp [show ((cfgM m hO).win 4).index t = ![t.val, 0] from ix4_of t]
  blk_simp
  rw [after_4]
  have hy : (y : S256x1024.Idx) = ix2 (n0 := 256) (n1 := 1024) (y (0 : Fin 2)) (y (1 : Fin 2)) := by
    funext a; fin_cases a <;> rfl
  refine (congrArg _ hy).trans ((out_at _ _ _ _ _ _ (y (0 : Fin 2)) (y (1 : Fin 2))).trans ?_)
  have hb : (y (0 : Fin 2)).val < 256 := (y (0 : Fin 2)).isLt
  have ht : t.val * 256 + (y (0 : Fin 2)).val < 67584 := h0 ▸ ((((cfgM m hO).win 4).blk t).view.emb y (0 : Fin 2)).isLt
  have e1 : (((cfgM m hO).win 4).blk t).view.emb y (1 : Fin 2) = (y (1 : Fin 2) : Fin 1024) := Fin.ext h1
  have e0 : (((cfgM m hO).win 4).blk t).view.emb y (0 : Fin 2) = (⟨t.val * 256 + (y (0 : Fin 2)).val, ht⟩ : Fin 67584) := Fin.ext h0
  have hq : tile (⟨t.val * 256 + (y (0 : Fin 2)).val, ht⟩ : Fin 67584) = t := Fin.ext (by
    show (t.val * 256 + (y (0 : Fin 2)).val) / 256 = t.val
    omega)
  have hG : G m hg 0 ((((cfgM m hO).win 4).blk t).view.emb y)
      = Gq m hg 0 t ⟨t.val * 256 + (y (0 : Fin 2)).val, ht⟩ (y (1 : Fin 2)) :=
    (congrArg₂ (fun (a : Fin 67584) (b : Fin 1024) => Gq m hg 0 (tile a) a b) e0 e1).trans
      (congrArg (fun q => Gq m hg 0 q ⟨t.val * 256 + (y (0 : Fin 2)).val, ht⟩ (y (1 : Fin 2))) hq)
  refine Eq.trans ?_ hG.symm
  unfold Gq
  rw [coords_val t]
  by_cases hv : (t.val : Int) < (nv m 0).toInt
  · rw [if_pos hv, if_pos hv]
    have b0 := fun k => (blk0 m hO 0 t t.val (ix0_of m t hg hv) (y (0 : Fin 2)) k ht).trans (congrFun (V_main_arg0 m 0) _)
    have b1 := fun k j => (blk1 m hO 0 t _ (hg.te _) (ix1_of m t) k j).trans (w1_at m 0 _ _ k j)
    have b2 := fun k j => (blk2 m hO 0 t _ (hg.te _) (ix2_of m t) k j).trans (w2_at m 0 _ _ k j)
    have b3 := fun k j => (blk3 m hO 0 t _ (hg.te _) (ix3_of m t) k j).trans (w3_at m 0 _ _ k j)
    rw [show (fun k => (iblk m hO 0 0 t : S256x1024.Idx → EReal) (ix2 (y (0 : Fin 2)) k)) = _ from funext b0,
      show (fun k j => (iblk m hO 0 1 t : S1x1x1024x3584.Idx → EReal) (ix4 0 0 k j)) = _ from funext fun k => funext fun j => b1 k j,
      show (fun k j => (iblk m hO 0 2 t : S1x1x1024x3584.Idx → EReal) (ix4 0 0 k j)) = _ from funext fun k => funext fun j => b2 k j,
      show (fun k j => (iblk m hO 0 3 t : S1x1x3584x1024.Idx → EReal) (ix4 0 0 k j)) = _ from funext fun k => funext fun j => b3 k j]
  · rw [if_neg hv, if_neg hv]

end Cert.ExpertsBlock

end
-- ==== Proof.Experts.Ref.lean ====
/- The expert layer's reference at an index: the gated unit of the row through the matrices of the expert its tile names. -/
module

public import proofs.«01_k».proof.Proof.Experts.Row
public import proofs.«01_k».proof.Proof.Gen.ExpertsRefIdeal.Run
public import Idealize.ShloMosaic.Lib.Tactic.CleanTypes
public import Idealize.ShloMosaic.Lib.Routing.Words

@[expose] public section

set_option maxRecDepth 16384

noncomputable section

namespace Cert.ExpertsRefAt

open Cert.ExpertsRefIdeal Cert.ExpertsRefIdeal.Gen Idealize.ShloMosaic Idealize.ShloMosaic.TcCoe Idealize.SL.Sem
open Idealize.ShloMosaic.StableHlo

variable (V0 : Valuation τ sig (Elt Ideal))

abbrev x0 : FVec Ideal S67584x1024 .f32 := V0 (Proc.devRef .tc main_arg0)
abbrev te0 : S264.Idx → BitVec 32 := V0 (Proc.devRef .tc main_arg1)
abbrev nv0 : S1.Idx → BitVec 32 := V0 (Proc.devRef .tc main_arg2)
abbrev wg0 : S2x8x1024x3584.Idx → EReal := V0 (Proc.devRef .tc main_arg3)
abbrev wu0 : S2x8x1024x3584.Idx → EReal := V0 (Proc.devRef .tc main_arg4)
abbrev wd0 : S2x8x3584x1024.Idx → EReal := V0 (Proc.devRef .tc main_arg5)

/-- The rows through one expert's first matrix. -/
def gate (wg : FVec Ideal S1x1x1024x3584 .f32) : FVec Ideal S67584x3584 .f32 :=
  Host.dotGeneral dot_S67584x1024_S1024x3584_S67584x3584_1_0_0_1_n_n none (φ₁ := .f32) (x0 V0) (shapeCast S1024x3584 wg shapeCasts_S1x1x1024x3584_S1024x3584)

/-- The gated unit of all the rows through one expert, its first product given. -/
def fx (g : FVec Ideal S67584x3584 .f32) (wu : FVec Ideal S1x1x1024x3584 .f32) (wd : FVec Ideal S1x1x3584x1024 .f32) : FVec Ideal S67584x1024 .f32 :=
  Host.dotGeneral dot_S67584x3584_S3584x1024_S67584x1024_1_0_0_1_n_n none (mulf (mulf g (Host.divf (broadcastInDim S67584x3584 ![] bcast_S_S67584x3584 (constant S_ .f32 0x3F800000#32)) (addf (broadcastInDim S67584x3584 ![] bcast_S_S67584x3584 (constant S_ .f32 0x3F800000#32)) (Host.exp (Host.negf g))))) (Host.dotGeneral dot_S67584x1024_S1024x3584_S67584x3584_1_0_0_1_n_n none (φ₁ := .f32) (x0 V0) (shapeCast S1024x3584 wu shapeCasts_S1x1x1024x3584_S1024x3584))) (shapeCast S3584x1024 wd shapeCasts_S1x1x3584x1024_S3584x1024)

/-- Where the row's tile is valid and names expert `e`, its unit. -/
def sel (e : BitVec 32) (f prev : FVec Ideal S67584x1024 .f32) : FVec Ideal S67584x1024 .f32 :=
  select (broadcastInDim S67584x1024 ![0, 1] bcast_S67584x1_S67584x1024_0_1 (broadcastInDim S67584x1 ![0] bcast_S67584_S67584x1_0 (andi (cmpi .eq (Value.res_main_v3 V0) (broadcastInDim S67584 ![] bcast_S_S67584 (constantI S_ 32 e))) (cmpi .slt (Value.res_main_v1 V0) (broadcastInDim S67584 ![] bcast_S_S67584 (shapeCast _ (V0 (Proc.devRef .tc main_arg2)) shapeCasts_S1_S_)))))) f prev

theorem low_eq : (Value.res_main_v104 V0 : FVec Ideal S67584x1024 .f32)
    = (sel V0 3#32 (fx V0 (Value.res_main_v82 V0) (extractStridedSlice S1x1x1024x3584 ![0, 3, 0, 0] (V0 (Proc.devRef .tc main_arg4)) slices_S2x8x1024x3584_S1x1x1024x3584_0_3_0_0) (extractStridedSlice S1x1x3584x1024 ![0, 3, 0, 0] (V0 (Proc.devRef .tc main_arg5)) slices_S2x8x3584x1024_S1x1x3584x1024_0_3_0_0))
      (sel V0 2#32 (fx V0 (Value.res_main_v57 V0) (extractStridedSlice S1x1x1024x3584 ![0, 2, 0, 0] (V0 (Proc.devRef .tc main_arg4)) slices_S2x8x1024x3584_S1x1x1024x3584_0_2_0_0) (extractStridedSlice S1x1x3584x1024 ![0, 2, 0, 0] (V0 (Proc.devRef .tc main_arg5)) slices_S2x8x3584x1024_S1x1x3584x1024_0_2_0_0))
      (sel V0 1#32 (fx V0 (Value.res_main_v32 V0) (extractStridedSlice S1x1x1024x3584 ![0, 1, 0, 0] (V0 (Proc.devRef .tc main_arg4)) slices_S2x8x1024x3584_S1x1x1024x3584_0_1_0_0) (extractStridedSlice S1x1x3584x1024 ![0, 1, 0, 0] (V0 (Proc.devRef .tc main_arg5)) slices_S2x8x3584x1024_S1x1x3584x1024_0_1_0_0))
      (sel V0 0#32 (fx V0 (Value.res_main_v7 V0) (extractStridedSlice S1x1x1024x3584 ![0, 0, 0, 0] (V0 (Proc.devRef .tc main_arg4)) slices_S2x8x1024x3584_S1x1x1024x3584_0_0_0_0) (extractStridedSlice S1x1x3584x1024 ![0, 0, 0, 0] (V0 (Proc.devRef .tc main_arg5)) slices_S2x8x3584x1024_S1x1x3584x1024_0_0_0_0))
      (broadcastInDim S67584x1024 ![] bcast_S_S67584x1024 (constant S_ .f32 0x00000000#32)))))) := rfl

theorem high_eq : (Value.res_main_v204 V0 : FVec Ideal S67584x1024 .f32)
    = (sel V0 7#32 (fx V0 (Value.res_main_v182 V0) (extractStridedSlice S1x1x1024x3584 ![0, 7, 0, 0] (V0 (Proc.devRef .tc main_arg4)) slices_S2x8x1024x3584_S1x1x1024x3584_0_7_0_0) (extractStridedSlice S1x1x3584x1024 ![0, 7, 0, 0] (V0 (Proc.devRef .tc main_arg5)) slices_S2x8x3584x1024_S1x1x3584x1024_0_7_0_0))
      (sel V0 6#32 (fx V0 (Value.res_main_v157 V0) (extractStridedSlice S1x1x1024x3584 ![0, 6, 0, 0] (V0 (Proc.devRef .tc main_arg4)) slices_S2x8x1024x3584_S1x1x1024x3584_0_6_0_0) (extractStridedSlice S1x1x3584x1024 ![0, 6, 0, 0] (V0 (Proc.devRef .tc main_arg5)) slices_S2x8x3584x1024_S1x1x3584x1024_0_6_0_0))
      (sel V0 5#32 (fx V0 (Value.res_main_v132 V0) (extractStridedSlice S1x1x1024x3584 ![0, 5, 0, 0] (V0 (Proc.devRef .tc main_arg4)) slices_S2x8x1024x3584_S1x1x1024x3584_0_5_0_0) (extractStridedSlice S1x1x3584x1024 ![0, 5, 0, 0] (V0 (Proc.devRef .tc main_arg5)) slices_S2x8x3584x1024_S1x1x3584x1024_0_5_0_0))
      (sel V0 4#32 (fx V0 (Value.res_main_v107 V0) (extractStridedSlice S1x1x1024x3584 ![0, 4, 0, 0] (V0 (Proc.devRef .tc main_arg4)) slices_S2x8x1024x3584_S1x1x1024x3584_0_4_0_0) (extractStridedSlice S1x1x3584x1024 ![0, 4, 0, 0] (V0 (Proc.devRef .tc main_arg5)) slices_S2x8x3584x1024_S1x1x3584x1024_0_4_0_0))
      (Value.res_main_v104 V0))))) := rfl

theorem fx_at (wg wu : FVec Ideal S1x1x1024x3584 .f32) (wd : FVec Ideal S1x1x3584x1024 .f32) (r : Fin 67584) (d : Fin 1024) :
    fx V0 (gate V0 wg) wu wd (ix2 r d)
      = ExpertsRow.row (fun k => x0 V0 (ix2 r k)) (fun k j => wg (ix4 0 0 k j)) (fun k j => wu (ix4 0 0 k j)) (fun j e => wd (ix4 0 0 j e)) d := by
  unfold fx gate
  pointwise
  rfl

theorem tile_at (r : Fin 67584) : (Value.res_main_v3 V0 : IVec S67584 32) (ix1 r) = te0 V0 (ix1 ⟨r.val / 256, by omega⟩) := by
  unfold Value.res_main_v3
  clean_types
  pointwise

theorem tileno_at (r : Fin 67584) : (Value.res_main_v1 V0 : IVec S67584 32) (ix1 r) = BitVec.ofNat 32 (r.val / 256) := by
  refine (Routing.pyDiv_ap bcast_S_S67584 (iotaInDim S67584 32 0) (id (constantI S_ 32 256#32)) (ix1 r) (a := r.val) (b := 256) rfl rfl (by omega) (by omega) (by omega)).symm.symm

theorem sel_at (e : BitVec 32) (f prev : FVec Ideal S67584x1024 .f32) (r : Fin 67584) (d : Fin 1024) :
    sel V0 e f prev (ix2 r d)
      = if te0 V0 (ix1 ⟨r.val / 256, by omega⟩) = e ∧ ((r.val / 256 : Nat) : Int) < (nv0 V0 (ix1 0)).toInt then f (ix2 r d) else prev (ix2 r d) := by
  unfold sel
  clean_types
  pointwise
  simp only [tile_at, tileno_at]
  have ht : (BitVec.ofNat 32 (r.val / 256)).toInt = ((r.val / 256 : Nat) : Int) := WordCmp.toInt_ofNat_of_lt (by omega)
  rw [WordCmp.cmpi_eq_eq, WordCmp.cmpi_slt_eq, WordCmp.andi_ofBool, ht]
  by_cases h1 : te0 V0 (ix1 ⟨r.val / 256, by omega⟩) = e
  · by_cases h2 : ((r.val / 256 : Nat) : Int) < (nv0 V0 (ix1 0)).toInt
    · rw [if_pos ⟨h1, h2⟩, decide_eq_true h1, decide_eq_true (p := _ < BitVec.toInt _) h2]; rfl
    · rw [if_neg fun h => h2 h.2, decide_eq_false (p := _ < BitVec.toInt _) h2, Bool.and_false]; rfl
  · rw [if_neg fun h => h1 h.1, decide_eq_false h1, Bool.false_and]; rfl

theorem slice_w (A : S2x8x1024x3584.Idx → EReal) (e : Nat) (he : e < 8) (h) (k : Fin 1024) (j : Fin 3584) :
    (extractStridedSlice S1x1x1024x3584 ![0, e, 0, 0] A h : S1x1x1024x3584.Idx → EReal) (ix4 0 0 k j) = A (ix4 0 ⟨e, he⟩ k j) := by
  refine congrArg A (funext fun a => Fin.ext ?_)
  fin_cases a <;> simp

theorem slice_d (A : S2x8x3584x1024.Idx → EReal) (e : Nat) (he : e < 8) (h) (k : Fin 3584) (j : Fin 1024) :
    (extractStridedSlice S1x1x3584x1024 ![0, e, 0, 0] A h : S1x1x3584x1024.Idx → EReal) (ix4 0 0 k j) = A (ix4 0 ⟨e, he⟩ k j) := by
  refine congrArg A (funext fun a => Fin.ext ?_)
  fin_cases a <;> simp

/-- The gated unit of row `r` through expert `e`. -/
def rowOf (r : Fin 67584) (e : Fin 8) (d : Fin 1024) : EReal :=
  ExpertsRow.row (fun k => x0 V0 (ix2 r k)) (fun k j => wg0 V0 (ix4 0 e k j)) (fun k j => wu0 V0 (ix4 0 e k j)) (fun k j => wd0 V0 (ix4 0 e k j)) d

theorem gate_0 : (Value.res_main_v7 V0 : FVec Ideal S67584x3584 .f32) = gate V0 (extractStridedSlice S1x1x1024x3584 ![0, 0, 0, 0] (V0 (Proc.devRef .tc main_arg3)) slices_S2x8x1024x3584_S1x1x1024x3584_0_0_0_0) := rfl
theorem gate_1 : (Value.res_main_v32 V0 : FVec Ideal S67584x3584 .f32) = gate V0 (extractStridedSlice S1x1x1024x3584 ![0, 1, 0, 0] (V0 (Proc.devRef .tc main_arg3)) slices_S2x8x1024x3584_S1x1x1024x3584_0_1_0_0) := rfl
theorem gate_2 : (Value.res_main_v57 V0 : FVec Ideal S67584x3584 .f32) = gate V0 (extractStridedSlice S1x1x1024x3584 ![0, 2, 0, 0] (V0 (Proc.devRef .tc main_arg3)) slices_S2x8x1024x3584_S1x1x1024x3584_0_2_0_0) := rfl
theorem gate_3 : (Value.res_main_v82 V0 : FVec Ideal S67584x3584 .f32) = gate V0 (extractStridedSlice S1x1x1024x3584 ![0, 3, 0, 0] (V0 (Proc.devRef .tc main_arg3)) slices_S2x8x1024x3584_S1x1x1024x3584_0_3_0_0) := rfl
theorem gate_4 : (Value.res_main_v107 V0 : FVec Ideal S67584x3584 .f32) = gate V0 (extractStridedSlice S1x1x1024x3584 ![0, 4, 0, 0] (V0 (Proc.devRef .tc main_arg3)) slices_S2x8x1024x3584_S1x1x1024x3584_0_4_0_0) := rfl
theorem gate_5 : (Value.res_main_v132 V0 : FVec Ideal S67584x3584 .f32) = gate V0 (extractStridedSlice S1x1x1024x3584 ![0, 5, 0, 0] (V0 (Proc.devRef .tc main_arg3)) slices_S2x8x1024x3584_S1x1x1024x3584_0_5_0_0) := rfl
theorem gate_6 : (Value.res_main_v157 V0 : FVec Ideal S67584x3584 .f32) = gate V0 (extractStridedSlice S1x1x1024x3584 ![0, 6, 0, 0] (V0 (Proc.devRef .tc main_arg3)) slices_S2x8x1024x3584_S1x1x1024x3584_0_6_0_0) := rfl
theorem gate_7 : (Value.res_main_v182 V0 : FVec Ideal S67584x3584 .f32) = gate V0 (extractStridedSlice S1x1x1024x3584 ![0, 7, 0, 0] (V0 (Proc.devRef .tc main_arg3)) slices_S2x8x1024x3584_S1x1x1024x3584_0_7_0_0) := rfl

theorem ex_0 (r : Fin 67584) (d : Fin 1024) :
    fx V0 (Value.res_main_v7 V0) (extractStridedSlice S1x1x1024x3584 ![0, 0, 0, 0] (V0 (Proc.devRef .tc main_arg4)) slices_S2x8x1024x3584_S1x1x1024x3584_0_0_0_0) (extractStridedSlice S1x1x3584x1024 ![0, 0, 0, 0] (V0 (Proc.devRef .tc main_arg5)) slices_S2x8x3584x1024_S1x1x3584x1024_0_0_0_0) (ix2 r d)
      = rowOf V0 r 0 d := by
  rw [gate_0, fx_at]
  unfold rowOf
  congr 1
  · funext k j; exact slice_w _ 0 (by decide) _ k j
  · funext k j; exact slice_w _ 0 (by decide) _ k j
  · funext k j; exact slice_d _ 0 (by decide) _ k j
theorem ex_1 (r : Fin 67584) (d : Fin 1024) :
    fx V0 (Value.res_main_v32 V0) (extractStridedSlice S1x1x1024x3584 ![0, 1, 0, 0] (V0 (Proc.devRef .tc main_arg4)) slices_S2x8x1024x3584_S1x1x1024x3584_0_1_0_0) (extractStridedSlice S1x1x3584x1024 ![0, 1, 0, 0] (V0 (Proc.devRef .tc main_arg5)) slices_S2x8x3584x1024_S1x1x3584x1024_0_1_0_0) (ix2 r d)
      = rowOf V0 r 1 d := by
  rw [gate_1, fx_at]
  unfold rowOf
  congr 1
  · funext k j; exact slice_w _ 1 (by decide) _ k j
  · funext k j; exact slice_w _ 1 (by decide) _ k j
  · funext k j; exact slice_d _ 1 (by decide) _ k j
theorem ex_2 (r : Fin 67584) (d : Fin 1024) :
    fx V0 (Value.res_main_v57 V0) (extractStridedSlice S1x1x1024x3584 ![0, 2, 0, 0] (V0 (Proc.devRef .tc main_arg4)) slices_S2x8x1024x3584_S1x1x1024x3584_0_2_0_0) (extractStridedSlice S1x1x3584x1024 ![0, 2, 0, 0] (V0 (Proc.devRef .tc main_arg5)) slices_S2x8x3584x1024_S1x1x3584x1024_0_2_0_0) (ix2 r d)
      = rowOf V0 r 2 d := by
  rw [gate_2, fx_at]
  unfold rowOf
  congr 1
  · funext k j; exact slice_w _ 2 (by decide) _ k j
  · funext k j; exact slice_w _ 2 (by decide) _ k j
  · funext k j; exact slice_d _ 2 (by decide) _ k j
theorem ex_3 (r : Fin 67584) (d : Fin 1024) :
    fx V0 (Value.res_main_v82 V0) (extractStridedSlice S1x1x1024x3584 ![0, 3, 0, 0] (V0 (Proc.devRef .tc main_arg4)) slices_S2x8x1024x3584_S1x1x1024x3584_0_3_0_0) (extractStridedSlice S1x1x3584x1024 ![0, 3, 0, 0] (V0 (Proc.devRef .tc main_arg5)) slices_S2x8x3584x1024_S1x1x3584x1024_0_3_0_0) (ix2 r d)
      = rowOf V0 r 3 d := by
  rw [gate_3, fx_at]
  unfold rowOf
  congr 1
  · funext k j; exact slice_w _ 3 (by decide) _ k j
  · funext k j; exact slice_w _ 3 (by decide) _ k j
  · funext k j; exact slice_d _ 3 (by decide) _ k j
theorem ex_4 (r : Fin 67584) (d : Fin 1024) :
    fx V0 (Value.res_main_v107 V0) (extractStridedSlice S1x1x1024x3584 ![0, 4, 0, 0] (V0 (Proc.devRef .tc main_arg4)) slices_S2x8x1024x3584_S1x1x1024x3584_0_4_0_0) (extractStridedSlice S1x1x3584x1024 ![0, 4, 0, 0] (V0 (Proc.devRef .tc main_arg5)) slices_S2x8x3584x1024_S1x1x3584x1024_0_4_0_0) (ix2 r d)
      = rowOf V0 r 4 d := by
  rw [gate_4, fx_at]
  unfold rowOf
  congr 1
  · funext k j; exact slice_w _ 4 (by decide) _ k j
  · funext k j; exact slice_w _ 4 (by decide) _ k j
  · funext k j; exact slice_d _ 4 (by decide) _ k j
theorem ex_5 (r : Fin 67584) (d : Fin 1024) :
    fx V0 (Value.res_main_v132 V0) (extractStridedSlice S1x1x1024x3584 ![0, 5, 0, 0] (V0 (Proc.devRef .tc main_arg4)) slices_S2x8x1024x3584_S1x1x1024x3584_0_5_0_0) (extractStridedSlice S1x1x3584x1024 ![0, 5, 0, 0] (V0 (Proc.devRef .tc main_arg5)) slices_S2x8x3584x1024_S1x1x3584x1024_0_5_0_0) (ix2 r d)
      = rowOf V0 r 5 d := by
  rw [gate_5, fx_at]
  unfold rowOf
  congr 1
  · funext k j; exact slice_w _ 5 (by decide) _ k j
  · funext k j; exact slice_w _ 5 (by decide) _ k j
  · funext k j; exact slice_d _ 5 (by decide) _ k j
theorem ex_6 (r : Fin 67584) (d : Fin 1024) :
    fx V0 (Value.res_main_v157 V0) (extractStridedSlice S1x1x1024x3584 ![0, 6, 0, 0] (V0 (Proc.devRef .tc main_arg4)) slices_S2x8x1024x3584_S1x1x1024x3584_0_6_0_0) (extractStridedSlice S1x1x3584x1024 ![0, 6, 0, 0] (V0 (Proc.devRef .tc main_arg5)) slices_S2x8x3584x1024_S1x1x3584x1024_0_6_0_0) (ix2 r d)
      = rowOf V0 r 6 d := by
  rw [gate_6, fx_at]
  unfold rowOf
  congr 1
  · funext k j; exact slice_w _ 6 (by decide) _ k j
  · funext k j; exact slice_w _ 6 (by decide) _ k j
  · funext k j; exact slice_d _ 6 (by decide) _ k j
theorem ex_7 (r : Fin 67584) (d : Fin 1024) :
    fx V0 (Value.res_main_v182 V0) (extractStridedSlice S1x1x1024x3584 ![0, 7, 0, 0] (V0 (Proc.devRef .tc main_arg4)) slices_S2x8x1024x3584_S1x1x1024x3584_0_7_0_0) (extractStridedSlice S1x1x3584x1024 ![0, 7, 0, 0] (V0 (Proc.devRef .tc main_arg5)) slices_S2x8x3584x1024_S1x1x3584x1024_0_7_0_0) (ix2 r d)
      = rowOf V0 r 7 d := by
  rw [gate_7, fx_at]
  unfold rowOf
  congr 1
  · funext k j; exact slice_w _ 7 (by decide) _ k j
  · funext k j; exact slice_w _ 7 (by decide) _ k j
  · funext k j; exact slice_d _ 7 (by decide) _ k j

theorem res_at (r : Fin 67584) (t : Fin 264) (ht : t = ⟨r.val / 256, by omega⟩) (h8 : (te0 V0 (ix1 t)).toNat < 8) (d : Fin 1024) :
    (Value.res_main_v204 V0 : FVec Ideal S67584x1024 .f32) (ix2 r d)
      = if (t.val : Int) < (nv0 V0 (ix1 0)).toInt then rowOf V0 r ⟨(te0 V0 (ix1 t)).toNat, h8⟩ d else 0 := by
  have hz : (broadcastInDim S67584x1024 ![] bcast_S_S67584x1024 (constant (F := Ideal) S_ .f32 0x00000000#32)) (ix2 r d) = (0 : EReal) := by pointwise
  rw [high_eq]
  simp only [sel_at, low_eq, ex_0, ex_1, ex_2, ex_3, ex_4, ex_5, ex_6, ex_7, hz]
  subst ht
  by_cases hv : ((r.val / 256 : Nat) : Int) < (nv0 V0 (ix1 0)).toInt
  · simp only [hv, and_true, if_true]
    generalize te0 V0 (ix1 ⟨r.val / 256, _⟩) = w at h8
    obtain ⟨e, rfl⟩ : ∃ e : Fin 8, w = BitVec.ofNat 32 e.val := ⟨⟨w.toNat, h8⟩, by simp⟩
    fin_cases e <;> rfl
  · simp only [hv, and_false, if_false]

end Cert.ExpertsRefAt

end
-- ==== Proof.Experts.Claims.lean ====
/- The expert layer's claims: its frames, and at the ideal instance the kernel's array equal to the reference's. -/
module

public import proofs.«01_k».proof.Defs
public import proofs.«01_k».proof.Proof.Experts.Blocks
public import proofs.«01_k».proof.Proof.Experts.Ref
public import Idealize.ShloMosaic.Lib.Quiescent

@[expose] public section

set_option maxRecDepth 16384

noncomputable section

namespace Cert.ExpertsClaims

open Idealize.ShloMosaic Idealize.ShloMosaic.TcCoe Idealize.SL.Sem

theorem frame_ref : Cert.quiescent_ExpertsRefIdeal (hExpertsRefIdeal := Cert.ExpertsRefIdeal.Gen.facts) := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

theorem frame_ref_pre : Cert.quiescent_ExpertsRefIdeal_pre_tiles_named (hExpertsRefIdeal := Cert.ExpertsRefIdeal.Gen.facts)
    (hPre_tiles_named := Cert.ExpertsIdealOk.facts_pre) := fun m ρ _ => frame_ref m ρ trivial

/-- The reference's array is the kernel's. -/
theorem ref_eq (m : (ℓ : Loc Cert.ExpertsIdeal.nD Cert.ExpertsIdeal.τ Cert.ExpertsIdeal.sig) → Buf (Elt Ideal) ℓ)
    (m' : (ℓ : Loc Cert.ExpertsRefIdeal.nD Cert.ExpertsRefIdeal.τ Cert.ExpertsRefIdeal.sig) → Buf (Elt Ideal) ℓ) (c : Dev Cert.ExpertsIdeal.nD)
    (hg : Cert.ExpertsIdealOk.Good m)
    (h0 : m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0))
    (h1 : m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1))
    (h2 : m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2))
    (h3 : m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3))
    (h4 : m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4))
    (h5 : m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) :
    Cert.ExpertsRefIdeal.Value.res_main_v204 (StableHlo.launchContents m' c) = Cert.ExpertsBlock.G m hg c := by
  obtain rfl : c = 0 := Subsingleton.elim _ _
  funext i
  have hi : (i : Cert.ExpertsIdeal.S67584x1024.Idx) = ix2 (n0 := 67584) (n1 := 1024) (i 0) (i 1) := by
    funext a; fin_cases a <;> rfl
  have e1 : (Cert.ExpertsRefAt.te0 (StableHlo.launchContents m' 0) : Cert.ExpertsIdeal.S264.Idx → BitVec 32) = Cert.ExpertsIdealRun.tbl m 0 :=
    h1.trans (Cert.ExpertsIdealRun.V_main_arg1 m 0).symm
  have e2 : (Cert.ExpertsRefAt.nv0 (StableHlo.launchContents m' 0)) (ix1 0) = Cert.ExpertsIdealRun.nv m 0 := by
    refine (congrFun (h2.trans (Cert.ExpertsIdealRun.V_main_arg2 m 0).symm) (ix1 0)).trans ?_
    exact congrArg (Cert.ExpertsIdealRun.tbl m 1) (funext fun a => by
      match a with
      | ⟨0, _⟩ => exact Subsingleton.elim (α := Fin 1) _ _)
  have h8 : (Cert.ExpertsRefAt.te0 (StableHlo.launchContents m' 0) (ix1 (Cert.ExpertsBlock.tile (i 0)))).toNat < 8 := by
    rw [e1]; exact hg.te _
  refine (congrArg _ hi).trans ((Cert.ExpertsRefAt.res_at (StableHlo.launchContents m' 0) (i 0) (Cert.ExpertsBlock.tile (i 0)) rfl h8 (i 1)).trans ?_)
  unfold Cert.ExpertsBlock.G Cert.ExpertsBlock.Gq Cert.ExpertsRefAt.rowOf
  rw [e2, ← h0, ← h3, ← h4, ← h5]
  have e8 : (⟨_, h8⟩ : Fin 8) = ⟨Cert.ExpertsBlock.te m (Cert.ExpertsBlock.tile (i 0)), hg.te _⟩ := Fin.ext (congrArg BitVec.toNat (congrFun e1 (ix1 (Cert.ExpertsBlock.tile (i 0)))))
  rw [e8]

theorem algebraic : Cert.algebraic_ExpertsIdeal_ExpertsRefIdeal (hExpertsIdeal := Cert.ExpertsIdeal.Gen.facts)
    (hExpertsRefIdeal := Cert.ExpertsRefIdeal.Gen.facts) (hPre_tiles_named := Cert.ExpertsIdealOk.facts_pre) := by
  intro m g m' g' hpre hagree
  have hg := Cert.ExpertsIdealOk.good m hpre
  have hO := Cert.ExpertsIdealOk.ok m hg
  refine ⟨fun c => Cert.ExpertsBlock.G m hg c, ?_, ?_⟩
  · refine (θ_run Cert.ExpertsIdeal.defs _ _).mono (fun r h c => ⟨((h.1 c).1 4).trans (Cert.ExpertsBlock.arr_eq m hO hg c), ?_⟩)
      (Cert.ExpertsIdealRun.run_main_quiescent m g hO)
    exact ⟨
      ((h.1 c).1 0).trans (((Cert.ExpertsIdealRun.dats m hO 0 c).arrAt_in 0 rfl _).trans ((Cert.ExpertsIdealRun.A_eq m hO c 0).trans (Cert.ExpertsIdealRun.V_main_arg0 m c))),
      ((h.1 c).2 Cert.ExpertsIdeal.main_arg1 (by decide : Cert.ExpertsIdeal.main_arg1 ∈ Pipeline.restRefs Cert.ExpertsIdeal.sig Cert.ExpertsIdeal.spec0)).trans (Cert.ExpertsIdealRun.V_main_arg1 m c),
      ((h.1 c).2 Cert.ExpertsIdeal.main_arg2 (by decide : Cert.ExpertsIdeal.main_arg2 ∈ Pipeline.restRefs Cert.ExpertsIdeal.sig Cert.ExpertsIdeal.spec0)).trans (Cert.ExpertsIdealRun.V_main_arg2 m c),
      ((h.1 c).2 Cert.ExpertsIdeal.main_arg3 (by decide : Cert.ExpertsIdeal.main_arg3 ∈ Pipeline.restRefs Cert.ExpertsIdeal.sig Cert.ExpertsIdeal.spec0)).trans (Cert.ExpertsIdealRun.V_main_arg3 m c),
      ((h.1 c).2 Cert.ExpertsIdeal.main_arg4 (by decide : Cert.ExpertsIdeal.main_arg4 ∈ Pipeline.restRefs Cert.ExpertsIdeal.sig Cert.ExpertsIdeal.spec0)).trans (Cert.ExpertsIdealRun.V_main_arg4 m c),
      ((h.1 c).2 Cert.ExpertsIdeal.main_arg5 (by decide : Cert.ExpertsIdeal.main_arg5 ∈ Pipeline.restRefs Cert.ExpertsIdeal.sig Cert.ExpertsIdeal.spec0)).trans (Cert.ExpertsIdealRun.V_main_arg5 m c)⟩
  · refine (θ_run Cert.ExpertsRefIdeal.defs _ _).mono (fun _ h c => ⟨(h c).1.trans ?_, (h c).2⟩) (Cert.ExpertsRefIdeal.Value.run (F := Ideal) m' g')
    obtain ⟨h0, h1, h2, h3, h4, h5⟩ := hagree c
    exact ref_eq m m' c hg h0 h1 h2 h3 h4 h5

end Cert.ExpertsClaims

end
-- ==== Proof.Proj.Block.lean ====
/- The input projection: the entry of the projected row, and the kernel's block payloads and arrays read at an index. -/
module

public import proofs.«01_k».proof.Proof.Gen.ProjIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ProjRow

open Idealize.ShloMosaic

/-- Entry `j` of row `r` of the input times the projection of layer 0. -/
def hh (x : (⟨3, ![8, 4096, 1024]⟩ : Shape).Idx → EReal) (w : (⟨3, ![4, 1024, 3144]⟩ : Shape).Idx → EReal) (r : Fin 32768) (j : Fin 3144) : EReal :=
  ∑ k : Fin 1024, x (ix3 ⟨r.val / 4096, by omega⟩ ⟨r.val % 4096, by omega⟩ k) * w (ix3 0 k j)

/-- The queries' scale and the index weights' scale. -/
def cq : EReal := Ideal.ofBits .f32 0x3E38AA3B#32
def cw : EReal := Ideal.ofBits .f32 0x3D3504F3#32

/-- The seven arrays. -/
def qT (x : (⟨3, ![8, 4096, 1024]⟩ : Shape).Idx → EReal) (w : (⟨3, ![4, 1024, 3144]⟩ : Shape).Idx → EReal) (j : Fin 512) (t : Fin 32768) : EReal :=
  hh x w t ⟨j.val, by omega⟩ * cq
def qiT (x : (⟨3, ![8, 4096, 1024]⟩ : Shape).Idx → EReal) (w : (⟨3, ![4, 1024, 3144]⟩ : Shape).Idx → EReal) (j : Fin 512) (t : Fin 32768) : EReal :=
  hh x w t ⟨1536 + j.val, by omega⟩
def vT (x : (⟨3, ![8, 4096, 1024]⟩ : Shape).Idx → EReal) (w : (⟨3, ![4, 1024, 3144]⟩ : Shape).Idx → EReal) (b : Fin 64) (r : Fin 640) (s : Fin 512) : EReal :=
  if r.val % 80 < 64 then hh x w ⟨b.val * 512 + s.val, by omega⟩ ⟨1024 + (r.val / 80 * 64 + r.val % 80) % 512, by omega⟩ else if r.val % 80 = 64 then 1 else 0
def wT (x : (⟨3, ![8, 4096, 1024]⟩ : Shape).Idx → EReal) (w : (⟨3, ![4, 1024, 3144]⟩ : Shape).Idx → EReal) (j : Fin 8) (t : Fin 32768) : EReal :=
  hh x w t ⟨2112 + j.val, by omega⟩ * cw
def kk (x : (⟨3, ![8, 4096, 1024]⟩ : Shape).Idx → EReal) (w : (⟨3, ![4, 1024, 3144]⟩ : Shape).Idx → EReal) (t : Fin 32768) (j : Fin 512) : EReal :=
  hh x w t ⟨512 + j.val, by omega⟩
def ki (x : (⟨3, ![8, 4096, 1024]⟩ : Shape).Idx → EReal) (w : (⟨3, ![4, 1024, 3144]⟩ : Shape).Idx → EReal) (t : Fin 32768) (j : Fin 64) : EReal :=
  hh x w t ⟨2048 + j.val, by omega⟩
def uu (x : (⟨3, ![8, 4096, 1024]⟩ : Shape).Idx → EReal) (w : (⟨3, ![4, 1024, 3144]⟩ : Shape).Idx → EReal) (t : Fin 32768) (j : Fin 512) : EReal :=
  hh x w t ⟨2120 + j.val, by omega⟩ * Ideal.logistic (hh x w t ⟨2632 + j.val, by omega⟩)

end Cert.ProjRow

namespace Cert.ProjBlock

open Cert.ProjIdeal Cert.ProjIdeal.Gen Idealize.ShloMosaic Idealize.ShloMosaic.TcCoe Idealize.SL.Sem

section
variable (P0 : Vec Ideal S512x1024 .f32) (P1 P2 P3 : Vec Ideal S512x1024 .bf16) (P4 : Vec Ideal S8x1024 .bf16)
  (P5 : Vec Ideal S1024x512 .bf16) (P6 : Vec Ideal S1024x64 .bf16) (P7 P8 : Vec Ideal S1024x512 .bf16)

theorem out9_at (j t : Fin 512) :
    out0_9 P0 P1 P2 P3 P4 P5 P6 P7 P8 (ix2 j t) = (∑ k, P1 (ix2 j k) * P0 (ix2 t k)) * ProjRow.cq := by
  frame_out
  pointwise [k0_pay7, k0_pay6, ProjRow.cq]

theorem out10_at (j t : Fin 512) :
    out0_10 P0 P1 P2 P3 P4 P5 P6 P7 P8 (ix2 j t) = ∑ k, P2 (ix2 j k) * P0 (ix2 t k) := by
  frame_out
  pointwise [k0_pay8, k0_pay6]

theorem out12_at (j : Fin 8) (t : Fin 512) :
    out0_12 P0 P1 P2 P3 P4 P5 P6 P7 P8 (ix2 j t) = (∑ k, P4 (ix2 j k) * P0 (ix2 t k)) * ProjRow.cw := by
  frame_out
  pointwise [k0_pay2, k0_pay10, k0_pay6, ProjRow.cw]

theorem out13_at (t j : Fin 512) :
    out0_13 P0 P1 P2 P3 P4 P5 P6 P7 P8 (ix2 t j) = ∑ k, P0 (ix2 t k) * P5 (ix2 k j) := by
  frame_out
  pointwise [k0_pay3, k0_pay10, k0_pay6]

theorem out14_at (t : Fin 512) (j : Fin 64) :
    out0_14 P0 P1 P2 P3 P4 P5 P6 P7 P8 (ix2 t j) = ∑ k, P0 (ix2 t k) * P6 (ix2 k j) := by
  frame_out
  pointwise [k0_pay4, k0_pay10, k0_pay6]

theorem out15_at (t j : Fin 512) :
    out0_15 P0 P1 P2 P3 P4 P5 P6 P7 P8 (ix2 t j)
      = (∑ k, P0 (ix2 t k) * P7 (ix2 k j)) * Ideal.logistic (∑ k, P0 (ix2 t k) * P8 (ix2 k j)) := by
  frame_out
  pointwise [k0_pay5, k0_pay10, k0_pay6]

/-- The unit row of the sixteen rows under each head's values. -/
theorem one_row (n : ℕ) (h : n < 16) :
    (Scalar.select (IntOp.cmpi .eq (BitVec.ofNat 32 n) 0#32) (1 : EReal) 0) = if n = 0 then 1 else 0 := by
  interval_cases n <;> rfl

theorem pick {p : Prop} [Decidable p] {a : p → EReal} {b : ¬ p → EReal} {R : EReal} (h1 : ∀ h, a h = R) (h2 : ∀ h, b h = R) :
    dite p a b = R := by
  by_cases h : p
  · rw [dif_pos h]; exact h1 h
  · rw [dif_neg h]; exact h2 h

set_option maxHeartbeats 4000000 in
theorem out11_at (r : Fin 640) (s : Fin 512) :
    out0_11 P0 P1 P2 P3 P4 P5 P6 P7 P8 (ix3 0 r s)
      = if r.val % 80 < 64 then ∑ k, P3 (ix2 ⟨(r.val / 80 * 64 + r.val % 80) % 512, by omega⟩ k) * P0 (ix2 s k)
        else if r.val % 80 = 64 then 1 else 0 := by
  frame_out
  pointwise [k0_pay1, k0_pay9, k0_pay6]
  have hr := r.isLt
  have A : ∀ (q : Fin 512), r.val % 80 < 64 → q.val = r.val / 80 * 64 + r.val % 80 →
      (∑ x, P3 (ix2 q x) * P0 (ix2 s x)) = if r.val % 80 < 64 then ∑ k, P3 (ix2 ⟨(r.val / 80 * 64 + r.val % 80) % 512, by omega⟩ k) * P0 (ix2 s k)
        else if r.val % 80 = 64 then (1 : EReal) else 0 := by
    intro q h1 h2
    have e : q = ⟨(r.val / 80 * 64 + r.val % 80) % 512, by omega⟩ := Fin.ext (by show q.val = (r.val / 80 * 64 + r.val % 80) % 512; omega)
    rw [if_pos h1, ← e]
  have B : ∀ n : ℕ, ¬ r.val % 80 < 64 → n = r.val % 80 - 64 → (Scalar.select (IntOp.cmpi .eq (BitVec.ofNat 32 n) 0#32) (1 : EReal) 0)
      = if r.val % 80 < 64 then ∑ k, P3 (ix2 ⟨(r.val / 80 * 64 + r.val % 80) % 512, by omega⟩ k) * P0 (ix2 s k)
        else if r.val % 80 = 64 then (1 : EReal) else 0 := by
    intro n h1 h2
    rw [one_row n (by omega), if_neg h1]
    have e : (n = 0) ↔ (r.val % 80 = 64) := by omega
    simp only [e]
  revert A B
  generalize (if r.val % 80 < 64 then ∑ k, P3 (ix2 ⟨(r.val / 80 * 64 + r.val % 80) % 512, by omega⟩ k) * P0 (ix2 s k)
        else if r.val % 80 = 64 then (1 : EReal) else 0) = R
  intro A B
  repeat' (with_reducible refine pick (fun _ => ?_) (fun _ => ?_))
  all_goals first
    | refine A _ ?_ ?_ <;> (try dsimp only) <;> omega
    | refine B _ ?_ ?_ <;> omega
end

end Cert.ProjBlock

end
-- ==== Proof.Proj.Arr.lean ====
/- The kernel's seven arrays from its arguments. -/
module

public import proofs.«01_k».proof.Proof.Proj.Block

@[expose] public section

set_option maxRecDepth 16384

noncomputable section

namespace Cert.ProjArr

open Cert.ProjIdeal Cert.ProjIdeal.Gen Idealize.ShloMosaic Idealize.ShloMosaic.TcCoe Idealize.SL.Sem

variable (m : (ℓ : Loc nD τ sig) → Buf (Elt Ideal) ℓ)

theorem comm_sum {A B A' B' : Fin 1024 → EReal} (h : ∀ k, A k = A' k) (h' : ∀ k, B k = B' k) :
    (∑ k, A k * B k) = ∑ k, B' k * A' k :=
  Finset.sum_congr rfl fun k _ => by rw [h, h', mul_comm]

theorem same_sum {A B A' B' : Fin 1024 → EReal} (h : ∀ k, A k = A' k) (h' : ∀ k, B k = B' k) :
    (∑ k, A k * B k) = ∑ k, A' k * B' k :=
  Finset.sum_congr rfl fun k _ => by rw [h, h']

theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val] ∧ win0_10.index t = ![0, t.val]
    ∧ win0_11.index t = ![t.val, 0, 0] ∧ win0_12.index t = ![0, t.val] ∧ win0_13.index t = ![t.val, 0] ∧ win0_14.index t = ![t.val, 0]
    ∧ win0_15.index t = ![t.val, 0] := by
  decide +kernel

/-- The input's rows, and the column blocks of the projection. -/
theorem x_at (c : Dev nD) (r : Fin 32768) (k : Fin 1024) :
    (V m c main_v0 : S32768x1024.Idx → EReal) (ix2 r k)
      = m ((c : Thread nD τ).loc main_arg0) (ix3 ⟨r.val / 4096, by omega⟩ ⟨r.val % 4096, by omega⟩ k) := by
  unfold V
  after_reads_at

theorem blk0 (c : Dev nD) (t : Fin cfg0.N) (r : Fin 512) (k : Fin 1024) (h : t.val * 512 + r.val < 32768) :
    (iblk m c 0 t : S512x1024.Idx → EReal) (ix2 r k)
      = m ((c : Thread nD τ).loc main_arg0) (ix3 ⟨(t.val * 512 + r.val) / 4096, by omega⟩ ⟨(t.val * 512 + r.val) % 4096, by omega⟩ k) := by
  refine Eq.trans ?_ (x_at m c ⟨t.val * 512 + r.val, h⟩ k)
  blk_ext [iblk, idx t]

theorem w1_at (c : Dev nD) (k : Fin 1024) (j : Fin 512) :
    (V m c main_v5 : S512x1024.Idx → EReal) (ix2 j k) = m ((c : Thread nD τ).loc main_arg1) (ix3 0 k ⟨j.val, by omega⟩) := by
  unfold V
  after_reads_at

theorem blk1 (c : Dev nD) (t : Fin cfg0.N) (k : Fin 1024) (j : Fin 512) :
    (iblk m c 1 t : S512x1024.Idx → EReal) (ix2 j k) = m ((c : Thread nD τ).loc main_arg1) (ix3 0 k ⟨j.val, by omega⟩) := by
  refine Eq.trans ?_ (w1_at m c k j)
  blk_ext [iblk, idx t]

theorem w2_at (c : Dev nD) (k : Fin 1024) (j : Fin 512) :
    (V m c main_v13 : S512x1024.Idx → EReal) (ix2 j k) = m ((c : Thread nD τ).loc main_arg1) (ix3 0 k ⟨1536 + j.val, by omega⟩) := by
  unfold V
  after_reads_at

theorem blk2 (c : Dev nD) (t : Fin cfg0.N) (k : Fin 1024) (j : Fin 512) :
    (iblk m c 2 t : S512x1024.Idx → EReal) (ix2 j k) = m ((c : Thread nD τ).loc main_arg1) (ix3 0 k ⟨1536 + j.val, by omega⟩) := by
  refine Eq.trans ?_ (w2_at m c k j)
  blk_ext [iblk, idx t]

theorem w3_at (c : Dev nD) (k : Fin 1024) (j : Fin 512) :
    (V m c main_v10 : S512x1024.Idx → EReal) (ix2 j k) = m ((c : Thread nD τ).loc main_arg1) (ix3 0 k ⟨1024 + j.val, by omega⟩) := by
  unfold V
  after_reads_at

theorem blk3 (c : Dev nD) (t : Fin cfg0.N) (k : Fin 1024) (j : Fin 512) :
    (iblk m c 3 t : S512x1024.Idx → EReal) (ix2 j k) = m ((c : Thread nD τ).loc main_arg1) (ix3 0 k ⟨1024 + j.val, by omega⟩) := by
  refine Eq.trans ?_ (w3_at m c k j)
  blk_ext [iblk, idx t]

theorem w4_at (c : Dev nD) (k : Fin 1024) (j : Fin 8) :
    (V m c main_v18 : S8x1024.Idx → EReal) (ix2 j k) = m ((c : Thread nD τ).loc main_arg1) (ix3 0 k ⟨2112 + j.val, by omega⟩) := by
  unfold V
  after_reads_at

theorem blk4 (c : Dev nD) (t : Fin cfg0.N) (k : Fin 1024) (j : Fin 8) :
    (iblk m c 4 t : S8x1024.Idx → EReal) (ix2 j k) = m ((c : Thread nD τ).loc main_arg1) (ix3 0 k ⟨2112 + j.val, by omega⟩) := by
  refine Eq.trans ?_ (w4_at m c k j)
  blk_ext [iblk, idx t]

theorem w5_at (c : Dev nD) (k : Fin 1024) (j : Fin 512) :
    (V m c main_v7 : S1024x512.Idx → EReal) (ix2 k j) = m ((c : Thread nD τ).loc main_arg1) (ix3 0 k ⟨512 + j.val, by omega⟩) := by
  unfold V
  after_reads_at

theorem blk5 (c : Dev nD) (t : Fin cfg0.N) (k : Fin 1024) (j : Fin 512) :
    (iblk m c 5 t : S1024x512.Idx → EReal) (ix2 k j) = m ((c : Thread nD τ).loc main_arg1) (ix3 0 k ⟨512 + j.val, by omega⟩) := by
  refine Eq.trans ?_ (w5_at m c k j)
  blk_ext [iblk, idx t]

theorem w6_at (c : Dev nD) (k : Fin 1024) (j : Fin 64) :
    (V m c main_v15 : S1024x64.Idx → EReal) (ix2 k j) = m ((c : Thread nD τ).loc main_arg1) (ix3 0 k ⟨2048 + j.val, by omega⟩) := by
  unfold V
  after_reads_at

theorem blk6 (c : Dev nD) (t : Fin cfg0.N) (k : Fin 1024) (j : Fin 64) :
    (iblk m c 6 t : S1024x64.Idx → EReal) (ix2 k j) = m ((c : Thread nD τ).loc main_arg1) (ix3 0 k ⟨2048 + j.val, by omega⟩) := by
  refine Eq.trans ?_ (w6_at m c k j)
  blk_ext [iblk, idx t]

theorem w7_at (c : Dev nD) (k : Fin 1024) (j : Fin 512) :
    (V m c main_v20 : S1024x512.Idx → EReal) (ix2 k j) = m ((c : Thread nD τ).loc main_arg1) (ix3 0 k ⟨2120 + j.val, by omega⟩) := by
  unfold V
  after_reads_at

theorem blk7 (c : Dev nD) (t : Fin cfg0.N) (k : Fin 1024) (j : Fin 512) :
    (iblk m c 7 t : S1024x512.Idx → EReal) (ix2 k j) = m ((c : Thread nD τ).loc main_arg1) (ix3 0 k ⟨2120 + j.val, by omega⟩) := by
  refine Eq.trans ?_ (w7_at m c k j)
  blk_ext [iblk, idx t]

theorem w8_at (c : Dev nD) (k : Fin 1024) (j : Fin 512) :
    (V m c main_v22 : S1024x512.Idx → EReal) (ix2 k j) = m ((c : Thread nD τ).loc main_arg1) (ix3 0 k ⟨2632 + j.val, by omega⟩) := by
  unfold V
  after_reads_at

theorem blk8 (c : Dev nD) (t : Fin cfg0.N) (k : Fin 1024) (j : Fin 512) :
    (iblk m c 8 t : S1024x512.Idx → EReal) (ix2 k j) = m ((c : Thread nD τ).loc main_arg1) (ix3 0 k ⟨2632 + j.val, by omega⟩) := by
  refine Eq.trans ?_ (w8_at m c k j)
  blk_ext [iblk, idx t]

def G9 (c : Dev nD) : S512x32768.Idx → EReal := fun i => ProjRow.qT (m ((c : Thread nD τ).loc main_arg0)) (m ((c : Thread nD τ).loc main_arg1)) (i 0) (i 1)

theorem arr9 (c : Dev nD) : (dats m 0 c).arrAt 9 cfg0.N = G9 m c := by
  refine (dats m 0 c).arrAt_eq_of_covers 9 _ (by decide +kernel) fun t hf y => ?_
  blk_simp
  rw [after0_9]
  have hy : (y : S512x512.Idx) = ix2 (n0 := 512) (n1 := 512) (y 0) (y 1) := by
    funext a; fin_cases a <;> rfl
  refine (congrArg _ hy).trans ((ProjBlock.out9_at _ _ _ _ _ _ _ _ _ (y 0) (y 1)).trans ?_)
  have h0 : ((win0_9.blk t).view.emb y 1).val = t.val * 512 + (y 1).val := by blk_simp [idx t]
  have h1 : ((win0_9.blk t).view.emb y 0) = y 0 := Fin.ext (by blk_simp [idx t])
  have ht : t.val * 512 + (y 1).val < 32768 := h0 ▸ ((win0_9.blk t).view.emb y 1).isLt
  unfold G9 ProjRow.qT ProjRow.hh
  simp only [h0, h1]
  exact congrArg (· * ProjRow.cq) (comm_sum (fun k => blk1 m c t k (y 0)) fun k => blk0 m c t (y 1) k ht)

def G10 (c : Dev nD) : S512x32768.Idx → EReal := fun i => ProjRow.qiT (m ((c : Thread nD τ).loc main_arg0)) (m ((c : Thread nD τ).loc main_arg1)) (i 0) (i 1)

theorem arr10 (c : Dev nD) : (dats m 0 c).arrAt 10 cfg0.N = G10 m c := by
  refine (dats m 0 c).arrAt_eq_of_covers 10 _ (by decide +kernel) fun t hf y => ?_
  blk_simp
  rw [after0_10]
  have hy : (y : S512x512.Idx) = ix2 (n0 := 512) (n1 := 512) (y 0) (y 1) := by
    funext a; fin_cases a <;> rfl
  refine (congrArg _ hy).trans ((ProjBlock.out10_at _ _ _ _ _ _ _ _ _ (y 0) (y 1)).trans ?_)
  have h0 : ((win0_10.blk t).view.emb y 1).val = t.val * 512 + (y 1).val := by blk_simp [idx t]
  have h1 : ((win0_10.blk t).view.emb y 0) = y 0 := Fin.ext (by blk_simp [idx t])
  have ht : t.val * 512 + (y 1).val < 32768 := h0 ▸ ((win0_10.blk t).view.emb y 1).isLt
  unfold G10 ProjRow.qiT ProjRow.hh
  simp only [h0, h1]
  exact comm_sum (fun k => blk2 m c t k (y 0)) fun k => blk0 m c t (y 1) k ht

def G11 (c : Dev nD) : S64x640x512.Idx → EReal := fun i => ProjRow.vT (m ((c : Thread nD τ).loc main_arg0)) (m ((c : Thread nD τ).loc main_arg1)) (i 0) (i 1) (i 2)

theorem arr11 (c : Dev nD) : (dats m 0 c).arrAt 11 cfg0.N = G11 m c := by
  refine (dats m 0 c).arrAt_eq_of_covers 11 _ (by decide +kernel) fun t hf y => ?_
  blk_simp
  rw [after0_11]
  have hy : (y : S1x640x512.Idx) = ix3 (n0 := 1) (n1 := 640) (n2 := 512) 0 (y 1) (y 2) := by
    funext a
    match a with
    | ⟨0, _⟩ => exact Subsingleton.elim (α := Fin 1) _ _
    | ⟨1, _⟩ => rfl
    | ⟨2, _⟩ => rfl
  refine (congrArg _ hy).trans ((ProjBlock.out11_at _ _ _ _ _ _ _ _ _ (y 1) (y 2)).trans ?_)
  have y0 : (y 0).val = 0 := congrArg Fin.val (Subsingleton.elim (α := Fin 1) (y 0) 0)
  have h0 : ((win0_11.blk t).view.emb y 0).val = t.val := by blk_simp [idx t]
  have h1 : ((win0_11.blk t).view.emb y 1) = y 1 := Fin.ext (by blk_simp [idx t])
  have h2 : ((win0_11.blk t).view.emb y 2) = y 2 := Fin.ext (by blk_simp [idx t])
  have y2 : (y 2).val < 512 := (y 2).isLt
  have ht : t.val * 512 + (y 2).val < 32768 := by
    have : t.val < 64 := t.isLt
    omega
  unfold G11 ProjRow.vT ProjRow.hh
  simp only [h0, h1, h2]
  split
  · exact comm_sum (fun k => blk3 m c t k _) fun k => blk0 m c t (y 2) k ht
  · rfl

def G12 (c : Dev nD) : S8x32768.Idx → EReal := fun i => ProjRow.wT (m ((c : Thread nD τ).loc main_arg0)) (m ((c : Thread nD τ).loc main_arg1)) (i 0) (i 1)

theorem arr12 (c : Dev nD) : (dats m 0 c).arrAt 12 cfg0.N = G12 m c := by
  refine (dats m 0 c).arrAt_eq_of_covers 12 _ (by decide +kernel) fun t hf y => ?_
  blk_simp
  rw [after0_12]
  have hy : (y : S8x512.Idx) = ix2 (n0 := 8) (n1 := 512) (y 0) (y 1) := by
    funext a; fin_cases a <;> rfl
  refine (congrArg _ hy).trans ((ProjBlock.out12_at _ _ _ _ _ _ _ _ _ (y 0) (y 1)).trans ?_)
  have h0 : ((win0_12.blk t).view.emb y 1).val = t.val * 512 + (y 1).val := by blk_simp [idx t]
  have h1 : ((win0_12.blk t).view.emb y 0) = y 0 := Fin.ext (by blk_simp [idx t])
  have ht : t.val * 512 + (y 1).val < 32768 := h0 ▸ ((win0_12.blk t).view.emb y 1).isLt
  unfold G12 ProjRow.wT ProjRow.hh
  simp only [h0, h1]
  exact congrArg (· * ProjRow.cw) (comm_sum (fun k => blk4 m c t k (y 0)) fun k => blk0 m c t (y 1) k ht)

def G13 (c : Dev nD) : S32768x512.Idx → EReal := fun i => ProjRow.kk (m ((c : Thread nD τ).loc main_arg0)) (m ((c : Thread nD τ).loc main_arg1)) (i 0) (i 1)

theorem arr13 (c : Dev nD) : (dats m 0 c).arrAt 13 cfg0.N = G13 m c := by
  refine (dats m 0 c).arrAt_eq_of_covers 13 _ (by decide +kernel) fun t hf y => ?_
  blk_simp
  rw [after0_13]
  have hy : (y : S512x512.Idx) = ix2 (n0 := 512) (n1 := 512) (y 0) (y 1) := by
    funext a; fin_cases a <;> rfl
  refine (congrArg _ hy).trans ((ProjBlock.out13_at _ _ _ _ _ _ _ _ _ (y 0) (y 1)).trans ?_)
  have h0 : ((win0_13.blk t).view.emb y 0).val = t.val * 512 + (y 0).val := by blk_simp [idx t]
  have h1 : ((win0_13.blk t).view.emb y 1) = y 1 := Fin.ext (by blk_simp [idx t])
  have ht : t.val * 512 + (y 0).val < 32768 := h0 ▸ ((win0_13.blk t).view.emb y 0).isLt
  unfold G13 ProjRow.kk ProjRow.hh
  simp only [h0, h1]
  exact same_sum (fun k => blk0 m c t (y 0) k ht) fun k => blk5 m c t k (y 1)

def G14 (c : Dev nD) : S32768x64.Idx → EReal := fun i => ProjRow.ki (m ((c : Thread nD τ).loc main_arg0)) (m ((c : Thread nD τ).loc main_arg1)) (i 0) (i 1)

theorem arr14 (c : Dev nD) : (dats m 0 c).arrAt 14 cfg0.N = G14 m c := by
  refine (dats m 0 c).arrAt_eq_of_covers 14 _ (by decide +kernel) fun t hf y => ?_
  blk_simp
  rw [after0_14]
  have hy : (y : S512x64.Idx) = ix2 (n0 := 512) (n1 := 64) (y 0) (y 1) := by
    funext a; fin_cases a <;> rfl
  refine (congrArg _ hy).trans ((ProjBlock.out14_at _ _ _ _ _ _ _ _ _ (y 0) (y 1)).trans ?_)
  have h0 : ((win0_14.blk t).view.emb y 0).val = t.val * 512 + (y 0).val := by blk_simp [idx t]
  have h1 : ((win0_14.blk t).view.emb y 1) = y 1 := Fin.ext (by blk_simp [idx t])
  have ht : t.val * 512 + (y 0).val < 32768 := h0 ▸ ((win0_14.blk t).view.emb y 0).isLt
  unfold G14 ProjRow.ki ProjRow.hh
  simp only [h0, h1]
  exact same_sum (fun k => blk0 m c t (y 0) k ht) fun k => blk6 m c t k (y 1)

def G15 (c : Dev nD) : S32768x512.Idx → EReal := fun i => ProjRow.uu (m ((c : Thread nD τ).loc main_arg0)) (m ((c : Thread nD τ).loc main_arg1)) (i 0) (i 1)

theorem arr15 (c : Dev nD) : (dats m 0 c).arrAt 15 cfg0.N = G15 m c := by
  refine (dats m 0 c).arrAt_eq_of_covers 15 _ (by decide +kernel) fun t hf y => ?_
  blk_simp
  rw [after0_15]
  have hy : (y : S512x512.Idx) = ix2 (n0 := 512) (n1 := 512) (y 0) (y 1) := by
    funext a; fin_cases a <;> rfl
  refine (congrArg _ hy).trans ((ProjBlock.out15_at _ _ _ _ _ _ _ _ _ (y 0) (y 1)).trans ?_)
  have h0 : ((win0_15.blk t).view.emb y 0).val = t.val * 512 + (y 0).val := by blk_simp [idx t]
  have h1 : ((win0_15.blk t).view.emb y 1) = y 1 := Fin.ext (by blk_simp [idx t])
  have ht : t.val * 512 + (y 0).val < 32768 := h0 ▸ ((win0_15.blk t).view.emb y 0).isLt
  unfold G15 ProjRow.uu ProjRow.hh
  simp only [h0, h1]
  exact congrArg₂ (fun a b => a * Ideal.logistic b)
    (same_sum (fun k => blk0 m c t (y 0) k ht) fun k => blk7 m c t k (y 1))
    (same_sum (fun k => blk0 m c t (y 0) k ht) fun k => blk8 m c t k (y 1))

end Cert.ProjArr

end
-- ==== Proof.Proj.Ref.lean ====
/- The reference's seven arrays at an index. -/
module

public import proofs.«01_k».proof.Proof.Proj.Block
public import proofs.«01_k».proof.Proof.Gen.ProjRefIdeal.Run
public import Idealize.ShloMosaic.Lib.Tactic.CleanTypes

@[expose] public section

set_option maxRecDepth 16384

noncomputable section

namespace Cert.ProjRefAt

open Cert.ProjRefIdeal Cert.ProjRefIdeal.Gen Idealize.ShloMosaic Idealize.ShloMosaic.TcCoe Idealize.SL.Sem

variable (x : FVec Ideal S8x4096x1024 .f32) (w : FVec Ideal S4x1024x3144 .f32)

theorem qT_at (a : Fin 512) (b : Fin 32768) :
    (truncf .bf16 (transpose S512x32768 [1, 0] (mulf (extractStridedSlice S32768x512 ![0, 0] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_0) (broadcastInDim S32768x512 ![] bcast_S_S32768x512 (constant S_ .f32 0x3E38AA3B#32))) transposes_S32768x512_S512x32768_1_0) bitsLt_bf16_f32 : FVec Ideal S512x32768 .bf16) (ix2 a b) = ProjRow.qT x w a b := by
  unfold ProjRow.qT
  pointwise [Host.logistic]
  rfl

theorem qiT_at (a : Fin 512) (b : Fin 32768) :
    (truncf .bf16 (transpose S512x32768 [1, 0] (extractStridedSlice S32768x512 ![0, 1536] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_1536) transposes_S32768x512_S512x32768_1_0) bitsLt_bf16_f32 : FVec Ideal S512x32768 .bf16) (ix2 a b) = ProjRow.qiT x w a b := by
  unfold ProjRow.qiT
  pointwise [Host.logistic]
  rfl

theorem vT_at (a : Fin 64) (b : Fin 640) (d : Fin 512) :
    (truncf .bf16 (shapeCast _ ((concatenate S64x8x80x512 2 [⟨S64x8x64x512, ((transpose S64x8x64x512 [0, 2, 3, 1] (shapeCast _ (extractStridedSlice S32768x512 ![0, 1024] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_1024) shapeCasts_S32768x512_S64x512x8x64) transposes_S64x512x8x64_S64x8x64x512_0_2_3_1) : (⟨S64x8x64x512, .f32⟩ : BufTy).Contents (Elt Ideal))⟩, ⟨S64x8x1x512, ((broadcastInDim S64x8x1x512 ![] bcast_S_S64x8x1x512 (constant (F := Ideal) S_ .f32 0x3F800000#32)) : (⟨S64x8x1x512, .f32⟩ : BufTy).Contents (Elt Ideal))⟩, ⟨S64x8x15x512, ((broadcastInDim (s := S_) S64x8x15x512 ![] bcast_S_S64x8x15x512 (constant (F := Ideal) S_ .f32 0x00000000#32)) : (⟨S64x8x15x512, .f32⟩ : BufTy).Contents (Elt Ideal))⟩] concatenates_S64x8x64x512_S64x8x1x512_S64x8x15x512_S64x8x80x512_d2 : (⟨S64x8x80x512, .f32⟩ : BufTy).Contents (Elt Ideal))) shapeCasts_S64x8x80x512_S64x640x512) bitsLt_bf16_f32 : FVec Ideal S64x640x512 .bf16) (ix3 a b d) = ProjRow.vT x w a b d := by
  unfold ProjRow.vT
  pointwise [Host.logistic]
  by_cases h : b.val % 80 < 64
  · rw [dif_pos h, if_pos h]
    refine Finset.sum_congr rfl fun k _ => ?_
    congr 2
    have hb := b.isLt
    exact congrArg (ix3 0 k) (Fin.ext (by show 1024 + (b.val / 80 * 64 + b.val % 80) = 1024 + (b.val / 80 * 64 + b.val % 80) % 512; omega))
  · rw [dif_neg h, if_neg h]
    have e : (b.val % 80 - 64 < 1) ↔ (b.val % 80 = 64) := by omega
    simp only [e, dite_eq_ite]

theorem wT_at (a : Fin 8) (b : Fin 32768) :
    (transpose S8x32768 [1, 0] (mulf (extractStridedSlice S32768x8 ![0, 2112] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x8_0_2112) (broadcastInDim S32768x8 ![] bcast_S_S32768x8 (constant S_ .f32 0x3D3504F3#32))) transposes_S32768x8_S8x32768_1_0 : FVec Ideal S8x32768 .f32) (ix2 a b) = ProjRow.wT x w a b := by
  unfold ProjRow.wT
  pointwise [Host.logistic]
  rfl

theorem kk_at (a : Fin 32768) (b : Fin 512) :
    (truncf .bf16 (extractStridedSlice S32768x512 ![0, 512] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_512) bitsLt_bf16_f32 : FVec Ideal S32768x512 .bf16) (ix2 a b) = ProjRow.kk x w a b := by
  unfold ProjRow.kk
  pointwise [Host.logistic]
  rfl

theorem ki_at (a : Fin 32768) (b : Fin 64) :
    (truncf .bf16 (extractStridedSlice S32768x64 ![0, 2048] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x64_0_2048) bitsLt_bf16_f32 : FVec Ideal S32768x64 .bf16) (ix2 a b) = ProjRow.ki x w a b := by
  unfold ProjRow.ki
  pointwise [Host.logistic]
  rfl

theorem uu_at (a : Fin 32768) (b : Fin 512) :
    (mulf (extractStridedSlice S32768x512 ![0, 2120] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_2120) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 2632] (Host.dotGeneral dot_S32768x1024_S1024x3144_S32768x3144_1_0_0_1_n_n none (shapeCast _ x shapeCasts_S8x4096x1024_S32768x1024) (shapeCast _ (extractStridedSlice S1x1024x3144 ![0, 0, 0] w slices_S4x1024x3144_S1x1024x3144_0_0_0) shapeCasts_S1x1024x3144_S1024x3144)) slices_S32768x3144_S32768x512_0_2632))))) : FVec Ideal S32768x512 .f32) (ix2 a b) = ProjRow.uu x w a b := by
  unfold ProjRow.uu
  pointwise [Host.logistic]
  rfl

end Cert.ProjRefAt

end
-- ==== Proof.Proj.Claims.lean ====
/- The input projection's claims: its frames, and at the ideal instance the kernel's seven arrays equal to the reference's. -/
module

public import proofs.«01_k».proof.Defs
public import proofs.«01_k».proof.Proof.Proj.Arr
public import proofs.«01_k».proof.Proof.Proj.Ref
public import proofs.«01_k».proof.Proof.Gen.Proj.Frame
public import Idealize.ShloMosaic.Lib.Quiescent

@[expose] public section

set_option maxRecDepth 16384

noncomputable section

namespace Cert.ProjClaims

open Idealize.ShloMosaic Idealize.ShloMosaic.TcCoe Idealize.SL.Sem

theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2,
      Idealize.ShloMosaic.sem_eq_zero_of_no_sems (by decide) r.2⟩)
    (Cert.ProjRefIdeal.Value.run (F := Ideal) m ρ)

theorem algebraic : Cert.algebraic_ProjIdeal_ProjRefIdeal (hProjIdeal := Cert.ProjIdeal.Gen.facts) (hProjRefIdeal := Cert.ProjRefIdeal.Gen.facts) := by
  intro m g m' g' _ hagree
  refine ⟨fun c => Cert.ProjArr.G9 m c, fun c => Cert.ProjArr.G10 m c, fun c => Cert.ProjArr.G11 m c, fun c => Cert.ProjArr.G12 m c, fun c => Cert.ProjArr.G13 m c, fun c => Cert.ProjArr.G14 m c, fun c => Cert.ProjArr.G15 m c, ?_, ?_⟩
  · exact (θ_run Cert.ProjIdeal.defs _ _).mono (fun _ h c => ⟨(h c).1.trans (Cert.ProjArr.arr9 m c), (h c).2.1.trans (Cert.ProjArr.arr10 m c), (h c).2.2.1.trans (Cert.ProjArr.arr11 m c), (h c).2.2.2.1.trans (Cert.ProjArr.arr12 m c), (h c).2.2.2.2.1.trans (Cert.ProjArr.arr13 m c), (h c).2.2.2.2.2.1.trans (Cert.ProjArr.arr14 m c), (h c).2.2.2.2.2.2.1.trans (Cert.ProjArr.arr15 m c), (h c).2.2.2.2.2.2.2⟩)
      (Cert.ProjIdeal.Value.run_blocks m g)
  · refine (θ_run Cert.ProjRefIdeal.defs _ _).mono (fun _ h c => ?_) (Cert.ProjRefIdeal.Value.run (F := Ideal) m' g')
    obtain ⟨h0, h1⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · funext i
      have hi : (i : Cert.ProjIdeal.S512x32768.Idx) = ix2 (n0 := 512) (n1 := 32768) (i 0) (i 1) := by
        funext a; fin_cases a <;> rfl
      refine (congrArg _ hi).trans ((Cert.ProjRefAt.qT_at _ _ (i 0) (i 1)).trans ?_)
      exact congrArg₂ (fun (p : (⟨3, ![8, 4096, 1024]⟩ : Shape).Idx → EReal) (q : (⟨3, ![4, 1024, 3144]⟩ : Shape).Idx → EReal) => Cert.ProjRow.qT p q (i 0) (i 1)) h0 h1
    · funext i
      have hi : (i : Cert.ProjIdeal.S512x32768.Idx) = ix2 (n0 := 512) (n1 := 32768) (i 0) (i 1) := by
        funext a; fin_cases a <;> rfl
      refine (congrArg _ hi).trans ((Cert.ProjRefAt.qiT_at _ _ (i 0) (i 1)).trans ?_)
      exact congrArg₂ (fun (p : (⟨3, ![8, 4096, 1024]⟩ : Shape).Idx → EReal) (q : (⟨3, ![4, 1024, 3144]⟩ : Shape).Idx → EReal) => Cert.ProjRow.qiT p q (i 0) (i 1)) h0 h1
    · funext i
      have hi : (i : Cert.ProjIdeal.S64x640x512.Idx) = ix3 (n0 := 64) (n1 := 640) (n2 := 512) (i 0) (i 1) (i 2) := by
        funext a; fin_cases a <;> rfl
      refine (congrArg _ hi).trans ((Cert.ProjRefAt.vT_at _ _ (i 0) (i 1) (i 2)).trans ?_)
      exact congrArg₂ (fun (p : (⟨3, ![8, 4096, 1024]⟩ : Shape).Idx → EReal) (q : (⟨3, ![4, 1024, 3144]⟩ : Shape).Idx → EReal) => Cert.ProjRow.vT p q (i 0) (i 1) (i 2)) h0 h1
    · funext i
      have hi : (i : Cert.ProjIdeal.S8x32768.Idx) = ix2 (n0 := 8) (n1 := 32768) (i 0) (i 1) := by
        funext a; fin_cases a <;> rfl
      refine (congrArg _ hi).trans ((Cert.ProjRefAt.wT_at _ _ (i 0) (i 1)).trans ?_)
      exact congrArg₂ (fun (p : (⟨3, ![8, 4096, 1024]⟩ : Shape).Idx → EReal) (q : (⟨3, ![4, 1024, 3144]⟩ : Shape).Idx → EReal) => Cert.ProjRow.wT p q (i 0) (i 1)) h0 h1
    · funext i
      have hi : (i : Cert.ProjIdeal.S32768x512.Idx) = ix2 (n0 := 32768) (n1 := 512) (i 0) (i 1) := by
        funext a; fin_cases a <;> rfl
      refine (congrArg _ hi).trans ((Cert.ProjRefAt.kk_at _ _ (i 0) (i 1)).trans ?_)
      exact congrArg₂ (fun (p : (⟨3, ![8, 4096, 1024]⟩ : Shape).Idx → EReal) (q : (⟨3, ![4, 1024, 3144]⟩ : Shape).Idx → EReal) => Cert.ProjRow.kk p q (i 0) (i 1)) h0 h1
    · funext i
      have hi : (i : Cert.ProjIdeal.S32768x64.Idx) = ix2 (n0 := 32768) (n1 := 64) (i 0) (i 1) := by
        funext a; fin_cases a <;> rfl
      refine (congrArg _ hi).trans ((Cert.ProjRefAt.ki_at _ _ (i 0) (i 1)).trans ?_)
      exact congrArg₂ (fun (p : (⟨3, ![8, 4096, 1024]⟩ : Shape).Idx → EReal) (q : (⟨3, ![4, 1024, 3144]⟩ : Shape).Idx → EReal) => Cert.ProjRow.ki p q (i 0) (i 1)) h0 h1
    · funext i
      have hi : (i : Cert.ProjIdeal.S32768x512.Idx) = ix2 (n0 := 32768) (n1 := 512) (i 0) (i 1) := by
        funext a; fin_cases a <;> rfl
      refine (congrArg _ hi).trans ((Cert.ProjRefAt.uu_at _ _ (i 0) (i 1)).trans ?_)
      exact congrArg₂ (fun (p : (⟨3, ![8, 4096, 1024]⟩ : Shape).Idx → EReal) (q : (⟨3, ![4, 1024, 3144]⟩ : Shape).Idx → EReal) => Cert.ProjRow.uu p q (i 0) (i 1)) h0 h1

end Cert.ProjClaims

end
-- ==== Proof.Combine.CombineIdealIssue.lean ====
/- The combine kernel at the ideal values: the rows it copies, one transfer for each slot, and the loop that issues them. -/
module

public import proofs.«01_k».proof.Proof.Gen.CombineIdeal.Launch
public import proofs.«01_k».proof.Proof.Gen.CombineIdeal.Points
public import Idealize.ShloMosaic.Lib.Batch
public import Idealize.ShloMosaic.Lib.Pipeline.Frame
public import Idealize.ShloMosaic.Lib.Pipeline.FrameBody
public import Idealize.ShloMosaic.Lib.Ring
public import Idealize.ShloMosaic.Lib.Tactic

@[expose] public section

set_option maxRecDepth 16384

noncomputable section

namespace Cert.CombineIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CombineIdeal Cert.CombineIdeal.Gen

variable {F : FTy → Type} [FloatOps F]

local notation "𝕄" => MT nD τ sig Unit (Elt F) ℕ (Pipeline.UD sig nD τ) ℕ

/-! ## The rows -/

/-- The number of trips of either loop. -/
abbrev T : ℕ := k0_t1_loop.trips

/-- The buffer the slots of a block are staged in. -/
abbrev Slots : Type := Memref sig .tc .smem S1x1x1024 .i32
abbrev SlotsBuf (a : Slots) : Type := BufTy.Contents (Elt F) a.view.ty

/-- The first and the second slot of row `k`, as the issue loop reads them. -/
def slotA (a : Slots) (f : SlotsBuf (F := F) a) (k : Fin T) : BitVec 32 :=
  View.readAt (Elt F) a.view (Rect.unit (s := S1x1x1024) (k0_off1 k) S1x1x1.size (k0_off1_inb k)).toLoadRect f (Shape.Idx.first (show 0 < S1x1x1.numel by decide))
def slotB (a : Slots) (f : SlotsBuf (F := F) a) (k : Fin T) : BitVec 32 :=
  View.readAt (Elt F) a.view (Rect.unit (s := S1x1x1024) (k0_off4 k) S1x1x1.size (k0_off4_inb k)).toLoadRect f (Shape.Idx.first (show 0 < S1x1x1.numel by decide))

/-- Row `k` of the first and of the second half of the scratch. -/
def dstA (k : Fin T) : Memref sig .tc .vmem S1x1024 .f32 :=
  ((Memref.whole cc0_scratch0).slice (Rect.unit (s := S2x512x1024) (k0_off2 k) S1x1x1024.size (k0_off2_inb k)) (fun _ => rfl)).squeeze S1x1024 squeezes_S1x1x1024_S1x1024
def dstB (k : Fin T) : Memref sig .tc .vmem S1x1024 .f32 :=
  ((Memref.whole cc0_scratch0).slice (Rect.unit (s := S2x512x1024) (k0_off5 k) S1x1x1024.size (k0_off5_inb k)) (fun _ => rfl)).squeeze S1x1024 squeezes_S1x1x1024_S1x1024

/-- Row `v` of the experts' outputs. -/
def srcA (v : BitVec 32) (h : k0_chk1 v) : Memref sig .tc .hbm S1x1024 .f32 :=
  (Memref.whole main_arg3).slice (Rect.unit (s := S67584x1024) (k0_off3 v) S1x1024.size (k0_off3_inb v h)) (fun _ => rfl)
def srcB (v : BitVec 32) (h : k0_chk2 v) : Memref sig .tc .hbm S1x1024 .f32 :=
  (Memref.whole main_arg3).slice (Rect.unit (s := S67584x1024) (k0_off6 v) S1x1024.size (k0_off6_inb v h)) (fun _ => rfl)

abbrev Ys (c : Dev nD) : Type := Buf (Elt F) ((Memref.whole main_arg3 : Memref sig .tc .hbm S67584x1024 .f32).view.loc (c : Thread nD τ))

section Names

variable (c : Dev nD) (a : Slots) (f : SlotsBuf (F := F) a)
  (hA : ∀ k : Fin T, k0_chk1 (slotA a f k)) (hB : ∀ k : Fin T, k0_chk2 (slotB a f k)) (ys : Ys (F := F) c)

/-- The slots of the block, held. -/
abbrev slotsHeld : sProp 𝕄 := a.view.loc (c : Thread nD τ) ↦[a.view.set]{fullShare} f

/-- A row of the scratch, at some contents. -/
abbrev rowA (k : Fin T) : sProp 𝕄 := iprop(∃ g, (dstA k).view.loc (c : Thread nD τ) ↦[(dstA k).view.set]{fullShare} g)
abbrev rowB (k : Fin T) : sProp 𝕄 := iprop(∃ g, (dstB k).view.loc (c : Thread nD τ) ↦[(dstB k).view.set]{fullShare} g)

/-- A row of the scratch, holding the row its slot names. -/
abbrev landA (k : Fin T) : sProp 𝕄 := (dstA k).view.loc (c : Thread nD τ) ↦[(dstA k).view.set]{fullShare}
  ((dstA k).view.writes (Elt F) (dstA k).view.junk [⟨Rect.whole S1x1024, ReadAs.same.apply ((srcA (slotA a f k) (hA k)).view.read (Elt F) ys)⟩])
abbrev landB (k : Fin T) : sProp 𝕄 := (dstB k).view.loc (c : Thread nD τ) ↦[(dstB k).view.set]{fullShare}
  ((dstB k).view.writes (Elt F) (dstB k).view.junk [⟨Rect.whole S1x1024, ReadAs.same.apply ((srcB (slotB a f k) (hB k)).view.read (Elt F) ys)⟩])

/-- The row a slot names, under the read token of its transfer. -/
abbrev lendA (k : Fin T) : sProp 𝕄 := (srcA (slotA a f k) (hA k)).view.loc (c : Thread nD τ)
  ↦[(srcA (slotA a f k) (hA k)).view.set]{Transfers.shareTokN fullShare (2 * k.val)} ys
abbrev lendB (k : Fin T) : sProp 𝕄 := (srcB (slotB a f k) (hB k)).view.loc (c : Thread nD τ)
  ↦[(srcB (slotB a f k) (hB k)).view.set]{Transfers.shareTokN fullShare (2 * k.val + 1)} ys

/-- One row's credit on the semaphore. -/
abbrev NN : ℕ := 128

/-- What the transfers deliver, by number. -/
abbrev delA (i : ℕ) : sProp 𝕄 := if h : i < T then iprop(landA c a f hA ys ⟨i, h⟩ ∗ lendA c a f hA ys ⟨i, h⟩) else iprop(emp)
abbrev delB (i : ℕ) : sProp 𝕄 := if h : i < T then iprop(landB c a f hB ys ⟨i, h⟩ ∗ lendB c a f hB ys ⟨i, h⟩) else iprop(emp)
abbrev del : Fin (2 * T) → sProp 𝕄 := Ring.interleaved T (delA c a f hA ys) (delB c a f hB ys)

instance landA_storable (k : Fin T) : BI.Storable (upEmb : UEmb _ 𝕄) (landA c a f hA ys k) := by unfold landA; infer_instance
instance landB_storable (k : Fin T) : BI.Storable (upEmb : UEmb _ 𝕄) (landB c a f hB ys k) := by unfold landB; infer_instance
theorem pts_storable {ℓ : Loc nD τ sig} (I) (q : PosShare TreeShare) (g : Buf (Elt F) ℓ) : BI.Storable (upEmb : UEmb _ 𝕄) (ℓ ↦[I]{q} g) := inferInstance
instance lendA_storable (k : Fin T) : BI.Storable (upEmb : UEmb _ 𝕄) (lendA c a f hA ys k) := pts_storable ..
instance lendB_storable (k : Fin T) : BI.Storable (upEmb : UEmb _ 𝕄) (lendB c a f hB ys k) := pts_storable ..
theorem sep_storable (P Q : sProp 𝕄) (_ : BI.Storable (upEmb : UEmb _ 𝕄) P) (_ : BI.Storable (upEmb : UEmb _ 𝕄) Q) :
    BI.Storable (upEmb : UEmb _ 𝕄) iprop(P ∗ Q) := inferInstance
instance delA_storable (i : ℕ) : BI.Storable (upEmb : UEmb _ 𝕄) (delA c a f hA ys i) := by
  unfold delA; split
  · exact sep_storable _ _ (landA_storable ..) (lendA_storable ..)
  · infer_instance
instance delB_storable (i : ℕ) : BI.Storable (upEmb : UEmb _ 𝕄) (delB c a f hB ys i) := by
  unfold delB; split
  · exact sep_storable _ _ (landB_storable ..) (lendB_storable ..)
  · infer_instance

/-- The transfers on the semaphore: `j` of them issued, `u` units waited for. -/
abbrev batch (j u : ℕ) : sProp 𝕄 :=
  Transfers.Batch (countersEmb (U := Pipeline.UD sig nD τ)) (c : Thread nD τ) (.dma cc0_scratch1.sem) () NN (del c a f hA hB ys) j u

end Names

/-! ## The issue loop -/

section Issue

variable (c : Dev nD) (a : Slots) (f : SlotsBuf (F := F) a)
  (hA : ∀ k : Fin T, k0_chk1 (slotA a f k)) (hB : ∀ k : Fin T, k0_chk2 (slotB a f k)) (ys : Ys (F := F) c)

/-- Before trip `k`: the rows and the read tokens from `k` on are still in hand. -/
def issueAt (k : ℕ) (_ : PUnit) : sProp 𝕄 :=
  iprop(slotsHeld c a f ∗ batch c a f hA hB ys (2 * k) 0 ∗ bigSep (Ring.rangeSet T k T) (rowA c) ∗ bigSep (Ring.rangeSet T k T) (rowB c)
    ∗ bigSep (Ring.rangeSet T k T) (lendA c a f hA ys) ∗ bigSep (Ring.rangeSet T k T) (lendB c a f hB ys))

/-- The body of the loop. -/
abbrev issueBody (k0_t1 : Fin T) (_ : PUnit) : Prog (TpuEff nD τ sig (Elt F) Λ₀ .tc) PUnit := do
  let v45 : Elt F .i32 ← smemLoad a (Rect.unit (s := S1x1x1024) (k0_off1 k0_t1) S1x1x1.size (k0_off1_inb k0_t1)) numel1_S1x1x1 rfl
  have k0_hw1 : k0_chk1 v45 := (← Prog.lift (TpuEff.assume (k0_chk1 v45) (k0_chk1.dec v45))).down
  let v46 : Memref sig .tc .vmem S1x1x1024 .f32 := (Memref.whole cc0_scratch0).slice (Rect.unit (s := S2x512x1024) (k0_off2 k0_t1) S1x1x1024.size (k0_off2_inb k0_t1)) (fun _ => rfl)
  let v47 : Memref sig .tc .vmem S1x1024 .f32 := v46.squeeze S1x1024 squeezes_S1x1x1024_S1x1024
  let v48 : Memref sig .tc .hbm S1x1024 .f32 := (Memref.whole main_arg3).slice (Rect.unit (s := S67584x1024) (k0_off3 v45) S1x1024.size (k0_off3_inb v45 k0_hw1)) (fun _ => rfl)
  Prog.lift (.enqueueDma v48 (.here v47) (.dma cc0_scratch1.sem) (View.wordExact_bits rfl) ((View.wordExact_bits rfl).reshape _ _) ⟨Or.inl rfl, trivial⟩)
  let v51 : Elt F .i32 ← smemLoad a (Rect.unit (s := S1x1x1024) (k0_off4 k0_t1) S1x1x1.size (k0_off4_inb k0_t1)) numel1_S1x1x1 rfl
  have k0_hw2 : k0_chk2 v51 := (← Prog.lift (TpuEff.assume (k0_chk2 v51) (k0_chk2.dec v51))).down
  let v52 : Memref sig .tc .vmem S1x1x1024 .f32 := (Memref.whole cc0_scratch0).slice (Rect.unit (s := S2x512x1024) (k0_off5 k0_t1) S1x1x1024.size (k0_off5_inb k0_t1)) (fun _ => rfl)
  let v53 : Memref sig .tc .vmem S1x1024 .f32 := v52.squeeze S1x1024 squeezes_S1x1x1024_S1x1024
  let v54 : Memref sig .tc .hbm S1x1024 .f32 := (Memref.whole main_arg3).slice (Rect.unit (s := S67584x1024) (k0_off6 v51) S1x1024.size (k0_off6_inb v51 k0_hw2)) (fun _ => rfl)
  Prog.lift (.enqueueDma v54 (.here v53) (.dma cc0_scratch1.sem) (View.wordExact_bits rfl) ((View.wordExact_bits rfl).reshape _ _) ⟨Or.inl rfl, trivial⟩)
  pure ⟨⟩

theorem issue_step (k : Fin T) (acc : PUnit) :
    issueAt c a f hA hB ys k acc ⊢ wp frame (wpE (defs₀ (F := F)) Variants.none (c : Thread nD τ) none) Set.univ (issueBody a k acc)
      (issueAt c a f hA hB ys (k.val + 1)) := by
  have hk := k.isLt
  have h1 := hA k
  have h2 := hB k
  unfold issueAt
  rw [Ring.bigSep_rangeSet_head (Φ := rowA c) (by omega) (by omega), Ring.bigSep_rangeSet_head (Φ := rowB c) (by omega) (by omega),
    Ring.bigSep_rangeSet_head (Φ := lendA c a f hA ys) (by omega) (by omega),
    Ring.bigSep_rangeSet_head (Φ := lendB c a f hB ys) (by omega) (by omega),
    show 2 * (k.val + 1) = 2 * k.val + 1 + 1 by omega]
  unfold rowA rowB
  iintro ⟨HS, HB, ⟨⟨%ga, HA⟩, HAs⟩, ⟨⟨%gb, HR⟩, HRs⟩, ⟨HLA, HLAs⟩, HLB, HLBs⟩
  dsimp only [issueBody]
  sl_exec
  sl_step
  isplitl [HS]; · iexact HS
  isplitl [HB]; · iexact HB
  isplitl [HAs]; · iexact HAs
  isplitl [HRs]; · iexact HRs
  isplitl [HLAs]; · iexact HLAs
  iexact HLBs

end Issue

end Cert.CombineIdealRun
-- ==== Proof.Combine.CombineIdealDrain.lean ====
/- The combine kernel at the ideal values: the loop that waits for the rows, and what the transfers hand back. -/
module

public import proofs.«01_k».proof.Proof.Combine.CombineIdealIssue

@[expose] public section

set_option maxRecDepth 16384

noncomputable section

namespace Cert.CombineIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CombineIdeal Cert.CombineIdeal.Gen

variable {F : FTy → Type} [FloatOps F]

local notation "𝕄" => MT nD τ sig Unit (Elt F) ℕ (Pipeline.UD sig nD τ) ℕ

/-- The slots of row `k`, as the drain loop reads them. -/
def slotC (a : Slots) (f : SlotsBuf (F := F) a) (k : Fin k0_t2_loop.trips) : BitVec 32 :=
  View.readAt (Elt F) a.view (Rect.unit (s := S1x1x1024) (k0_off7 k) S1x1x1.size (k0_off7_inb k)).toLoadRect f (Shape.Idx.first (show 0 < S1x1x1.numel by decide))
def slotD (a : Slots) (f : SlotsBuf (F := F) a) (k : Fin k0_t2_loop.trips) : BitVec 32 :=
  View.readAt (Elt F) a.view (Rect.unit (s := S1x1x1024) (k0_off10 k) S1x1x1.size (k0_off10_inb k)).toLoadRect f (Shape.Idx.first (show 0 < S1x1x1.numel by decide))

theorem trips_eq : k0_t2_loop.trips = T := rfl

section Drain

variable (c : Dev nD) (a : Slots) (f : SlotsBuf (F := F) a)
  (hA : ∀ k : Fin T, k0_chk1 (slotA a f k)) (hB : ∀ k : Fin T, k0_chk2 (slotB a f k)) (ys : Ys (F := F) c)
  (hC : ∀ k : Fin k0_t2_loop.trips, k0_chk3 (slotC a f k)) (hD : ∀ k : Fin k0_t2_loop.trips, k0_chk4 (slotD a f k))

/-- Before trip `k` of the drain loop: the waits so far recorded, and either the transfers with `2k` rows' credit taken, or,
    after the last trip, the semaphore at zero and everything delivered. -/
def drainInv (k : ℕ) (_ : PUnit) : sProp 𝕄 :=
  iprop(⌜k ≤ T⌝ ∗ slotsHeld c a f ∗ (∃ W, owes (c : Thread nD τ) 0 W)
    ∗ (if k < T then batch c a f hA hB ys (2 * T) (2 * k * 128)
       else iprop(semVal ((c : Thread nD τ), SemLoc.dma cc0_scratch1.sem) 0 ∗ bigSep Finset.univ (del c a f hA hB ys))))

/-- The body of the loop. -/
abbrev drainBody (k0_t2 : Fin k0_t2_loop.trips) (_ : PUnit) : Prog (TpuEff nD τ sig (Elt F) Λ₀ .tc) PUnit := do
  let v45 : Elt F .i32 ← smemLoad a (Rect.unit (s := S1x1x1024) (k0_off7 k0_t2) S1x1x1.size (k0_off7_inb k0_t2)) numel1_S1x1x1 rfl
  have k0_hw3 : k0_chk3 v45 := (← Prog.lift (TpuEff.assume (k0_chk3 v45) (k0_chk3.dec v45))).down
  let v46 : Memref sig .tc .vmem S1x1x1024 .f32 := (Memref.whole cc0_scratch0).slice (Rect.unit (s := S2x512x1024) (k0_off8 k0_t2) S1x1x1024.size (k0_off8_inb k0_t2)) (fun _ => rfl)
  let v47 : Memref sig .tc .vmem S1x1024 .f32 := v46.squeeze S1x1024 squeezes_S1x1x1024_S1x1024
  let v48 : Memref sig .tc .hbm S1x1024 .f32 := (Memref.whole main_arg3).slice (Rect.unit (s := S67584x1024) (k0_off9 v45) S1x1024.size (k0_off9_inb v45 k0_hw3)) (fun _ => rfl)
  Prog.lift (.waitDma2 cc0_scratch1.sem v48 v47 (View.wordExact_bits rfl) ((View.wordExact_bits rfl).reshape _ _))
  let v51 : Elt F .i32 ← smemLoad a (Rect.unit (s := S1x1x1024) (k0_off10 k0_t2) S1x1x1.size (k0_off10_inb k0_t2)) numel1_S1x1x1 rfl
  have k0_hw4 : k0_chk4 v51 := (← Prog.lift (TpuEff.assume (k0_chk4 v51) (k0_chk4.dec v51))).down
  let v52 : Memref sig .tc .vmem S1x1x1024 .f32 := (Memref.whole cc0_scratch0).slice (Rect.unit (s := S2x512x1024) (k0_off11 k0_t2) S1x1x1024.size (k0_off11_inb k0_t2)) (fun _ => rfl)
  let v53 : Memref sig .tc .vmem S1x1024 .f32 := v52.squeeze S1x1024 squeezes_S1x1x1024_S1x1024
  let v54 : Memref sig .tc .hbm S1x1024 .f32 := (Memref.whole main_arg3).slice (Rect.unit (s := S67584x1024) (k0_off12 v51) S1x1024.size (k0_off12_inb v51 k0_hw4)) (fun _ => rfl)
  Prog.lift (.waitDma2 cc0_scratch1.sem v54 v53 (View.wordExact_bits rfl) ((View.wordExact_bits rfl).reshape _ _))
  pure ⟨⟩

include hC hD in
theorem drain_step (k : Fin k0_t2_loop.trips) (acc : PUnit) :
    drainInv c a f hA hB ys k acc ⊢ wp frame (wpE (defs₀ (F := F)) Variants.none (c : Thread nD τ) none) Set.univ (drainBody a k acc)
      (drainInv c a f hA hB ys (k.val + 1)) := by
  have hk : k.val < T := k.isLt
  have h1 := hC k
  have h2 := hD k
  unfold drainInv
  simp only [if_pos hk]
  rcases Nat.lt_or_ge (k.val + 1) T with h3 | h3
  · simp only [if_pos h3]
    have h5 : 2 * k.val * 128 + 128 < 128 * (2 * T) := by omega
    have h6 : 2 * k.val * 128 + 128 + 128 < 128 * (2 * T) := by omega
    iintro ⟨-, HS, ⟨%W, HO⟩, HB⟩
    dsimp only [drainBody]
    sl_exec
    sl_step
    isplitr; · ipureintro; omega
    isplitl [HS]; · iexact HS
    isplitl [HO]; · iexists _; iexact HO
    rw [show 2 * (k.val + 1) * 128 = 2 * k.val * 128 + 128 + 128 by omega]
    iexact HB
  · simp only [if_neg (Nat.not_lt.mpr h3)]
    have h5 : 2 * k.val * 128 + 128 < 128 * (2 * T) := by omega
    have h6 : 2 * k.val * 128 + 128 + 128 = 128 * (2 * T) := by omega
    iintro ⟨-, HS, ⟨%W, HO⟩, HB⟩
    dsimp only [drainBody]
    sl_exec
    sl_step
    isplitr; · ipureintro; omega
    isplitl [HS]; · iexact HS
    isplitl [HO]; · iexists _; iexact HO
    isplitl [HB]; · iexact HB
    iexact HB_all

end Drain

/-! ## What the transfers hand back -/

section Back

variable (c : Dev nD) (a : Slots) (f : SlotsBuf (F := F) a)
  (hA : ∀ k : Fin T, k0_chk1 (slotA a f k)) (hB : ∀ k : Fin T, k0_chk2 (slotB a f k)) (ys : Ys (F := F) c)

theorem fin_range (Φ : Fin T → sProp 𝕄) : bigSep Finset.univ Φ = bigSep (Finset.range T) (fun i => if h : i < T then Φ ⟨i, h⟩ else iprop(emp)) :=
  Ring.bigSep_fin_eq_range T Φ _ fun t h => dif_pos h

theorem fin_range2 (Φ Ψ : Fin T → sProp 𝕄) :
    bigSep (Finset.range T) (fun i => if h : i < T then iprop(Φ ⟨i, h⟩ ∗ Ψ ⟨i, h⟩) else iprop(emp))
      = iprop(bigSep Finset.univ Φ ∗ bigSep Finset.univ Ψ) := by
  rw [← fin_range (fun k => iprop(Φ k ∗ Ψ k))]
  exact BI.bigSep_sep _ _ _

theorem deliveries_split :
    (bigSep Finset.univ (del c a f hA hB ys) : sProp 𝕄)
      ⊢ iprop((bigSep Finset.univ (landA c a f hA ys) ∗ bigSep Finset.univ (lendA c a f hA ys))
          ∗ bigSep Finset.univ (landB c a f hB ys) ∗ bigSep Finset.univ (lendB c a f hB ys)) := by
  unfold del
  rw [Ring.bigSep_interleaved]
  rw [← fin_range2 (landA c a f hA ys) (lendA c a f hA ys), ← fin_range2 (landB c a f hB ys) (lendB c a f hB ys)]

end Back

end Cert.CombineIdealRun
-- ==== Proof.Combine.CombineIdealRows.lean ====
/- The combine kernel at the ideal values: the rows as shares of the whole arrays, and what the rows hold once they have landed. -/
module

public import proofs.«01_k».proof.Proof.Combine.CombineIdealDrain
public import Idealize.ShloMosaic.Lib.ValueLayout
public import Idealize.ShloMosaic.Lib.ViewIndex
public import Idealize.ShloMosaic.Lib.Pipeline.Value

@[expose] public section

set_option maxRecDepth 16384

noncomputable section

namespace Cert.CombineIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CombineIdeal Cert.CombineIdeal.Gen

variable {F : FTy → Type} [FloatOps F]

local notation "𝕄" => MT nD τ sig Unit (Elt F) ℕ (Pipeline.UD sig nD τ) ℕ

open Idealize.ShloMosaic.ValueIdx (ix2 ix3)

/-! ## The words -/

theorem T_eq : T = 512 := by decide +kernel

theorem off1_eq (k : Fin T) : k0_off1 k = ![0, 0, k.val] := by revert k; decide +kernel
theorem off2_eq (k : Fin T) : k0_off2 k = ![0, k.val, 0] := by revert k; decide +kernel
theorem off4_eq (k : Fin T) : k0_off4 k = ![0, 0, 512 + k.val] := by revert k; decide +kernel
theorem off5_eq (k : Fin T) : k0_off5 k = ![1, k.val, 0] := by revert k; decide +kernel
theorem off7_eq (k : Fin k0_t2_loop.trips) : k0_off7 k = ![0, 0, k.val] := by revert k; decide +kernel
theorem off10_eq (k : Fin k0_t2_loop.trips) : k0_off10 k = ![0, 0, 512 + k.val] := by revert k; decide +kernel

theorem lt512 (k : Fin T) : k.val < 512 := T_eq ▸ k.isLt

theorem word_at (a : Slots) (f : SlotsBuf (F := F) a) (off : Fin 3 → ℕ) (n : ℕ) (hn : n < 1024) (h : off = ![0, 0, n])
    (inb : ∀ b, off b + S1x1x1.size b ≤ S1x1x1024.size b) (j : S1x1x1.Idx) :
    View.readAt (Elt F) a.view (Rect.unit (s := S1x1x1024) off S1x1x1.size inb).toLoadRect f j
      = a.view.read (Elt F) f (ix3 (n0 := 1) (n1 := 1) (n2 := 1024) 0 0 ⟨n, hn⟩) := by
  subst h
  rw [View.readAt_apply]
  refine congrArg _ (funext fun b => Fin.ext ?_)
  have h0 : (j 0).val < 1 := (j 0).isLt
  have h1 : (j 1).val < 1 := (j 1).isLt
  have h2 : (j 2).val < 1 := (j 2).isLt
  match b with
  | ⟨0, _⟩ => show 0 + 1 * (j 0).val = 0; omega
  | ⟨1, _⟩ => show 0 + 1 * (j 1).val = 0; omega
  | ⟨2, _⟩ => show n + 1 * (j 2).val = n; omega

/-- The slot of row `k`, first and second, in a block of slots. -/
def wordA (x : Vec F S1x1x1024 .i32) (k : Fin 512) : BitVec 32 := x (ix3 (n0 := 1) (n1 := 1) (n2 := 1024) 0 0 ⟨k.val, by omega⟩)
def wordB (x : Vec F S1x1x1024 .i32) (k : Fin 512) : BitVec 32 := x (ix3 (n0 := 1) (n1 := 1) (n2 := 1024) 0 0 ⟨512 + k.val, by omega⟩)

theorem slotA_eq (a : Slots) (f : SlotsBuf (F := F) a) (k : Fin T) : slotA a f k = wordA (a.view.read (Elt F) f) ⟨k.val, lt512 k⟩ :=
  word_at a f _ _ _ (off1_eq k) _ _
theorem slotB_eq (a : Slots) (f : SlotsBuf (F := F) a) (k : Fin T) : slotB a f k = wordB (a.view.read (Elt F) f) ⟨k.val, lt512 k⟩ :=
  word_at a f _ _ (by have := lt512 k; omega) (off4_eq k) _ _
theorem slotC_eq (a : Slots) (f : SlotsBuf (F := F) a) (k : Fin k0_t2_loop.trips) : slotC a f k = wordA (a.view.read (Elt F) f) ⟨k.val, lt512 k⟩ :=
  word_at a f _ _ _ (off7_eq k) _ _
theorem slotD_eq (a : Slots) (f : SlotsBuf (F := F) a) (k : Fin k0_t2_loop.trips) : slotD a f k = wordB (a.view.read (Elt F) f) ⟨k.val, lt512 k⟩ :=
  word_at a f _ _ (by have := lt512 k; omega) (off10_eq k) _ _

theorem row_inb (v : BitVec 32) (h : v.toNat < 67584) : ∀ b, (![v.toNat, 0] : Fin 2 → ℕ) b + S1x1024.size b ≤ S67584x1024.size b := by
  intro b
  match b with
  | ⟨0, _⟩ => show v.toNat + 1 ≤ 67584; omega
  | ⟨1, _⟩ => show 0 + 1024 ≤ 1024; omega

/-- Every slot of a block names a row. -/
def Named (x : Vec F S1x1x1024 .i32) : Prop := ∀ y, (x y : BitVec 32).toNat < 67584

section Facts

variable (a : Slots) (f : SlotsBuf (F := F) a) (hx : Named (F := F) (a.view.read (Elt F) f))
include hx

theorem chkA (k : Fin T) : k0_chk1 (slotA a f k) := by
  rw [slotA_eq]; exact row_inb _ (hx _)
theorem chkB (k : Fin T) : k0_chk2 (slotB a f k) := by
  rw [slotB_eq]; exact row_inb _ (hx _)
theorem chkC (k : Fin k0_t2_loop.trips) : k0_chk3 (slotC a f k) := by
  rw [slotC_eq]; exact row_inb _ (hx _)
theorem chkD (k : Fin k0_t2_loop.trips) : k0_chk4 (slotD a f k) := by
  rw [slotD_eq]; exact row_inb _ (hx _)

end Facts

/-! ## The gathered rows -/

/-- The row a word names (the last one, of a word past the rows). -/
def rowOf (v : BitVec 32) : Fin 67584 := ⟨min v.toNat 67583, by omega⟩

theorem rowOf_val (v : BitVec 32) (h : v.toNat < 67584) : (rowOf v).val = v.toNat := by
  show min v.toNat 67583 = v.toNat; omega

/-- The scratch once every row has landed: the rows the first slots name, then the rows the second slots name. -/
def gath (x : Vec F S1x1x1024 .i32) (ys : Vec F S67584x1024 .f32) : Vec F S2x512x1024 .f32 := fun y =>
  ys (ix2 (n0 := 67584) (n1 := 1024) (rowOf (if (y 0).val = 0 then wordA (F := F) x (y 1) else wordB (F := F) x (y 1))) (y 2))

/-- A row of the experts' outputs, read. -/
theorem src_read (off : Fin 2 → ℕ) (v : BitVec 32) (hoff : off = ![v.toNat, 0]) (hv : v.toNat < 67584)
    (inb : ∀ b, off b + S1x1024.size b ≤ S67584x1024.size b) (hr) (ys : Vec F S67584x1024 .f32) (j : Fin 1024) :
    ((Memref.whole main_arg3 : Memref sig .tc .hbm S67584x1024 .f32).slice (Rect.unit (s := S67584x1024) off S1x1024.size inb) hr).view.read (Elt F) ys
        (ix2 (n0 := 1) (n1 := 1024) 0 j) = ys (ix2 (rowOf v) j) := by
  subst hoff
  show ys _ = ys _
  refine congrArg ys (funext fun b => Fin.ext ?_)
  match b with
  | ⟨0, _⟩ => show v.toNat + 1 * 0 = (rowOf v).val; rw [rowOf_val v hv]; omega
  | ⟨1, _⟩ => show 0 + 1 * j.val = j.val; omega

/-- A row of the scratch, read. -/
theorem dst_read (off : Fin 3 → ℕ) (h : Fin 2) (k : Fin 512) (hoff : off = ![h.val, k.val, 0])
    (inb : ∀ b, off b + S1x1x1024.size b ≤ S2x512x1024.size b) (hr) (G : Vec F S2x512x1024 .f32) (j : Fin 1024) :
    (((Memref.whole cc0_scratch0 : Memref sig .tc .vmem S2x512x1024 .f32).slice (Rect.unit (s := S2x512x1024) off S1x1x1024.size inb) hr).squeeze S1x1024
        squeezes_S1x1x1024_S1x1024).view.read (Elt F) G (ix2 (n0 := 1) (n1 := 1024) 0 j) = G (ix3 h k j) := by
  subst hoff
  have h1 : (((Memref.whole cc0_scratch0 : Memref sig .tc .vmem S2x512x1024 .f32).slice (Rect.unit (s := S2x512x1024) ![h.val, k.val, 0] S1x1x1024.size inb) hr).squeeze S1x1024
        squeezes_S1x1x1024_S1x1024).view.read (Elt F) G (ix2 (n0 := 1) (n1 := 1024) 0 j)
      = G ((Rect.unit (s := S2x512x1024) ![h.val, k.val, 0] S1x1x1024.size inb).emb
          (Shape.reshapeEquiv squeezes_S1x1x1024_S1x1024.numel_eq (ix2 (n0 := 1) (n1 := 1024) 0 j))) := rfl
  rw [h1, Shape.reshapeEquiv_cons_one]
  refine congrArg G (funext fun b => Fin.ext ?_)
  rw [Rect.emb_apply]
  match b with
  | ⟨0, _⟩ => show h.val + 1 * 0 = h.val; omega
  | ⟨1, _⟩ => show k.val + 1 * 0 = k.val; omega
  | ⟨2, _⟩ => show 0 + 1 * j.val = j.val; omega

theorem ix2_row (x : S1x1024.Idx) : x = ix2 (n0 := 1) (n1 := 1024) 0 (x 1) := by
  funext b
  match b with
  | ⟨0, _⟩ => exact Subsingleton.elim (α := Fin 1) _ _
  | ⟨1, _⟩ => rfl

section Land

variable (c : Dev nD) (a : Slots) (f : SlotsBuf (F := F) a)
  (hA : ∀ k : Fin T, k0_chk1 (slotA a f k)) (hB : ∀ k : Fin T, k0_chk2 (slotB a f k)) (ys : Ys (F := F) c)

/-- The scratch at the gathered rows. -/
abbrev G : Buf (Elt F) ((Memref.whole cc0_scratch0 : Memref sig .tc .vmem S2x512x1024 .f32).view.loc (c : Thread nD τ)) :=
  gath (F := F) (a.view.read (Elt F) f) ys

theorem landA_eq (hx : Named (F := F) (a.view.read (Elt F) f)) (k : Fin T) :
    landA c a f hA ys k = ((dstA k).view.loc (c : Thread nD τ) ↦[(dstA k).view.set]{fullShare} G c a f ys : sProp 𝕄) := by
  refine pointsTo_congr fun i hi => ?_
  obtain ⟨x, rfl⟩ := View.exists_emb_of_mem_set _ hi
  refine View.eq_of_read_eq ?_
  rw [View.read_writes_whole, ix2_row x]
  refine (src_read (F := F) _ _ rfl ?_ _ (fun _ => rfl) ys (x 1)).trans ?_
  · rw [slotA_eq]; exact hx _
  refine Eq.trans ?_ (dst_read (F := F) _ 0 ⟨k.val, lt512 k⟩ (off2_eq k) _ (fun _ => rfl) (G c a f ys) (x 1)).symm
  rw [slotA_eq]; rfl

theorem landB_eq (hx : Named (F := F) (a.view.read (Elt F) f)) (k : Fin T) :
    landB c a f hB ys k = ((dstB k).view.loc (c : Thread nD τ) ↦[(dstB k).view.set]{fullShare} G c a f ys : sProp 𝕄) := by
  refine pointsTo_congr fun i hi => ?_
  obtain ⟨x, rfl⟩ := View.exists_emb_of_mem_set _ hi
  refine View.eq_of_read_eq ?_
  rw [View.read_writes_whole, ix2_row x]
  refine (src_read (F := F) _ _ rfl ?_ _ (fun _ => rfl) ys (x 1)).trans ?_
  · rw [slotB_eq]; exact hx _
  refine Eq.trans ?_ (dst_read (F := F) _ 1 ⟨k.val, lt512 k⟩ (off5_eq k) _ (fun _ => rfl) (G c a f ys) (x 1)).symm
  rw [slotB_eq]; rfl

end Land

/-! ## The scratch as rows -/

/-- The elements of row `k` of half `h`. -/
theorem row_inb3 (h : Fin 2) (k : Fin T) : ∀ b, (![h.val, k.val, 0] : Fin 3 → ℕ) b + S1x1x1024.size b ≤ S2x512x1024.size b := by
  have := lt512 k
  intro b
  match b with
  | ⟨0, _⟩ => show h.val + 1 ≤ 2; omega
  | ⟨1, _⟩ => show k.val + 1 ≤ 512; omega
  | ⟨2, _⟩ => show 0 + 1024 ≤ 1024; omega
abbrev rset (h : Fin 2) (k : Fin T) : Finset S2x512x1024.Idx := (Rect.unit (s := S2x512x1024) ![h.val, k.val, 0] S1x1x1024.size (row_inb3 h k)).set

theorem mem_rset (h : Fin 2) (k : Fin T) (y : S2x512x1024.Idx) : y ∈ rset h k ↔ (y 0).val = h.val ∧ (y 1).val = k.val := by
  rw [Rect.mem_set_unit]
  have h2 : (y 2).val < 1024 := (y 2).isLt
  constructor
  · intro H
    have a0 : h.val ≤ (y 0).val ∧ (y 0).val < h.val + 1 := H 0
    have a1 : k.val ≤ (y 1).val ∧ (y 1).val < k.val + 1 := H 1
    omega
  · intro H b
    match b with
    | ⟨0, _⟩ => show h.val ≤ (y 0).val ∧ (y 0).val < h.val + 1; omega
    | ⟨1, _⟩ => show k.val ≤ (y 1).val ∧ (y 1).val < k.val + 1; omega
    | ⟨2, _⟩ => show 0 ≤ (y 2).val ∧ (y 2).val < 0 + 1024; omega

theorem rset_disjoint (h : Fin 2) : ∀ k k' : Fin T, k ≠ k' → Disjoint (rset h k) (rset h k') := fun k k' hne => by
  rw [Finset.disjoint_left]; intro y hy hy'; rw [mem_rset] at hy hy'; exact hne (Fin.ext (by omega))

/-- The elements of half `h`. -/
abbrev half (h : Fin 2) : Finset S2x512x1024.Idx := Finset.univ.biUnion (rset h)

theorem mem_half (h : Fin 2) (y : S2x512x1024.Idx) : y ∈ half h ↔ (y 0).val = h.val := by
  simp only [half, Finset.mem_biUnion, Finset.mem_univ, true_and, mem_rset]
  constructor
  · rintro ⟨k, hk, -⟩; exact hk
  · intro hy; exact ⟨⟨(y 1).val, by rw [T_eq]; exact (y 1).isLt⟩, hy, rfl⟩

theorem halves_disjoint : Disjoint (half 0) (half 1) := by
  rw [Finset.disjoint_left]; intro y hy hy'; rw [mem_half] at hy hy'
  exact absurd (hy.symm.trans hy') (by decide)
theorem halves_cover : half 0 ∪ half 1 = Finset.univ := by
  ext y
  simp only [Finset.mem_union, Finset.mem_univ, iff_true, mem_half]
  have h0 : (y 0).val < 2 := (y 0).isLt
  show (y 0).val = 0 ∨ (y 0).val = 1
  omega

theorem set_of_off (off off' : Fin 3 → ℕ) (h : off = off') (inb : ∀ b, off b + S1x1x1024.size b ≤ S2x512x1024.size b)
    (inb' : ∀ b, off' b + S1x1x1024.size b ≤ S2x512x1024.size b) :
    (Rect.unit (s := S2x512x1024) off S1x1x1024.size inb).set = (Rect.unit (s := S2x512x1024) off' S1x1x1024.size inb').set := by
  subst h; rfl

theorem setA (k : Fin T) : (dstA k).view.set = rset 0 k := by
  unfold dstA
  exact ((View.set_reshape _ _).trans (View.set_slice_whole _ _)).trans (set_of_off _ _ (off2_eq k) _ _)
theorem setB (k : Fin T) : (dstB k).view.set = rset 1 k := by
  unfold dstB
  exact ((View.set_reshape _ _).trans (View.set_slice_whole _ _)).trans (set_of_off _ _ (off5_eq k) _ _)

section Scratch

variable (c : Dev nD)

abbrev SBuf : Type := Buf (Elt F) ((Memref.whole cc0_scratch0 : Memref sig .tc .vmem S2x512x1024 .f32).view.loc (c : Thread nD τ))
/-- The scratch, whole. -/
abbrev scr (g : SBuf (F := F) c) : sProp 𝕄 := (Memref.whole cc0_scratch0 : Memref sig .tc .vmem S2x512x1024 .f32).view.loc (c : Thread nD τ) ↦{fullShare} g

theorem ptA (g : SBuf (F := F) c) (k : Fin T) :
    ((Memref.whole cc0_scratch0 : Memref sig .tc .vmem S2x512x1024 .f32).view.loc (c : Thread nD τ) ↦[rset 0 k]{fullShare} g : sProp 𝕄)
      = ((dstA k).view.loc (c : Thread nD τ) ↦[(dstA k).view.set]{fullShare} g) := by
  rw [setA]; rfl
theorem ptB (g : SBuf (F := F) c) (k : Fin T) :
    ((Memref.whole cc0_scratch0 : Memref sig .tc .vmem S2x512x1024 .f32).view.loc (c : Thread nD τ) ↦[rset 1 k]{fullShare} g : sProp 𝕄)
      = ((dstB k).view.loc (c : Thread nD τ) ↦[(dstB k).view.set]{fullShare} g) := by
  rw [setB]; rfl

theorem row_ofA (g : SBuf (F := F) c) (k : Fin T) : ((dstA k).view.loc (c : Thread nD τ) ↦[(dstA k).view.set]{fullShare} g : sProp 𝕄) ⊢ rowA (F := F) c k := by
  iintro H; iexists g; iexact H
theorem row_ofB (g : SBuf (F := F) c) (k : Fin T) : ((dstB k).view.loc (c : Thread nD τ) ↦[(dstB k).view.set]{fullShare} g : sProp 𝕄) ⊢ rowB (F := F) c k := by
  iintro H; iexists g; iexact H

theorem scr_rows (g : SBuf (F := F) c) :
    scr c g = iprop(bigSep Finset.univ (fun k : Fin T => ((dstA k).view.loc (c : Thread nD τ) ↦[(dstA k).view.set]{fullShare} g : sProp 𝕄))
      ∗ bigSep Finset.univ (fun k : Fin T => ((dstB k).view.loc (c : Thread nD τ) ↦[(dstB k).view.set]{fullShare} g : sProp 𝕄))) := by
  have hu := pointsTo_union (ℓ := (Memref.whole cc0_scratch0 : Memref sig .tc .vmem S2x512x1024 .f32).view.loc (c : Thread nD τ))
    (Ix := Unit) (Val := Elt F) (Name := ℕ) (U := Pipeline.UD sig nD τ) (Lvl := ℕ) (q := fullShare) (f := g) halves_disjoint
  have e := BI.equiv_iff.mp ⟨hu.1, hu.2⟩
  rw [halves_cover] at e
  refine e.trans ?_
  have e0 := Ring.pointsTo_sub_blocks (ℓ := (Memref.whole cc0_scratch0 : Memref sig .tc .vmem S2x512x1024 .f32).view.loc (c : Thread nD τ)) (q := fullShare)
    (Ix := Unit) (Val := Elt F) (Name := ℕ) (U := Pipeline.UD sig nD τ) (Lvl := ℕ)
    (rset 0) (rset_disjoint 0) (half 0) rfl g
  have e1 := Ring.pointsTo_sub_blocks (ℓ := (Memref.whole cc0_scratch0 : Memref sig .tc .vmem S2x512x1024 .f32).view.loc (c : Thread nD τ)) (q := fullShare)
    (Ix := Unit) (Val := Elt F) (Name := ℕ) (U := Pipeline.UD sig nD τ) (Lvl := ℕ)
    (rset 1) (rset_disjoint 1) (half 1) rfl g
  have e0' := e0.trans (congrArg (bigSep (M := 𝕄) Finset.univ) (funext (ptA c g)))
  have e1' := e1.trans (congrArg (bigSep (M := 𝕄) Finset.univ) (funext (ptB c g)))
  rw [e0', e1']

end Scratch

/-! ## The experts' outputs as read tokens -/

section Source

variable (c : Dev nD) (a : Slots) (f : SlotsBuf (F := F) a)
  (hA : ∀ k : Fin T, k0_chk1 (slotA a f k)) (hB : ∀ k : Fin T, k0_chk2 (slotB a f k)) (ys : Ys (F := F) c)

/-- What a read token covers beside its row. -/
abbrev restA (k : Fin T) : sProp 𝕄 := (Memref.whole main_arg3 : Memref sig .tc .hbm S67584x1024 .f32).view.loc (c : Thread nD τ)
  ↦[Finset.univ \ (srcA (slotA a f k) (hA k)).view.set]{Transfers.shareTokN fullShare (2 * k.val)} ys
abbrev restB (k : Fin T) : sProp 𝕄 := (Memref.whole main_arg3 : Memref sig .tc .hbm S67584x1024 .f32).view.loc (c : Thread nD τ)
  ↦[Finset.univ \ (srcB (slotB a f k) (hB k)).view.set]{Transfers.shareTokN fullShare (2 * k.val + 1)} ys

/-- The part of the array no transfer reads under. -/
def kept : sProp 𝕄 := iprop(((Memref.whole main_arg3 : Memref sig .tc .hbm S67584x1024 .f32).view.loc (c : Thread nD τ) ↦{Transfers.shareDrop fullShare (2 * T)} ys)
  ∗ bigSep Finset.univ (restA c a f hA ys) ∗ bigSep Finset.univ (restB c a f hB ys))

abbrev src (ys : Ys (F := F) c) : sProp 𝕄 := (Memref.whole main_arg3 : Memref sig .tc .hbm S67584x1024 .f32).view.loc (c : Thread nD τ) ↦{fullShare} ys

theorem split_eq {ℓ : Loc nD τ sig} (I S : Finset (Idx ℓ)) (h : I ⊆ S) (q : PosShare TreeShare) (g : Buf (Elt F) ℓ) :
    (ℓ ↦[S]{q} g : sProp 𝕄) = iprop((ℓ ↦[I]{q} g) ∗ ℓ ↦[S \ I]{q} g) := by
  have hu := pointsTo_split_subset (ℓ := ℓ) (Ix := Unit) (Val := Elt F) (Name := ℕ) (U := Pipeline.UD sig nD τ) (Lvl := ℕ) (q := q) (f := g) h
  exact BI.equiv_iff.mp ⟨hu.1, hu.2⟩

theorem toks_eq {ℓ : Loc nD τ sig} (S : Finset (Idx ℓ)) (q : PosShare TreeShare) (k : ℕ) (g : Buf (Elt F) ℓ) :
    (ℓ ↦[S]{q} g : sProp 𝕄) = iprop((ℓ ↦[S]{Transfers.shareDrop q k} g) ∗ bigSep (Finset.range k) (fun i => ℓ ↦[S]{Transfers.shareTokN q i} g)) := by
  have hu := Transfers.pointsTo_toks_range (ℓ := ℓ) (S := S) (f := g) (Ix := Unit) (Val := Elt F) (Name := ℕ) (U := Pipeline.UD sig nD τ) (Lvl := ℕ) q k
  exact BI.equiv_iff.mp ⟨hu.1, hu.2⟩

theorem src_toks : src c ys = iprop(((Memref.whole main_arg3 : Memref sig .tc .hbm S67584x1024 .f32).view.loc (c : Thread nD τ) ↦{Transfers.shareDrop fullShare (2 * T)} ys)
    ∗ (bigSep Finset.univ (lendA c a f hA ys) ∗ bigSep Finset.univ (restA c a f hA ys))
    ∗ (bigSep Finset.univ (lendB c a f hB ys) ∗ bigSep Finset.univ (restB c a f hB ys))) := by
  rw [← BI.bigSep_sep', ← BI.bigSep_sep']
  refine (toks_eq _ _ (2 * T) _).trans ?_
  rw [Ring.bigSep_range_deinterleave]
  congr 1
  congr 1
  · refine (Ring.bigSep_fin_eq_range T (fun k : Fin T => ((Memref.whole main_arg3 : Memref sig .tc .hbm S67584x1024 .f32).view.loc (c : Thread nD τ)
      ↦{Transfers.shareTokN fullShare (2 * k.val)} ys : sProp 𝕄)) _ (fun _ _ => rfl)).symm.trans ?_
    exact congrArg _ (funext fun k => split_eq _ _ (Finset.subset_univ _) _ _)
  · refine (Ring.bigSep_fin_eq_range T (fun k : Fin T => ((Memref.whole main_arg3 : Memref sig .tc .hbm S67584x1024 .f32).view.loc (c : Thread nD τ)
      ↦{Transfers.shareTokN fullShare (2 * k.val + 1)} ys : sProp 𝕄)) _ (fun _ _ => rfl)).symm.trans ?_
    exact congrArg _ (funext fun k => split_eq _ _ (Finset.subset_univ _) _ _)

theorem src_lend : src c ys ⊢ iprop(kept c a f hA hB ys ∗ bigSep Finset.univ (lendA c a f hA ys) ∗ bigSep Finset.univ (lendB c a f hB ys)) := by
  rw [src_toks c a f hA hB ys]; unfold kept
  iintro ⟨HR, ⟨HA, HA'⟩, HB, HB'⟩
  isplitl [HR HA' HB']
  · isplitl [HR]; · iexact HR
    isplitl [HA']; · iexact HA'
    iexact HB'
  isplitl [HA]; · iexact HA
  iexact HB

theorem src_back : iprop(kept c a f hA hB ys ∗ bigSep Finset.univ (lendA c a f hA ys) ∗ bigSep Finset.univ (lendB c a f hB ys)) ⊢ src c ys := by
  rw [src_toks c a f hA hB ys]; unfold kept
  iintro ⟨⟨HR, HA', HB'⟩, HA, HB⟩
  isplitl [HR]; · iexact HR
  isplitl [HA HA']
  · isplitl [HA]; · iexact HA
    iexact HA'
  isplitl [HB]; · iexact HB
  iexact HB'

/-- What comes back of the transfers: the array whole, and the scratch whole at the gathered rows. -/
theorem gathered (hx : Named (F := F) (a.view.read (Elt F) f)) :
    iprop(kept c a f hA hB ys ∗ bigSep Finset.univ (del c a f hA hB ys)) ⊢ iprop(src c ys ∗ scr c (G c a f ys)) := by
  have eA : landA c a f hA ys = fun k => ((dstA k).view.loc (c : Thread nD τ) ↦[(dstA k).view.set]{fullShare} G c a f ys : sProp 𝕄) :=
    funext fun k => landA_eq c a f hA ys hx k
  have eB : landB c a f hB ys = fun k => ((dstB k).view.loc (c : Thread nD τ) ↦[(dstB k).view.set]{fullShare} G c a f ys : sProp 𝕄) :=
    funext fun k => landB_eq c a f hB ys hx k
  rw [scr_rows]
  iintro ⟨HK, HD⟩
  ihave HD := (deliveries_split c a f hA hB ys) $$ HD
  rw [eA, eB]
  icases HD with ⟨⟨HA, HLA⟩, HB, HLB⟩
  isplitl [HK HLA HLB]
  · iapply (src_back c a f hA hB ys)
    isplitl [HK]; · iexact HK
    isplitl [HLA]; · iexact HLA
    iexact HLB
  isplitl [HA]; · iexact HA
  iexact HB

/-- The scratch whole, as rows at some contents. -/
theorem scr_lend (g : SBuf (F := F) c) : scr c g ⊢ iprop(bigSep Finset.univ (rowA (F := F) c) ∗ bigSep Finset.univ (rowB (F := F) c)) := by
  rw [scr_rows]
  exact BI.sep_mono (BI.bigSep_mono fun k _ => row_ofA c g k) (BI.bigSep_mono fun k _ => row_ofB c g k)

end Source

end Cert.CombineIdealRun
-- ==== Proof.Combine.CombineIdealBody.lean ====
/- The combine kernel at the ideal values: what the body leaves in its block, from the blocks it is called with and the experts' outputs. -/
module

public import proofs.«01_k».proof.Proof.Combine.CombineIdealRows
public import Idealize.ShloMosaic.Lib.Pipeline.FrameBody

@[expose] public section

set_option maxRecDepth 16384

noncomputable section

namespace Cert.CombineIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CombineIdeal Cert.CombineIdeal.Gen

variable {F : FTy → Type} [FloatOps F]

local notation "𝕄" => MT nD τ sig Unit (Elt F) ℕ (Pipeline.UD sig nD τ) ℕ

/-! ## What the body stores -/

abbrev rX : Rect S512x1024 := Rect.unit (s := S512x1024) ![0, 0] S512x1024.size inb_S512x1024_S512x1024_0_0
abbrev rM : Rect S512x8 := Rect.unit (s := S512x8) ![0, 0] S512x8.size inb_S512x8_S512x8_0_0
abbrev rL : Rect S1x1024 := Rect.unit (s := S1x1024) ![0, 0] S1x1024.size inb_S1x1024_S1x1024_0_0
abbrev rA : Rect S2x512x1024 := Rect.unit (s := S2x512x1024) ![0, 0, 0] S1x512x1024.size inb_S2x512x1024_S1x512x1024_0_0_0
abbrev rB : Rect S2x512x1024 := Rect.unit (s := S2x512x1024) ![1, 0, 0] S1x512x1024.size inb_S2x512x1024_S1x512x1024_1_0_0

/-- The residual scaled and the two gated rows added to it. -/
def mixed (v14 : Vec F S512x1024 .f32) (v2 : Vec F S512x8 .f32) (v4 v9 : Vec F S1x512x1024 .f32) : FVec F S512x1024 .f32 :=
  have v3 : FVec F S512x1 .f32 := extractStridedSlice S512x1 ![0, 4] v2 slices_S512x8_o0_4_S512x1
  have v5 : FVec F S512x1024 .f32 := shapeCast S512x1024 v4 shapeCasts_S1x512x1024_S512x1024
  have v7 : FVec F S512x1024 .f32 := mulf (broadcastTo S512x1024 v3 broadcasts_S512x1_S512x1024) v5
  have v8 : FVec F S512x1 .f32 := extractStridedSlice S512x1 ![0, 5] v2 slices_S512x8_o0_5_S512x1
  have v10 : FVec F S512x1024 .f32 := shapeCast S512x1024 v9 shapeCasts_S1x512x1024_S512x1024
  have v12 : FVec F S512x1024 .f32 := mulf (broadcastTo S512x1024 v8 broadcasts_S512x1_S512x1024) v10
  addf (mulf (broadcast S512x1024 (Scalar.ofBits .f32 0x3FD744FD#32)) v14) (addf v7 v12)

/-- A block less its rows' means. -/
def centred (v17 : FVec F S512x1024 .f32) : FVec F S512x1024 .f32 :=
  have v22 : FVec F S512 .f32 := multiReduction .add [1] S512 v17 0x00000000#32 reduces_S512x1024_S512 (.inl rfl) rfl
  have v23 : FVec F S512x1 .f32 := shapeCast S512x1 v22 shapeCasts_S512_S512x1
  have v25 : FVec F S512x1 .f32 := divf v23 (broadcast S512x1 (Scalar.ofBits .f32 0x44800000#32))
  subf v17 (broadcastTo S512x1024 v25 broadcasts_S512x1_S512x1024)

/-- A centred block over its rows' deviations, scaled and shifted. -/
def normed (v27 : FVec F S512x1024 .f32) (v18 v20 : Vec F S1x1024 .f32) : FVec F S512x1024 .f32 :=
  have v19 : FVec F S1x1024 .f32 := shapeCast S1x1024 v18 shapeCasts_S1x1024_S1x1024
  have v21 : FVec F S1x1024 .f32 := shapeCast S1x1024 v20 shapeCasts_S1x1024_S1x1024
  have v29 : FVec F S512 .f32 := multiReduction .add [1] S512 (mulf v27 v27) 0x00000000#32 reduces_S512x1024_S512 (.inl rfl) rfl
  have v30 : FVec F S512x1 .f32 := shapeCast S512x1 v29 shapeCasts_S512_S512x1
  have v32 : FVec F S512x1 .f32 := divf v30 (broadcast S512x1 (Scalar.ofBits .f32 0x44800000#32))
  have v35 : FVec F S512x1 .f32 := rsqrt (addf v32 (broadcast S512x1 (Scalar.ofBits .f32 0x3727C5AC#32)))
  have v37 : FVec F S512x1024 .f32 := mulf v27 (broadcastTo S512x1024 v35 broadcasts_S512x1_S512x1024)
  have v39 : FVec F S512x1024 .f32 := mulf v37 (broadcastTo S512x1024 v19 broadcasts_S1x1024_S512x1024)
  addf v39 (broadcastTo S512x1024 v21 broadcasts_S1x1024_S512x1024)

/-- The payload of the body's one store. -/
def stored (x0 : Vec F S1x1x1024 .i32) (x1 : Vec F S512x1024 .f32) (x2 : Vec F S512x8 .f32) (x3 x4 : Vec F S1x1024 .f32)
    (ys : Vec F S67584x1024 .f32) : Vec F S512x1024 .f32 :=
  normed (centred (mixed (View.ld x1 rX) (View.ld x2 rM) (View.ld (gath x0 ys) rA) (View.ld (gath x0 ys) rB))) (View.ld x3 rL) (View.ld x4 rL)

/-- The output block after the body. -/
def out (x0 : Vec F S1x1x1024 .i32) (x1 : Vec F S512x1024 .f32) (x2 : Vec F S512x8 .f32) (x3 x4 : Vec F S1x1024 .f32)
    (ys : Vec F S67584x1024 .f32) : Vec F S512x1024 .f32 := View.canon [⟨rX, stored x0 x1 x2 x3 x4 ys⟩]

theorem cover (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

theorem issue_all (c : Dev nD) (a : Slots) (f : SlotsBuf (F := F) a)
    (hA : ∀ k : Fin T, k0_chk1 (slotA a f k)) (hB : ∀ k : Fin T, k0_chk2 (slotB a f k)) (ys : Ys (F := F) c) (u : PUnit) :
    iprop(slotsHeld c a f ∗ batch c a f hA hB ys 0 0 ∗ bigSep Finset.univ (rowA (F := F) c) ∗ bigSep Finset.univ (rowB (F := F) c)
      ∗ bigSep Finset.univ (lendA c a f hA ys) ∗ bigSep Finset.univ (lendB c a f hB ys)) ⊢ issueAt c a f hA hB ys 0 u := by
  unfold issueAt; rw [Ring.rangeSet_univ]

theorem issue_done (c : Dev nD) (a : Slots) (f : SlotsBuf (F := F) a)
    (hA : ∀ k : Fin T, k0_chk1 (slotA a f k)) (hB : ∀ k : Fin T, k0_chk2 (slotB a f k)) (ys : Ys (F := F) c) (u : PUnit) :
    issueAt c a f hA hB ys T u ⊢ iprop(slotsHeld c a f ∗ batch c a f hA hB ys (2 * T) 0) := by
  unfold issueAt
  iintro ⟨HS, HB, H1, H2, H3, H4⟩
  isplitl [HS]; · iexact HS
  iexact HB

theorem drain_all (c : Dev nD) (a : Slots) (f : SlotsBuf (F := F) a)
    (hA : ∀ k : Fin T, k0_chk1 (slotA a f k)) (hB : ∀ k : Fin T, k0_chk2 (slotB a f k)) (ys : Ys (F := F) c) (u : PUnit) :
    iprop(slotsHeld c a f ∗ (∃ W, owes (c : Thread nD τ) 0 W) ∗ batch c a f hA hB ys (2 * T) 0) ⊢ drainInv c a f hA hB ys 0 u := by
  unfold drainInv
  rw [if_pos (show 0 < T by rw [T_eq]; omega), show 2 * 0 * 128 = 0 from rfl]
  iintro ⟨HS, HO, HB⟩
  isplitr; · ipureintro; exact Nat.zero_le _
  isplitl [HS]; · iexact HS
  isplitl [HO]; · iexact HO
  iexact HB

theorem drain_done (c : Dev nD) (a : Slots) (f : SlotsBuf (F := F) a)
    (hA : ∀ k : Fin T, k0_chk1 (slotA a f k)) (hB : ∀ k : Fin T, k0_chk2 (slotB a f k)) (ys : Ys (F := F) c) (u : PUnit) :
    drainInv c a f hA hB ys T u ⊢ iprop(slotsHeld c a f ∗ (∃ W, owes (c : Thread nD τ) 0 W)
      ∗ semVal ((c : Thread nD τ), SemLoc.dma cc0_scratch1.sem) 0 ∗ bigSep Finset.univ (del c a f hA hB ys)) := by
  unfold drainInv
  rw [if_neg (Nat.lt_irrefl _)]
  iintro ⟨-, HS, HO, HB, HD⟩
  isplitl [HS]; · iexact HS
  isplitl [HO]; · iexact HO
  isplitl [HB]; · iexact HB
  iexact HD

set_option maxHeartbeats 4000000 in
theorem sound_kernel (c : Dev nD) (i : grid0.Coords)
    (arg1 : Memref sig .tc .smem S1x1x1024 .i32) (harg1 : arg1.IsWhole)
    (arg2 : Memref sig .tc .vmem S512x1024 .f32) (harg2 : arg2.IsWhole) (arg3 : Memref sig .tc .vmem S512x8 .f32) (harg3 : arg3.IsWhole)
    (arg5 : Memref sig .tc .vmem S1x1024 .f32) (harg5 : arg5.IsWhole) (arg6 : Memref sig .tc .vmem S1x1024 .f32) (harg6 : arg6.IsWhole)
    (arg7 : Memref sig .tc .vmem S512x1024 .f32) (harg7 : arg7.IsWhole)
    (x0 : Vec F S1x1x1024 .i32) (x1 : Vec F S512x1024 .f32) (x2 : Vec F S512x8 .f32) (x3 x4 : Vec F S1x1024 .f32) (ys : Ys (F := F) c)
    (hx : Named (F := F) x0) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare x3 ∗ owns (c : Thread nD τ) arg6 fullShare x4 ∗ (∃ d, owns (c : Thread nD τ) arg7 fullShare d)
        ∗ (∃ g, scr c g) ∗ src c ys ∗ semVal ((c : Thread nD τ), SemLoc.dma cc0_scratch1.sem) 0 ∗ (∃ W, owes (c : Thread nD τ) 0 W)
        ∗ (iprop(owns (c : Thread nD τ) arg1 fullShare x0 ∗ owns (c : Thread nD τ) arg2 fullShare x1 ∗ owns (c : Thread nD τ) arg3 fullShare x2
            ∗ owns (c : Thread nD τ) arg5 fullShare x3 ∗ owns (c : Thread nD τ) arg6 fullShare x4
            ∗ owns (c : Thread nD τ) arg7 fullShare (out x0 x1 x2 x3 x4 ys)
            ∗ (∃ g, scr c g) ∗ src c ys ∗ semVal ((c : Thread nD τ), SemLoc.dma cc0_scratch1.sem) 0 ∗ (∃ W, owes (c : Thread nD τ) 0 W)) -∗ K ⟨⟩))
      ⊢ wp frame (wpE (defs₀ (F := F)) Variants.none c none) Set.univ
          (cc0_moe_combine i arg1 harg1 arg2 harg2 arg3 harg3 (Memref.whole main_arg3) (Memref.isWhole_whole _) arg5 harg5 arg6 harg6 arg7 harg7
            (Memref.whole cc0_scratch0) (Memref.isWhole_whole _) cc0_scratch1) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g, HG⟩, HY, HC, HO, Hk⟩
  subst hf0 hf1 hf2 hf3 hf4
  have hA := chkA arg1 f0 hx
  have hB := chkB arg1 f0 hx
  have hC := chkC arg1 f0 hx
  have hD := chkD arg1 f0 hx
  ihave HG := (scr_lend (F := F) c g) $$ HG
  icases HG with ⟨HGA, HGB⟩
  ihave HY := (src_lend c arg1 f0 hA hB ys) $$ HY
  icases HY with ⟨HK, HYA, HYB⟩
  imod (Transfers.batch_alloc' (Lvl := ℕ) (countersEmb (U := Pipeline.UD sig nD τ)) (c : Thread nD τ) () NN (del c arg1 f0 hA hB ys)
    (sm := .dma cc0_scratch1.sem) (E := Set.univ)) $$ HC with HB
  sl_unfold [cc0_moe_combine]
  sl_exec
  sl_for (issueAt c arg1 f0 hA hB ys) $$ [H0 HB HGA HGB HYA HYB]
  · intro k acc; exact issue_step c arg1 f0 hA hB ys k acc
  · iapply (issue_all c arg1 f0 hA hB ys)
    isplitl [H0]; · iexact H0
    isplitl [HB]; · iexact HB
    isplitl [HGA]; · iexact HGA
    isplitl [HGB]; · iexact HGB
    isplitl [HYA]; · iexact HYA
    iexact HYB
  iintro %acc HL
  ihave HL := (issue_done c arg1 f0 hA hB ys acc) $$ HL
  icases HL with ⟨H0, HB⟩
  sl_exec
  sl_for (drainInv c arg1 f0 hA hB ys) $$ [H0 HB HO]
  · intro k acc; exact drain_step c arg1 f0 hA hB ys hC hD k acc
  · iapply (drain_all c arg1 f0 hA hB ys)
    isplitl [H0]; · iexact H0
    isplitl [HO]; · iexact HO
    iexact HB
  iintro %acc2 HL
  ihave HL := (drain_done c arg1 f0 hA hB ys acc2) $$ HL
  icases HL with ⟨H0, HO, HC, HD⟩
  ihave HGY := (gathered c arg1 f0 hA hB ys hx) $$ [HK HD]
  · isplitl [HK]; · iexact HK
    iexact HD
  icases HGY with ⟨HY, HG⟩
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _)
  isplitl [HG]; · iexists _; iexact HG
  isplitl [HY]; · iexact HY
  isplitl [HC]; · iexact HC
  iexact HO

end Cert.CombineIdealRun
-- ==== Proof.Combine.CombineIdealRun.lean ====
/- The combine kernel's launch at the ideal values: the pipeline's data, the body's obligation, the run. -/
module

public import proofs.«01_k».proof.Proof.Combine.CombineIdealBody
public import proofs.«01_k».proof.Proof.Gen.CombineIdeal.Points
public import Idealize.ShloMosaic.Lib.Claim
public import Idealize.ShloMosaic.Lib.Pipeline.Frame

@[expose] public section

set_option maxRecDepth 16384

noncomputable section

namespace Cert.CombineIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal Cert.CombineIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the launch -/

/-- Core `c`'s buffers when the launch is entered: the memory after the slots are laid out by tile and the norm's rows cut. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := ⟨rfl, rfl, rfl, rfl, rfl, rfl, rfl, rfl, rfl⟩

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The semaphore, the scratch and the array the body reads -/

abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl

def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄) = src c (V m c main_arg3) := by
  rw [BI.bigSep_eq_bigSepL_of_eq [main_arg3] (by decide) (by decide)]; rfl

theorem PhiD0_eq (c : Dev nD) :
    (Pipeline.ΦD osem0 spec0 H0 (V m) c : sProp 𝕄)
      = iprop((∃ g, scr c g) ∗ (∃ r, prngReg c r) ∗ semVal ((c : Thread nD τ), SemLoc.dma 10) 0 ∗ src c (V m c main_arg3)) := by
  rw [Pipeline.ΦD_eq, scopedRest0_eq, ownSems00_eq, hbmPts0_eq]; try rfl

/-! ## The windows' blocks -/

/-- Window `w`'s block at point `t` of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_of_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The output block at point `t`. -/
abbrev outAt (c : Dev nD) (t : Fin cfg0.N) : Vec F S512x1024 .f32 :=
  out (iblk m c 0 t) (iblk m c 1 t) (iblk m c 2 t) (iblk m c 3 t) (iblk m c 4 t) (V m c main_arg3)

/-- The proof data: each input's block stays, the output's is what the body stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = outAt m c t := by dsimp only [dats]; try rfl

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d

/-! ## The body's obligation -/

abbrev ms0 (t : Fin cfg0.N) : Memref sig .tc .smem S1x1x1024 .i32 := win0_0.stage (cfg0.slots t 0)
abbrev ms1 (t : Fin cfg0.N) : Memref sig .tc .vmem S512x1024 .f32 := win0_1.stage (cfg0.slots t 1)
abbrev ms2 (t : Fin cfg0.N) : Memref sig .tc .vmem S512x8 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S512x1024 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- Every slot names a row, at every point. -/
def AllNamed : Prop := ∀ (c : Dev nD) (t : Fin cfg0.N), Named (F := F) (iblk m c 0 t)

theorem sound_body (hN : AllNamed m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl, after_0, after_1, after_2, after_3, after_4, after_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨HG, Hr, HC, HY⟩, ⟨%W, -, HW⟩, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _
    (iblk m c 0 t) (iblk m c 1 t) (iblk m c 2 t) (iblk m c 3 t) (iblk m c 4 t) (V m c main_arg3) (hN c t) _)
  isplitl [H0]; · iexact H0
  isplitl [H1]; · iexact H1
  isplitl [H2]; · iexact H2
  isplitl [H3]; · iexact H3
  isplitl [H4]; · iexact H4
  isplitl [H5]; · iexists _; iexact H5
  isplitl [HG]; · iexact HG
  isplitl [HY]; · iexact HY
  isplitl [HC]; · iexact HC
  isplitl [HW]; · iexists _; iexact HW
  iintro ⟨H0, H1, H2, H3, H4, H5, HG, HY, HC, ⟨%W', HW⟩⟩
  isplitl [HG Hr HC HY]
  · isplitl [HG]; · iexact HG
    isplitl [Hr]; · iexact Hr
    isplitl [HC]; · iexact HC
    iexact HY
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (hN : AllNamed m) (c : Dev nD) : BodyObligation (dats (F := F) m 0 c) (defs₀ (F := F)) Variants.none () Set.univ := fun t => by
  rw [bigSep_W0, bigSep_W0, defs₀_row]
  exact triple_restated (sound_body m hN c t) rfl .rfl fun _ => .rfl

/-! ## The run -/

set_option backward.isDefEq.respectTransparency.types false in
set_option maxHeartbeats 800000 in
theorem run_main_quiescent (hN : AllNamed m) : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hN c).loose) (hshare := fun c => (dats m 0 c).share_full fun _ => rfl)
    (howed := fun _ _ => rfl) (V := V m) (hmain := hmain m Variants.none) (hA := A_eq m)
    (hin := fun _ => .rfl) (hout := fun _ => .rfl)

theorem run_main (hN : AllNamed m) : θ_run defs (onTc (τ := τ) (main (F := F))) (s₀ m ρ) (Pipeline.FramePost cfgs (dats m) 0 (V m)) :=
  (θ_run defs _ _).mono (fun _ h => h.1) (run_main_quiescent m ρ hN)

/-- The arguments end as they were, and every counter at zero. -/
theorem frame (hN : AllNamed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).1 1).trans (((dats m 0 c).arrAt_in 1 rfl _).trans ((A_eq m c 1).trans (V_main_arg0 m c))),
      ((h.1 c).2 main_arg1 (by decide : main_arg1 ∈ Pipeline.restRefs sig spec0)).trans (V_main_arg1 m c),
      ((h.1 c).1 2).trans (((dats m 0 c).arrAt_in 2 rfl _).trans ((A_eq m c 2).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c)⟩, h.2⟩)
    (run_main_quiescent m ρ hN)

end Cert.CombineIdealRun
-- ==== Proof.Combine.CombineIdealOk.lean ====
/- The combine kernel's slots under the precondition: every slot names a row of the experts' outputs at the ideal values. -/
module

public import proofs.«01_k».proof.Defs
public import proofs.«01_k».proof.Proof.Combine.CombineIdealRun
public import proofs.«01_k».proof.Proof.Gen.Combine
public import Idealize.ShloMosaic.Lib.WordCmp
public import Idealize.ShloMosaic.Lib.Pointwise
public import Idealize.ShloMosaic.Lib.Pipeline.ValueKit
public import Idealize.ShloMosaic.Lib.StableHlo.ReadAt

@[expose] public section

set_option maxRecDepth 16384

noncomputable section

namespace Cert.CombineIdealOk

open Idealize.ShloMosaic Idealize.ShloMosaic.TcCoe Idealize.SL.Sem
open Cert.CombineIdeal Cert.CombineIdeal.Gen Cert.CombineIdealRun

theorem facts_pre : Cert.Pre_slots_named.Facts := ⟨by decide⟩

section
variable {F : FTy → Type} [FloatOps F] (m : (ℓ : Loc nD τ sig) → Buf (Elt F) ℓ)

theorem idx : ∀ t : Fin grid0.N, win0_0.index t = ![t.val, 0, 0] ∧ win0_1.index t = ![t.val, 0] ∧ win0_2.index t = ![t.val, 0]
    ∧ win0_3.index t = ![0, 0] ∧ win0_4.index t = ![0, 0] ∧ win0_5.index t = ![t.val, 0] := by
  decide +kernel

/-- Slot `q` of block `t`, of the argument: the first slots of the block's 512 rows, then the second. -/
theorem slot_at (c : Dev nD) (t : Fin 64) (q : Fin 1024) :
    (V m c main_v2 : S64x1x1024.Idx → BitVec 32) (ix3 t 0 q)
      = m ((c : Thread nD τ).loc main_arg1) (ix2 ⟨t.val * 512 + q.val % 512, by omega⟩ ⟨q.val / 512, by omega⟩) := by
  unfold V
  after_reads_at

theorem blk0 (c : Dev nD) (t : Fin cfg0.N) (q : Fin 1024) (h : t.val < 64) :
    (iblk m c 0 t : S1x1x1024.Idx → BitVec 32) (ix3 0 0 q)
      = m ((c : Thread nD τ).loc main_arg1) (ix2 ⟨t.val * 512 + q.val % 512, by omega⟩ ⟨q.val / 512, by omega⟩) := by
  refine Eq.trans ?_ (slot_at m c ⟨t.val, h⟩ q)
  blk_ext [iblk, idx t]

/-- What the precondition says of the slots. -/
def Pre : Prop := ∀ c : Dev nD, letI := facts_pre
  Cert.Pre_slots_named.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1

theorem named (h : Pre m) (c : Dev nD) (x : S32768x2.Idx) :
    ((m ((c.tc : Thread nD τ).loc main_arg1) : S32768x2.Idx → BitVec 32) x).toNat < 67584 := by
  have hx := congrFun (h c) x
  simp only [Cert.Pre_slots_named.fn, constantI, broadcastInDim, cmpi, andi] at hx
  have hk := (WordCmp.andi_sge_zero_slt_ofNat (w := 32) (k := 67584) (by decide) _).symm.trans hx
  by_contra hn
  rw [decide_eq_false hn] at hk
  exact absurd hk (by decide)

theorem allNamed (h : Pre m) : AllNamed m := fun c t y => by
  have hy : (y : S1x1x1024.Idx) = ix3 (n0 := 1) (n1 := 1) (n2 := 1024) 0 0 (y 2) := by
    funext a
    match a with
    | ⟨0, _⟩ => exact Subsingleton.elim (α := Fin 1) _ _
    | ⟨1, _⟩ => exact Subsingleton.elim (α := Fin 1) _ _
    | ⟨2, _⟩ => rfl
  rw [hy, blk0 m c t (y 2) t.isLt]
  exact named m h c _

end

theorem frame : Cert.quiescent_CombineIdeal (hCombineIdeal := Cert.CombineIdeal.Gen.facts) (hPre_slots_named := facts_pre) := fun m ρ h =>
  Cert.CombineIdealRun.frame m ρ (allNamed m h)

section
local instance : Cert.Combine.Facts := Cert.Combine.Gen.facts

/-- The program and its idealization have one text: their tables of bodies are the same. -/
theorem defs₀_eq (F : FTy → Type) [FloatOps F] : Cert.Combine.defs₀ (F := F) = Cert.CombineIdeal.defs₀ (F := F) :=
  congrArg Defs.onTc (funext fun l => funext fun a => match l, a with
    | ⟨0, _⟩, (_, _) => rfl
    | ⟨_ + 1, h⟩, _ => absurd h (Nat.not_lt.2 (Nat.le_add_left _ _)))

theorem defs_eq (F : FTy → Type) [FloatOps F] : Cert.Combine.defs (F := F) = Cert.CombineIdeal.defs (F := F) :=
  congrArg (Pipeline.defs Cert.CombineIdeal.pcfgs) (defs₀_eq F)

/-- So the run over any float values is the program's too. -/
theorem frame_kernel : Cert.quiescent_Combine (hCombine := Cert.Combine.Gen.facts) (hPre_slots_named := facts_pre) := fun m ρ h => by
  have h1 := Cert.CombineIdealRun.frame (F := Bits) m ρ (allNamed (F := Bits) m h)
  rw [← defs_eq Bits] at h1
  exact h1

end

end Cert.CombineIdealOk

end
-- ==== Proof.Combine.Block.lean ====
/- One row of the combine step with its layer norm, as a function of the row, its gates and its experts' two rows, and the kernel's block read at an index as it. -/
module

public import proofs.«01_k».proof.Proof.Combine.CombineIdealOk
public import Idealize.ShloMosaic.Lib.Pointwise
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.CombineRow

open Idealize.ShloMosaic

/-- The residual sum: `alpha * x` and the two gated rows. -/
def mix (x a b : Fin 1024 → EReal) (ga gb : EReal) (d : Fin 1024) : EReal :=
  Ideal.ofBits .f32 0x3FD744FD#32 * x d + (ga * a d + gb * b d)

/-- The residual sum less its mean. -/
def cen (y : Fin 1024 → EReal) (d : Fin 1024) : EReal :=
  y d - Ideal.div (∑ e, y e) (Ideal.ofBits .f32 0x44800000#32)

/-- A centred row over its deviation, scaled and shifted. -/
def nrm (z g b : Fin 1024 → EReal) (d : Fin 1024) : EReal :=
  z d * Ideal.rsqrt (Ideal.div (∑ e, z e * z e) (Ideal.ofBits .f32 0x44800000#32) + Ideal.ofBits .f32 0x3727C5AC#32) * g d + b d

/-- The layer norm of the residual sum. -/
def row (x a b : Fin 1024 → EReal) (ga gb : EReal) (g s : Fin 1024 → EReal) (d : Fin 1024) : EReal :=
  nrm (cen (mix x a b ga gb)) g s d

end Cert.CombineRow

namespace Cert.CombineBlock

open Cert.CombineIdeal Cert.CombineIdeal.Gen Cert.CombineIdealRun Idealize.ShloMosaic Idealize.ShloMosaic.TcCoe Idealize.SL.Sem

theorem mixed_at (v14 : Vec Ideal S512x1024 .f32) (v2 : Vec Ideal S512x8 .f32) (v4 v9 : Vec Ideal S1x512x1024 .f32) (p : Fin 512) (d : Fin 1024) :
    mixed v14 v2 v4 v9 (ix2 p d)
      = CombineRow.mix (fun k => v14 (ix2 p k)) (fun k => v4 (ix3 0 p k)) (fun k => v9 (ix3 0 p k)) (v2 (ix2 p 4)) (v2 (ix2 p 5)) d := by
  pointwise [mixed]
  rfl

theorem centred_at (v : FVec Ideal S512x1024 .f32) (p : Fin 512) (d : Fin 1024) :
    centred v (ix2 p d) = CombineRow.cen (fun k => v (ix2 p k)) d := by
  pointwise [centred]
  rfl

theorem normed_at (v : FVec Ideal S512x1024 .f32) (g b : Vec Ideal S1x1024 .f32) (p : Fin 512) (d : Fin 1024) :
    normed v g b (ix2 p d) = CombineRow.nrm (fun k => v (ix2 p k)) (fun k => g (ix2 0 k)) (fun k => b (ix2 0 k)) d := by
  pointwise [normed]
  rfl

theorem ldA_at (x0 : Vec Ideal S1x1x1024 .i32) (ys : Vec Ideal S67584x1024 .f32) (p : Fin 512) (d : Fin 1024) :
    View.ld (gath x0 ys) rA (ix3 0 p d) = ys (ix2 (rowOf (x0 (ix3 0 0 ⟨p.val, by omega⟩))) d) := by
  have h : rA.emb (ix3 0 p d) = ix3 0 p d := by
    funext a
    match a with
    | ⟨0, _⟩ => rfl
    | ⟨1, _⟩ => exact Fin.ext (show 0 + 1 * p.val = p.val by omega)
    | ⟨2, _⟩ => exact Fin.ext (show 0 + 1 * d.val = d.val by omega)
  exact (congrArg (gath x0 ys) h).trans rfl

theorem ldB_at (x0 : Vec Ideal S1x1x1024 .i32) (ys : Vec Ideal S67584x1024 .f32) (p : Fin 512) (d : Fin 1024) :
    View.ld (gath x0 ys) rB (ix3 0 p d) = ys (ix2 (rowOf (x0 (ix3 0 0 ⟨512 + p.val, by omega⟩))) d) := by
  have h : rB.emb (ix3 0 p d) = ix3 1 p d := by
    funext a
    match a with
    | ⟨0, _⟩ => rfl
    | ⟨1, _⟩ => exact Fin.ext (show 0 + 1 * p.val = p.val by omega)
    | ⟨2, _⟩ => exact Fin.ext (show 0 + 1 * d.val = d.val by omega)
  exact (congrArg (gath x0 ys) h).trans rfl

/-- What the body stores in its block, at row `p` and column `d`. -/
theorem out_at (x0 : Vec Ideal S1x1x1024 .i32) (x1 : Vec Ideal S512x1024 .f32) (x2 : Vec Ideal S512x8 .f32) (x3 x4 : Vec Ideal S1x1024 .f32)
    (ys : Vec Ideal S67584x1024 .f32) (p : Fin 512) (d : Fin 1024) :
    out x0 x1 x2 x3 x4 ys (ix2 p d)
      = CombineRow.row (fun k => x1 (ix2 p k)) (fun k => ys (ix2 (rowOf (x0 (ix3 0 0 ⟨p.val, by omega⟩))) k))
          (fun k => ys (ix2 (rowOf (x0 (ix3 0 0 ⟨512 + p.val, by omega⟩))) k)) (x2 (ix2 p 4)) (x2 (ix2 p 5))
          (fun k => x3 (ix2 0 k)) (fun k => x4 (ix2 0 k)) d := by
  unfold out stored
  rw [View.ld_unit_lit _ _ (by decide), View.ld_unit_lit _ _ (by decide), View.ld_unit_lit _ _ (by decide), View.ld_unit_lit _ _ (by decide),
    View.canon_cons_unit_lit _ _ _ (by decide)]
  rw [normed_at]
  simp only [centred_at, mixed_at, ldA_at, ldB_at]
  rfl

variable (m : (ℓ : Loc nD τ sig) → Buf (Elt Ideal) ℓ)

abbrev A0 (c : Dev nD) : S32768x1024.Idx → EReal := m ((c : Thread nD τ).loc main_arg0)
abbrev A1 (c : Dev nD) : S32768x2.Idx → BitVec 32 := m ((c : Thread nD τ).loc main_arg1)
abbrev A2 (c : Dev nD) : S32768x8.Idx → EReal := m ((c : Thread nD τ).loc main_arg2)
abbrev A3 (c : Dev nD) : S67584x1024.Idx → EReal := m ((c : Thread nD τ).loc main_arg3)
abbrev A4 (c : Dev nD) : S4x1024.Idx → EReal := m ((c : Thread nD τ).loc main_arg4)
abbrev A5 (c : Dev nD) : S4x1024.Idx → EReal := m ((c : Thread nD τ).loc main_arg5)

/-- Row `r` of the result, from the arguments. -/
def Gr (c : Dev nD) (r : Fin 32768) (d : Fin 1024) : EReal :=
  CombineRow.row (fun k => A0 m c (ix2 r k)) (fun k => A3 m c (ix2 (rowOf (A1 m c (ix2 r 0))) k)) (fun k => A3 m c (ix2 (rowOf (A1 m c (ix2 r 1))) k))
    (A2 m c (ix2 r 4)) (A2 m c (ix2 r 5)) (fun k => A4 m c (ix2 3 k)) (fun k => A5 m c (ix2 3 k)) d

/-- The whole result. -/
def G (c : Dev nD) : S32768x1024.Idx → EReal := fun i => Gr m c (i 0) (i 1)

theorem g_at (c : Dev nD) (k : Fin 1024) : (V m c main_v5 : S1x1024.Idx → EReal) (ix2 0 k) = A4 m c (ix2 3 k) := by
  unfold V
  after_reads_at

theorem b_at (c : Dev nD) (k : Fin 1024) : (V m c main_v8 : S1x1024.Idx → EReal) (ix2 0 k) = A5 m c (ix2 3 k) := by
  unfold V
  after_reads_at

theorem blkA (c : Dev nD) (t : Fin cfg0.N) (p : Fin 512) (h : t.val * 512 + p.val < 32768) :
    (iblk m c 0 t : S1x1x1024.Idx → BitVec 32) (ix3 0 0 ⟨p.val, by omega⟩) = A1 m c (ix2 ⟨t.val * 512 + p.val, h⟩ 0) := by
  refine (CombineIdealOk.blk0 m c t ⟨p.val, by omega⟩ t.isLt).trans (congrArg (A1 m c) (congrArg₂ ix2 (Fin.ext ?_) (Fin.ext ?_)))
  · show t.val * 512 + p.val % 512 = t.val * 512 + p.val; omega
  · show p.val / 512 = 0; omega

theorem blkB (c : Dev nD) (t : Fin cfg0.N) (p : Fin 512) (h : t.val * 512 + p.val < 32768) :
    (iblk m c 0 t : S1x1x1024.Idx → BitVec 32) (ix3 0 0 ⟨512 + p.val, by omega⟩) = A1 m c (ix2 ⟨t.val * 512 + p.val, h⟩ 1) := by
  refine (CombineIdealOk.blk0 m c t ⟨512 + p.val, by omega⟩ t.isLt).trans (congrArg (A1 m c) (congrArg₂ ix2 (Fin.ext ?_) (Fin.ext ?_)))
  · show t.val * 512 + (512 + p.val) % 512 = t.val * 512 + p.val; omega
  · show (512 + p.val) / 512 = 1; omega

theorem blk1 (c : Dev nD) (t : Fin cfg0.N) (p : Fin 512) (k : Fin 1024) (h : t.val * 512 + p.val < 32768) :
    (iblk m c 1 t : S512x1024.Idx → EReal) (ix2 p k) = A0 m c (ix2 ⟨t.val * 512 + p.val, h⟩ k) := by
  refine Eq.trans ?_ (congrFun (V_main_arg0 m c) (ix2 ⟨t.val * 512 + p.val, h⟩ k))
  blk_ext [iblk, CombineIdealOk.idx t]

theorem blk2 (c : Dev nD) (t : Fin cfg0.N) (p : Fin 512) (k : Fin 8) (h : t.val * 512 + p.val < 32768) :
    (iblk m c 2 t : S512x8.Idx → EReal) (ix2 p k) = A2 m c (ix2 ⟨t.val * 512 + p.val, h⟩ k) := by
  refine Eq.trans ?_ (congrFun (V_main_arg2 m c) (ix2 ⟨t.val * 512 + p.val, h⟩ k))
  blk_ext [iblk, CombineIdealOk.idx t]

theorem blk3 (c : Dev nD) (t : Fin cfg0.N) (k : Fin 1024) :
    (iblk m c 3 t : S1x1024.Idx → EReal) (ix2 0 k) = A4 m c (ix2 3 k) := by
  refine Eq.trans ?_ (g_at m c k)
  blk_ext [iblk, CombineIdealOk.idx t]

theorem blk4 (c : Dev nD) (t : Fin cfg0.N) (k : Fin 1024) :
    (iblk m c 4 t : S1x1024.Idx → EReal) (ix2 0 k) = A5 m c (ix2 3 k) := by
  refine Eq.trans ?_ (b_at m c k)
  blk_ext [iblk, CombineIdealOk.idx t]

theorem outAt_at (c : Dev nD) (t : Fin cfg0.N) (p : Fin 512) (d : Fin 1024) (h : t.val * 512 + p.val < 32768) :
    outAt m c t (ix2 p d) = Gr m c ⟨t.val * 512 + p.val, h⟩ d := by
  refine (out_at (iblk m c 0 t) (iblk m c 1 t) (iblk m c 2 t) (iblk m c 3 t) (iblk m c 4 t) (V m c main_arg3) p d).trans ?_
  unfold Gr
  rw [blkA m c t p h, blkB m c t p h, blk2 m c t p 4 h, blk2 m c t p 5 h, V_main_arg3 m c,
    show (fun k => (iblk m c 1 t : S512x1024.Idx → EReal) (ix2 p k)) = _ from funext fun k => blk1 m c t p k h,
    show (fun k => (iblk m c 3 t : S1x1024.Idx → EReal) (ix2 0 k)) = _ from funext fun k => blk3 m c t k,
    show (fun k => (iblk m c 4 t : S1x1024.Idx → EReal) (ix2 0 k)) = _ from funext fun k => blk4 m c t k]

theorem arr_eq (c : Dev nD) : (dats m 0 c).arrAt 5 cfg0.N = G m c := by
  refine (dats m 0 c).arrAt_eq_of_covers 5 _ (by decide +kernel) fun t hf y => ?_
  blk_simp
  rw [after_5]
  have hy : (y : S512x1024.Idx) = ix2 (n0 := 512) (n1 := 1024) (y 0) (y 1) := by
    funext a; fin_cases a <;> rfl
  have h0 : ((win0_5.blk t).view.emb y 0).val = t.val * 512 + (y 0).val := by blk_simp [CombineIdealOk.idx t]
  have h1 : ((win0_5.blk t).view.emb y 1) = y 1 := Fin.ext (by blk_simp [CombineIdealOk.idx t])
  have ht : t.val * 512 + (y 0).val < 32768 := h0 ▸ ((win0_5.blk t).view.emb y 0).isLt
  refine (congrArg _ hy).trans ((outAt_at m c t (y 0) (y 1) ht).trans ?_)
  unfold G
  exact congrArg₂ (Gr m c) (Fin.ext h0.symm) h1.symm

end Cert.CombineBlock

end
-- ==== Proof.Combine.Ref.lean ====
/- The combine step's reference at an index: the layer norm of the row's residual sum. -/
module

public import proofs.«01_k».proof.Proof.Combine.Block
public import proofs.«01_k».proof.Proof.Gen.CombineRefIdeal.Run
public import Idealize.ShloMosaic.Lib.Tactic.CleanTypes
public import Idealize.ShloMosaic.Lib.Routing.Ops

@[expose] public section

set_option maxRecDepth 16384

noncomputable section

namespace Cert.CombineRefAt

open Cert.CombineRefIdeal Cert.CombineRefIdeal.Gen Idealize.ShloMosaic Idealize.ShloMosaic.TcCoe Idealize.SL.Sem

variable (m : (ℓ : Loc nD τ sig) → Buf (Elt Ideal) ℓ)

abbrev B0 (c : Dev nD) : S32768x1024.Idx → EReal := m ((c : Thread nD τ).loc main_arg0)
abbrev B1 (c : Dev nD) : S32768x2.Idx → BitVec 32 := m ((c : Thread nD τ).loc main_arg1)
abbrev B2 (c : Dev nD) : S32768x8.Idx → EReal := m ((c : Thread nD τ).loc main_arg2)
abbrev B3 (c : Dev nD) : S67584x1024.Idx → EReal := m ((c : Thread nD τ).loc main_arg3)
abbrev B4 (c : Dev nD) : S4x1024.Idx → EReal := m ((c : Thread nD τ).loc main_arg4)
abbrev B5 (c : Dev nD) : S4x1024.Idx → EReal := m ((c : Thread nD τ).loc main_arg5)

/-- The rows of the experts' outputs at the slots of column 0, and at those of column 1. -/
def ta (c : Dev nD) : FVec Ideal S32768x1024 .f32 :=
  Host.gather gather_S67584x1024_S32768x1_S32768x1024_1_0_n_n_0_1_11024 (m ((c.tc : Thread nD τ).loc main_arg3)) (broadcastInDim S32768x1 ![0] bcast_S32768_S32768x1_0 (shapeCast _ (extractStridedSlice S32768x1 ![0, 0] (m ((c.tc : Thread nD τ).loc main_arg1)) slices_S32768x2_S32768x1_0_0) shapeCasts_S32768x1_S32768))
def tb (c : Dev nD) : FVec Ideal S32768x1024 .f32 :=
  Host.gather gather_S67584x1024_S32768x1_S32768x1024_1_0_n_n_0_1_11024 (m ((c.tc : Thread nD τ).loc main_arg3)) (broadcastInDim S32768x1 ![0] bcast_S32768_S32768x1_0 (shapeCast _ (extractStridedSlice S32768x1 ![0, 1] (m ((c.tc : Thread nD τ).loc main_arg1)) slices_S32768x2_S32768x1_0_1) shapeCasts_S32768x1_S32768))

theorem sa_at (c : Dev nD) (r : Fin 32768) :
    (broadcastInDim S32768x1 ![0] bcast_S32768_S32768x1_0 (shapeCast S32768 (extractStridedSlice S32768x1 ![0, 0] (B1 m c) slices_S32768x2_S32768x1_0_0) shapeCasts_S32768x1_S32768) : IVec S32768x1 32) (ix2 r 0)
      = B1 m c (ix2 r 0) := by
  pointwise

theorem sb_at (c : Dev nD) (r : Fin 32768) :
    (broadcastInDim S32768x1 ![0] bcast_S32768_S32768x1_0 (shapeCast S32768 (extractStridedSlice S32768x1 ![0, 1] (B1 m c) slices_S32768x2_S32768x1_0_1) shapeCasts_S32768x1_S32768) : IVec S32768x1 32) (ix2 r 0)
      = B1 m c (ix2 r 1) := by
  pointwise

theorem word_row (v : BitVec 32) (h : v.toNat < 67584) : v = BitVec.ofNat 32 (CombineIdealRun.rowOf v).val := by
  rw [CombineIdealRun.rowOf_val v h]
  exact ((BitVec.ofNat_toNat 32 v).trans (BitVec.setWidth_eq v)).symm

theorem ta_at (c : Dev nD) (r : Fin 32768) (d : Fin 1024) (h : (B1 m c (ix2 r 0)).toNat < 67584) :
    ta m c (ix2 r d) = B3 m c (ix2 (CombineIdealRun.rowOf (B1 m c (ix2 r 0))) d) :=
  Routing.gather_row (nb := 67584) (B := 1024) (n := 32768) _ rfl rfl rfl rfl rfl _ _ r d _ ((sa_at m c r).trans (word_row _ h)) (by norm_num)

theorem tb_at (c : Dev nD) (r : Fin 32768) (d : Fin 1024) (h : (B1 m c (ix2 r 1)).toNat < 67584) :
    tb m c (ix2 r d) = B3 m c (ix2 (CombineIdealRun.rowOf (B1 m c (ix2 r 1))) d) :=
  Routing.gather_row (nb := 67584) (B := 1024) (n := 32768) _ rfl rfl rfl rfl rfl _ _ r d _ ((sb_at m c r).trans (word_row _ h)) (by norm_num)

theorem res_at' (c : Dev nD) (r : Fin 32768) (d : Fin 1024) :
    (Value.res_out0 m c : S32768x1024.Idx → EReal) (ix2 r d)
      = CombineRow.row (fun k => B0 m c (ix2 r k)) (fun k => ta m c (ix2 r k)) (fun k => tb m c (ix2 r k)) (B2 m c (ix2 r 4)) (B2 m c (ix2 r 5))
          (fun k => B4 m c (ix2 3 k)) (fun k => B5 m c (ix2 3 k)) d := by
  unfold Value.res_out0 Value.res_main_v43
  rw [← ta, ← tb]
  clean_types
  generalize ta m c = A
  generalize tb m c = B
  pointwise
  rfl

theorem res_at (c : Dev nD) (hN : ∀ x, (B1 m c x).toNat < 67584) (r : Fin 32768) (d : Fin 1024) :
    (Value.res_out0 m c : S32768x1024.Idx → EReal) (ix2 r d)
      = CombineRow.row (fun k => B0 m c (ix2 r k)) (fun k => B3 m c (ix2 (CombineIdealRun.rowOf (B1 m c (ix2 r 0))) k))
          (fun k => B3 m c (ix2 (CombineIdealRun.rowOf (B1 m c (ix2 r 1))) k)) (B2 m c (ix2 r 4)) (B2 m c (ix2 r 5))
          (fun k => B4 m c (ix2 3 k)) (fun k => B5 m c (ix2 3 k)) d := by
  rw [res_at', show (fun k => ta m c (ix2 r k)) = _ from funext fun k => ta_at m c r k (hN _),
    show (fun k => tb m c (ix2 r k)) = _ from funext fun k => tb_at m c r k (hN _)]

end Cert.CombineRefAt

end
-- ==== Proof.Combine.Claims.lean ====
/- The combine step's claims: its reference's frames, and at the ideal instance the kernel's array equal to the reference's. -/
module

public import proofs.«01_k».proof.Defs
public import proofs.«01_k».proof.Proof.Combine.Ref

public import Idealize.ShloMosaic.Lib.Quiescent

@[expose] public section

set_option maxRecDepth 16384

noncomputable section

namespace Cert.CombineClaims

open Idealize.ShloMosaic Idealize.ShloMosaic.TcCoe Idealize.SL.Sem

theorem frame_ref : Cert.quiescent_CombineRefIdeal (hCombineRefIdeal := Cert.CombineRefIdeal.Gen.facts) := fun m ρ _ =>
  (θ_run Cert.CombineRefIdeal.defs _ _).mono (fun r h => ⟨fun c => (h c).2,
      Idealize.ShloMosaic.sem_eq_zero_of_no_sems (by decide) r.2⟩)
    (Cert.CombineRefIdeal.Value.run (F := Ideal) m ρ)

theorem frame_ref_pre : Cert.quiescent_CombineRefIdeal_pre_slots_named (hCombineRefIdeal := Cert.CombineRefIdeal.Gen.facts)
    (hPre_slots_named := Cert.CombineIdealOk.facts_pre) := fun m ρ _ => frame_ref m ρ trivial

/-- The reference's array is the kernel's. -/
theorem ref_eq (m : (ℓ : Loc Cert.CombineIdeal.nD Cert.CombineIdeal.τ Cert.CombineIdeal.sig) → Buf (Elt Ideal) ℓ)
    (m' : (ℓ : Loc Cert.CombineRefIdeal.nD Cert.CombineRefIdeal.τ Cert.CombineRefIdeal.sig) → Buf (Elt Ideal) ℓ) (c : Dev Cert.CombineIdeal.nD)
    (hN : ∀ x, (Cert.CombineBlock.A1 m c x).toNat < 67584)
    (h0 : Cert.CombineRefAt.B0 m' c = Cert.CombineBlock.A0 m c) (h1 : Cert.CombineRefAt.B1 m' c = Cert.CombineBlock.A1 m c)
    (h2 : Cert.CombineRefAt.B2 m' c = Cert.CombineBlock.A2 m c) (h3 : Cert.CombineRefAt.B3 m' c = Cert.CombineBlock.A3 m c)
    (h4 : Cert.CombineRefAt.B4 m' c = Cert.CombineBlock.A4 m c) (h5 : Cert.CombineRefAt.B5 m' c = Cert.CombineBlock.A5 m c) :
    (Cert.CombineRefIdeal.Value.res_out0 m' c : Cert.CombineIdeal.S32768x1024.Idx → EReal) = Cert.CombineBlock.G m c := by
  funext i
  have hi : (i : Cert.CombineIdeal.S32768x1024.Idx) = ix2 (n0 := 32768) (n1 := 1024) (i 0) (i 1) := by
    funext a; fin_cases a <;> rfl
  refine (congrArg _ hi).trans ((Cert.CombineRefAt.res_at m' c (fun x => by rw [h1]; exact hN x) (i 0) (i 1)).trans ?_)
  rw [h0, h1, h2, h3, h4, h5]
  rfl

theorem algebraic : Cert.algebraic_CombineIdeal_CombineRefIdeal (hCombineIdeal := Cert.CombineIdeal.Gen.facts)
    (hCombineRefIdeal := Cert.CombineRefIdeal.Gen.facts) (hPre_slots_named := Cert.CombineIdealOk.facts_pre) := by
  intro m g m' g' hpre hagree
  have hO := Cert.CombineIdealOk.allNamed m hpre
  refine ⟨fun c => Cert.CombineBlock.G m c, ?_, ?_⟩
  · refine (θ_run Cert.CombineIdeal.defs _ _).mono (fun r h c => ⟨((h.1 c).1 5).trans (Cert.CombineBlock.arr_eq m c), ?_⟩)
      (Cert.CombineIdealRun.run_main_quiescent m g hO)
    exact ⟨
      ((h.1 c).1 1).trans (((Cert.CombineIdealRun.dats m 0 c).arrAt_in 1 rfl _).trans ((Cert.CombineIdealRun.A_eq m c 1).trans (Cert.CombineIdealRun.V_main_arg0 m c))),
      ((h.1 c).2 Cert.CombineIdeal.main_arg1 (by decide : Cert.CombineIdeal.main_arg1 ∈ Pipeline.restRefs Cert.CombineIdeal.sig Cert.CombineIdeal.spec0)).trans (Cert.CombineIdealRun.V_main_arg1 m c),
      ((h.1 c).1 2).trans (((Cert.CombineIdealRun.dats m 0 c).arrAt_in 2 rfl _).trans ((Cert.CombineIdealRun.A_eq m c 2).trans (Cert.CombineIdealRun.V_main_arg2 m c))),
      ((h.1 c).2 Cert.CombineIdeal.main_arg3 (by decide : Cert.CombineIdeal.main_arg3 ∈ Pipeline.restRefs Cert.CombineIdeal.sig Cert.CombineIdeal.spec0)).trans (Cert.CombineIdealRun.V_main_arg3 m c),
      ((h.1 c).2 Cert.CombineIdeal.main_arg4 (by decide : Cert.CombineIdeal.main_arg4 ∈ Pipeline.restRefs Cert.CombineIdeal.sig Cert.CombineIdeal.spec0)).trans (Cert.CombineIdealRun.V_main_arg4 m c),
      ((h.1 c).2 Cert.CombineIdeal.main_arg5 (by decide : Cert.CombineIdeal.main_arg5 ∈ Pipeline.restRefs Cert.CombineIdeal.sig Cert.CombineIdeal.spec0)).trans (Cert.CombineIdealRun.V_main_arg5 m c)⟩
  · refine (θ_run Cert.CombineRefIdeal.defs _ _).mono (fun _ h c => ⟨(h c).1.trans ?_, (h c).2⟩) (Cert.CombineRefIdeal.Value.run (F := Ideal) m' g')
    obtain ⟨h0, h1, h2, h3, h4, h5⟩ := hagree c
    exact ref_eq m m' c (Cert.CombineIdealOk.named m hpre c) h0 h1 h2 h3 h4 h5

end Cert.CombineClaims

end
-- ==== Proof.Mixout.MixoutIdealRows.lean ====
/- The mixing call at the ideal values: one group of 64 rows of the convolution, from the window of rows it is read off. -/
module

public import proofs.«01_k».proof.Proof.Gen.MixoutIdeal.Launch
public import proofs.«01_k».proof.Proof.Gen.MixoutIdeal.Skeleton
public import Idealize.ShloMosaic.Lib.Pipeline.FrameBody
public import Idealize.ShloMosaic.Lib.WritesUnit
public import Idealize.ShloMosaic.Lib.Pointwise
public import Idealize.ShloMosaic.Lib.Tactic

@[expose] public section

set_option maxRecDepth 16384

noncomputable section

namespace Cert.MixoutIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixoutIdeal Cert.MixoutIdeal.Gen

variable {F : FTy → Type} [FloatOps F]

local notation "𝕄" => MT nD τ sig Unit (Elt F) ℕ (UR sig nD τ) ℕ

/-! ## One group of rows -/

/-- A row of the weights. -/
abbrev tap (x6 : Vec F S31x512 .f32) (o : Fin 2 → ℕ) (h : ∀ a, o a + S1x512.size a ≤ S31x512.size a) : Vec F S1x512 .f32 :=
  View.ld x6 (Rect.unit (s := S31x512) o S1x512.size h)

/-- 64 of the 88 rows of a shifted copy, from row `a` on. -/
def cut (a : ℕ) (h : a + 64 ≤ 88) (p : Vec F S1x88x512 .f32) : Vec F S1x64x512 .f32 :=
  fun x => p (ix3 (n0 := 1) (n1 := 88) (n2 := 512) 0 ⟨a + (x 1).val, by have := (x 1).isLt; change (x 1).val < 64 at this; omega⟩ (x 2))

/-- The sums of shifted products of 64 rows, up to the last. -/
def sums (x6 : Vec F S31x512 .f32) (b : Vec F S1x512 .f32) (w : Vec F S96x512 .f32) : FVec F S64x512 .f32 :=
  have v88 := k0_pay2 b w (tap x6 ![6, 0] inb_S31x512_S1x512_6_0) (tap x6 ![14, 0] inb_S31x512_S1x512_14_0) (tap x6 ![22, 0] inb_S31x512_S1x512_22_0) (tap x6 ![30, 0] inb_S31x512_S1x512_30_0)
  have v124 := k0_pay6 v88 (k0_pay4 (cut 8 (by decide) (k0_pay3 w))) (tap x6 ![7, 0] inb_S31x512_S1x512_7_0) (cut 16 (by decide) (k0_pay3 w)) (tap x6 ![15, 0] inb_S31x512_S1x512_15_0) (cut 24 (by decide) (k0_pay3 w)) (tap x6 ![23, 0] inb_S31x512_S1x512_23_0) (cut 0 (by decide) (k0_pay5 w)) (tap x6 ![0, 0] inb_S31x512_S1x512_0_0)
  have v163 := k0_pay10 v124 (k0_pay7 (cut 8 (by decide) (k0_pay5 w))) (k0_pay8 (tap x6 ![8, 0] inb_S31x512_S1x512_8_0)) (cut 16 (by decide) (k0_pay5 w)) (tap x6 ![16, 0] inb_S31x512_S1x512_16_0) (cut 24 (by decide) (k0_pay5 w)) (tap x6 ![24, 0] inb_S31x512_S1x512_24_0) (cut 0 (by decide) (k0_pay9 w)) (tap x6 ![1, 0] inb_S31x512_S1x512_1_0) (cut 8 (by decide) (k0_pay9 w)) (tap x6 ![9, 0] inb_S31x512_S1x512_9_0)
  have v195 := k0_pay12 v163 (cut 16 (by decide) (k0_pay9 w)) (tap x6 ![17, 0] inb_S31x512_S1x512_17_0) (cut 24 (by decide) (k0_pay9 w)) (tap x6 ![25, 0] inb_S31x512_S1x512_25_0) (cut 0 (by decide) (k0_pay11 w)) (tap x6 ![2, 0] inb_S31x512_S1x512_2_0) (cut 8 (by decide) (k0_pay11 w)) (tap x6 ![10, 0] inb_S31x512_S1x512_10_0)
  have v227 := k0_pay15 v195 (k0_pay13 (cut 16 (by decide) (k0_pay11 w))) (tap x6 ![18, 0] inb_S31x512_S1x512_18_0) (cut 24 (by decide) (k0_pay11 w)) (tap x6 ![26, 0] inb_S31x512_S1x512_26_0) (cut 0 (by decide) (k0_pay14 w)) (tap x6 ![3, 0] inb_S31x512_S1x512_3_0) (cut 8 (by decide) (k0_pay14 w)) (tap x6 ![11, 0] inb_S31x512_S1x512_11_0)
  have v266 := k0_pay19 v227 (k0_pay16 (cut 16 (by decide) (k0_pay14 w))) (k0_pay17 (tap x6 ![19, 0] inb_S31x512_S1x512_19_0)) (cut 24 (by decide) (k0_pay14 w)) (tap x6 ![27, 0] inb_S31x512_S1x512_27_0) (cut 0 (by decide) (k0_pay18 w)) (tap x6 ![4, 0] inb_S31x512_S1x512_4_0) (cut 8 (by decide) (k0_pay18 w)) (tap x6 ![12, 0] inb_S31x512_S1x512_12_0) (cut 16 (by decide) (k0_pay18 w)) (tap x6 ![20, 0] inb_S31x512_S1x512_20_0)
  k0_pay21 v266 (cut 24 (by decide) (k0_pay18 w)) (tap x6 ![28, 0] inb_S31x512_S1x512_28_0) (cut 0 (by decide) (k0_pay20 w)) (tap x6 ![5, 0] inb_S31x512_S1x512_5_0) (cut 8 (by decide) (k0_pay20 w)) (tap x6 ![13, 0] inb_S31x512_S1x512_13_0) (cut 16 (by decide) (k0_pay20 w)) (tap x6 ![21, 0] inb_S31x512_S1x512_21_0)

abbrev r1 : Rect S1x512 := Rect.unit (s := S1x512) ![0, 0] S1x512.size inb_S1x512_S1x512_0_0
abbrev rHi : Rect S1x1024 := Rect.unit (s := S1x1024) ![0, 512] S1x512.size inb_S1x1024_S1x512_0_512
abbrev rW (k : Fin k0_t1_loop.trips) : Rect S544x512 := Rect.unit (s := S544x512) (k0_off1 k) S96x512.size (k0_off1_inb k)
abbrev rC (k : Fin k0_t1_loop.trips) : Rect S512x512 := Rect.unit (s := S512x512) (k0_off2 k) S64x512.size (k0_off2_inb k)

/-- What one trip stores: 64 rows normed, through their unit, scaled. -/
def trip (x6 : Vec F S31x512 .f32) (x7 x8 x9 : Vec F S1x512 .f32) (x10 : Vec F S1x1024 .f32) (w : Vec F S96x512 .f32) : FVec F S64x512 .bf16 :=
  k0_pay26 (k0_pay23 (sums x6 (View.ld x7 r1) w) (k0_pay22 (cut 24 (by decide) (k0_pay20 w))) (tap x6 ![29, 0] inb_S31x512_S1x512_29_0) (View.ld x8 r1) (View.ld x9 r1) (View.ld x10 rHi))

/-- The convolution's rows, 64 at a time, from the window `W`. -/
def conv (x6 : Vec F S31x512 .f32) (x7 x8 x9 : Vec F S1x512 .f32) (x10 : Vec F S1x1024 .f32) (W : Vec F S544x512 .f32) : Vec F S512x512 .bf16 :=
  fun y => trip x6 x7 x8 x9 x10 (View.ld W (rW ⟨(y 0).val / 64, by have := (y 0).isLt; change (y 0).val < 512 at this; show _ < 8; omega⟩))
    (ix2 (n0 := 64) (n1 := 512) ⟨(y 0).val % 64, Nat.mod_lt _ (by decide)⟩ (y 1))

theorem readCov_slab {sp : Space} (v : View sig .tc sp S8x88x512 .f32) (q a : ℕ) (h : ∀ d, (![q, 0, 0] : Fin 3 → ℕ) d + S1x88x512.size d ≤ S8x88x512.size d)
    (h' : ∀ d, (![q, a, 0] : Fin 3 → ℕ) d + S1x64x512.size d ≤ S8x88x512.size d) (ha : a + 64 ≤ 88) (p : Vec F S1x88x512 .f32)
    (L : List (View.Piece (Elt F) S8x88x512 .f32)) :
    v.readCov (⟨Rect.unit (s := S8x88x512) ![q, 0, 0] S1x88x512.size h, p⟩ :: L) (Rect.unit (s := S8x88x512) ![q, a, 0] S1x64x512.size h').toLoadRect = cut a ha p := by
  rw [View.readCov_eq_canon']
  funext x
  have hx : (Rect.unit (s := S8x88x512) ![q, a, 0] S1x64x512.size h').emb x
      = (Rect.unit (s := S8x88x512) ![q, 0, 0] S1x88x512.size h).emb
          (ix3 (n0 := 1) (n1 := 88) (n2 := 512) 0 ⟨a + (x 1).val, by have := (x 1).isLt; change (x 1).val < 64 at this; omega⟩ (x 2)) := by
    have h0 : (x 0).val = 0 := by have := (x 0).isLt; change (x 0).val < 1 at this; omega
    funext d
    match d with
    | ⟨0, _⟩ => exact Fin.ext (show q + 1 * (x 0).val = q + 1 * 0 by rw [h0])
    | ⟨1, _⟩ => exact Fin.ext (show a + 1 * (x 1).val = 0 + 1 * (a + (x 1).val) by omega)
    | ⟨2, _⟩ => exact Fin.ext (show 0 + 1 * (x 2).val = 0 + 1 * (x 2).val by omega)
  exact (congrArg (View.canon _) hx).trans (View.canon_cons_emb _ _ _ _)

/-! ## The loop -/

abbrev CBuf (c : Dev nD) {S : Shape} {e : EltTy} (M : Memref sig .tc .vmem S e) : Type := Buf (Elt F) (M.view.loc (c : Thread nD τ))
abbrev cPt (c : Dev nD) {S : Shape} {e : EltTy} (M : Memref sig .tc .vmem S e) (f : CBuf (F := F) c M) : sProp 𝕄 :=
  M.view.loc (c : Thread nD τ) ↦{fullShare} f

/-- What the loop holds before trip `k`: its inputs as they were, and the convolution's rows below `64 * k`. -/
def inv (c : Dev nD) (arg6 : Memref sig .tc .vmem S31x512 .f32) (arg7 arg8 arg9 : Memref sig .tc .vmem S1x512 .f32)
    (arg10 : Memref sig .tc .vmem S1x1024 .f32) (arg15 : Memref sig .tc .vmem S544x512 .f32)
    (arg16 : Memref sig .tc .vmem S512x512 .bf16) (arg17 : Memref sig .tc .vmem S8x88x512 .f32)
    (f6 : CBuf (F := F) c arg6) (f7 : CBuf (F := F) c arg7) (f8 : CBuf (F := F) c arg8) (f9 : CBuf (F := F) c arg9) (f10 : CBuf (F := F) c arg10)
    (f15 : CBuf (F := F) c arg15) (k : ℕ) (_ : Unit) : sProp 𝕄 :=
  iprop(cPt c arg6 f6 ∗ cPt c arg7 f7 ∗ cPt c arg8 f8 ∗ cPt c arg9 f9 ∗ cPt c arg10 f10 ∗ cPt c arg15 f15
    ∗ (∃ g, cPt c arg17 g)
    ∗ (∃ g, ⌜∀ y : S512x512.Idx, (y 0).val < 64 * k → View.read (Elt F) arg16.view g y
        = conv (View.read (Elt F) arg6.view f6) (View.read (Elt F) arg7.view f7) (View.read (Elt F) arg8.view f8) (View.read (Elt F) arg9.view f9)
            (View.read (Elt F) arg10.view f10) (View.read (Elt F) arg15.view f15) y⌝ ∗ cPt c arg16 g))

set_option maxHeartbeats 4000000 in
theorem step (c : Dev nD) (i : grid0.Coords)
    (arg2 : Memref sig .tc .vmem S512x1024 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S32x512 .f32) (harg5 : arg5.IsWhole)
    (arg6 : Memref sig .tc .vmem S31x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S544x512 .f32) (harg15 : arg15.IsWhole)
    (arg16 : Memref sig .tc .vmem S512x512 .bf16) (harg16 : arg16.IsWhole)
    (arg17 : Memref sig .tc .vmem S8x88x512 .f32) (harg17 : arg17.IsWhole)
    (f6 : CBuf (F := F) c arg6) (f7 : CBuf (F := F) c arg7) (f8 : CBuf (F := F) c arg8) (f9 : CBuf (F := F) c arg9) (f10 : CBuf (F := F) c arg10)
    (f15 : CBuf (F := F) c arg15) (k : Fin k0_t1_loop.trips) (acc : Unit) :
    inv c arg6 arg7 arg8 arg9 arg10 arg15 arg16 arg17 f6 f7 f8 f9 f10 f15 k.val acc
      ⊢ wp frame (wpE (defs₀ (F := F)) Variants.none c none) Set.univ
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k acc)
          (inv c arg6 arg7 arg8 arg9 arg10 arg15 arg16 arg17 f6 f7 f8 f9 f10 f15 (k.val + 1)) := by
  unfold inv k0_t1_body
  rw [k0_part8_eq_skeleton]
  unfold k0_part8_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  iintro ⟨H6, H7, H8, H9, H10, H15, ⟨%g17, H17⟩, ⟨%g, %hg, H16⟩⟩
  sl_exec
  sl_step
  isplitl [H6]; · iexact H6
  isplitl [H7]; · iexact H7
  isplitl [H8]; · iexact H8
  isplitl [H9]; · iexact H9
  isplitl [H10]; · iexact H10
  isplitl [H15]; · iexact H15
  isplitl [H17]; · iexists _; iexact H17
  iexists _; isplitr
  swap; · iexact H16
  ipureintro
  intro y hy
  by_cases h : (y 0).val < 64 * k.val
  · exact (View.read_writes_cons_rows_of_not_mem _ _ _ _ _ y (k0_off2_eq k) rfl (Or.inl h)).trans (hg y h)
  have hy0 : (y 0).val = 64 * k.val + ((y 0).val - 64 * k.val) := by omega
  refine (View.read_writes_cons_rows_of_mem _ _ _ _ _ y
    (ix2 (n0 := 64) (n1 := 512) ⟨(y 0).val - 64 * k.val, by omega⟩ (y 1)) (k0_off2_eq k) hy0 rfl).trans ?_
  have hk : (⟨(y 0).val / 64, by have := (y 0).isLt; change (y 0).val < 512 at this; show _ < 8; omega⟩ : Fin k0_t1_loop.trips) = k :=
    Fin.ext (show (y 0).val / 64 = k.val by omega)
  unfold conv
  rw [hk]
  have hr : (⟨(y 0).val % 64, Nat.mod_lt _ (by decide)⟩ : Fin 64) = ⟨(y 0).val - 64 * k.val, by omega⟩ := Fin.ext (show (y 0).val % 64 = (y 0).val - 64 * k.val by omega)
  rw [hr]
  have e93 : step.sl.v93 c arg15 arg17 f15 k = cut 8 (by decide) (k0_pay3 (View.readAt (Elt F) arg15.view (rW k).toLoadRect f15)) := by unfold step.sl.v93; exact readCov_slab _ 1 8 _ _ _ _ _
  have e100 : step.sl.v100 c arg15 arg17 f15 k = cut 16 (by decide) (k0_pay3 (View.readAt (Elt F) arg15.view (rW k).toLoadRect f15)) := by unfold step.sl.v100; exact readCov_slab _ 1 16 _ _ _ _ _
  have e107 : step.sl.v107 c arg15 arg17 f15 k = cut 24 (by decide) (k0_pay3 (View.readAt (Elt F) arg15.view (rW k).toLoadRect f15)) := by unfold step.sl.v107; exact readCov_slab _ 1 24 _ _ _ _ _
  have e118 : step.sl.v118 c arg15 arg17 f15 k = cut 0 (by decide) (k0_pay5 (View.readAt (Elt F) arg15.view (rW k).toLoadRect f15)) := by unfold step.sl.v118; exact readCov_slab _ 2 0 _ _ _ _ _
  have e125 : step.sl.v125 c arg15 arg17 f15 k = cut 8 (by decide) (k0_pay5 (View.readAt (Elt F) arg15.view (rW k).toLoadRect f15)) := by unfold step.sl.v125; exact readCov_slab _ 2 8 _ _ _ _ _
  have e132 : step.sl.v132 c arg15 arg17 f15 k = cut 16 (by decide) (k0_pay5 (View.readAt (Elt F) arg15.view (rW k).toLoadRect f15)) := by unfold step.sl.v132; exact readCov_slab _ 2 16 _ _ _ _ _
  have e139 : step.sl.v139 c arg15 arg17 f15 k = cut 24 (by decide) (k0_pay5 (View.readAt (Elt F) arg15.view (rW k).toLoadRect f15)) := by unfold step.sl.v139; exact readCov_slab _ 2 24 _ _ _ _ _
  have e150 : step.sl.v150 c arg15 arg17 f15 k = cut 0 (by decide) (k0_pay9 (View.readAt (Elt F) arg15.view (rW k).toLoadRect f15)) := by unfold step.sl.v150; exact readCov_slab _ 3 0 _ _ _ _ _
  have e157 : step.sl.v157 c arg15 arg17 f15 k = cut 8 (by decide) (k0_pay9 (View.readAt (Elt F) arg15.view (rW k).toLoadRect f15)) := by unfold step.sl.v157; exact readCov_slab _ 3 8 _ _ _ _ _
  have e164 : step.sl.v164 c arg15 arg17 f15 k = cut 16 (by decide) (k0_pay9 (View.readAt (Elt F) arg15.view (rW k).toLoadRect f15)) := by unfold step.sl.v164; exact readCov_slab _ 3 16 _ _ _ _ _
  have e171 : step.sl.v171 c arg15 arg17 f15 k = cut 24 (by decide) (k0_pay9 (View.readAt (Elt F) arg15.view (rW k).toLoadRect f15)) := by unfold step.sl.v171; exact readCov_slab _ 3 24 _ _ _ _ _
  have e182 : step.sl.v182 c arg15 arg17 f15 k = cut 0 (by decide) (k0_pay11 (View.readAt (Elt F) arg15.view (rW k).toLoadRect f15)) := by unfold step.sl.v182; exact readCov_slab _ 4 0 _ _ _ _ _
  have e189 : step.sl.v189 c arg15 arg17 f15 k = cut 8 (by decide) (k0_pay11 (View.readAt (Elt F) arg15.view (rW k).toLoadRect f15)) := by unfold step.sl.v189; exact readCov_slab _ 4 8 _ _ _ _ _
  have e196 : step.sl.v196 c arg15 arg17 f15 k = cut 16 (by decide) (k0_pay11 (View.readAt (Elt F) arg15.view (rW k).toLoadRect f15)) := by unfold step.sl.v196; exact readCov_slab _ 4 16 _ _ _ _ _
  have e203 : step.sl.v203 c arg15 arg17 f15 k = cut 24 (by decide) (k0_pay11 (View.readAt (Elt F) arg15.view (rW k).toLoadRect f15)) := by unfold step.sl.v203; exact readCov_slab _ 4 24 _ _ _ _ _
  have e214 : step.sl.v214 c arg15 arg17 f15 k = cut 0 (by decide) (k0_pay14 (View.readAt (Elt F) arg15.view (rW k).toLoadRect f15)) := by unfold step.sl.v214; exact readCov_slab _ 5 0 _ _ _ _ _
  have e221 : step.sl.v221 c arg15 arg17 f15 k = cut 8 (by decide) (k0_pay14 (View.readAt (Elt F) arg15.view (rW k).toLoadRect f15)) := by unfold step.sl.v221; exact readCov_slab _ 5 8 _ _ _ _ _
  have e228 : step.sl.v228 c arg15 arg17 f15 k = cut 16 (by decide) (k0_pay14 (View.readAt (Elt F) arg15.view (rW k).toLoadRect f15)) := by unfold step.sl.v228; exact readCov_slab _ 5 16 _ _ _ _ _
  have e235 : step.sl.v235 c arg15 arg17 f15 k = cut 24 (by decide) (k0_pay14 (View.readAt (Elt F) arg15.view (rW k).toLoadRect f15)) := by unfold step.sl.v235; exact readCov_slab _ 5 24 _ _ _ _ _
  have e246 : step.sl.v246 c arg15 arg17 f15 k = cut 0 (by decide) (k0_pay18 (View.readAt (Elt F) arg15.view (rW k).toLoadRect f15)) := by unfold step.sl.v246; exact readCov_slab _ 6 0 _ _ _ _ _
  have e253 : step.sl.v253 c arg15 arg17 f15 k = cut 8 (by decide) (k0_pay18 (View.readAt (Elt F) arg15.view (rW k).toLoadRect f15)) := by unfold step.sl.v253; exact readCov_slab _ 6 8 _ _ _ _ _
  have e260 : step.sl.v260 c arg15 arg17 f15 k = cut 16 (by decide) (k0_pay18 (View.readAt (Elt F) arg15.view (rW k).toLoadRect f15)) := by unfold step.sl.v260; exact readCov_slab _ 6 16 _ _ _ _ _
  have e267 : step.sl.v267 c arg15 arg17 f15 k = cut 24 (by decide) (k0_pay18 (View.readAt (Elt F) arg15.view (rW k).toLoadRect f15)) := by unfold step.sl.v267; exact readCov_slab _ 6 24 _ _ _ _ _
  have e278 : step.sl.v278 c arg15 arg17 f15 k = cut 0 (by decide) (k0_pay20 (View.readAt (Elt F) arg15.view (rW k).toLoadRect f15)) := by unfold step.sl.v278; exact readCov_slab _ 7 0 _ _ _ _ _
  have e285 : step.sl.v285 c arg15 arg17 f15 k = cut 8 (by decide) (k0_pay20 (View.readAt (Elt F) arg15.view (rW k).toLoadRect f15)) := by unfold step.sl.v285; exact readCov_slab _ 7 8 _ _ _ _ _
  have e292 : step.sl.v292 c arg15 arg17 f15 k = cut 16 (by decide) (k0_pay20 (View.readAt (Elt F) arg15.view (rW k).toLoadRect f15)) := by unfold step.sl.v292; exact readCov_slab _ 7 16 _ _ _ _ _
  have e299 : step.sl.v299 c arg15 arg17 f15 k = cut 24 (by decide) (k0_pay20 (View.readAt (Elt F) arg15.view (rW k).toLoadRect f15)) := by unfold step.sl.v299; exact readCov_slab _ 7 24 _ _ _ _ _
  rw [e93, e100, e107, e118, e125, e132, e139, e150, e157, e164, e171, e182, e189, e196, e203, e214, e221, e228, e235, e246, e253, e260, e267, e278, e285, e292, e299]
  unfold trip sums
  rfl

end Cert.MixoutIdealRun

end
-- ==== Proof.Mixout.MixoutIdealBody.lean ====
/- The mixing call at the ideal values: what the body leaves in its block, from the blocks it is called with. -/
module

public import proofs.«01_k».proof.Proof.Mixout.MixoutIdealRows

@[expose] public section

set_option maxRecDepth 16384

noncomputable section

namespace Cert.MixoutIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixoutIdeal Cert.MixoutIdeal.Gen

variable {F : FTy → Type} [FloatOps F]

local notation "𝕄" => MT nD τ sig Unit (Elt F) ℕ (UR sig nD τ) ℕ

/-! ## What the body stores -/

abbrev rX : Rect S512x1024 := Rect.unit (s := S512x1024) ![0, 0] S512x1024.size inb_S512x1024_S512x1024_0_0
abbrev rU : Rect S512x512 := Rect.unit (s := S512x512) ![0, 0] S512x512.size inb_S512x512_S512x512_0_0
abbrev rP : Rect S32x512 := Rect.unit (s := S32x512) ![0, 0] S32x512.size inb_S32x512_S32x512_0_0
abbrev rL : Rect S1x1024 := Rect.unit (s := S1x1024) ![0, 0] S1x1024.size inb_S1x1024_S1x1024_0_0
abbrev rLo : Rect S1x1024 := Rect.unit (s := S1x1024) ![0, 0] S1x512.size inb_S1x1024_S1x512_0_0
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rHead : Rect S544x512 := Rect.unit (s := S544x512) ![0, 0] S32x512.size inb_S544x512_S32x512_0_0
abbrev rRest : Rect S544x512 := Rect.unit (s := S544x512) ![32, 0] S512x512.size inb_S544x512_S512x512_32_0

/-- The window the convolution is read off: 32 rows before the block, or zeros, then the block. -/
def window (i : grid0.Coords) (u : Vec F S512x512 .f32) (p : Vec F S32x512 .f32) : Vec F S544x512 .f32 := fun y =>
  if h : (y 0).val < 32 then k0_pay24 i (View.ld p rP) (ix2 (n0 := 32) (n1 := 512) ⟨(y 0).val, h⟩ (y 1))
  else k0_pay25 (View.ld u rU) (ix2 (n0 := 512) (n1 := 512) ⟨(y 0).val - 32, by have := (y 0).isLt; change (y 0).val < 544 at this; omega⟩ (y 1))

theorem read_window (arg15 : Memref sig .tc .vmem S544x512 .f32) (g : BufTy.Contents (Elt F) arg15.view.ty) (i : grid0.Coords)
    (u : Vec F S512x512 .f32) (p : Vec F S32x512 .f32) :
    View.read (Elt F) arg15.view (arg15.view.writes (Elt F) g [⟨rRest, k0_pay25 (View.ld u rU)⟩, ⟨rHead, k0_pay24 i (View.ld p rP)⟩])
      = window i u p := by
  funext y
  unfold window
  by_cases h : (y 0).val < 32
  · rw [dif_pos h]
    exact (View.read_writes_cons_rows_of_not_mem _ _ _ _ _ y rfl rfl (Or.inl h)).trans
      (View.read_writes_cons_rows_of_mem _ _ _ _ _ y (ix2 (n0 := 32) (n1 := 512) ⟨(y 0).val, h⟩ (y 1)) rfl (Nat.zero_add _).symm rfl)
  · rw [dif_neg h]
    exact View.read_writes_cons_rows_of_mem _ _ _ _ _ y
      (ix2 (n0 := 512) (n1 := 512) ⟨(y 0).val - 32, by have := (y 0).isLt; change (y 0).val < 544 at this; omega⟩ (y 1)) rfl
      (show (y 0).val = 32 + ((y 0).val - 32) by omega) rfl

/-- The payload of the body's last store. -/
def stored (i : grid0.Coords) (x0 : Vec F S512x1024 .f32) (x1 : Vec F S512x512 .f32) (x2 : Vec F S512x512 .f32) (x3 : Vec F S32x512 .f32) (x4 : Vec F S31x512 .f32) (x5 : Vec F S1x512 .f32) (x6 : Vec F S1x512 .f32) (x7 : Vec F S1x512 .f32) (x8 : Vec F S1x1024 .f32) (x9 : Vec F S1024x1024 .bf16) (x10 : Vec F S1x1024 .f32) (x11 : Vec F S1x1024 .f32) : Vec F S512x1024 .f32 :=
  k0_pay1 (k0_pay27 (View.ld x1 rU) (View.ld x8 rLo) (View.ld x0 rX) (View.ld x9 rTop))
    (View.ld (conv x4 x5 x6 x7 x8 (window i x2 x3)) rU) (View.ld x9 rBot) (View.ld x10 rL) (View.ld x11 rL)

/-- The output block after the body. -/
def out (i : grid0.Coords) (x0 : Vec F S512x1024 .f32) (x1 : Vec F S512x512 .f32) (x2 : Vec F S512x512 .f32) (x3 : Vec F S32x512 .f32) (x4 : Vec F S31x512 .f32) (x5 : Vec F S1x512 .f32) (x6 : Vec F S1x512 .f32) (x7 : Vec F S1x512 .f32) (x8 : Vec F S1x1024 .f32) (x9 : Vec F S1024x1024 .bf16) (x10 : Vec F S1x1024 .f32) (x11 : Vec F S1x1024 .f32) : Vec F S512x1024 .f32 := View.canon [⟨rX, stored i x0 x1 x2 x3 x4 x5 x6 x7 x8 x9 x10 x11⟩]

theorem cover (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
theorem sound_kernel (c : Dev nD) (i : grid0.Coords)
    (arg2 : Memref sig .tc .vmem S512x1024 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S32x512 .f32) (harg5 : arg5.IsWhole)
    (arg6 : Memref sig .tc .vmem S31x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S544x512 .f32) (harg15 : arg15.IsWhole)
    (arg16 : Memref sig .tc .vmem S512x512 .bf16) (harg16 : arg16.IsWhole)
    (arg17 : Memref sig .tc .vmem S8x88x512 .f32) (harg17 : arg17.IsWhole)
    (x0 : Vec F S512x1024 .f32) (x1 : Vec F S512x512 .f32) (x2 : Vec F S512x512 .f32) (x3 : Vec F S32x512 .f32) (x4 : Vec F S31x512 .f32) (x5 : Vec F S1x512 .f32) (x6 : Vec F S1x512 .f32) (x7 : Vec F S1x512 .f32) (x8 : Vec F S1x1024 .f32) (x9 : Vec F S1024x1024 .bf16) (x10 : Vec F S1x1024 .f32) (x11 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out i x0 x1 x2 x3 x4 x5 x6 x7 x8 x9 x10 x11) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_mixout i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  rw [harg6.set_eq_univ, harg7.set_eq_univ, harg8.set_eq_univ, harg9.set_eq_univ, harg10.set_eq_univ, harg15.set_eq_univ, harg16.set_eq_univ,
    harg17.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11
  rw [cc0_mixout_eq_skeleton]
  unfold cc0_mixout_skel
  rw [k0_part9_eq_skeleton]
  unfold k0_part9_skel
  sl_exec
  rw [Prog.bind_assoc]
  sl_for (inv c arg6 arg7 arg8 arg9 arg10 arg15 arg16 arg17 f4 f5 f6 f7 f8
      (arg15.view.writes (Elt F) f15 [⟨rRest, k0_pay25 (View.readAt (Elt F) arg4.view rU.toLoadRect f2)⟩, ⟨rHead, k0_pay24 i (View.readAt (Elt F) arg5.view rP.toLoadRect f3)⟩])) $$ [H4 H5 H6 H7 H8 H15 H16 H17]
  · intro k acc; exact step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f5 f6 f7 f8
      (arg15.view.writes (Elt F) f15 [⟨rRest, k0_pay25 (View.readAt (Elt F) arg4.view rU.toLoadRect f2)⟩, ⟨rHead, k0_pay24 i (View.readAt (Elt F) arg5.view rP.toLoadRect f3)⟩]) k acc
  · unfold inv
    isplitl [H4]; · iexact H4
    isplitl [H5]; · iexact H5
    isplitl [H6]; · iexact H6
    isplitl [H7]; · iexact H7
    isplitl [H8]; · iexact H8
    isplitl [H15]; · iexact H15
    isplitl [H17]; · iexists _; iexact H17
    iexists f16; isplitr
    swap; · iexact H16
    ipureintro
    exact fun y hy => absurd hy (Nat.not_lt_zero _)
  iintro %acc HL
  unfold inv
  icases HL with ⟨H4, H5, H6, H7, H8, H15, ⟨%g17, H17⟩, ⟨%g, %hg, H16⟩⟩
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists _; isplitr
    swap; · iexact H14
    ipureintro
    refine (View.read_writes_eq_canon _ _ _ (cover _)).trans ?_
    have hC : View.read (Elt F) arg16.view g = conv _ _ _ _ _ _ := funext fun y => hg y (by
      have := (y 0).isLt; change (y 0).val < 512 at this; show (y 0).val < 64 * 8; omega)
    have hW := hC.trans (congrArg (conv _ _ _ _ _) (read_window arg15 f15 i (View.read (Elt F) arg4.view f2) (View.read (Elt F) arg5.view f3)))
    have hR : View.readAt (Elt F) arg16.view rU.toLoadRect g = View.ld _ rU := congrArg (fun v => View.ld v rU) hW
    unfold out stored
    rw [hR]
    rfl
  isplitl [H15]
  · iexists _; iexists _; isplitr; swap; · iexact H15
    ipureintro; rfl
  isplitl [H16]
  · iexists _; iexists _; isplitr; swap; · iexact H16
    ipureintro; rfl
  iexists _; iexists _; isplitr; swap; · iexact H17
  ipureintro; rfl

end Cert.MixoutIdealRun

end
-- ==== Proof.Mixout.MixoutIdealRun.lean ====
/- The mixing call's launch at the ideal values: the pipeline's data, the body's obligation, the run. -/
module

public import proofs.«01_k».proof.Proof.Mixout.MixoutIdealBody
public import proofs.«01_k».proof.Proof.Gen.MixoutIdeal.Launch
public import proofs.«01_k».proof.Proof.Gen.MixoutIdeal.Points
public import Idealize.ShloMosaic.Lib.Claim
public import Idealize.ShloMosaic.Lib.Pipeline.Frame
public import Idealize.ShloMosaic.Lib.Pipeline.FrameBody

@[expose] public section

set_option maxRecDepth 16384

noncomputable section

namespace Cert.MixoutIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixoutIdeal Cert.MixoutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the launch is entered: the memory after the layer's parameters are sliced and cast. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks and the pipeline's data -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- The arrays as the launch finds them; each input's block in place, the output's as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- A scratch buffer at some contents, as the body's triple holds it. -/
theorem scratch_whole (c : Dev nD) (b : Ref sig .tc) :
    iprop(∃ f : Buf (Elt F) ((c : Thread nD τ).loc b), ((c : Thread nD τ).loc b) ↦{fullShare} f)
      ⊣⊢ (iprop(∃ d, owns (c : Thread nD τ) (Memref.whole b) fullShare d) : sProp 𝕄) := by
  have h : (iprop(∃ d, owns (c : Thread nD τ) (Memref.whole b) fullShare d) : sProp 𝕄)
      = iprop(∃ f : Buf (Elt F) ((c : Thread nD τ).loc b), ((c : Thread nD τ).loc b) ↦{fullShare} f) :=
    congrArg (fun Φ : Buf (Elt F) ((c : Thread nD τ).loc b) → sProp 𝕄 => iprop(∃ f, Φ f))
      (funext fun f => owns_whole (c : Thread nD τ) b fullShare f)
  rw [h]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl]
  unfold Pipeline.ΦA
  rw [scopedRest0_eq]
  iintro ⟨⟨⟨S0, S1, S2⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [S0]; · iapply (scratch_whole (F := F) c cc0_scratch0).1; iexact S0
  isplitl [S1]; · iapply (scratch_whole (F := F) c cc0_scratch1).1; iexact S1
  isplitl [S2]; · iapply (scratch_whole (F := F) c cc0_scratch2).1; iexact S2
  iintro ⟨H0, H1, H2, H3, H4, H5, H6, H7, H8, H9, H10, H11, H12, S0, S1, S2⟩
  isplitl [S0 S1 S2 Hp]
  · isplitr [Hp]
    · isplitl [S0]; · iapply (scratch_whole (F := F) c cc0_scratch0).2; iexact S0
      isplitl [S1]; · iapply (scratch_whole (F := F) c cc0_scratch1).2; iexact S1
      iapply (scratch_whole (F := F) c cc0_scratch2).2; iexact S2
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨
      ((h.1 c).2 main_arg0 (by decide : main_arg0 ∈ Pipeline.restRefs sig spec0)).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c),
      ((h.1 c).2 main_arg9 (by decide : main_arg9 ∈ Pipeline.restRefs sig spec0)).trans (V_main_arg9 m c),
      ((h.1 c).2 main_arg10 (by decide : main_arg10 ∈ Pipeline.restRefs sig spec0)).trans (V_main_arg10 m c)⟩, h.2⟩)
    (run_main_quiescent m ρ)

end Cert.MixoutIdealRun

end
-- ==== Proof.Mixout.MixoutIdealOk.lean ====
/- The mixing call's run at the ideal values is the program's own: both frames from it. -/
module

public import proofs.«01_k».proof.Defs
public import proofs.«01_k».proof.Proof.Mixout.MixoutIdealRun
public import proofs.«01_k».proof.Proof.Gen.Mixout

@[expose] public section

set_option maxRecDepth 16384

noncomputable section

namespace Cert.MixoutIdealOk

open Idealize.ShloMosaic Idealize.ShloMosaic.TcCoe Idealize.SL.Sem
open Cert.MixoutIdeal Cert.MixoutIdeal.Gen Cert.MixoutIdealRun

theorem frame : Cert.quiescent_MixoutIdeal (hMixoutIdeal := Cert.MixoutIdeal.Gen.facts) := fun m ρ _ => Cert.MixoutIdealRun.frame m ρ

local instance : Cert.Mixout.Facts := Cert.Mixout.Gen.facts

/-- The program and its idealization have one text: their tables of bodies are the same. -/
theorem defs₀_eq (F : FTy → Type) [FloatOps F] : Cert.Mixout.defs₀ (F := F) = Cert.MixoutIdeal.defs₀ (F := F) :=
  congrArg Defs.onTc (funext fun l => funext fun a => match l, a with
    | ⟨0, _⟩, (_, _) => rfl
    | ⟨_ + 1, h⟩, _ => absurd h (Nat.not_lt.2 (Nat.le_add_left _ _)))

theorem defs_eq (F : FTy → Type) [FloatOps F] : Cert.Mixout.defs (F := F) = Cert.MixoutIdeal.defs (F := F) :=
  congrArg (Pipeline.defs Cert.MixoutIdeal.pcfgs) (defs₀_eq F)

set_option maxHeartbeats 2000000 in
/-- So the run over any float values is the program's too. -/
theorem frame_kernel : Cert.quiescent_Mixout (hMixout := Cert.Mixout.Gen.facts) := fun m ρ _ => by
  have h1 := Cert.MixoutIdealRun.frame (F := Bits) m ρ
  rw [← defs_eq Bits] at h1
  exact h1

end Cert.MixoutIdealOk

end
-- ==== Proof.Mixout.Row.lean ====
/- One row of the mixing call, as a function of the row, its 31 lagged rows and the layer's parameters; the orders its products are summed in. -/
module

public import Idealize.ShloMosaic.Lib.Pointwise
public import Idealize.ShloMosaic.PureOps.Ideal

@[expose] public section

noncomputable section

namespace Cert.MixoutRow

open Idealize.ShloMosaic

/-- The convolution at one row and channel: the 31 products and the bias. -/
def taps (X w : Fin 31 → EReal) (b : EReal) : EReal := (∑ t, X t * w t) + b

/-- Row `r`'s lagged row `t`, of the 4096 rows of its own sequence; zero before the sequence's first. -/
def lag (u : Fin 32768 → Fin 512 → EReal) (r : Fin 32768) (t : Fin 31) (d : Fin 512) : EReal :=
  if 30 ≤ r.val % 4096 + t.val then u ⟨r.val + t.val - 30, by omega⟩ d else 0

/-- A row less its mean, the mean over `n`. -/
def cen {k : ℕ} (n : BitVec 32) (y : Fin k → EReal) (d : Fin k) : EReal :=
  y d - Ideal.div (∑ e, y e) (Ideal.ofBits .f32 n)

/-- A centred row over its deviation, scaled and shifted. -/
def nrm {k : ℕ} (n : BitVec 32) (z g b : Fin k → EReal) (d : Fin k) : EReal :=
  z d * Ideal.rsqrt (Ideal.div (∑ e, z e * z e) (Ideal.ofBits .f32 n) + Ideal.ofBits .f32 0x3727C5AC#32) * g d + b d

/-- The layer norm of a row. -/
def norm {k : ℕ} (n : BitVec 32) (y g b : Fin k → EReal) (d : Fin k) : EReal := nrm n (cen n y) g b d

/-- The convolution's branch at a channel: the normed convolution times its own logistic. -/
def branch (y g b : Fin 512 → EReal) (d : Fin 512) : EReal :=
  norm 0x44000000#32 y g b d * Ideal.logistic (norm 0x44000000#32 y g b d)

/-- The two branches side by side. -/
def both (a c : Fin 512 → EReal) (k : Fin 1024) : EReal :=
  if h : k.val < 512 then a ⟨k.val, h⟩ else c ⟨k.val - 512, by omega⟩

/-- The residual sum: `alpha * x` and the scaled branches through the matrix. -/
def mix (x : Fin 1024 → EReal) (a c : Fin 512 → EReal) (s : Fin 1024 → EReal) (w : Fin 1024 → Fin 1024 → EReal) (d : Fin 1024) : EReal :=
  Ideal.ofBits .f32 0x3FD744FD#32 * x d + ∑ k, both a c k * s k * w k d

/-- The whole row. -/
def row (x : Fin 1024 → EReal) (a c : Fin 512 → EReal) (s : Fin 1024 → EReal) (w : Fin 1024 → Fin 1024 → EReal) (g b : Fin 1024 → EReal) (d : Fin 1024) : EReal :=
  norm 0x44800000#32 (mix x a c s w) g b d

/-- The residual sum in two halves of the matrix. -/
theorem mix_halves (x : Fin 1024 → EReal) (a c : Fin 512 → EReal) (s : Fin 1024 → EReal) (w : Fin 1024 → Fin 1024 → EReal) (d : Fin 1024) :
    mix x a c s w d = Ideal.ofBits .f32 0x3FD744FD#32 * x d + (∑ k : Fin 512, a k * s ⟨k.val, by omega⟩ * w ⟨k.val, by omega⟩ d)
      + ∑ k : Fin 512, c k * s ⟨512 + k.val, by omega⟩ * w ⟨512 + k.val, by omega⟩ d := by
  unfold mix
  rw [add_assoc]
  refine congrArg (_ + ·) ((Fin.sum_univ_add (a := 512) (b := 512) _).trans (congrArg₂ (· + ·) (Finset.sum_congr rfl fun k _ => ?_) (Finset.sum_congr rfl fun k _ => ?_)))
  · show both a c ⟨k.val, _⟩ * s ⟨k.val, _⟩ * w ⟨k.val, _⟩ d = _
    unfold both
    rw [dif_pos k.isLt]
  · show both a c ⟨512 + k.val, _⟩ * s ⟨512 + k.val, _⟩ * w ⟨512 + k.val, _⟩ d = _
    unfold both
    rw [dif_neg (show ¬512 + k.val < 512 by omega)]
    exact congrArg (fun q => c q * _ * _) (Fin.ext (show 512 + k.val - 512 = k.val by omega))

/-- The products one after another, then the bias. -/
theorem taps_forward (f : Fin 31 → EReal) (b : EReal) :
    (((((((((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + b = (∑ t, f t) + b := by
  refine congrArg (· + b) ?_
  simp only [Fin.sum_univ_castSucc, Fin.sum_univ_zero]
  rfl

/-- The bias first, then the products by their lag's remainder mod 8. -/
theorem taps_phases (f : Fin 31 → EReal) (b : EReal) :
    (((((((((((((((((((((((((((((((b + f 6) + f 14) + f 22) + f 30) + f 7) + f 15) + f 23) + f 0) + f 8) + f 16) + f 24) + f 1) + f 9) + f 17) + f 25) + f 2) + f 10) + f 18) + f 26) + f 3) + f 11) + f 19) + f 27) + f 4) + f 12) + f 20) + f 28) + f 5) + f 13) + f 21) + f 29) = (∑ t, f t) + b := by
  rw [← taps_forward]
  abel

end Cert.MixoutRow

end
-- ==== Proof.Mixout.Pay.lean ====
/- The mixing call's block: 64 rows of the convolution, and the row stored, read at an index. -/
module

public import proofs.«01_k».proof.Proof.Mixout.Row
public import proofs.«01_k».proof.Proof.Mixout.MixoutIdealBody
public import Idealize.ShloMosaic.Lib.Pointwise
public import Idealize.ShloMosaic.Lib.Pipeline.ValueKit

@[expose] public section

set_option maxRecDepth 16384

noncomputable section

namespace Cert.MixoutBlock

open Cert.MixoutIdeal Cert.MixoutIdeal.Gen Cert.MixoutIdealRun Idealize.ShloMosaic Idealize.ShloMosaic.TcCoe Idealize.SL.Sem

/-! ## The payloads of one group of rows -/

theorem pay2_at (b : Vec Ideal S1x512 .f32) (w : Vec Ideal S96x512 .f32) (t6 t14 t22 t30 : Vec Ideal S1x512 .f32) (r : Fin 64) (d : Fin 512) :
    k0_pay2 b w t6 t14 t22 t30 (ix2 r d)
      = b (ix2 0 d) + w (ix2 ⟨8 + r.val, by omega⟩ d) * t6 (ix2 0 d) + w (ix2 ⟨16 + r.val, by omega⟩ d) * t14 (ix2 0 d)
        + w (ix2 ⟨24 + r.val, by omega⟩ d) * t22 (ix2 0 d) + w (ix2 ⟨32 + r.val, by omega⟩ d) * t30 (ix2 0 d) := by
  pointwise [k0_pay2]

theorem pay3_at (w : Vec Ideal S96x512 .f32) (q : Fin 88) (d : Fin 512) :
    k0_pay3 w (ix3 0 q d) = w (ix2 ⟨1 + q.val, by omega⟩ d) := by
  pointwise [k0_pay3]

theorem pay5_at (w : Vec Ideal S96x512 .f32) (q : Fin 88) (d : Fin 512) :
    k0_pay5 w (ix3 0 q d) = w (ix2 ⟨2 + q.val, by omega⟩ d) := by
  pointwise [k0_pay5]

theorem pay9_at (w : Vec Ideal S96x512 .f32) (q : Fin 88) (d : Fin 512) :
    k0_pay9 w (ix3 0 q d) = w (ix2 ⟨3 + q.val, by omega⟩ d) := by
  pointwise [k0_pay9]

theorem pay11_at (w : Vec Ideal S96x512 .f32) (q : Fin 88) (d : Fin 512) :
    k0_pay11 w (ix3 0 q d) = w (ix2 ⟨4 + q.val, by omega⟩ d) := by
  pointwise [k0_pay11]

theorem pay14_at (w : Vec Ideal S96x512 .f32) (q : Fin 88) (d : Fin 512) :
    k0_pay14 w (ix3 0 q d) = w (ix2 ⟨5 + q.val, by omega⟩ d) := by
  pointwise [k0_pay14]

theorem pay18_at (w : Vec Ideal S96x512 .f32) (q : Fin 88) (d : Fin 512) :
    k0_pay18 w (ix3 0 q d) = w (ix2 ⟨6 + q.val, by omega⟩ d) := by
  pointwise [k0_pay18]

theorem pay20_at (w : Vec Ideal S96x512 .f32) (q : Fin 88) (d : Fin 512) :
    k0_pay20 w (ix3 0 q d) = w (ix2 ⟨7 + q.val, by omega⟩ d) := by
  pointwise [k0_pay20]

theorem pay4_at (v : Vec Ideal S1x64x512 .f32) (r : Fin 64) (d : Fin 512) : k0_pay4 v (ix2 r d) = v (ix3 0 r d) := by
  pointwise [k0_pay4]

theorem pay7_at (v : Vec Ideal S1x64x512 .f32) (r : Fin 64) (d : Fin 512) : k0_pay7 v (ix2 r d) = v (ix3 0 r d) := by
  pointwise [k0_pay7]

theorem pay13_at (v : Vec Ideal S1x64x512 .f32) (r : Fin 64) (d : Fin 512) : k0_pay13 v (ix2 r d) = v (ix3 0 r d) := by
  pointwise [k0_pay13]

theorem pay16_at (v : Vec Ideal S1x64x512 .f32) (r : Fin 64) (d : Fin 512) : k0_pay16 v (ix2 r d) = v (ix3 0 r d) := by
  pointwise [k0_pay16]

theorem pay22_at (v : Vec Ideal S1x64x512 .f32) (r : Fin 64) (d : Fin 512) : k0_pay22 v (ix2 r d) = v (ix3 0 r d) := by
  pointwise [k0_pay22]

theorem pay8_at (v : Vec Ideal S1x512 .f32) (d : Fin 512) : k0_pay8 v (ix2 0 d) = v (ix2 0 d) := by
  pointwise [k0_pay8]

theorem pay17_at (v : Vec Ideal S1x512 .f32) (d : Fin 512) : k0_pay17 v (ix2 0 d) = v (ix2 0 d) := by
  pointwise [k0_pay17]

theorem pay6_at (v88 : Vec Ideal S64x512 .f32) (v94 : Vec Ideal S64x512 .f32) (v95 : Vec Ideal S1x512 .f32) (v100 : Vec Ideal S1x64x512 .f32) (v102 : Vec Ideal S1x512 .f32) (v107 : Vec Ideal S1x64x512 .f32) (v109 : Vec Ideal S1x512 .f32) (v118 : Vec Ideal S1x64x512 .f32) (v120 : Vec Ideal S1x512 .f32) (r : Fin 64) (d : Fin 512) :
    k0_pay6 v88 v94 v95 v100 v102 v107 v109 v118 v120 (ix2 r d)
      = v88 (ix2 r d) + v94 (ix2 r d) * v95 (ix2 0 d) + v100 (ix3 0 r d) * v102 (ix2 0 d) + v107 (ix3 0 r d) * v109 (ix2 0 d) + v118 (ix3 0 r d) * v120 (ix2 0 d) := by
  pointwise [k0_pay6]

theorem pay10_at (v124 : Vec Ideal S64x512 .f32) (v126 : Vec Ideal S64x512 .f32) (v128 : Vec Ideal S1x512 .f32) (v132 : Vec Ideal S1x64x512 .f32) (v134 : Vec Ideal S1x512 .f32) (v139 : Vec Ideal S1x64x512 .f32) (v141 : Vec Ideal S1x512 .f32) (v150 : Vec Ideal S1x64x512 .f32) (v152 : Vec Ideal S1x512 .f32) (v157 : Vec Ideal S1x64x512 .f32) (v159 : Vec Ideal S1x512 .f32) (r : Fin 64) (d : Fin 512) :
    k0_pay10 v124 v126 v128 v132 v134 v139 v141 v150 v152 v157 v159 (ix2 r d)
      = v124 (ix2 r d) + v126 (ix2 r d) * v128 (ix2 0 d) + v132 (ix3 0 r d) * v134 (ix2 0 d) + v139 (ix3 0 r d) * v141 (ix2 0 d) + v150 (ix3 0 r d) * v152 (ix2 0 d) + v157 (ix3 0 r d) * v159 (ix2 0 d) := by
  pointwise [k0_pay10]

theorem pay12_at (v163 : Vec Ideal S64x512 .f32) (v164 : Vec Ideal S1x64x512 .f32) (v166 : Vec Ideal S1x512 .f32) (v171 : Vec Ideal S1x64x512 .f32) (v173 : Vec Ideal S1x512 .f32) (v182 : Vec Ideal S1x64x512 .f32) (v184 : Vec Ideal S1x512 .f32) (v189 : Vec Ideal S1x64x512 .f32) (v191 : Vec Ideal S1x512 .f32) (r : Fin 64) (d : Fin 512) :
    k0_pay12 v163 v164 v166 v171 v173 v182 v184 v189 v191 (ix2 r d)
      = v163 (ix2 r d) + v164 (ix3 0 r d) * v166 (ix2 0 d) + v171 (ix3 0 r d) * v173 (ix2 0 d) + v182 (ix3 0 r d) * v184 (ix2 0 d) + v189 (ix3 0 r d) * v191 (ix2 0 d) := by
  pointwise [k0_pay12]

theorem pay15_at (v195 : Vec Ideal S64x512 .f32) (v197 : Vec Ideal S64x512 .f32) (v198 : Vec Ideal S1x512 .f32) (v203 : Vec Ideal S1x64x512 .f32) (v205 : Vec Ideal S1x512 .f32) (v214 : Vec Ideal S1x64x512 .f32) (v216 : Vec Ideal S1x512 .f32) (v221 : Vec Ideal S1x64x512 .f32) (v223 : Vec Ideal S1x512 .f32) (r : Fin 64) (d : Fin 512) :
    k0_pay15 v195 v197 v198 v203 v205 v214 v216 v221 v223 (ix2 r d)
      = v195 (ix2 r d) + v197 (ix2 r d) * v198 (ix2 0 d) + v203 (ix3 0 r d) * v205 (ix2 0 d) + v214 (ix3 0 r d) * v216 (ix2 0 d) + v221 (ix3 0 r d) * v223 (ix2 0 d) := by
  pointwise [k0_pay15]

theorem pay19_at (v227 : Vec Ideal S64x512 .f32) (v229 : Vec Ideal S64x512 .f32) (v231 : Vec Ideal S1x512 .f32) (v235 : Vec Ideal S1x64x512 .f32) (v237 : Vec Ideal S1x512 .f32) (v246 : Vec Ideal S1x64x512 .f32) (v248 : Vec Ideal S1x512 .f32) (v253 : Vec Ideal S1x64x512 .f32) (v255 : Vec Ideal S1x512 .f32) (v260 : Vec Ideal S1x64x512 .f32) (v262 : Vec Ideal S1x512 .f32) (r : Fin 64) (d : Fin 512) :
    k0_pay19 v227 v229 v231 v235 v237 v246 v248 v253 v255 v260 v262 (ix2 r d)
      = v227 (ix2 r d) + v229 (ix2 r d) * v231 (ix2 0 d) + v235 (ix3 0 r d) * v237 (ix2 0 d) + v246 (ix3 0 r d) * v248 (ix2 0 d) + v253 (ix3 0 r d) * v255 (ix2 0 d) + v260 (ix3 0 r d) * v262 (ix2 0 d) := by
  pointwise [k0_pay19]

theorem pay21_at (v266 : Vec Ideal S64x512 .f32) (v267 : Vec Ideal S1x64x512 .f32) (v269 : Vec Ideal S1x512 .f32) (v278 : Vec Ideal S1x64x512 .f32) (v280 : Vec Ideal S1x512 .f32) (v285 : Vec Ideal S1x64x512 .f32) (v287 : Vec Ideal S1x512 .f32) (v292 : Vec Ideal S1x64x512 .f32) (v294 : Vec Ideal S1x512 .f32) (r : Fin 64) (d : Fin 512) :
    k0_pay21 v266 v267 v269 v278 v280 v285 v287 v292 v294 (ix2 r d)
      = v266 (ix2 r d) + v267 (ix3 0 r d) * v269 (ix2 0 d) + v278 (ix3 0 r d) * v280 (ix2 0 d) + v285 (ix3 0 r d) * v287 (ix2 0 d) + v292 (ix3 0 r d) * v294 (ix2 0 d) := by
  pointwise [k0_pay21]

theorem pay23_at (v a : FVec Ideal S64x512 .f32) (t g b s : Vec Ideal S1x512 .f32) (r : Fin 64) (d : Fin 512) :
    k0_pay23 v a t g b s (ix2 r d)
      = MixoutRow.branch (fun k => v (ix2 r k) + a (ix2 r k) * t (ix2 0 k)) (fun k => g (ix2 0 k)) (fun k => b (ix2 0 k)) d * s (ix2 0 d) := by
  pointwise [k0_pay23]
  rfl

theorem pay24_at (i : grid0.Coords) (v : Vec Ideal S32x512 .f32) (q : Fin 32) (d : Fin 512) :
    k0_pay24 i v (ix2 q d) = if (i 1).val = 0 then 0 else v (ix2 q d) := by
  pointwise [k0_pay24]
  rcases Nat.eq_zero_or_pos (i 1).val with h | h
  · rw [if_pos h, h]
    rfl
  · have hi : (i 1).val < 8 := (i 1).isLt
    have hne : (BitVec.ofNat 32 (i 1).val == 0#32) = false := by
      rw [beq_eq_false_iff_ne]
      intro e
      have := congrArg BitVec.toNat e
      rw [BitVec.toNat_ofNat, Nat.mod_eq_of_lt (by omega)] at this
      exact absurd this (by show (i 1).val ≠ 0; omega)
    rw [if_neg (by omega)]
    rw [show Scalar.cmpi CmpIPredicate.eq (BitVec.ofNat 32 (i 1).val) 0#32 = 0#1 from congrArg BitVec.ofBool hne]
    rfl

theorem pay25_at (v : Vec Ideal S512x512 .f32) (q d : Fin 512) : k0_pay25 v (ix2 q d) = v (ix2 q d) := by
  pointwise [k0_pay25]

theorem pay26_at (v : FVec Ideal S64x512 .bf16) (r : Fin 64) (d : Fin 512) : k0_pay26 v (ix2 r d) = v (ix2 r d) := by
  pointwise [k0_pay26]

theorem pay27_at (a : Vec Ideal S512x512 .f32) (s : Vec Ideal S1x512 .f32) (x : Vec Ideal S512x1024 .f32) (w : Vec Ideal S512x1024 .bf16) (p : Fin 512) (d : Fin 1024) :
    k0_pay27 a s x w (ix2 p d)
      = Ideal.ofBits .f32 0x3FD744FD#32 * x (ix2 p d) + ∑ k : Fin 512, a (ix2 p k) * s (ix2 0 k) * w (ix2 k d) := by
  pointwise [k0_pay27]
  try rfl

theorem pay1_at (v : FVec Ideal S512x1024 .f32) (u : Vec Ideal S512x512 .bf16) (w : Vec Ideal S512x1024 .bf16) (g b : Vec Ideal S1x1024 .f32) (p : Fin 512) (d : Fin 1024) :
    k0_pay1 v u w g b (ix2 p d)
      = MixoutRow.norm 0x44800000#32 (fun e => v (ix2 p e) + ∑ k : Fin 512, u (ix2 p k) * w (ix2 k e)) (fun k => g (ix2 0 k)) (fun k => b (ix2 0 k)) d := by
  pointwise [k0_pay1]
  rfl

/-! ## One group of rows -/

theorem cut_at (a : ℕ) (h : a + 64 ≤ 88) (v : Vec Ideal S1x88x512 .f32) (r : Fin 64) (d : Fin 512) :
    cut a h v (ix3 0 r d) = v (ix3 0 ⟨a + r.val, by omega⟩ d) := rfl

theorem tap_at (x : Vec Ideal S31x512 .f32) (o : ℕ) (h : ∀ a, (![o, 0] : Fin 2 → ℕ) a + S1x512.size a ≤ S31x512.size a) (d : Fin 512) :
    tap x ![o, 0] h (ix2 (n0 := 1) (n1 := 512) 0 d) = x (ix2 ⟨o, by have := h 0; change o + 1 ≤ 31 at this; omega⟩ d) := by
  refine congrArg x (funext fun a => ?_)
  match a with
  | ⟨0, _⟩ => exact Fin.ext (show o + 1 * 0 = o by omega)
  | ⟨1, _⟩ => exact Fin.ext (show 0 + 1 * d.val = d.val by omega)

theorem cut1_at (a : ℕ) (h : a + 64 ≤ 88) (w : Vec Ideal S96x512 .f32) (r : Fin 64) (d : Fin 512) :
    cut a h (k0_pay3 w) (ix3 0 r d) = w (ix2 ⟨1 + a + r.val, by omega⟩ d) :=
  (pay3_at w _ d).trans (congrArg (fun q => w (ix2 q d)) (Fin.ext (show 1 + (a + r.val) = 1 + a + r.val by omega)))

theorem cut2_at (a : ℕ) (h : a + 64 ≤ 88) (w : Vec Ideal S96x512 .f32) (r : Fin 64) (d : Fin 512) :
    cut a h (k0_pay5 w) (ix3 0 r d) = w (ix2 ⟨2 + a + r.val, by omega⟩ d) :=
  (pay5_at w _ d).trans (congrArg (fun q => w (ix2 q d)) (Fin.ext (show 2 + (a + r.val) = 2 + a + r.val by omega)))

theorem cut3_at (a : ℕ) (h : a + 64 ≤ 88) (w : Vec Ideal S96x512 .f32) (r : Fin 64) (d : Fin 512) :
    cut a h (k0_pay9 w) (ix3 0 r d) = w (ix2 ⟨3 + a + r.val, by omega⟩ d) :=
  (pay9_at w _ d).trans (congrArg (fun q => w (ix2 q d)) (Fin.ext (show 3 + (a + r.val) = 3 + a + r.val by omega)))

theorem cut4_at (a : ℕ) (h : a + 64 ≤ 88) (w : Vec Ideal S96x512 .f32) (r : Fin 64) (d : Fin 512) :
    cut a h (k0_pay11 w) (ix3 0 r d) = w (ix2 ⟨4 + a + r.val, by omega⟩ d) :=
  (pay11_at w _ d).trans (congrArg (fun q => w (ix2 q d)) (Fin.ext (show 4 + (a + r.val) = 4 + a + r.val by omega)))

theorem cut5_at (a : ℕ) (h : a + 64 ≤ 88) (w : Vec Ideal S96x512 .f32) (r : Fin 64) (d : Fin 512) :
    cut a h (k0_pay14 w) (ix3 0 r d) = w (ix2 ⟨5 + a + r.val, by omega⟩ d) :=
  (pay14_at w _ d).trans (congrArg (fun q => w (ix2 q d)) (Fin.ext (show 5 + (a + r.val) = 5 + a + r.val by omega)))

theorem cut6_at (a : ℕ) (h : a + 64 ≤ 88) (w : Vec Ideal S96x512 .f32) (r : Fin 64) (d : Fin 512) :
    cut a h (k0_pay18 w) (ix3 0 r d) = w (ix2 ⟨6 + a + r.val, by omega⟩ d) :=
  (pay18_at w _ d).trans (congrArg (fun q => w (ix2 q d)) (Fin.ext (show 6 + (a + r.val) = 6 + a + r.val by omega)))

theorem cut7_at (a : ℕ) (h : a + 64 ≤ 88) (w : Vec Ideal S96x512 .f32) (r : Fin 64) (d : Fin 512) :
    cut a h (k0_pay20 w) (ix3 0 r d) = w (ix2 ⟨7 + a + r.val, by omega⟩ d) :=
  (pay20_at w _ d).trans (congrArg (fun q => w (ix2 q d)) (Fin.ext (show 7 + (a + r.val) = 7 + a + r.val by omega)))

/-- The sums of 64 rows, the last product with them: all 31 products and the bias. -/
theorem sums_at (x : Vec Ideal S31x512 .f32) (b : Vec Ideal S1x512 .f32) (w : Vec Ideal S96x512 .f32) (r : Fin 64) (d : Fin 512) :
    sums x b w (ix2 r d) + k0_pay22 (cut 24 (by decide) (k0_pay20 w)) (ix2 r d) * tap x ![29, 0] inb_S31x512_S1x512_29_0 (ix2 (n0 := 1) (n1 := 512) 0 d)
      = MixoutRow.taps (fun t => w (ix2 ⟨2 + t.val + r.val, by omega⟩ d)) (fun t => x (ix2 t d)) (b (ix2 0 d)) := by
  unfold sums
  simp only [pay21_at, pay19_at, pay15_at, pay12_at, pay10_at, pay6_at, pay2_at, pay4_at, pay7_at, pay13_at, pay16_at, pay22_at, pay8_at, pay17_at,
    cut1_at, cut2_at, cut3_at, cut4_at, cut5_at, cut6_at, cut7_at]
  repeat rw [tap_at]
  exact MixoutRow.taps_phases (fun t => w (ix2 ⟨2 + t.val + r.val, by omega⟩ d) * x (ix2 t d)) _

theorem hi_at (x : Vec Ideal S1x1024 .f32) (d : Fin 512) : View.ld x rHi (ix2 (n0 := 1) (n1 := 512) 0 d) = x (ix2 0 ⟨512 + d.val, by omega⟩) := by
  refine congrArg x (funext fun a => ?_)
  match a with
  | ⟨0, _⟩ => rfl
  | ⟨1, _⟩ => exact Fin.ext (show 512 + 1 * d.val = 512 + d.val by omega)

theorem lo_at (x : Vec Ideal S1x1024 .f32) (d : Fin 512) : View.ld x rLo (ix2 (n0 := 1) (n1 := 512) 0 d) = x (ix2 0 ⟨d.val, by omega⟩) := by
  refine congrArg x (funext fun a => ?_)
  match a with
  | ⟨0, _⟩ => rfl
  | ⟨1, _⟩ => exact Fin.ext (show 0 + 1 * d.val = d.val by omega)

theorem top_at (x : Vec Ideal S1024x1024 .bf16) (k : Fin 512) (d : Fin 1024) : View.ld x rTop (ix2 (n0 := 512) (n1 := 1024) k d) = x (ix2 ⟨k.val, by omega⟩ d) := by
  refine congrArg x (funext fun a => ?_)
  match a with
  | ⟨0, _⟩ => exact Fin.ext (show 0 + 1 * k.val = k.val by omega)
  | ⟨1, _⟩ => exact Fin.ext (show 0 + 1 * d.val = d.val by omega)

theorem bot_at (x : Vec Ideal S1024x1024 .bf16) (k : Fin 512) (d : Fin 1024) : View.ld x rBot (ix2 (n0 := 512) (n1 := 1024) k d) = x (ix2 ⟨512 + k.val, by omega⟩ d) := by
  refine congrArg x (funext fun a => ?_)
  match a with
  | ⟨0, _⟩ => exact Fin.ext (show 512 + 1 * k.val = 512 + k.val by omega)
  | ⟨1, _⟩ => exact Fin.ext (show 0 + 1 * d.val = d.val by omega)

theorem trip_at (x6 : Vec Ideal S31x512 .f32) (x7 x8 x9 : Vec Ideal S1x512 .f32) (x10 : Vec Ideal S1x1024 .f32) (w : Vec Ideal S96x512 .f32) (r : Fin 64) (d : Fin 512) :
    trip x6 x7 x8 x9 x10 w (ix2 r d)
      = MixoutRow.branch (fun e => MixoutRow.taps (fun t => w (ix2 ⟨2 + t.val + r.val, by omega⟩ e)) (fun t => x6 (ix2 t e)) (x7 (ix2 0 e)))
          (fun e => x8 (ix2 0 e)) (fun e => x9 (ix2 0 e)) d * x10 (ix2 0 ⟨512 + d.val, by omega⟩) := by
  unfold trip
  rw [View.ld_unit_lit _ x7 (by decide), View.ld_unit_lit _ x8 (by decide), View.ld_unit_lit _ x9 (by decide), pay26_at, pay23_at]
  rw [hi_at, show (fun e => sums x6 x7 w (ix2 r e) + k0_pay22 (cut 24 (by decide) (k0_pay20 w)) (ix2 r e) * tap x6 ![29, 0] inb_S31x512_S1x512_29_0 (ix2 (n0 := 1) (n1 := 512) 0 e)) = _ from funext fun e => sums_at x6 x7 w r e]

/-- Row `p` of the convolution's rows, from the window. -/
theorem conv_at (x6 : Vec Ideal S31x512 .f32) (x7 x8 x9 : Vec Ideal S1x512 .f32) (x10 : Vec Ideal S1x1024 .f32) (W : Vec Ideal S544x512 .f32) (p d : Fin 512) :
    conv x6 x7 x8 x9 x10 W (ix2 p d)
      = MixoutRow.branch (fun e => MixoutRow.taps (fun t => W (ix2 ⟨p.val + 2 + t.val, by omega⟩ e)) (fun t => x6 (ix2 t e)) (x7 (ix2 0 e)))
          (fun e => x8 (ix2 0 e)) (fun e => x9 (ix2 0 e)) d * x10 (ix2 0 ⟨512 + d.val, by omega⟩) := by
  have hk : p.val / 64 < 8 := by omega
  have hw : ∀ (t : Fin 31) (e : Fin 512), View.ld W (rW ⟨p.val / 64, hk⟩) (ix2 (n0 := 96) (n1 := 512) ⟨2 + t.val + p.val % 64, by omega⟩ e) = W (ix2 ⟨p.val + 2 + t.val, by omega⟩ e) := by
    intro t e
    refine congrArg W (funext fun a => ?_)
    match a with
    | ⟨0, _⟩ =>
      refine Fin.ext ?_
      show k0_off1 ⟨p.val / 64, hk⟩ 0 + 1 * (2 + t.val + p.val % 64) = p.val + 2 + t.val
      rw [k0_off1_eq]
      show 64 * (p.val / 64) + 1 * (2 + t.val + p.val % 64) = p.val + 2 + t.val
      omega
    | ⟨1, _⟩ =>
      refine Fin.ext ?_
      show k0_off1 ⟨p.val / 64, hk⟩ 1 + 1 * e.val = e.val
      rw [k0_off1_eq]
      show 0 + 1 * e.val = e.val
      omega
  refine (trip_at x6 x7 x8 x9 x10 (View.ld W (rW ⟨p.val / 64, hk⟩)) ⟨p.val % 64, Nat.mod_lt _ (by decide)⟩ d).trans ?_
  simp only [hw]

theorem window_at (i : grid0.Coords) (u : Vec Ideal S512x512 .f32) (p : Vec Ideal S32x512 .f32) (j : Fin 544) (d : Fin 512) :
    window i u p (ix2 j d)
      = if h : j.val < 32 then (if (i 1).val = 0 then 0 else p (ix2 ⟨j.val, h⟩ d)) else u (ix2 ⟨j.val - 32, by omega⟩ d) := by
  unfold window
  rw [View.ld_unit_lit _ p (by decide), View.ld_unit_lit _ u (by decide)]
  by_cases h : j.val < 32
  · rw [dif_pos h]
    exact (dif_pos (show ((ix2 j d : S544x512.Idx) 0).val < 32 from h)).trans (pay24_at i p ⟨j.val, h⟩ d)
  · rw [dif_neg h]
    exact (dif_neg (show ¬((ix2 j d : S544x512.Idx) 0).val < 32 from h)).trans (pay25_at u ⟨j.val - 32, by omega⟩ d)

/-- What the body stores in its block, at row `p` and column `d`. -/
theorem out_at (i : grid0.Coords) (x0 : Vec Ideal S512x1024 .f32) (x1 : Vec Ideal S512x512 .f32) (x2 : Vec Ideal S512x512 .f32) (x3 : Vec Ideal S32x512 .f32) (x4 : Vec Ideal S31x512 .f32) (x5 : Vec Ideal S1x512 .f32) (x6 : Vec Ideal S1x512 .f32) (x7 : Vec Ideal S1x512 .f32) (x8 : Vec Ideal S1x1024 .f32) (x9 : Vec Ideal S1024x1024 .bf16) (x10 : Vec Ideal S1x1024 .f32) (x11 : Vec Ideal S1x1024 .f32) (p : Fin 512) (d : Fin 1024) :
    out i x0 x1 x2 x3 x4 x5 x6 x7 x8 x9 x10 x11 (ix2 p d)
      = MixoutRow.row (fun k => x0 (ix2 p k)) (fun k => x1 (ix2 p k))
          (MixoutRow.branch (fun e => MixoutRow.taps (fun t => window i x2 x3 (ix2 ⟨p.val + 2 + t.val, by omega⟩ e)) (fun t => x4 (ix2 t e)) (x5 (ix2 0 e)))
            (fun e => x6 (ix2 0 e)) (fun e => x7 (ix2 0 e)))
          (fun k => x8 (ix2 0 k)) (fun k e => x9 (ix2 k e)) (fun k => x10 (ix2 0 k)) (fun k => x11 (ix2 0 k)) d := by
  unfold out stored
  rw [View.canon_cons_unit_lit _ _ _ (by decide), View.ld_unit_lit _ x10 (by decide), View.ld_unit_lit _ x11 (by decide), View.ld_unit_lit _ x1 (by decide),
    View.ld_unit_lit _ x0 (by decide), View.ld_unit_lit _ (conv x4 x5 x6 x7 x8 (window i x2 x3)) (by decide), pay1_at]
  unfold MixoutRow.row
  refine congrArg (fun y => MixoutRow.norm 0x44800000#32 y _ _ d) (funext fun e => ?_)
  rw [MixoutRow.mix_halves, pay27_at]
  simp only [conv_at]
  exact congrArg₂ (· + ·) (congrArg (_ + ·) (Finset.sum_congr rfl fun k _ => congrArg₂ (· * ·) (congrArg (_ * ·) (lo_at x8 k)) (top_at x9 k e))) (Finset.sum_congr rfl fun k _ => congrArg (_ * ·) (bot_at x9 k e))

end Cert.MixoutBlock

end
-- ==== Proof.Mixout.Block.lean ====
/- The mixing call's array, from its arguments: every block is the row function at its rows. -/
module

public import proofs.«01_k».proof.Proof.Mixout.Pay
public import proofs.«01_k».proof.Proof.Mixout.MixoutIdealRun
public import Idealize.ShloMosaic.Lib.Pipeline.Covers
public import Idealize.ShloMosaic.Lib.StableHlo.ReadAt

@[expose] public section

set_option maxRecDepth 16384

noncomputable section

namespace Cert.MixoutBlock

open Cert.MixoutIdeal Cert.MixoutIdeal.Gen Cert.MixoutIdealRun Idealize.ShloMosaic Idealize.ShloMosaic.TcCoe Idealize.SL.Sem

variable (m : (ℓ : Loc nD τ sig) → Buf (Elt Ideal) ℓ)

abbrev A0 (c : Dev nD) : S8x4096x1024.Idx → EReal := m ((c : Thread nD τ).loc main_arg0)
abbrev A1 (c : Dev nD) : S32768x512.Idx → EReal := m ((c : Thread nD τ).loc main_arg1)
abbrev A2 (c : Dev nD) : S32768x512.Idx → EReal := m ((c : Thread nD τ).loc main_arg2)
abbrev A3 (c : Dev nD) : S4x31x512.Idx → EReal := m ((c : Thread nD τ).loc main_arg3)
abbrev A4 (c : Dev nD) : S4x512.Idx → EReal := m ((c : Thread nD τ).loc main_arg4)
abbrev A5 (c : Dev nD) : S4x512.Idx → EReal := m ((c : Thread nD τ).loc main_arg5)
abbrev A6 (c : Dev nD) : S4x512.Idx → EReal := m ((c : Thread nD τ).loc main_arg6)
abbrev A7 (c : Dev nD) : S4x1024.Idx → EReal := m ((c : Thread nD τ).loc main_arg7)
abbrev A8 (c : Dev nD) : S4x1024x1024.Idx → EReal := m ((c : Thread nD τ).loc main_arg8)
abbrev A9 (c : Dev nD) : S4x1024.Idx → EReal := m ((c : Thread nD τ).loc main_arg9)
abbrev A10 (c : Dev nD) : S4x1024.Idx → EReal := m ((c : Thread nD τ).loc main_arg10)

/-- Row `r` of the result, from the arguments. -/
def Gr (c : Dev nD) (r : Fin 32768) (d : Fin 1024) : EReal :=
  MixoutRow.row (fun k => A0 m c (ix3 ⟨r.val / 4096, by omega⟩ ⟨r.val % 4096, by omega⟩ k)) (fun k => A1 m c (ix2 r k))
    (MixoutRow.branch (fun e => MixoutRow.taps (fun t => MixoutRow.lag (fun q k => A2 m c (ix2 q k)) r t e) (fun t => A3 m c (ix3 0 t e)) (A4 m c (ix2 0 e)))
      (fun e => A5 m c (ix2 0 e)) (fun e => A6 m c (ix2 0 e)))
    (fun k => A7 m c (ix2 0 k)) (fun k e => A8 m c (ix3 0 k e)) (fun k => A9 m c (ix2 0 k)) (fun k => A10 m c (ix2 0 k)) d

/-- The whole result. -/
def G (c : Dev nD) : S32768x1024.Idx → EReal := fun i => Gr m c (i 0) (i 1)

/-! ## The arrays the call is given -/

theorem x_at (c : Dev nD) (r : Fin 32768) (k : Fin 1024) :
    (V m c main_v23 : S32768x1024.Idx → EReal) (ix2 r k) = A0 m c (ix3 ⟨r.val / 4096, by omega⟩ ⟨r.val % 4096, by omega⟩ k) := by
  unfold V
  after_reads_at

theorem w_at (c : Dev nD) (t : Fin 31) (k : Fin 512) : (V m c main_v1 : S31x512.Idx → EReal) (ix2 t k) = A3 m c (ix3 0 t k) := by
  unfold V
  after_reads_at

theorem b_at (c : Dev nD) (k : Fin 512) : (V m c main_v4 : S1x512.Idx → EReal) (ix2 0 k) = A4 m c (ix2 0 k) := by
  unfold V
  after_reads_at

theorem cg_at (c : Dev nD) (k : Fin 512) : (V m c main_v7 : S1x512.Idx → EReal) (ix2 0 k) = A5 m c (ix2 0 k) := by
  unfold V
  after_reads_at

theorem cb_at (c : Dev nD) (k : Fin 512) : (V m c main_v10 : S1x512.Idx → EReal) (ix2 0 k) = A6 m c (ix2 0 k) := by
  unfold V
  after_reads_at

theorem s_at (c : Dev nD) (k : Fin 1024) : (V m c main_v13 : S1x1024.Idx → EReal) (ix2 0 k) = A7 m c (ix2 0 k) := by
  unfold V
  after_reads_at

theorem wo_at (c : Dev nD) (k d : Fin 1024) : (V m c main_v16 : S1024x1024.Idx → EReal) (ix2 k d) = A8 m c (ix3 0 k d) := by
  unfold V
  after_reads_at

theorem g_at (c : Dev nD) (k : Fin 1024) : (V m c main_v19 : S1x1024.Idx → EReal) (ix2 0 k) = A9 m c (ix2 0 k) := by
  unfold V
  after_reads_at

theorem lb_at (c : Dev nD) (k : Fin 1024) : (V m c main_v22 : S1x1024.Idx → EReal) (ix2 0 k) = A10 m c (ix2 0 k) := by
  unfold V
  after_reads_at

/-! ## The windows' blocks -/

theorem idx : ∀ t : Fin grid0.N, win0_0.index t = ![t.val, 0] ∧ win0_1.index t = ![t.val, 0] ∧ win0_2.index t = ![t.val, 0]
    ∧ win0_3.index t = ![t.val * 16 - 1, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] := by
  decide +kernel

theorem coord : ∀ t : Fin grid0.N, (grid0.coords t 1).val = t.val % 8 := by
  decide +kernel

theorem blk0 (c : Dev nD) (t : Fin cfg0.N) (p : Fin 512) (k : Fin 1024) (h : t.val * 512 + p.val < 32768) :
    (iblk m c 0 t : S512x1024.Idx → EReal) (ix2 p k) = (V m c main_v23 : S32768x1024.Idx → EReal) (ix2 ⟨t.val * 512 + p.val, h⟩ k) := by
  blk_ext [iblk, idx t]

theorem blk1 (c : Dev nD) (t : Fin cfg0.N) (p : Fin 512) (k : Fin 512) (h : t.val * 512 + p.val < 32768) :
    (iblk m c 1 t : S512x512.Idx → EReal) (ix2 p k) = A1 m c (ix2 ⟨t.val * 512 + p.val, h⟩ k) := by
  refine Eq.trans ?_ (congrFun (V_main_arg1 m c) (ix2 ⟨t.val * 512 + p.val, h⟩ k))
  blk_ext [iblk, idx t]

theorem blk2 (c : Dev nD) (t : Fin cfg0.N) (p : Fin 512) (k : Fin 512) (h : t.val * 512 + p.val < 32768) :
    (iblk m c 2 t : S512x512.Idx → EReal) (ix2 p k) = A2 m c (ix2 ⟨t.val * 512 + p.val, h⟩ k) := by
  refine Eq.trans ?_ (congrFun (V_main_arg2 m c) (ix2 ⟨t.val * 512 + p.val, h⟩ k))
  blk_ext [iblk, idx t]

theorem blk3 (c : Dev nD) (t : Fin cfg0.N) (p : Fin 32) (k : Fin 512) (h : (t.val * 16 - 1) * 32 + p.val < 32768) :
    (iblk m c 3 t : S32x512.Idx → EReal) (ix2 p k) = A2 m c (ix2 ⟨(t.val * 16 - 1) * 32 + p.val, h⟩ k) := by
  refine Eq.trans ?_ (congrFun (V_main_arg2 m c) (ix2 ⟨(t.val * 16 - 1) * 32 + p.val, h⟩ k))
  blk_ext [iblk, idx t]

theorem blk4 (c : Dev nD) (t : Fin cfg0.N) (j : Fin 31) (k : Fin 512) :
    (iblk m c 4 t : S31x512.Idx → EReal) (ix2 j k) = A3 m c (ix3 0 j k) := by
  refine Eq.trans ?_ (w_at m c j k)
  blk_ext [iblk, idx t]

theorem blk5 (c : Dev nD) (t : Fin cfg0.N) (k : Fin 512) : (iblk m c 5 t : S1x512.Idx → EReal) (ix2 0 k) = A4 m c (ix2 0 k) := by
  refine Eq.trans ?_ (b_at m c k)
  blk_ext [iblk, idx t]

theorem blk6 (c : Dev nD) (t : Fin cfg0.N) (k : Fin 512) : (iblk m c 6 t : S1x512.Idx → EReal) (ix2 0 k) = A5 m c (ix2 0 k) := by
  refine Eq.trans ?_ (cg_at m c k)
  blk_ext [iblk, idx t]

theorem blk7 (c : Dev nD) (t : Fin cfg0.N) (k : Fin 512) : (iblk m c 7 t : S1x512.Idx → EReal) (ix2 0 k) = A6 m c (ix2 0 k) := by
  refine Eq.trans ?_ (cb_at m c k)
  blk_ext [iblk, idx t]

theorem blk8 (c : Dev nD) (t : Fin cfg0.N) (k : Fin 1024) : (iblk m c 8 t : S1x1024.Idx → EReal) (ix2 0 k) = A7 m c (ix2 0 k) := by
  refine Eq.trans ?_ (s_at m c k)
  blk_ext [iblk, idx t]

theorem blk9 (c : Dev nD) (t : Fin cfg0.N) (k d : Fin 1024) : (iblk m c 9 t : S1024x1024.Idx → EReal) (ix2 k d) = A8 m c (ix3 0 k d) := by
  refine Eq.trans ?_ (wo_at m c k d)
  blk_ext [iblk, idx t]

theorem blk10 (c : Dev nD) (t : Fin cfg0.N) (k : Fin 1024) : (iblk m c 10 t : S1x1024.Idx → EReal) (ix2 0 k) = A9 m c (ix2 0 k) := by
  refine Eq.trans ?_ (g_at m c k)
  blk_ext [iblk, idx t]

theorem blk11 (c : Dev nD) (t : Fin cfg0.N) (k : Fin 1024) : (iblk m c 11 t : S1x1024.Idx → EReal) (ix2 0 k) = A10 m c (ix2 0 k) := by
  refine Eq.trans ?_ (lb_at m c k)
  blk_ext [iblk, idx t]

/-- The window's rows are the lagged rows: zeros before the first row of a sequence. -/
theorem lag_at (c : Dev nD) (t : Fin cfg0.N) (p : Fin 512) (j : Fin 31) (e : Fin 512) (h : t.val * 512 + p.val < 32768) :
    window (F := Ideal) (grid0.coords t) (iblk m c 2 t) (iblk m c 3 t) (ix2 ⟨p.val + 2 + j.val, by omega⟩ e)
      = MixoutRow.lag (fun q k => A2 m c (ix2 q k)) ⟨t.val * 512 + p.val, h⟩ j e := by
  have hm : (t.val * 512 + p.val) % 4096 = (t.val % 8) * 512 + p.val := by omega
  refine (window_at (grid0.coords t) (iblk m c 2 t) (iblk m c 3 t) ⟨p.val + 2 + j.val, by omega⟩ e).trans ?_
  unfold MixoutRow.lag
  rw [coord t]
  show _ = if 30 ≤ (t.val * 512 + p.val) % 4096 + j.val then A2 m c (ix2 ⟨t.val * 512 + p.val + j.val - 30, _⟩ e) else 0
  rw [hm]
  by_cases hj : p.val + 2 + j.val < 32
  · rw [dif_pos hj]
    by_cases h0 : t.val % 8 = 0
    · rw [if_pos h0, if_neg (by omega)]
    · rw [if_neg h0, if_pos (by omega)]
      refine (blk3 m c t ⟨p.val + 2 + j.val, hj⟩ e (by show (t.val * 16 - 1) * 32 + (p.val + 2 + j.val) < 32768; omega)).trans (congrArg (fun q => A2 m c (ix2 q e)) (Fin.ext ?_))
      show (t.val * 16 - 1) * 32 + (p.val + 2 + j.val) = t.val * 512 + p.val + j.val - 30
      omega
  · rw [dif_neg hj, if_pos (by omega)]
    refine (blk2 m c t ⟨p.val + 2 + j.val - 32, by omega⟩ e (by show t.val * 512 + (p.val + 2 + j.val - 32) < 32768; omega)).trans (congrArg (fun q => A2 m c (ix2 q e)) (Fin.ext ?_))
    show t.val * 512 + (p.val + 2 + j.val - 32) = t.val * 512 + p.val + j.val - 30
    omega

theorem outAt_at (c : Dev nD) (t : Fin cfg0.N) (p : Fin 512) (d : Fin 1024) (h : t.val * 512 + p.val < 32768) :
    out (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p d)
      = Gr m c ⟨t.val * 512 + p.val, h⟩ d := by
  refine (out_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p d).trans ?_
  unfold Gr
  rw [show (fun k => (iblk m c 0 t : S512x1024.Idx → EReal) (ix2 p k)) = _ from funext fun k => (blk0 m c t p k h).trans (x_at m c _ k),
    show (fun k => (iblk m c 1 t : S512x512.Idx → EReal) (ix2 p k)) = _ from funext fun k => blk1 m c t p k h,
    show (fun k => (iblk m c 6 t : S1x512.Idx → EReal) (ix2 0 k)) = _ from funext fun k => blk6 m c t k,
    show (fun k => (iblk m c 7 t : S1x512.Idx → EReal) (ix2 0 k)) = _ from funext fun k => blk7 m c t k,
    show (fun k => (iblk m c 8 t : S1x1024.Idx → EReal) (ix2 0 k)) = _ from funext fun k => blk8 m c t k,
    show (fun k e => (iblk m c 9 t : S1024x1024.Idx → EReal) (ix2 k e)) = _ from funext fun k => funext fun e => blk9 m c t k e,
    show (fun k => (iblk m c 10 t : S1x1024.Idx → EReal) (ix2 0 k)) = _ from funext fun k => blk10 m c t k,
    show (fun k => (iblk m c 11 t : S1x1024.Idx → EReal) (ix2 0 k)) = _ from funext fun k => blk11 m c t k,
    show (fun e : Fin 512 => MixoutRow.taps (fun j => window (F := Ideal) (grid0.coords t) (iblk m c 2 t) (iblk m c 3 t) (ix2 ⟨p.val + 2 + j.val, by omega⟩ e))
      (fun j => (iblk m c 4 t : S31x512.Idx → EReal) (ix2 j e)) ((iblk m c 5 t : S1x512.Idx → EReal) (ix2 0 e))) = _ from
      funext fun e => congr (congrArg₂ MixoutRow.taps (funext fun j => lag_at m c t p j e h) (funext fun j => blk4 m c t j e)) (blk5 m c t e)]

theorem arr_eq (c : Dev nD) : (dats m 0 c).arrAt 12 cfg0.N = G m c := by
  refine (dats m 0 c).arrAt_eq_of_covers 12 _ (by decide +kernel) fun t hf y => ?_
  blk_simp
  rw [after_12]
  have hy : (y : S512x1024.Idx) = ix2 (n0 := 512) (n1 := 1024) (y 0) (y 1) := by
    funext a; fin_cases a <;> rfl
  have h0 : ((win0_12.blk t).view.emb y 0).val = t.val * 512 + (y 0).val := by blk_simp [idx t]
  have h1 : ((win0_12.blk t).view.emb y 1) = y 1 := Fin.ext (by blk_simp [idx t])
  have ht : t.val * 512 + (y 0).val < 32768 := h0 ▸ ((win0_12.blk t).view.emb y 0).isLt
  refine (congrArg _ hy).trans ((outAt_at m c t (y 0) (y 1) ht).trans ?_)
  unfold G
  exact congrArg₂ (Gr m c) (Fin.ext h0.symm) h1.symm

end Cert.MixoutBlock

end
-- ==== Proof.Mixout.Ref.lean ====
/- The mixing call's reference at an index: the row function of the arguments. -/
module

public import proofs.«01_k».proof.Proof.Mixout.Row
public import proofs.«01_k».proof.Proof.Gen.MixoutRefIdeal.Run
public import Idealize.ShloMosaic.Lib.Pointwise
public import Idealize.ShloMosaic.Lib.Tactic.CleanTypes

@[expose] public section

set_option maxRecDepth 16384

noncomputable section

namespace Cert.MixoutRefAt

open Cert.MixoutRefIdeal Cert.MixoutRefIdeal.Gen Idealize.ShloMosaic Idealize.ShloMosaic.TcCoe Idealize.SL.Sem

variable (W : Valuation τ sig (Elt Ideal))

abbrev C0 : S8x4096x1024.Idx → EReal := W (Proc.devRef .tc main_arg0)
abbrev C1 : S32768x512.Idx → EReal := W (Proc.devRef .tc main_arg1)
abbrev C2 : S32768x512.Idx → EReal := W (Proc.devRef .tc main_arg2)
abbrev C3 : S4x31x512.Idx → EReal := W (Proc.devRef .tc main_arg3)
abbrev C4 : S4x512.Idx → EReal := W (Proc.devRef .tc main_arg4)
abbrev C5 : S4x512.Idx → EReal := W (Proc.devRef .tc main_arg5)
abbrev C6 : S4x512.Idx → EReal := W (Proc.devRef .tc main_arg6)
abbrev C7 : S4x1024.Idx → EReal := W (Proc.devRef .tc main_arg7)
abbrev C8 : S4x1024x1024.Idx → EReal := W (Proc.devRef .tc main_arg8)
abbrev C9 : S4x1024.Idx → EReal := W (Proc.devRef .tc main_arg9)
abbrev C10 : S4x1024.Idx → EReal := W (Proc.devRef .tc main_arg10)

abbrev P : S8x4126x512.Idx → EReal := Value.res_main_v1 W
abbrev Y79 : S8x4096x512.Idx → EReal := Value.res_main_v79 W
abbrev Y156 : S8x4096x512.Idx → EReal := Value.res_main_v156 W
abbrev Y224 : S8x4096x512.Idx → EReal := Value.res_main_v224 W
abbrev M232 : S8x4096x1.Idx → EReal := Value.res_main_v232 W
abbrev Y234 : S8x4096x512.Idx → EReal := Value.res_main_v234 W
abbrev Y252 : S8x4096x512.Idx → EReal := Value.res_main_v252 W
abbrev Y273 : S32768x1024.Idx → EReal := Value.res_main_v273 W

theorem pad_at (b : Fin 8) (s : Fin 4126) (d : Fin 512) :
    P W (ix3 b s d) = if h : 30 ≤ s.val then C2 W (ix2 ⟨b.val * 4096 + (s.val - 30), by omega⟩ d) else 0 := by
  unfold P Value.res_main_v1
  clean_types
  pointwise
  by_cases h : 30 ≤ s.val
  · rw [dif_pos h, dif_pos ⟨h, by omega⟩]
  · rw [dif_neg h, dif_neg fun q => h q.1]
    simp [FloatOps.sitofp]

theorem v79_at (b : Fin 8) (s : Fin 4096) (d : Fin 512) :
    Y79 W (ix3 b s d) = 0 + P W (ix3 b ⟨0 + s.val, by omega⟩ d) * C3 W (ix3 0 0 d) + P W (ix3 b ⟨1 + s.val, by omega⟩ d) * C3 W (ix3 0 1 d) + P W (ix3 b ⟨2 + s.val, by omega⟩ d) * C3 W (ix3 0 2 d) + P W (ix3 b ⟨3 + s.val, by omega⟩ d) * C3 W (ix3 0 3 d) + P W (ix3 b ⟨4 + s.val, by omega⟩ d) * C3 W (ix3 0 4 d) + P W (ix3 b ⟨5 + s.val, by omega⟩ d) * C3 W (ix3 0 5 d) + P W (ix3 b ⟨6 + s.val, by omega⟩ d) * C3 W (ix3 0 6 d) + P W (ix3 b ⟨7 + s.val, by omega⟩ d) * C3 W (ix3 0 7 d) + P W (ix3 b ⟨8 + s.val, by omega⟩ d) * C3 W (ix3 0 8 d) + P W (ix3 b ⟨9 + s.val, by omega⟩ d) * C3 W (ix3 0 9 d) + P W (ix3 b ⟨10 + s.val, by omega⟩ d) * C3 W (ix3 0 10 d) := by
  unfold Y79 P Value.res_main_v79
  clean_types
  generalize Value.res_main_v1 W = Q
  pointwise

theorem v156_at (b : Fin 8) (s : Fin 4096) (d : Fin 512) :
    Y156 W (ix3 b s d) = Y79 W (ix3 b s d) + P W (ix3 b ⟨11 + s.val, by omega⟩ d) * C3 W (ix3 0 11 d) + P W (ix3 b ⟨12 + s.val, by omega⟩ d) * C3 W (ix3 0 12 d) + P W (ix3 b ⟨13 + s.val, by omega⟩ d) * C3 W (ix3 0 13 d) + P W (ix3 b ⟨14 + s.val, by omega⟩ d) * C3 W (ix3 0 14 d) + P W (ix3 b ⟨15 + s.val, by omega⟩ d) * C3 W (ix3 0 15 d) + P W (ix3 b ⟨16 + s.val, by omega⟩ d) * C3 W (ix3 0 16 d) + P W (ix3 b ⟨17 + s.val, by omega⟩ d) * C3 W (ix3 0 17 d) + P W (ix3 b ⟨18 + s.val, by omega⟩ d) * C3 W (ix3 0 18 d) + P W (ix3 b ⟨19 + s.val, by omega⟩ d) * C3 W (ix3 0 19 d) + P W (ix3 b ⟨20 + s.val, by omega⟩ d) * C3 W (ix3 0 20 d) + P W (ix3 b ⟨21 + s.val, by omega⟩ d) * C3 W (ix3 0 21 d) := by
  unfold Y156 Y79 P Value.res_main_v156
  clean_types
  generalize Value.res_main_v1 W = Q
  generalize Value.res_main_v79 W = Y
  pointwise

theorem v224_at (b : Fin 8) (s : Fin 4096) (d : Fin 512) :
    Y224 W (ix3 b s d) = Y156 W (ix3 b s d) + P W (ix3 b ⟨22 + s.val, by omega⟩ d) * C3 W (ix3 0 22 d) + P W (ix3 b ⟨23 + s.val, by omega⟩ d) * C3 W (ix3 0 23 d) + P W (ix3 b ⟨24 + s.val, by omega⟩ d) * C3 W (ix3 0 24 d) + P W (ix3 b ⟨25 + s.val, by omega⟩ d) * C3 W (ix3 0 25 d) + P W (ix3 b ⟨26 + s.val, by omega⟩ d) * C3 W (ix3 0 26 d) + P W (ix3 b ⟨27 + s.val, by omega⟩ d) * C3 W (ix3 0 27 d) + P W (ix3 b ⟨28 + s.val, by omega⟩ d) * C3 W (ix3 0 28 d) + P W (ix3 b ⟨29 + s.val, by omega⟩ d) * C3 W (ix3 0 29 d) + P W (ix3 b ⟨30 + s.val, by omega⟩ d) * C3 W (ix3 0 30 d) + C4 W (ix2 0 d) := by
  unfold Y224 Y156 P Value.res_main_v224
  clean_types
  generalize Value.res_main_v1 W = Q
  generalize Value.res_main_v156 W = Y
  pointwise

theorem v234_at (b : Fin 8) (s : Fin 4096) (d : Fin 512) :
    Y234 W (ix3 b s d) = MixoutRow.cen 0x44000000#32 (fun k => Y224 W (ix3 b s k)) d := by
  unfold Y234 Y224 Value.res_main_v234 Value.res_main_v232
  clean_types
  generalize Value.res_main_v224 W = Y
  pointwise
  rfl

theorem v252_at (b : Fin 8) (s : Fin 4096) (d : Fin 512) :
    Y252 W (ix3 b s d) = MixoutRow.norm 0x44000000#32 (fun k => Y224 W (ix3 b s k)) (fun k => C5 W (ix2 0 k)) (fun k => C6 W (ix2 0 k)) d := by
  unfold Y252 Y224 Value.res_main_v252 Value.res_main_v234 Value.res_main_v232
  clean_types
  generalize Value.res_main_v224 W = Y
  pointwise
  rfl

theorem v273_at (r : Fin 32768) (d : Fin 1024) :
    Y273 W (ix2 r d) = MixoutRow.mix (fun k => C0 W (ix3 ⟨r.val / 4096, by omega⟩ ⟨r.val % 4096, by omega⟩ k)) (fun k => C1 W (ix2 r k))
      (fun k => Y252 W (ix3 ⟨r.val / 4096, by omega⟩ ⟨r.val % 4096, by omega⟩ k) * Ideal.logistic (Y252 W (ix3 ⟨r.val / 4096, by omega⟩ ⟨r.val % 4096, by omega⟩ k)))
      (fun k => C7 W (ix2 0 k)) (fun k e => C8 W (ix3 0 k e)) d := by
  unfold Y273 Y252 Value.res_main_v273
  clean_types
  generalize Value.res_main_v252 W = Y
  rw [MixoutRow.mix_halves, add_assoc]
  pointwise
  rfl

/-- The reference's array. -/
def res : S32768x1024.Idx → EReal :=
  (addf (mulf (mulf (subf (Value.res_main_v273 W) (broadcastInDim S32768x1024 ![0, 1] bcast_S32768x1_S32768x1024_0_1 (Value.res_main_v281 W))) (broadcastInDim S32768x1024 ![0, 1] bcast_S32768x1_S32768x1024_0_1 (Host.rsqrt (addf (Host.divf (broadcastInDim S32768x1 ![0] bcast_S32768_S32768x1_0 (Host.reduceAdd (mulf (Value.res_main_v283 W) (Value.res_main_v283 W)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (shapeCast _ (extractStridedSlice S1x1024 ![0, 0] (W (Proc.devRef .tc main_arg9)) slices_S4x1024_S1x1024_0_0) shapeCasts_S1x1024_S1024)))) (broadcastInDim S32768x1024 ![0, 1] bcast_S1x1024_S32768x1024_0_1 (broadcastInDim S1x1024 ![1] bcast_S1024_S1x1024_1 (shapeCast _ (extractStridedSlice S1x1024 ![0, 0] (W (Proc.devRef .tc main_arg10)) slices_S4x1024_S1x1024_0_0) shapeCasts_S1x1024_S1024))) : FVec Ideal S32768x1024 .f32)

theorem res_norm (r : Fin 32768) (d : Fin 1024) :
    res W (ix2 r d)
      = MixoutRow.norm 0x44800000#32 (fun k => Y273 W (ix2 r k)) (fun k => C9 W (ix2 0 k)) (fun k => C10 W (ix2 0 k)) d := by
  unfold res Y273 Value.res_main_v283 Value.res_main_v281
  clean_types
  generalize Value.res_main_v273 W = Y
  pointwise
  rfl

/-- The padded rows are the lagged rows. -/
theorem pad_lag (r : Fin 32768) (t : Fin 31) (d : Fin 512) :
    P W (ix3 ⟨r.val / 4096, by omega⟩ ⟨t.val + r.val % 4096, by omega⟩ d) = MixoutRow.lag (fun q k => C2 W (ix2 q k)) r t d := by
  rw [pad_at]
  unfold MixoutRow.lag
  by_cases h : 30 ≤ r.val % 4096 + t.val
  · rw [if_pos h, dif_pos (show 30 ≤ t.val + r.val % 4096 by omega)]
    exact congrArg (fun q => C2 W (ix2 q d)) (Fin.ext (show r.val / 4096 * 4096 + (t.val + r.val % 4096 - 30) = r.val + t.val - 30 by omega))
  · rw [if_neg h, dif_neg (show ¬30 ≤ t.val + r.val % 4096 by omega)]

theorem conv_at (r : Fin 32768) (d : Fin 512) :
    Y224 W (ix3 ⟨r.val / 4096, by omega⟩ ⟨r.val % 4096, by omega⟩ d)
      = MixoutRow.taps (fun t => MixoutRow.lag (fun q k => C2 W (ix2 q k)) r t d) (fun t => C3 W (ix3 0 t d)) (C4 W (ix2 0 d)) := by
  rw [v224_at, v156_at, v79_at]
  refine (MixoutRow.taps_forward (fun t => P W (ix3 ⟨r.val / 4096, by omega⟩ ⟨t.val + r.val % 4096, by omega⟩ d) * C3 W (ix3 0 t d)) _).trans ?_
  exact congrArg (· + _) (Finset.sum_congr rfl fun t _ => congrArg (· * _) (pad_lag W r t d))

/-- The reference's row: the row function of the arguments. -/
theorem res_at (r : Fin 32768) (d : Fin 1024) :
    res W (ix2 r d)
      = MixoutRow.row (fun k => C0 W (ix3 ⟨r.val / 4096, by omega⟩ ⟨r.val % 4096, by omega⟩ k)) (fun k => C1 W (ix2 r k))
          (MixoutRow.branch (fun e => MixoutRow.taps (fun t => MixoutRow.lag (fun q k => C2 W (ix2 q k)) r t e) (fun t => C3 W (ix3 0 t e)) (C4 W (ix2 0 e)))
            (fun e => C5 W (ix2 0 e)) (fun e => C6 W (ix2 0 e)))
          (fun k => C7 W (ix2 0 k)) (fun k e => C8 W (ix3 0 k e)) (fun k => C9 W (ix2 0 k)) (fun k => C10 W (ix2 0 k)) d := by
  rw [res_norm]
  unfold MixoutRow.row
  refine congrArg (fun y => MixoutRow.norm 0x44800000#32 y _ _ d) (funext fun e => ?_)
  rw [v273_at]
  refine congrArg (fun y => MixoutRow.mix _ _ y _ _ e) (funext fun k => ?_)
  rw [v252_at, show (fun k => Y224 W (ix3 ⟨r.val / 4096, by omega⟩ ⟨r.val % 4096, by omega⟩ k)) = _ from funext fun k => conv_at W r k]
  rfl

end Cert.MixoutRefAt

end
-- ==== Proof.Mixout.Claims.lean ====
/- The mixing call's claims: its reference's frame, and at the ideal instance the kernel's array equal to the reference's. -/
module

public import proofs.«01_k».proof.Defs
public import proofs.«01_k».proof.Proof.Mixout.Block
public import proofs.«01_k».proof.Proof.Mixout.Ref
public import Idealize.ShloMosaic.Lib.Quiescent

@[expose] public section

set_option maxRecDepth 16384

noncomputable section

namespace Cert.MixoutClaims

open Idealize.ShloMosaic Idealize.ShloMosaic.TcCoe Idealize.SL.Sem

theorem frame_ref : Cert.quiescent_MixoutRefIdeal (hMixoutRefIdeal := Cert.MixoutRefIdeal.Gen.facts) := fun m ρ _ =>
  (θ_run Cert.MixoutRefIdeal.defs _ _).mono (fun r h => ⟨fun c => (h c).2,
      Idealize.ShloMosaic.sem_eq_zero_of_no_sems (by decide) r.2⟩)
    (Cert.MixoutRefIdeal.Value.run (F := Ideal) m ρ)

abbrev B0 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S8x4096x1024.Idx → EReal := m' ((c : Thread Cert.MixoutRefIdeal.nD Cert.MixoutRefIdeal.τ).loc Cert.MixoutRefIdeal.main_arg0)
abbrev B1 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S32768x512.Idx → EReal := m' ((c : Thread Cert.MixoutRefIdeal.nD Cert.MixoutRefIdeal.τ).loc Cert.MixoutRefIdeal.main_arg1)
abbrev B2 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S32768x512.Idx → EReal := m' ((c : Thread Cert.MixoutRefIdeal.nD Cert.MixoutRefIdeal.τ).loc Cert.MixoutRefIdeal.main_arg2)
abbrev B3 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x31x512.Idx → EReal := m' ((c : Thread Cert.MixoutRefIdeal.nD Cert.MixoutRefIdeal.τ).loc Cert.MixoutRefIdeal.main_arg3)
abbrev B4 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x512.Idx → EReal := m' ((c : Thread Cert.MixoutRefIdeal.nD Cert.MixoutRefIdeal.τ).loc Cert.MixoutRefIdeal.main_arg4)
abbrev B5 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x512.Idx → EReal := m' ((c : Thread Cert.MixoutRefIdeal.nD Cert.MixoutRefIdeal.τ).loc Cert.MixoutRefIdeal.main_arg5)
abbrev B6 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x512.Idx → EReal := m' ((c : Thread Cert.MixoutRefIdeal.nD Cert.MixoutRefIdeal.τ).loc Cert.MixoutRefIdeal.main_arg6)
abbrev B7 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x1024.Idx → EReal := m' ((c : Thread Cert.MixoutRefIdeal.nD Cert.MixoutRefIdeal.τ).loc Cert.MixoutRefIdeal.main_arg7)
abbrev B8 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x1024x1024.Idx → EReal := m' ((c : Thread Cert.MixoutRefIdeal.nD Cert.MixoutRefIdeal.τ).loc Cert.MixoutRefIdeal.main_arg8)
abbrev B9 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x1024.Idx → EReal := m' ((c : Thread Cert.MixoutRefIdeal.nD Cert.MixoutRefIdeal.τ).loc Cert.MixoutRefIdeal.main_arg9)
abbrev B10 (m' : (ℓ : Loc Cert.MixoutRefIdeal.nD Cert.MixoutRefIdeal.τ Cert.MixoutRefIdeal.sig) → Buf (Elt Ideal) ℓ) (c : Dev Cert.MixoutRefIdeal.nD) : Cert.MixoutRefIdeal.S4x1024.Idx → EReal := m' ((c : Thread Cert.MixoutRefIdeal.nD Cert.MixoutRefIdeal.τ).loc Cert.MixoutRefIdeal.main_arg10)

/-- The reference's array is the kernel's. -/
theorem ref_eq (m : (ℓ : Loc Cert.MixoutIdeal.nD Cert.MixoutIdeal.τ Cert.MixoutIdeal.sig) → Buf (Elt Ideal) ℓ)
    (m' : (ℓ : Loc Cert.MixoutRefIdeal.nD Cert.MixoutRefIdeal.τ Cert.MixoutRefIdeal.sig) → Buf (Elt Ideal) ℓ) (c : Dev Cert.MixoutIdeal.nD)
    (h0 : B0 m' c = Cert.MixoutBlock.A0 m c) (h1 : B1 m' c = Cert.MixoutBlock.A1 m c) (h2 : B2 m' c = Cert.MixoutBlock.A2 m c) (h3 : B3 m' c = Cert.MixoutBlock.A3 m c) (h4 : B4 m' c = Cert.MixoutBlock.A4 m c) (h5 : B5 m' c = Cert.MixoutBlock.A5 m c) (h6 : B6 m' c = Cert.MixoutBlock.A6 m c) (h7 : B7 m' c = Cert.MixoutBlock.A7 m c) (h8 : B8 m' c = Cert.MixoutBlock.A8 m c) (h9 : B9 m' c = Cert.MixoutBlock.A9 m c) (h10 : B10 m' c = Cert.MixoutBlock.A10 m c) :
    (Cert.MixoutRefAt.res (Idealize.ShloMosaic.StableHlo.launchContents m' c) : Cert.MixoutIdeal.S32768x1024.Idx → EReal) = Cert.MixoutBlock.G m c := by
  funext i
  have hi : (i : Cert.MixoutIdeal.S32768x1024.Idx) = ix2 (n0 := 32768) (n1 := 1024) (i 0) (i 1) := by
    funext a; fin_cases a <;> rfl
  refine (congrArg _ hi).trans ((Cert.MixoutRefAt.res_at (Idealize.ShloMosaic.StableHlo.launchContents m' c) (i 0) (i 1)).trans ?_)
  unfold Cert.MixoutBlock.G Cert.MixoutBlock.Gr
  rw [← h0, ← h1, ← h2, ← h3, ← h4, ← h5, ← h6, ← h7, ← h8, ← h9, ← h10]

theorem algebraic : Cert.algebraic_MixoutIdeal_MixoutRefIdeal (hMixoutIdeal := Cert.MixoutIdeal.Gen.facts)
    (hMixoutRefIdeal := Cert.MixoutRefIdeal.Gen.facts) := by
  intro m g m' g' _ hagree
  refine ⟨fun c => Cert.MixoutBlock.G m c, ?_, ?_⟩
  · refine (θ_run Cert.MixoutIdeal.defs _ _).mono (fun r h c => ⟨((h.1 c).1 12).trans (Cert.MixoutBlock.arr_eq m c), ?_⟩)
      (Cert.MixoutIdealRun.run_main_quiescent m g)
    exact ⟨
      ((h.1 c).2 Cert.MixoutIdeal.main_arg0 (by decide : Cert.MixoutIdeal.main_arg0 ∈ Pipeline.restRefs Cert.MixoutIdeal.sig Cert.MixoutIdeal.spec0)).trans (Cert.MixoutIdealRun.V_main_arg0 m c),
      ((h.1 c).1 1).trans (((Cert.MixoutIdealRun.dats m 0 c).arrAt_in 1 rfl _).trans ((Cert.MixoutIdealRun.A_eq m c 1).trans (Cert.MixoutIdealRun.V_main_arg1 m c))),
      ((h.1 c).1 2).trans (((Cert.MixoutIdealRun.dats m 0 c).arrAt_in 2 rfl _).trans ((Cert.MixoutIdealRun.A_eq m c 2).trans (Cert.MixoutIdealRun.V_main_arg2 m c))),
      ((h.1 c).2 Cert.MixoutIdeal.main_arg3 (by decide : Cert.MixoutIdeal.main_arg3 ∈ Pipeline.restRefs Cert.MixoutIdeal.sig Cert.MixoutIdeal.spec0)).trans (Cert.MixoutIdealRun.V_main_arg3 m c),
      ((h.1 c).2 Cert.MixoutIdeal.main_arg4 (by decide : Cert.MixoutIdeal.main_arg4 ∈ Pipeline.restRefs Cert.MixoutIdeal.sig Cert.MixoutIdeal.spec0)).trans (Cert.MixoutIdealRun.V_main_arg4 m c),
      ((h.1 c).2 Cert.MixoutIdeal.main_arg5 (by decide : Cert.MixoutIdeal.main_arg5 ∈ Pipeline.restRefs Cert.MixoutIdeal.sig Cert.MixoutIdeal.spec0)).trans (Cert.MixoutIdealRun.V_main_arg5 m c),
      ((h.1 c).2 Cert.MixoutIdeal.main_arg6 (by decide : Cert.MixoutIdeal.main_arg6 ∈ Pipeline.restRefs Cert.MixoutIdeal.sig Cert.MixoutIdeal.spec0)).trans (Cert.MixoutIdealRun.V_main_arg6 m c),
      ((h.1 c).2 Cert.MixoutIdeal.main_arg7 (by decide : Cert.MixoutIdeal.main_arg7 ∈ Pipeline.restRefs Cert.MixoutIdeal.sig Cert.MixoutIdeal.spec0)).trans (Cert.MixoutIdealRun.V_main_arg7 m c),
      ((h.1 c).2 Cert.MixoutIdeal.main_arg8 (by decide : Cert.MixoutIdeal.main_arg8 ∈ Pipeline.restRefs Cert.MixoutIdeal.sig Cert.MixoutIdeal.spec0)).trans (Cert.MixoutIdealRun.V_main_arg8 m c),
      ((h.1 c).2 Cert.MixoutIdeal.main_arg9 (by decide : Cert.MixoutIdeal.main_arg9 ∈ Pipeline.restRefs Cert.MixoutIdeal.sig Cert.MixoutIdeal.spec0)).trans (Cert.MixoutIdealRun.V_main_arg9 m c),
      ((h.1 c).2 Cert.MixoutIdeal.main_arg10 (by decide : Cert.MixoutIdeal.main_arg10 ∈ Pipeline.restRefs Cert.MixoutIdeal.sig Cert.MixoutIdeal.spec0)).trans (Cert.MixoutIdealRun.V_main_arg10 m c)⟩
  · refine (θ_run Cert.MixoutRefIdeal.defs _ _).mono (fun _ h c => ⟨(h c).1.trans ?_, (h c).2⟩) (Cert.MixoutRefIdeal.Value.run (F := Ideal) m' g')
    obtain ⟨h0, h1, h2, h3, h4, h5, h6, h7, h8, h9, h10⟩ := hagree c
    exact ref_eq m m' c h0 h1 h2 h3 h4 h5 h6 h7 h8 h9 h10

end Cert.MixoutClaims

end
-- ==== Proof.lean ====
/- The claim, assembled: the sparse attention's frame, and the frames and values of the dense unit, of the experts, of the input projection, of the combine step and of the mixing call. -/
module

public import proofs.«01_k».proof.Defs
public import proofs.«01_k».proof.Proof.Attn.Frame
public import proofs.«01_k».proof.Proof.Ffn.Claims
public import proofs.«01_k».proof.Proof.Gen.FfnIdeal.Value
public import proofs.«01_k».proof.Proof.Gen.FfnRefIdeal.Run
public import proofs.«01_k».proof.Proof.Experts.ExpertsIdealOk
public import proofs.«01_k».proof.Proof.Experts.Claims
public import proofs.«01_k».proof.Proof.Proj.Claims
public import proofs.«01_k».proof.Proof.Gen.ProjIdeal.Value
public import proofs.«01_k».proof.Proof.Gen.ProjRefIdeal.Run
public import proofs.«01_k».proof.Proof.Combine.Claims
public import proofs.«01_k».proof.Proof.Gen.CombineIdeal.Launch
public import proofs.«01_k».proof.Proof.Gen.CombineIdeal.Points
public import proofs.«01_k».proof.Proof.Gen.CombineRefIdeal.Run
public import proofs.«01_k».proof.Proof.Mixout.MixoutIdealOk
public import proofs.«01_k».proof.Proof.Mixout.Claims
public import proofs.«01_k».proof.Proof.Gen.Mixout.Launch
public import proofs.«01_k».proof.Proof.Gen.MixoutIdeal.Launch
public import proofs.«01_k».proof.Proof.Gen.MixoutIdeal.Points
public import proofs.«01_k».proof.Proof.Gen.MixoutIdeal.Skeleton
public import proofs.«01_k».proof.Proof.Gen.MixoutRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.Ffn.Gen.facts, Cert.FfnIdeal.Gen.facts, Cert.FfnRefIdeal.Gen.facts,
    Cert.Experts.Gen.facts, Cert.ExpertsIdeal.Gen.facts, Cert.ExpertsRefIdeal.Gen.facts,
    Cert.Proj.Gen.facts, Cert.ProjIdeal.Gen.facts, Cert.ProjRefIdeal.Gen.facts,
    Cert.Combine.Gen.facts, Cert.CombineIdeal.Gen.facts, Cert.CombineRefIdeal.Gen.facts,
    Cert.Mixout.Gen.facts, Cert.MixoutIdeal.Gen.facts, Cert.MixoutRefIdeal.Gen.facts, Cert.ExpertsIdealOk.facts_pre, Cert.CombineIdealOk.facts_pre,
    fun m ρ _ => Cert.Attn.run_main m ρ,
    fun m ρ _ => Cert.Ffn.Gen.frame m ρ,
    fun m ρ _ => Cert.FfnIdeal.Gen.frame m ρ,
    Cert.FfnClaims.frame_ref,
    Cert.ExpertsIdealOk.frame_kernel,
    Cert.ExpertsIdealOk.frame,
    Cert.ExpertsClaims.frame_ref,
    Cert.ExpertsClaims.frame_ref_pre,
    fun m ρ _ => Cert.Proj.Gen.frame m ρ,
    fun m ρ _ => Cert.ProjIdeal.Gen.frame m ρ,
    Cert.ProjClaims.frame_ref,
    Cert.CombineIdealOk.frame_kernel,
    Cert.CombineIdealOk.frame,
    Cert.CombineClaims.frame_ref,
    Cert.CombineClaims.frame_ref_pre,
    Cert.MixoutIdealOk.frame_kernel,
    Cert.MixoutIdealOk.frame,
    Cert.MixoutClaims.frame_ref,
    trivial,
    Cert.FfnClaims.algebraic,
    trivial,
    Cert.ExpertsClaims.algebraic,
    trivial,
    Cert.ProjClaims.algebraic,
    trivial,
    Cert.CombineClaims.algebraic,
    trivial,
    Cert.MixoutClaims.algebraic⟩

end Cert.Proof

end
